-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5)
      ∧ r.2.mem ((c.tc : Thread Cert.Kernel13.nD Cert.Kernel13.τ).loc Cert.Kernel13.main_arg6) = m ((c.tc : Thread Cert.Kernel13.nD Cert.Kernel13.τ).loc Cert.Kernel13.main_arg6))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v10) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_v19) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v8) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v10) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)
      ∧ m' ((c.tc : Thread Cert.Reference13Ideal.nD Cert.Reference13Ideal.τ).loc Cert.Reference13Ideal.main_arg6) = m ((c.tc : Thread Cert.Kernel13Ideal.nD Cert.Kernel13Ideal.τ).loc Cert.Kernel13Ideal.main_arg6)) →
    ∃ (v0 : (c : Dev Cert.Kernel13Ideal.nD) → Buf (Elt Ideal) ((c.tc : Thread Cert.Kernel13Ideal.nD Cert.Kernel13Ideal.τ).loc Cert.Kernel13Ideal.main_v1_0)) (v1 : (c : Dev Cert.Kernel13Ideal.nD) → Buf (Elt Ideal) ((c.tc : Thread Cert.Kernel13Ideal.nD Cert.Kernel13Ideal.τ).loc Cert.Kernel13Ideal.main_v1_1)) (v2 : (c : Dev Cert.Kernel13Ideal.nD) → Buf (Elt Ideal) ((c.tc : Thread Cert.Kernel13Ideal.nD Cert.Kernel13Ideal.τ).loc Cert.Kernel13Ideal.main_v1_2)) (v3 : (c : Dev Cert.Kernel13Ideal.nD) → Buf (Elt Ideal) ((c.tc : Thread Cert.Kernel13Ideal.nD Cert.Kernel13Ideal.τ).loc Cert.Kernel13Ideal.main_v1_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1_0) = v0 c
          ∧ r.2.mem ((c.tc : Thread Cert.Kernel13Ideal.nD Cert.Kernel13Ideal.τ).loc Cert.Kernel13Ideal.main_v1_1) = v1 c
          ∧ r.2.mem ((c.tc : Thread Cert.Kernel13Ideal.nD Cert.Kernel13Ideal.τ).loc Cert.Kernel13Ideal.main_v1_2) = v2 c
          ∧ r.2.mem ((c.tc : Thread Cert.Kernel13Ideal.nD Cert.Kernel13Ideal.τ).loc Cert.Kernel13Ideal.main_v1_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
          ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v14) = v0 c
          ∧ r.2.mem ((c.tc : Thread Cert.Reference13Ideal.nD Cert.Reference13Ideal.τ).loc Cert.Reference13Ideal.main_v38) = v1 c
          ∧ r.2.mem ((c.tc : Thread Cert.Reference13Ideal.nD Cert.Reference13Ideal.τ).loc Cert.Reference13Ideal.main_v19) = v2 c
          ∧ r.2.mem ((c.tc : Thread Cert.Reference13Ideal.nD Cert.Reference13Ideal.τ).loc Cert.Reference13Ideal.main_v25) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5)
          ∧ r.2.mem ((c.tc : Thread Cert.Reference13Ideal.nD Cert.Reference13Ideal.τ).loc Cert.Reference13Ideal.main_arg6) = m' ((c.tc : Thread Cert.Reference13Ideal.nD Cert.Reference13Ideal.τ).loc Cert.Reference13Ideal.main_arg6))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)) →
    ∃ (v0 : (c : Dev Cert.Kernel14Ideal.nD) → Buf (Elt Ideal) ((c.tc : Thread Cert.Kernel14Ideal.nD Cert.Kernel14Ideal.τ).loc Cert.Kernel14Ideal.main_v1_0)) (v1 : (c : Dev Cert.Kernel14Ideal.nD) → Buf (Elt Ideal) ((c.tc : Thread Cert.Kernel14Ideal.nD Cert.Kernel14Ideal.τ).loc Cert.Kernel14Ideal.main_v1_1)) (v2 : (c : Dev Cert.Kernel14Ideal.nD) → Buf (Elt Ideal) ((c.tc : Thread Cert.Kernel14Ideal.nD Cert.Kernel14Ideal.τ).loc Cert.Kernel14Ideal.main_v1_2)) (v3 : (c : Dev Cert.Kernel14Ideal.nD) → Buf (Elt Ideal) ((c.tc : Thread Cert.Kernel14Ideal.nD Cert.Kernel14Ideal.τ).loc Cert.Kernel14Ideal.main_v1_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1_0) = v0 c
          ∧ r.2.mem ((c.tc : Thread Cert.Kernel14Ideal.nD Cert.Kernel14Ideal.τ).loc Cert.Kernel14Ideal.main_v1_1) = v1 c
          ∧ r.2.mem ((c.tc : Thread Cert.Kernel14Ideal.nD Cert.Kernel14Ideal.τ).loc Cert.Kernel14Ideal.main_v1_2) = v2 c
          ∧ r.2.mem ((c.tc : Thread Cert.Kernel14Ideal.nD Cert.Kernel14Ideal.τ).loc Cert.Kernel14Ideal.main_v1_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
          ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v14) = v0 c
          ∧ r.2.mem ((c.tc : Thread Cert.Reference14Ideal.nD Cert.Reference14Ideal.τ).loc Cert.Reference14Ideal.main_v38) = v1 c
          ∧ r.2.mem ((c.tc : Thread Cert.Reference14Ideal.nD Cert.Reference14Ideal.τ).loc Cert.Reference14Ideal.main_v19) = v2 c
          ∧ r.2.mem ((c.tc : Thread Cert.Reference14Ideal.nD Cert.Reference14Ideal.τ).loc Cert.Reference14Ideal.main_v25) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5)
          ∧ r.2.mem ((c.tc : Thread Cert.Reference14Ideal.nD Cert.Reference14Ideal.τ).loc Cert.Reference14Ideal.main_arg6) = m' ((c.tc : Thread Cert.Reference14Ideal.nD Cert.Reference14Ideal.τ).loc Cert.Reference14Ideal.main_arg6))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v1_0)) (v1 : (c : Dev Cert.Kernel15Ideal.nD) → Buf (Elt Ideal) ((c.tc : Thread Cert.Kernel15Ideal.nD Cert.Kernel15Ideal.τ).loc Cert.Kernel15Ideal.main_v1_1)) (v2 : (c : Dev Cert.Kernel15Ideal.nD) → Buf (Elt Ideal) ((c.tc : Thread Cert.Kernel15Ideal.nD Cert.Kernel15Ideal.τ).loc Cert.Kernel15Ideal.main_v1_2)) (v3 : (c : Dev Cert.Kernel15Ideal.nD) → Buf (Elt Ideal) ((c.tc : Thread Cert.Kernel15Ideal.nD Cert.Kernel15Ideal.τ).loc Cert.Kernel15Ideal.main_v1_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1_0) = v0 c
          ∧ r.2.mem ((c.tc : Thread Cert.Kernel15Ideal.nD Cert.Kernel15Ideal.τ).loc Cert.Kernel15Ideal.main_v1_1) = v1 c
          ∧ r.2.mem ((c.tc : Thread Cert.Kernel15Ideal.nD Cert.Kernel15Ideal.τ).loc Cert.Kernel15Ideal.main_v1_2) = v2 c
          ∧ r.2.mem ((c.tc : Thread Cert.Kernel15Ideal.nD Cert.Kernel15Ideal.τ).loc Cert.Kernel15Ideal.main_v1_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v6) = v0 c
          ∧ r.2.mem ((c.tc : Thread Cert.Reference15Ideal.nD Cert.Reference15Ideal.τ).loc Cert.Reference15Ideal.main_v30) = v1 c
          ∧ r.2.mem ((c.tc : Thread Cert.Reference15Ideal.nD Cert.Reference15Ideal.τ).loc Cert.Reference15Ideal.main_v11) = v2 c
          ∧ r.2.mem ((c.tc : Thread Cert.Reference15Ideal.nD Cert.Reference15Ideal.τ).loc Cert.Reference15Ideal.main_v17) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v1_0)) (v1 : (c : Dev Cert.Kernel16Ideal.nD) → Buf (Elt Ideal) ((c.tc : Thread Cert.Kernel16Ideal.nD Cert.Kernel16Ideal.τ).loc Cert.Kernel16Ideal.main_v1_1)) (v2 : (c : Dev Cert.Kernel16Ideal.nD) → Buf (Elt Ideal) ((c.tc : Thread Cert.Kernel16Ideal.nD Cert.Kernel16Ideal.τ).loc Cert.Kernel16Ideal.main_v1_2)) (v3 : (c : Dev Cert.Kernel16Ideal.nD) → Buf (Elt Ideal) ((c.tc : Thread Cert.Kernel16Ideal.nD Cert.Kernel16Ideal.τ).loc Cert.Kernel16Ideal.main_v1_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1_0) = v0 c
          ∧ r.2.mem ((c.tc : Thread Cert.Kernel16Ideal.nD Cert.Kernel16Ideal.τ).loc Cert.Kernel16Ideal.main_v1_1) = v1 c
          ∧ r.2.mem ((c.tc : Thread Cert.Kernel16Ideal.nD Cert.Kernel16Ideal.τ).loc Cert.Kernel16Ideal.main_v1_2) = v2 c
          ∧ r.2.mem ((c.tc : Thread Cert.Kernel16Ideal.nD Cert.Kernel16Ideal.τ).loc Cert.Kernel16Ideal.main_v1_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v6) = v0 c
          ∧ r.2.mem ((c.tc : Thread Cert.Reference16Ideal.nD Cert.Reference16Ideal.τ).loc Cert.Reference16Ideal.main_v30) = v1 c
          ∧ r.2.mem ((c.tc : Thread Cert.Reference16Ideal.nD Cert.Reference16Ideal.τ).loc Cert.Reference16Ideal.main_v11) = v2 c
          ∧ r.2.mem ((c.tc : Thread Cert.Reference16Ideal.nD Cert.Reference16Ideal.τ).loc Cert.Reference16Ideal.main_v17) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v0) = v0 c
          ∧ r.2.mem ((c.tc : Thread Cert.Reference19Ideal.nD Cert.Reference19Ideal.τ).loc Cert.Reference19Ideal.main_v24) = v1 c
          ∧ r.2.mem ((c.tc : Thread Cert.Reference19Ideal.nD Cert.Reference19Ideal.τ).loc Cert.Reference19Ideal.main_v5) = v2 c
          ∧ r.2.mem ((c.tc : Thread Cert.Reference19Ideal.nD Cert.Reference19Ideal.τ).loc Cert.Reference19Ideal.main_v11) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v1) = v0 c
          ∧ r.2.mem ((c.tc : Thread Cert.Reference20Ideal.nD Cert.Reference20Ideal.τ).loc Cert.Reference20Ideal.main_v25) = v1 c
          ∧ r.2.mem ((c.tc : Thread Cert.Reference20Ideal.nD Cert.Reference20Ideal.τ).loc Cert.Reference20Ideal.main_v6) = v2 c
          ∧ r.2.mem ((c.tc : Thread Cert.Reference20Ideal.nD Cert.Reference20Ideal.τ).loc Cert.Reference20Ideal.main_v12) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v34) = v0 c
          ∧ r.2.mem ((c.tc : Thread Cert.Reference21Ideal.nD Cert.Reference21Ideal.τ).loc Cert.Reference21Ideal.main_v17) = v1 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v48) = v0 c
          ∧ r.2.mem ((c.tc : Thread Cert.Reference22Ideal.nD Cert.Reference22Ideal.τ).loc Cert.Reference22Ideal.main_v49) = v1 c
          ∧ r.2.mem ((c.tc : Thread Cert.Reference22Ideal.nD Cert.Reference22Ideal.τ).loc Cert.Reference22Ideal.main_v32) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v17) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v35) = v0 c
          ∧ r.2.mem ((c.tc : Thread Cert.Reference25Ideal.nD Cert.Reference25Ideal.τ).loc Cert.Reference25Ideal.main_v37) = v1 c
          ∧ r.2.mem ((c.tc : Thread Cert.Reference25Ideal.nD Cert.Reference25Ideal.τ).loc Cert.Reference25Ideal.main_v40) = v2 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v3) = v0 c
          ∧ r.2.mem ((c.tc : Thread Cert.Reference29Ideal.nD Cert.Reference29Ideal.τ).loc Cert.Reference29Ideal.main_v16) = v1 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel29 : Cert.Kernel29.Facts) (hKernel29Ideal : Cert.Kernel29Ideal.Facts) (hReference29Ideal : Cert.Reference29Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel29 (hKernel29 := hKernel29)
    ∧ quiescent_Kernel29Ideal (hKernel29Ideal := hKernel29Ideal)
    ∧ quiescent_Reference29Ideal (hReference29Ideal := hReference29Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel29_Kernel29Ideal
    ∧ algebraic_Kernel29Ideal_Reference29Ideal (hKernel29Ideal := hKernel29Ideal) (hReference29Ideal := hReference29Ideal)
-- ==== Pre_finite.lean ====
abbrev S2048x3072 : Shape := ⟨2, ![2048, 3072]⟩
abbrev S2048x1024 : Shape := ⟨2, ![2048, 1024]⟩
abbrev S2048x4096 : Shape := ⟨2, ![2048, 4096]⟩
abbrev S_ : Shape := ⟨0, ![]⟩

class Facts : Prop where
  bitsLt_bf16_f32 : FTy.bits .bf16 < FTy.bits .f32
  concatenates_S2048x3072_S2048x1024_S2048x4096_d1 : Shape.Concatenates [S2048x3072, S2048x1024] S2048x4096 1
  bcast_S_S2048x4096 : S_.BroadcastsInDim S2048x4096 (![] : Fin 0 → Fin S2048x4096.rank)

variable [Facts]

def fn {F : FTy → Type} [FloatOps F] (main_arg0 : FVec F S2048x3072 .bf16) (main_arg1 : FVec F S2048x1024 .bf16) : IVec S2048x4096 1 :=
  let main_v0 : FVec F S2048x3072 .f32 := (extf .f32 · bitsLt_bf16_f32) main_arg0
  let main_v1 : FVec F S2048x3072 .f32 := Host.absf main_v0
  let main_v2 : FVec F S2048x1024 .f32 := (extf .f32 · bitsLt_bf16_f32) main_arg1
  let main_v3 : FVec F S2048x1024 .f32 := Host.absf main_v2
  let main_v4 : FVec F S2048x4096 .f32 := (fun a b => concatenate S2048x4096 1 [⟨S2048x3072, a⟩, ⟨S2048x1024, b⟩] concatenates_S2048x3072_S2048x1024_S2048x4096_d1) main_v1 main_v3
  let main_cst : FVec F S_ .f32 := constant S_ .f32 0x7F800000#32
  let main_v5 : FVec F S2048x4096 .f32 := broadcastInDim S2048x4096 ![] bcast_S_S2048x4096 main_cst
  let main_v6 : IVec S2048x4096 1 := cmpf .olt main_v4 main_v5
  main_v6
-- ==== Kernel.lean ====
abbrev S2048x3072 : Shape := ⟨2, ![2048, 3072]⟩
abbrev S2048x1024 : Shape := ⟨2, ![2048, 1024]⟩
abbrev S2048x3x16x64 : Shape := ⟨4, ![2048, 3, 16, 64]⟩
abbrev S2048x1x16x64 : Shape := ⟨4, ![2048, 1, 16, 64]⟩
abbrev S2048x16x64 : Shape := ⟨3, ![2048, 16, 64]⟩
abbrev S_ : Shape := ⟨0, ![]⟩
abbrev S16x2048x2048 : Shape := ⟨3, ![16, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S16x2048 : Shape := ⟨2, ![16, 2048]⟩
abbrev S2048x16 : Shape := ⟨2, ![2048, 16]⟩
abbrev S2048x16x1 : Shape := ⟨3, ![2048, 16, 1]⟩
abbrev S2048x16x1x64 : Shape := ⟨4, ![2048, 16, 1, 64]⟩
abbrev S3x2048x1024 : Shape := ⟨3, ![3, 2048, 1024]⟩
abbrev S2048x128 : Shape := ⟨2, ![2048, 128]⟩
abbrev S3x2048x128 : Shape := ⟨3, ![3, 2048, 128]⟩
abbrev S2x2048x128 : Shape := ⟨3, ![2, 2048, 128]⟩
abbrev S1x128 : Shape := ⟨2, ![1, 128]⟩
abbrev S2048x256 : Shape := ⟨2, ![2048, 256]⟩
abbrev S256x256 : Shape := ⟨2, ![256, 256]⟩
abbrev S256x128 : Shape := ⟨2, ![256, 128]⟩
abbrev S1x2048x128 : Shape := ⟨3, ![1, 2048, 128]⟩
abbrev S1792x256 : Shape := ⟨2, ![1792, 256]⟩
abbrev S1792x128 : Shape := ⟨2, ![1792, 128]⟩
abbrev S1792x1 : Shape := ⟨2, ![1792, 1]⟩
abbrev S1x1792x128 : Shape := ⟨3, ![1, 1792, 128]⟩
abbrev S1792 : Shape := ⟨1, ![1792]⟩
abbrev S256x1 : Shape := ⟨2, ![256, 1]⟩
abbrev S1536x256 : Shape := ⟨2, ![1536, 256]⟩
abbrev S1536x128 : Shape := ⟨2, ![1536, 128]⟩
abbrev S1536x1 : Shape := ⟨2, ![1536, 1]⟩
abbrev S1x1536x128 : Shape := ⟨3, ![1, 1536, 128]⟩
abbrev S1536 : Shape := ⟨1, ![1536]⟩
abbrev S512x1 : Shape := ⟨2, ![512, 1]⟩
abbrev S1280x256 : Shape := ⟨2, ![1280, 256]⟩
abbrev S1280x128 : Shape := ⟨2, ![1280, 128]⟩
abbrev S1280x1 : Shape := ⟨2, ![1280, 1]⟩
abbrev S1x1280x128 : Shape := ⟨3, ![1, 1280, 128]⟩
abbrev S1280 : Shape := ⟨1, ![1280]⟩
abbrev S768x1 : Shape := ⟨2, ![768, 1]⟩
abbrev S1024x256 : Shape := ⟨2, ![1024, 256]⟩
abbrev S1024x128 : Shape := ⟨2, ![1024, 128]⟩
abbrev S1024x1 : Shape := ⟨2, ![1024, 1]⟩
abbrev S1x1024x128 : Shape := ⟨3, ![1, 1024, 128]⟩
abbrev S1024 : Shape := ⟨1, ![1024]⟩
abbrev S768x256 : Shape := ⟨2, ![768, 256]⟩
abbrev S768x128 : Shape := ⟨2, ![768, 128]⟩
abbrev S1x768x128 : Shape := ⟨3, ![1, 768, 128]⟩
abbrev S768 : Shape := ⟨1, ![768]⟩
abbrev S512x256 : Shape := ⟨2, ![512, 256]⟩
abbrev S512x128 : Shape := ⟨2, ![512, 128]⟩
abbrev S1x512x128 : Shape := ⟨3, ![1, 512, 128]⟩
abbrev S512 : Shape := ⟨1, ![512]⟩
abbrev S1x256x128 : Shape := ⟨3, ![1, 256, 128]⟩

abbrev nBuf : Space → Nat
  | .hbm => 49
  | .vmem => 15
  | .smem => 0
  | _ => 0

abbrev bufTy : (tb : Table) → Fin (tcTables nBuf tb) → BufTy
  | .hbm, ⟨0, _⟩ => ⟨S2048x3072, .bf16⟩
  | .hbm, ⟨1, _⟩ => ⟨S2048x1024, .bf16⟩
  | .hbm, ⟨2, _⟩ => ⟨S2048x3072, .f32⟩
  | .hbm, ⟨3, _⟩ => ⟨S2048x3x16x64, .f32⟩
  | .hbm, ⟨4, _⟩ => ⟨S2048x1x16x64, .f32⟩
  | .hbm, ⟨5, _⟩ => ⟨S2048x16x64, .f32⟩
  | .hbm, ⟨6, _⟩ => ⟨S_, .f32⟩
  | .hbm, ⟨7, _⟩ => ⟨S2048x16x64, .f32⟩
  | .hbm, ⟨8, _⟩ => ⟨S2048x16x64, .f32⟩
  | .hbm, ⟨9, _⟩ => ⟨S2048x1x16x64, .f32⟩
  | .hbm, ⟨10, _⟩ => ⟨S2048x16x64, .f32⟩
  | .hbm, ⟨11, _⟩ => ⟨S16x2048x2048, .f32⟩
  | .hbm, ⟨12, _⟩ => ⟨S2048, .i32⟩
  | .hbm, ⟨13, _⟩ => ⟨S1x2048, .i32⟩
  | .hbm, ⟨14, _⟩ => ⟨S2048, .i32⟩
  | .hbm, ⟨15, _⟩ => ⟨S2048x1, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S16x2048x2048, .f32⟩
  | .hbm, ⟨20, _⟩ => ⟨S16x2048x2048, .f32⟩
  | .hbm, ⟨21, _⟩ => ⟨S_, .f32⟩
  | .hbm, ⟨22, _⟩ => ⟨S16x2048x2048, .f32⟩
  | .hbm, ⟨23, _⟩ => ⟨S16x2048x2048, .f32⟩
  | .hbm, ⟨24, _⟩ => ⟨S16x2048x2048, .f32⟩
  | .hbm, ⟨25, _⟩ => ⟨S16x2048x2048, .f32⟩
  | .hbm, ⟨26, _⟩ => ⟨S16x2048x2048, .i1⟩
  | .hbm, ⟨27, _⟩ => ⟨S16x2048x2048, .f32⟩
  | .hbm, ⟨28, _⟩ => ⟨S16x2048x2048, .f32⟩
  | .hbm, ⟨29, _⟩ => ⟨S16x2048x2048, .f32⟩
  | .hbm, ⟨30, _⟩ => ⟨S16x2048x2048, .f32⟩
  | .hbm, ⟨31, _⟩ => ⟨S16x2048x2048, .f32⟩
  | .hbm, ⟨32, _⟩ => ⟨S16x2048x2048, .f32⟩
  | .hbm, ⟨33, _⟩ => ⟨S16x2048x2048, .f32⟩
  | .hbm, ⟨34, _⟩ => ⟨S16x2048x2048, .f32⟩
  | .hbm, ⟨35, _⟩ => ⟨S16x2048x2048, .f32⟩
  | .hbm, ⟨36, _⟩ => ⟨S_, .f32⟩
  | .hbm, ⟨37, _⟩ => ⟨S_, .f32⟩
  | .hbm, ⟨38, _⟩ => ⟨S16x2048x2048, .i1⟩
  | .hbm, ⟨39, _⟩ => ⟨S16x2048x2048, .f32⟩
  | .hbm, ⟨40, _⟩ => ⟨S16x2048x2048, .f32⟩
  | .hbm, ⟨41, _⟩ => ⟨S_, .f32⟩
  | .hbm, ⟨42, _⟩ => ⟨S16x2048, .f32⟩
  | .hbm, ⟨43, _⟩ => ⟨S2048x16, .f32⟩
  | .hbm, ⟨44, _⟩ => ⟨S2048x16x1, .f32⟩
  | .hbm, ⟨45, _⟩ => ⟨S2048x16x1x64, .f32⟩
  | .hbm, ⟨46, _⟩ => ⟨S2048x16x64, .f32⟩
  | .hbm, ⟨47, _⟩ => ⟨S2048x1024, .f32⟩
  | .hbm, ⟨48, _⟩ => ⟨S3x2048x1024, .bf16⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .f32⟩
  | .local _ .vmem, ⟨7, _⟩ => ⟨S2048x128, .f32⟩
  | .local _ .vmem, ⟨8, _⟩ => ⟨S2048x128, .bf16⟩
  | .local _ .vmem, ⟨9, _⟩ => ⟨S2048x128, .bf16⟩
  | .local _ .vmem, ⟨10, _⟩ => ⟨S3x2048x128, .bf16⟩
  | .local _ .vmem, ⟨11, _⟩ => ⟨S3x2048x128, .bf16⟩
  | .local _ .vmem, ⟨12, _⟩ => ⟨S2048x128, .f32⟩
  | .local _ .vmem, ⟨13, _⟩ => ⟨S2048x128, .f32⟩
  | .local _ .vmem, ⟨14, _⟩ => ⟨S2x2048x128, .f32⟩
  | _, _ => ⟨S2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v17 : Ref sig .tc := ⟨.hbm, 35, rfl⟩
abbrev main_cst_0 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v18 : Ref sig .tc := ⟨.hbm, 40, rfl⟩
abbrev main_cst_1 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![8], ![false]⟩

def k0_mult1 : BitVec 32 :=
  let c0_i32 : BitVec 32 := 0#32
  let c2048_i32 : BitVec 32 := 2048#32
  let v25 : BitVec 32 := Scalar.muli c0_i32 c2048_i32
  v25
def k0_off1 : Fin 2 → Nat :=
  let c0_i32 : BitVec 32 := 0#32
  let c2048_i32 : BitVec 32 := 2048#32
  let v25 : BitVec 32 := Scalar.muli c0_i32 c2048_i32
  let v26 : BitVec 32 := v25
  let v27 : Index := Scalar.indexCast v26
  let c0_5 : Index := 0#32
  ![v27.toNat, 0]
@[reducible] def k0_t1_loop : Scf.Loop 32 :=
  let c0_i32_22 : BitVec 32 := 0#32
  let c0_i32 : BitVec 32 := 0#32
  let c8_i32 : BitVec 32 := 8#32
  let v73 : BitVec 32 := Scalar.muli c0_i32 c8_i32
  let v74 : BitVec 32 := Scalar.subi v73 c0_i32_22
  let c1_i32 : BitVec 32 := 1#32
  let v76 : BitVec 32 := Scalar.divsi v74 c1_i32
  let v77 : BitVec 32 := Scalar.muli v76 c1_i32
  let v78 : BitVec 32 := Scalar.addi c0_i32_22 v77
  let c1_i32_23 : BitVec 32 := 1#32
  ⟨c0_i32_22, v78, c1_i32_23⟩
def k0_mult2 (k0_t1 : Fin k0_t1_loop.trips) : BitVec 32 :=
  let c0_i32_22 : BitVec 32 := 0#32
  let c1_i32_23 : BitVec 32 := 1#32
  let arg10 : BitVec 32 := Scf.iv c0_i32_22 c1_i32_23 k0_t1
  let c256_i32_465 : BitVec 32 := 256#32
  let v1487 : BitVec 32 := Scalar.muli arg10 c256_i32_465
  v1487
def k0_off2 (k0_t1 : Fin k0_t1_loop.trips) : Fin 2 → Nat :=
  let c0_i32_22 : BitVec 32 := 0#32
  let c1_i32_23 : BitVec 32 := 1#32
  let arg10 : BitVec 32 := Scf.iv c0_i32_22 c1_i32_23 k0_t1
  let c256_i32_465 : BitVec 32 := 256#32
  let v1487 : BitVec 32 := Scalar.muli arg10 c256_i32_465
  let v1488 : BitVec 32 := v1487
  let v1489 : Index := Scalar.indexCast v1488
  let c0_466 : Index := 0#32
  ![v1489.toNat, 0]
@[reducible] def k0_t2_loop : Scf.Loop 32 :=
  let c0_i32_22 : BitVec 32 := 0#32
  let c0_i32 : BitVec 32 := 0#32
  let c8_i32 : BitVec 32 := 8#32
  let v73 : BitVec 32 := Scalar.muli c0_i32 c8_i32
  let v74 : BitVec 32 := Scalar.subi v73 c0_i32_22
  let c1_i32 : BitVec 32 := 1#32
  let v76 : BitVec 32 := Scalar.divsi v74 c1_i32
  let v77 : BitVec 32 := Scalar.muli v76 c1_i32
  let v78 : BitVec 32 := Scalar.addi c0_i32_22 v77
  let v75 : BitVec 32 := Scalar.addi c0_i32_22 v74
  let c1_i32_24 : BitVec 32 := 1#32
  ⟨v78, v75, c1_i32_24⟩
def k0_mult3 (k0_t2 : Fin k0_t2_loop.trips) : BitVec 32 :=
  let c0_i32_22 : BitVec 32 := 0#32
  let c0_i32 : BitVec 32 := 0#32
  let c8_i32 : BitVec 32 := 8#32
  let v73 : BitVec 32 := Scalar.muli c0_i32 c8_i32
  let v74 : BitVec 32 := Scalar.subi v73 c0_i32_22
  let c1_i32 : BitVec 32 := 1#32
  let v76 : BitVec 32 := Scalar.divsi v74 c1_i32
  let v77 : BitVec 32 := Scalar.muli v76 c1_i32
  let v78 : BitVec 32 := Scalar.addi c0_i32_22 v77
  let c1_i32_24 : BitVec 32 := 1#32
  let arg10 : BitVec 32 := Scf.iv v78 c1_i32_24 k0_t2
  let c256_i32_465 : BitVec 32 := 256#32
  let v1487 : BitVec 32 := Scalar.muli arg10 c256_i32_465
  v1487
def k0_off3 (k0_t2 : Fin k0_t2_loop.trips) : Fin 2 → Nat :=
  let c0_i32_22 : BitVec 32 := 0#32
  let c0_i32 : BitVec 32 := 0#32
  let c8_i32 : BitVec 32 := 8#32
  let v73 : BitVec 32 := Scalar.muli c0_i32 c8_i32
  let v74 : BitVec 32 := Scalar.subi v73 c0_i32_22
  let c1_i32 : BitVec 32 := 1#32
  let v76 : BitVec 32 := Scalar.divsi v74 c1_i32
  let v77 : BitVec 32 := Scalar.muli v76 c1_i32
  let v78 : BitVec 32 := Scalar.addi c0_i32_22 v77
  let c1_i32_24 : BitVec 32 := 1#32
  let arg10 : BitVec 32 := Scf.iv v78 c1_i32_24 k0_t2
  let c256_i32_465 : BitVec 32 := 256#32
  let v1487 : BitVec 32 := Scalar.muli arg10 c256_i32_465
  let v1488 : BitVec 32 := v1487
  let v1489 : Index := Scalar.indexCast v1488
  let c0_466 : Index := 0#32
  ![v1489.toNat, 0]
def k0_mult4 : BitVec 32 :=
  let c0_i32 : BitVec 32 := 0#32
  let c2048_i32 : BitVec 32 := 2048#32
  let v25 : BitVec 32 := Scalar.muli c0_i32 c2048_i32
  let v26 : BitVec 32 := v25
  let c0_i32_25 : BitVec 32 := 0#32
  let v81 : BitVec 32 := Scalar.addi v26 c0_i32_25
  v81
def k0_off4 (c0_i32_25 : BitVec 32) : Fin 2 → Nat :=
  let c0_i32 : BitVec 32 := 0#32
  let c2048_i32 : BitVec 32 := 2048#32
  let v25 : BitVec 32 := Scalar.muli c0_i32 c2048_i32
  let v26 : BitVec 32 := v25
  let v81 : BitVec 32 := Scalar.addi v26 c0_i32_25
  let v82 : BitVec 32 := v81
  let v83 : Index := Scalar.indexCast v82
  let c0_26 : Index := 0#32
  ![v83.toNat, 0]
def k0_mult5 : BitVec 32 :=
  let c0_i32 : BitVec 32 := 0#32
  let c2048_i32 : BitVec 32 := 2048#32
  let v25 : BitVec 32 := Scalar.muli c0_i32 c2048_i32
  let v26 : BitVec 32 := v25
  let c256_i32 : BitVec 32 := 256#32
  let v236 : BitVec 32 := Scalar.addi v26 c256_i32
  v236
def k0_mult6 : BitVec 32 :=
  let c0_i32 : BitVec 32 := 0#32
  let c2048_i32 : BitVec 32 := 2048#32
  let v25 : BitVec 32 := Scalar.muli c0_i32 c2048_i32
  let v26 : BitVec 32 := v25
  let c512_i32 : BitVec 32 := 512#32
  let v415 : BitVec 32 := Scalar.addi v26 c512_i32
  v415
def k0_mult7 : BitVec 32 :=
  let c0_i32 : BitVec 32 := 0#32
  let c2048_i32 : BitVec 32 := 2048#32
  let v25 : BitVec 32 := Scalar.muli c0_i32 c2048_i32
  let v26 : BitVec 32 := v25
  let c768_i32 : BitVec 32 := 768#32
  let v594 : BitVec 32 := Scalar.addi v26 c768_i32
  v594
def k0_mult8 : BitVec 32 :=
  let c0_i32 : BitVec 32 := 0#32
  let c2048_i32 : BitVec 32 := 2048#32
  let v25 : BitVec 32 := Scalar.muli c0_i32 c2048_i32
  let v26 : BitVec 32 := v25
  let c1024_i32 : BitVec 32 := 1024#32
  let v773 : BitVec 32 := Scalar.addi v26 c1024_i32
  v773
def k0_mult9 : BitVec 32 :=
  let c0_i32 : BitVec 32 := 0#32
  let c2048_i32 : BitVec 32 := 2048#32
  let v25 : BitVec 32 := Scalar.muli c0_i32 c2048_i32
  let v26 : BitVec 32 := v25
  let c1280_i32 : BitVec 32 := 1280#32
  let v952 : BitVec 32 := Scalar.addi v26 c1280_i32
  v952
def k0_mult10 : BitVec 32 :=
  let c0_i32 : BitVec 32 := 0#32
  let c2048_i32 : BitVec 32 := 2048#32
  let v25 : BitVec 32 := Scalar.muli c0_i32 c2048_i32
  let v26 : BitVec 32 := v25
  let c1536_i32 : BitVec 32 := 1536#32
  let v1131 : BitVec 32 := Scalar.addi v26 c1536_i32
  v1131
def k0_mult11 : BitVec 32 :=
  let c0_i32 : BitVec 32 := 0#32
  let c2048_i32 : BitVec 32 := 2048#32
  let v25 : BitVec 32 := Scalar.muli c0_i32 c2048_i32
  let v26 : BitVec 32 := v25
  let c1792_i32 : BitVec 32 := 1792#32
  let v1310 : BitVec 32 := Scalar.addi v26 c1792_i32
  v1310
def k0_off5 : Fin 3 → Nat :=
  let c0_453 : Index := 0#32
  let c0_i32 : BitVec 32 := 0#32
  let c2048_i32 : BitVec 32 := 2048#32
  let v25 : BitVec 32 := Scalar.muli c0_i32 c2048_i32
  let v26 : BitVec 32 := v25
  let v1473 : Index := Scalar.indexCast v26
  let c0_454 : Index := 0#32
  ![0, v1473.toNat, 0]
def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S2048x3072 : Shape := ⟨2, ![2048, 3072]⟩
abbrev S2048x1024 : Shape := ⟨2, ![2048, 1024]⟩
abbrev S2048x3x16x64 : Shape := ⟨4, ![2048, 3, 16, 64]⟩
abbrev S2048x1x16x64 : Shape := ⟨4, ![2048, 1, 16, 64]⟩
abbrev S2048x16x64 : Shape := ⟨3, ![2048, 16, 64]⟩
abbrev S_ : Shape := ⟨0, ![]⟩
abbrev S16x2048x2048 : Shape := ⟨3, ![16, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S16x64x2048 : Shape := ⟨3, ![16, 64, 2048]⟩
abbrev S16x2048x64 : Shape := ⟨3, ![16, 2048, 64]⟩
abbrev S2048x3x1024 : Shape := ⟨3, ![2048, 3, 1024]⟩
abbrev S3x2048x1024 : Shape := ⟨3, ![3, 2048, 1024]⟩

abbrev nBuf : Space → Nat
  | .hbm => 189
  | .vmem => 0
  | .smem => 0
  | _ => 0

abbrev hbmTy0_0 (i : Nat) : BufTy := match i % 128 with
  | 0 => ⟨S2048x3072, .bf16⟩
  | 1 => ⟨S2048x1024, .bf16⟩
  | 2 => ⟨S2048x3072, .f32⟩
  | 3 => ⟨S2048x3x16x64, .f32⟩
  | 4 => ⟨S2048x1x16x64, .f32⟩
  | 5 => ⟨S2048x16x64, .f32⟩
  | 6 => ⟨S_, .f32⟩
  | 7 => ⟨S2048x16x64, .f32⟩
  | 8 => ⟨S2048x16x64, .f32⟩
  | 9 => ⟨S2048x1x16x64, .f32⟩
  | 10 => ⟨S2048x16x64, .f32⟩
  | 11 => ⟨S2048x1x16x64, .f32⟩
  | 12 => ⟨S2048x16x64, .f32⟩
  | 13 => ⟨S16x2048x2048, .f32⟩
  | 14 => ⟨S2048, .i32⟩
  | 15 => ⟨S2048, .i32⟩
  | 16 => ⟨S1x2048, .i32⟩
  | 17 => ⟨S2048x1, .i32⟩
  | 18 => ⟨S2048x2048, .i32⟩
  | 19 => ⟨S2048x2048, .i32⟩
  | 20 => ⟨S2048x2048, .i1⟩
  | 21 => ⟨S16x2048x2048, .f32⟩
  | 22 => ⟨S16x2048x2048, .f32⟩
  | 23 => ⟨S_, .f32⟩
  | 24 => ⟨S16x2048x2048, .f32⟩
  | 25 => ⟨S16x2048x2048, .f32⟩
  | 26 => ⟨S16x2048x2048, .f32⟩
  | 27 => ⟨S16x2048x2048, .f32⟩
  | 28 => ⟨S16x2048x2048, .i1⟩
  | 29 => ⟨S16x2048x2048, .f32⟩
  | 30 => ⟨S16x2048x2048, .f32⟩
  | 31 => ⟨S16x2048x2048, .f32⟩
  | 32 => ⟨S16x2048x2048, .f32⟩
  | 33 => ⟨S16x2048x2048, .f32⟩
  | 34 => ⟨S16x2048x2048, .f32⟩
  | 35 => ⟨S16x2048x2048, .f32⟩
  | 36 => ⟨S16x2048x2048, .f32⟩
  | 37 => ⟨S_, .f32⟩
  | 38 => ⟨S16x2048x2048, .f32⟩
  | 39 => ⟨S16x2048x2048, .i1⟩
  | 40 => ⟨S_, .f32⟩
  | 41 => ⟨S16x2048x2048, .f32⟩
  | 42 => ⟨S16x2048x2048, .f32⟩
  | 43 => ⟨S_, .f32⟩
  | 44 => ⟨S16x2048x2048, .f32⟩
  | 45 => ⟨S16x2048x2048, .i1⟩
  | 46 => ⟨S_, .f32⟩
  | 47 => ⟨S16x2048x2048, .f32⟩
  | 48 => ⟨S16x2048x2048, .f32⟩
  | 49 => ⟨S16x2048x2048, .f32⟩
  | 50 => ⟨S16x2048x2048, .f32⟩
  | 51 => ⟨S_, .f32⟩
  | 52 => ⟨S_, .f32⟩
  | 53 => ⟨S_, .i1⟩
  | 54 => ⟨S_, .f32⟩
  | 55 => ⟨S_, .f32⟩
  | 56 => ⟨S_, .f32⟩
  | 57 => ⟨S_, .f32⟩
  | 58 => ⟨S16x2048x2048, .f32⟩
  | 59 => ⟨S16x2048x2048, .i1⟩
  | 60 => ⟨S_, .f32⟩
  | 61 => ⟨S16x2048x2048, .f32⟩
  | 62 => ⟨S16x2048x2048, .f32⟩
  | 63 => ⟨S16x2048x2048, .f32⟩
  | 64 => ⟨S16x2048x2048, .f32⟩
  | 65 => ⟨S16x2048x2048, .f32⟩
  | 66 => ⟨S_, .f32⟩
  | 67 => ⟨S16x2048x2048, .f32⟩
  | 68 => ⟨S16x2048x2048, .f32⟩
  | 69 => ⟨S16x2048x2048, .f32⟩
  | 70 => ⟨S_, .f32⟩
  | 71 => ⟨S_, .f32⟩
  | 72 => ⟨S16x2048x2048, .i1⟩
  | 73 => ⟨S16x2048x2048, .f32⟩
  | 74 => ⟨S16x2048x2048, .f32⟩
  | 75 => ⟨S_, .f32⟩
  | 76 => ⟨S16x2048x2048, .f32⟩
  | 77 => ⟨S16x2048x2048, .f32⟩
  | 78 => ⟨S_, .f32⟩
  | 79 => ⟨S16x2048x2048, .f32⟩
  | 80 => ⟨S16x2048x2048, .f32⟩
  | 81 => ⟨S16x2048x2048, .f32⟩
  | 82 => ⟨S16x2048x2048, .f32⟩
  | 83 => ⟨S16x2048x2048, .i1⟩
  | 84 => ⟨S16x2048x2048, .f32⟩
  | 85 => ⟨S16x2048x2048, .f32⟩
  | 86 => ⟨S16x2048x2048, .f32⟩
  | 87 => ⟨S16x2048x2048, .f32⟩
  | 88 => ⟨S16x2048x2048, .f32⟩
  | 89 => ⟨S16x2048x2048, .f32⟩
  | 90 => ⟨S16x2048x2048, .f32⟩
  | 91 => ⟨S16x2048x2048, .f32⟩
  | 92 => ⟨S_, .f32⟩
  | 93 => ⟨S16x2048x2048, .f32⟩
  | 94 => ⟨S16x2048x2048, .i1⟩
  | 95 => ⟨S_, .f32⟩
  | 96 => ⟨S16x2048x2048, .f32⟩
  | 97 => ⟨S16x2048x2048, .f32⟩
  | 98 => ⟨S_, .f32⟩
  | 99 => ⟨S16x2048x2048, .f32⟩
  | 100 => ⟨S16x2048x2048, .i1⟩
  | 101 => ⟨S_, .f32⟩
  | 102 => ⟨S16x2048x2048, .f32⟩
  | 103 => ⟨S16x2048x2048, .f32⟩
  | 104 => ⟨S16x2048x2048, .f32⟩
  | 105 => ⟨S16x2048x2048, .f32⟩
  | 106 => ⟨S_, .f32⟩
  | 107 => ⟨S_, .f32⟩
  | 108 => ⟨S_, .i1⟩
  | 109 => ⟨S_, .f32⟩
  | 110 => ⟨S_, .f32⟩
  | 111 => ⟨S_, .f32⟩
  | 112 => ⟨S_, .f32⟩
  | 113 => ⟨S16x2048x2048, .f32⟩
  | 114 => ⟨S16x2048x2048, .i1⟩
  | 115 => ⟨S_, .f32⟩
  | 116 => ⟨S16x2048x2048, .f32⟩
  | 117 => ⟨S16x2048x2048, .f32⟩
  | 118 => ⟨S16x2048x2048, .f32⟩
  | 119 => ⟨S16x2048x2048, .f32⟩
  | 120 => ⟨S16x2048x2048, .f32⟩
  | 121 => ⟨S_, .f32⟩
  | 122 => ⟨S16x2048x2048, .f32⟩
  | 123 => ⟨S16x2048x2048, .f32⟩
  | 124 => ⟨S16x2048x2048, .f32⟩
  | 125 => ⟨S_, .f32⟩
  | 126 => ⟨S_, .f32⟩
  | 127 => ⟨S16x2048x2048, .f32⟩
  | _ => ⟨S2048x3072, .bf16⟩

abbrev hbmTy0_1 (i : Nat) : BufTy := match i % 128 with
  | 0 => ⟨S16x2048x2048, .f32⟩
  | 1 => ⟨S16x2048x2048, .f32⟩
  | 2 => ⟨S16x2048x2048, .f32⟩
  | 3 => ⟨S_, .f32⟩
  | 4 => ⟨S_, .f32⟩
  | 5 => ⟨S16x2048x2048, .i1⟩
  | 6 => ⟨S16x2048x2048, .f32⟩
  | 7 => ⟨S16x2048x2048, .f32⟩
  | 8 => ⟨S_, .f32⟩
  | 9 => ⟨S16x2048x2048, .f32⟩
  | 10 => ⟨S16x64x2048, .f32⟩
  | 11 => ⟨S2048x16x64, .f32⟩
  | 12 => ⟨S2048x1024, .f32⟩
  | 13 => ⟨S2048x1024, .f32⟩
  | 14 => ⟨S2048x16x64, .f32⟩
  | 15 => ⟨S16x64x2048, .f32⟩
  | 16 => ⟨S16x2048x2048, .f32⟩
  | 17 => ⟨S16x64x2048, .f32⟩
  | 18 => ⟨S2048x16x64, .f32⟩
  | 19 => ⟨S_, .f32⟩
  | 20 => ⟨S16x2048x2048, .f32⟩
  | 21 => ⟨S16x2048x2048, .f32⟩
  | 22 => ⟨S16x2048x2048, .f32⟩
  | 23 => ⟨S16x2048x2048, .f32⟩
  | 24 => ⟨S_, .f32⟩
  | 25 => ⟨S_, .f32⟩
  | 26 => ⟨S16x2048x2048, .f32⟩
  | 27 => ⟨S16x2048x2048, .f32⟩
  | 28 => ⟨S16x2048x2048, .f32⟩
  | 29 => ⟨S16x2048x2048, .f32⟩
  | 30 => ⟨S16x2048x2048, .f32⟩
  | 31 => ⟨S_, .f32⟩
  | 32 => ⟨S16x2048x2048, .f32⟩
  | 33 => ⟨S16x2048x2048, .f32⟩
  | 34 => ⟨S16x2048x2048, .f32⟩
  | 35 => ⟨S16x2048x2048, .f32⟩
  | 36 => ⟨S16x2048x2048, .f32⟩
  | 37 => ⟨S16x2048x2048, .f32⟩
  | 38 => ⟨S16x2048x2048, .f32⟩
  | 39 => ⟨S16x2048x64, .f32⟩
  | 40 => ⟨S2048x16x64, .f32⟩
  | 41 => ⟨S16x2048x64, .f32⟩
  | 42 => ⟨S2048x16x64, .f32⟩
  | 43 => ⟨S2048x1x16x64, .f32⟩
  | 44 => ⟨S_, .f32⟩
  | 45 => ⟨S2048x3x16x64, .f32⟩
  | 46 => ⟨S2048x1x16x64, .f32⟩
  | 47 => ⟨S_, .f32⟩
  | 48 => ⟨S2048x3x16x64, .f32⟩
  | 49 => ⟨S2048x3x16x64, .f32⟩
  | 50 => ⟨S_, .f32⟩
  | 51 => ⟨S2048x16x64, .f32⟩
  | 52 => ⟨S2048x16x64, .f32⟩
  | 53 => ⟨S2048x1x16x64, .f32⟩
  | 54 => ⟨S_, .f32⟩
  | 55 => ⟨S2048x3x16x64, .f32⟩
  | 56 => ⟨S2048x3x16x64, .f32⟩
  | 57 => ⟨S2048x3072, .f32⟩
  | 58 => ⟨S2048x3x1024, .f32⟩
  | 59 => ⟨S3x2048x1024, .f32⟩
  | 60 => ⟨S3x2048x1024, .bf16⟩
  | _ => ⟨S2048x3072, .bf16⟩

abbrev hbmTy (i : Nat) : BufTy := match i / 128 with
  | 0 => hbmTy0_0 i
  | 1 => hbmTy0_1 i
  | _ => ⟨S2048x3072, .bf16⟩

abbrev bufTy : (tb : Table) → Fin (tcTables nBuf tb) → BufTy
  | .hbm, ⟨i, _⟩ => hbmTy i
  | _, _ => ⟨S2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1_0 : Ref sig .tc := ⟨.hbm, 36, rfl⟩
abbrev main_call0_call0_cst_0 : Ref sig .tc := ⟨.hbm, 37, rfl⟩
abbrev main_call0_call0_v13 : Ref sig .tc := ⟨.hbm, 38, rfl⟩
abbrev main_call0_call0_v14 : Ref sig .tc := ⟨.hbm, 39, rfl⟩
abbrev main_call0_call0_cst_1 : Ref sig .tc := ⟨.hbm, 40, rfl⟩
abbrev main_call0_call0_v15 : Ref sig .tc := ⟨.hbm, 41, rfl⟩
abbrev main_call0_call0_v16 : Ref sig .tc := ⟨.hbm, 42, rfl⟩
abbrev main_call0_call0_cst_2 : Ref sig .tc := ⟨.hbm, 43, rfl⟩
abbrev main_call0_call0_v17 : Ref sig .tc := ⟨.hbm, 44, rfl⟩
abbrev main_call0_call0_v18 : Ref sig .tc := ⟨.hbm, 45, rfl⟩
abbrev main_call0_call0_cst_3 : Ref sig .tc := ⟨.hbm, 46, rfl⟩
abbrev main_call0_call0_v19 : Ref sig .tc := ⟨.hbm, 47, rfl⟩
abbrev main_call0_call0_v20 : Ref sig .tc := ⟨.hbm, 48, rfl⟩
abbrev main_call0_call0_v21 : Ref sig .tc := ⟨.hbm, 49, rfl⟩
abbrev main_v19_1 : Ref sig .tc := ⟨.hbm, 50, rfl⟩
abbrev main_call0_call0_cst_4 : Ref sig .tc := ⟨.hbm, 51, rfl⟩
abbrev main_call0_call0_cst_5 : Ref sig .tc := ⟨.hbm, 52, rfl⟩
abbrev main_call0_call0_v23 : Ref sig .tc := ⟨.hbm, 53, rfl⟩
abbrev main_call0_call0_cst_6 : Ref sig .tc := ⟨.hbm, 54, rfl⟩
abbrev main_call0_call0_cst_7 : Ref sig .tc := ⟨.hbm, 55, rfl⟩
abbrev main_call0_call0_v24 : Ref sig .tc := ⟨.hbm, 56, rfl⟩
abbrev main_call0_call0_cst_8 : Ref sig .tc := ⟨.hbm, 57, rfl⟩
abbrev main_call0_call0_v25 : Ref sig .tc := ⟨.hbm, 58, rfl⟩
abbrev main_call0_call0_v26 : Ref sig .tc := ⟨.hbm, 59, rfl⟩
abbrev main_call0_call0_cst_9 : Ref sig .tc := ⟨.hbm, 60, rfl⟩
abbrev main_call0_call0_v27 : Ref sig .tc := ⟨.hbm, 61, rfl⟩
abbrev main_call0_call0_v28 : Ref sig .tc := ⟨.hbm, 62, rfl⟩
abbrev main_call0_call0_v29 : Ref sig .tc := ⟨.hbm, 63, rfl⟩
abbrev main_call0_call0_v30 : Ref sig .tc := ⟨.hbm, 64, rfl⟩
abbrev main_call0_call0_v31 : Ref sig .tc := ⟨.hbm, 65, rfl⟩
abbrev main_call0_call0_cst_10 : Ref sig .tc := ⟨.hbm, 66, rfl⟩
abbrev main_call0_call0_v32 : Ref sig .tc := ⟨.hbm, 67, rfl⟩
abbrev main_v19_2 : Ref sig .tc := ⟨.hbm, 68, rfl⟩
abbrev main_v19_0 : Ref sig .tc := ⟨.hbm, 69, rfl⟩
abbrev main_cst_0 : Ref sig .tc := ⟨.hbm, 70, rfl⟩
abbrev main_call1_v0 : Ref sig .tc := ⟨.hbm, 71, rfl⟩
abbrev main_v20_1 : Ref sig .tc := ⟨.hbm, 72, rfl⟩
abbrev main_call1_v2 : Ref sig .tc := ⟨.hbm, 73, rfl⟩
abbrev main_v20_0 : Ref sig .tc := ⟨.hbm, 74, rfl⟩
abbrev main_call1_cst : Ref sig .tc := ⟨.hbm, 75, rfl⟩
abbrev main_v20_2 : Ref sig .tc := ⟨.hbm, 76, rfl⟩
abbrev main_call2_v0 : Ref sig .tc := ⟨.hbm, 77, rfl⟩
abbrev main_call2_call0_cst : Ref sig .tc := ⟨.hbm, 78, rfl⟩
abbrev main_call2_call0_v0 : Ref sig .tc := ⟨.hbm, 79, rfl⟩
abbrev main_call2_call0_v1 : Ref sig .tc := ⟨.hbm, 80, rfl⟩
abbrev main_call2_call0_v2 : Ref sig .tc := ⟨.hbm, 81, rfl⟩
abbrev main_call2_call0_v3 : Ref sig .tc := ⟨.hbm, 82, rfl⟩
abbrev main_call2_call0_v4 : Ref sig .tc := ⟨.hbm, 83, rfl⟩
abbrev main_call2_call0_v5 : Ref sig .tc := ⟨.hbm, 84, rfl⟩
abbrev main_call2_call0_v6 : Ref sig .tc := ⟨.hbm, 85, rfl⟩
abbrev main_call2_call0_v7 : Ref sig .tc := ⟨.hbm, 86, rfl⟩
abbrev main_call2_call0_v8 : Ref sig .tc := ⟨.hbm, 87, rfl⟩
abbrev main_call2_call0_v9 : Ref sig .tc := ⟨.hbm, 88, rfl⟩
abbrev main_call2_call0_v10 : Ref sig .tc := ⟨.hbm, 89, rfl⟩
abbrev main_call2_call0_v11 : Ref sig .tc := ⟨.hbm, 90, rfl⟩
abbrev main_call2_v1_0 : Ref sig .tc := ⟨.hbm, 91, rfl⟩
abbrev main_call2_call0_cst_0 : Ref sig .tc := ⟨.hbm, 92, rfl⟩
abbrev main_call2_call0_v13 : Ref sig .tc := ⟨.hbm, 93, rfl⟩
abbrev main_call2_call0_v14 : Ref sig .tc := ⟨.hbm, 94, rfl⟩
abbrev main_call2_call0_cst_1 : Ref sig .tc := ⟨.hbm, 95, rfl⟩
abbrev main_call2_call0_v15 : Ref sig .tc := ⟨.hbm, 96, rfl⟩
abbrev main_call2_call0_v16 : Ref sig .tc := ⟨.hbm, 97, rfl⟩
abbrev main_call2_call0_cst_2 : Ref sig .tc := ⟨.hbm, 98, rfl⟩
abbrev main_call2_call0_v17 : Ref sig .tc := ⟨.hbm, 99, rfl⟩
abbrev main_call2_call0_v18 : Ref sig .tc := ⟨.hbm, 100, rfl⟩
abbrev main_call2_call0_cst_3 : Ref sig .tc := ⟨.hbm, 101, rfl⟩
abbrev main_call2_call0_v19 : Ref sig .tc := ⟨.hbm, 102, rfl⟩
abbrev main_call2_call0_v20 : Ref sig .tc := ⟨.hbm, 103, rfl⟩
abbrev main_call2_call0_v21 : Ref sig .tc := ⟨.hbm, 104, rfl⟩
abbrev main_v21_1 : Ref sig .tc := ⟨.hbm, 105, rfl⟩
abbrev main_call2_call0_cst_4 : Ref sig .tc := ⟨.hbm, 106, rfl⟩
abbrev main_call2_call0_cst_5 : Ref sig .tc := ⟨.hbm, 107, rfl⟩
abbrev main_call2_call0_v23 : Ref sig .tc := ⟨.hbm, 108, rfl⟩
abbrev main_call2_call0_cst_6 : Ref sig .tc := ⟨.hbm, 109, rfl⟩
abbrev main_call2_call0_cst_7 : Ref sig .tc := ⟨.hbm, 110, rfl⟩
abbrev main_call2_call0_v24 : Ref sig .tc := ⟨.hbm, 111, rfl⟩
abbrev main_call2_call0_cst_8 : Ref sig .tc := ⟨.hbm, 112, rfl⟩
abbrev main_call2_call0_v25 : Ref sig .tc := ⟨.hbm, 113, rfl⟩
abbrev main_call2_call0_v26 : Ref sig .tc := ⟨.hbm, 114, rfl⟩
abbrev main_call2_call0_cst_9 : Ref sig .tc := ⟨.hbm, 115, rfl⟩
abbrev main_call2_call0_v27 : Ref sig .tc := ⟨.hbm, 116, rfl⟩
abbrev main_call2_call0_v28 : Ref sig .tc := ⟨.hbm, 117, rfl⟩
abbrev main_call2_call0_v29 : Ref sig .tc := ⟨.hbm, 118, rfl⟩
abbrev main_call2_call0_v30 : Ref sig .tc := ⟨.hbm, 119, rfl⟩
abbrev main_call2_call0_v31 : Ref sig .tc := ⟨.hbm, 120, rfl⟩
abbrev main_call2_call0_cst_10 : Ref sig .tc := ⟨.hbm, 121, rfl⟩
abbrev main_call2_call0_v32 : Ref sig .tc := ⟨.hbm, 122, rfl⟩
abbrev main_v21_2 : Ref sig .tc := ⟨.hbm, 123, rfl⟩
abbrev main_v21_0 : Ref sig .tc := ⟨.hbm, 124, rfl⟩
abbrev main_call3_cst : Ref sig .tc := ⟨.hbm, 125, rfl⟩
abbrev main_call3_v0 : Ref sig .tc := ⟨.hbm, 126, rfl⟩
abbrev main_v22 : Ref sig .tc := ⟨.hbm, 127, rfl⟩
abbrev main_v23 : Ref sig .tc := ⟨.hbm, 128, rfl⟩
abbrev main_v24 : Ref sig .tc := ⟨.hbm, 129, rfl⟩
abbrev main_v25 : Ref sig .tc := ⟨.hbm, 130, rfl⟩
abbrev main_cst_1 : Ref sig .tc := ⟨.hbm, 131, rfl⟩
abbrev main_call4_v0 : Ref sig .tc := ⟨.hbm, 132, rfl⟩
abbrev main_v26_1 : Ref sig .tc := ⟨.hbm, 133, rfl⟩
abbrev main_call4_v2 : Ref sig .tc := ⟨.hbm, 134, rfl⟩
abbrev main_v26_0 : Ref sig .tc := ⟨.hbm, 135, rfl⟩
abbrev main_call4_cst : Ref sig .tc := ⟨.hbm, 136, rfl⟩
abbrev main_v26_2 : Ref sig .tc := ⟨.hbm, 137, rfl⟩
abbrev main_v27 : Ref sig .tc := ⟨.hbm, 138, rfl⟩
abbrev main_v28 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_v34 : Ref sig .tc := ⟨.hbm, 145, rfl⟩
abbrev main_v35 : Ref sig .tc := ⟨.hbm, 146, rfl⟩
abbrev main_call5_cst : Ref sig .tc := ⟨.hbm, 147, rfl⟩
abbrev main_call5_v0 : Ref sig .tc := ⟨.hbm, 148, rfl⟩
abbrev main_v36 : Ref sig .tc := ⟨.hbm, 149, rfl⟩
abbrev main_v37 : Ref sig .tc := ⟨.hbm, 150, rfl⟩
abbrev main_v38 : Ref sig .tc := ⟨.hbm, 151, rfl⟩
abbrev main_call6_cst : Ref sig .tc := ⟨.hbm, 152, rfl⟩
abbrev main_call6_v0 : Ref sig .tc := ⟨.hbm, 153, rfl⟩
abbrev main_v39 : Ref sig .tc := ⟨.hbm, 154, rfl⟩
abbrev main_v40 : Ref sig .tc := ⟨.hbm, 155, rfl⟩
abbrev main_call7_v0 : Ref sig .tc := ⟨.hbm, 156, rfl⟩
abbrev main_call7_v1 : Ref sig .tc := ⟨.hbm, 157, rfl⟩
abbrev main_v41 : Ref sig .tc := ⟨.hbm, 158, rfl⟩
abbrev main_call8_cst : Ref sig .tc := ⟨.hbm, 159, rfl⟩
abbrev main_call8_v0 : Ref sig .tc := ⟨.hbm, 160, rfl⟩
abbrev main_v42 : Ref sig .tc := ⟨.hbm, 161, rfl⟩
abbrev main_call9_v0 : Ref sig .tc := ⟨.hbm, 162, rfl⟩
abbrev main_call9_v1 : Ref sig .tc := ⟨.hbm, 163, rfl⟩
abbrev main_v43 : Ref sig .tc := ⟨.hbm, 164, rfl⟩
abbrev main_v44 : Ref sig .tc := ⟨.hbm, 165, rfl⟩
abbrev main_v45 : Ref sig .tc := ⟨.hbm, 166, rfl⟩
abbrev main_v46 : Ref sig .tc := ⟨.hbm, 167, rfl⟩
abbrev main_v47 : Ref sig .tc := ⟨.hbm, 168, rfl⟩
abbrev main_v48 : Ref sig .tc := ⟨.hbm, 169, rfl⟩
abbrev main_v49 : Ref sig .tc := ⟨.hbm, 170, rfl⟩
abbrev main_v50 : Ref sig .tc := ⟨.hbm, 171, rfl⟩
abbrev main_cst_2 : Ref sig .tc := ⟨.hbm, 172, rfl⟩
abbrev main_v51 : Ref sig .tc := ⟨.hbm, 173, rfl⟩
abbrev main_v52 : Ref sig .tc := ⟨.hbm, 174, rfl⟩
abbrev main_cst_3 : Ref sig .tc := ⟨.hbm, 175, rfl⟩
abbrev main_v53 : Ref sig .tc := ⟨.hbm, 176, rfl⟩
abbrev main_v54 : Ref sig .tc := ⟨.hbm, 177, rfl⟩
abbrev main_cst_4 : Ref sig .tc := ⟨.hbm, 178, rfl⟩
abbrev main_v55 : Ref sig .tc := ⟨.hbm, 179, rfl⟩
abbrev main_v56 : Ref sig .tc := ⟨.hbm, 180, rfl⟩
abbrev main_v57 : Ref sig .tc := ⟨.hbm, 181, rfl⟩
abbrev main_cst_5 : Ref sig .tc := ⟨.hbm, 182, rfl⟩
abbrev main_v58 : Ref sig .tc := ⟨.hbm, 183, rfl⟩
abbrev main_v59 : Ref sig .tc := ⟨.hbm, 184, rfl⟩
abbrev main_v60 : Ref sig .tc := ⟨.hbm, 185, rfl⟩
abbrev main_v61 : Ref sig .tc := ⟨.hbm, 186, rfl⟩
abbrev main_v62 : Ref sig .tc := ⟨.hbm, 187, rfl⟩
abbrev main_v63 : Ref sig .tc := ⟨.hbm, 188, rfl⟩

abbrev nD : Nat := 1
abbrev τ : Topo := Topo.v7x

variable {F : FTy → Type} [FloatOps F]
-- ==== Kernel2.lean ====
abbrev S2048x1024 : Shape := ⟨2, ![2048, 1024]⟩
abbrev S8x1x352x1024 : Shape := ⟨4, ![8, 1, 352, 1024]⟩
abbrev S4x2048x704 : Shape := ⟨3, ![4, 2048, 704]⟩
abbrev S2x1x352x1024 : Shape := ⟨4, ![2, 1, 352, 1024]⟩
abbrev S1x2048x704 : Shape := ⟨3, ![1, 2048, 704]⟩
abbrev S2x352x1024 : Shape := ⟨3, ![2, 352, 1024]⟩
abbrev S704x1024 : Shape := ⟨2, ![704, 1024]⟩
abbrev S2048x704 : Shape := ⟨2, ![2048, 704]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S8x1x352x1024, .bf16⟩
  | .hbm, ⟨2, _⟩ => ⟨S4x2048x704, .bf16⟩
  | .local _ .vmem, ⟨0, _⟩ => ⟨S2048x1024, .f32⟩
  | .local _ .vmem, ⟨1, _⟩ => ⟨S2x1x352x1024, .bf16⟩
  | .local _ .vmem, ⟨2, _⟩ => ⟨S2x1x352x1024, .bf16⟩
  | .local _ .vmem, ⟨3, _⟩ => ⟨S1x2048x704, .bf16⟩
  | .local _ .vmem, ⟨4, _⟩ => ⟨S1x2048x704, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, false]

abbrev stage0_1 : Fin 2 → Memref sig .tc .vmem S2x1x352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S2048x1024 : Shape := ⟨2, ![2048, 1024]⟩
abbrev S8x1x352x1024 : Shape := ⟨4, ![8, 1, 352, 1024]⟩
abbrev S2816x1024 : Shape := ⟨2, ![2816, 1024]⟩
abbrev S_ : Shape := ⟨0, ![]⟩
abbrev S2048x2816 : Shape := ⟨2, ![2048, 2816]⟩
abbrev S2048x4x704 : Shape := ⟨3, ![2048, 4, 704]⟩
abbrev S4x2048x704 : Shape := ⟨3, ![4, 2048, 704]⟩

abbrev nBuf : Space → Nat
  | .hbm => 11
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S8x1x352x1024, .bf16⟩
  | .hbm, ⟨2, _⟩ => ⟨S2816x1024, .bf16⟩
  | .hbm, ⟨3, _⟩ => ⟨S2816x1024, .f32⟩
  | .hbm, ⟨4, _⟩ => ⟨S_, .f32⟩
  | .hbm, ⟨5, _⟩ => ⟨S2048x2816, .f32⟩
  | .hbm, ⟨6, _⟩ => ⟨S2048x1024, .f32⟩
  | .hbm, ⟨7, _⟩ => ⟨S2048x2816, .f32⟩
  | .hbm, ⟨8, _⟩ => ⟨S2048x4x704, .f32⟩
  | .hbm, ⟨9, _⟩ => ⟨S4x2048x704, .f32⟩
  | .hbm, ⟨10, _⟩ => ⟨S4x2048x704, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel3.lean ====
abbrev S4x2048x704 : Shape := ⟨3, ![4, 2048, 704]⟩
abbrev S2048x1024 : Shape := ⟨2, ![2048, 1024]⟩
abbrev S8x352x1024 : Shape := ⟨3, ![8, 352, 1024]⟩
abbrev S1x2048x704 : Shape := ⟨3, ![1, 2048, 704]⟩
abbrev S2x352x1024 : Shape := ⟨3, ![2, 352, 1024]⟩
abbrev S2048x704 : Shape := ⟨2, ![2048, 704]⟩
abbrev S704x1024 : Shape := ⟨2, ![704, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4x2048x704, .bf16⟩
  | .hbm, ⟨1, _⟩ => ⟨S2048x1024, .f32⟩
  | .hbm, ⟨2, _⟩ => ⟨S8x352x1024, .bf16⟩
  | .local _ .vmem, ⟨0, _⟩ => ⟨S1x2048x704, .bf16⟩
  | .local _ .vmem, ⟨1, _⟩ => ⟨S1x2048x704, .bf16⟩
  | .local _ .vmem, ⟨2, _⟩ => ⟨S2048x1024, .f32⟩
  | .local _ .vmem, ⟨3, _⟩ => ⟨S2x352x1024, .bf16⟩
  | .local _ .vmem, ⟨4, _⟩ => ⟨S2x352x1024, .bf16⟩
  | _, _ => ⟨S4x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S2x352x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference3Ideal.lean ====
abbrev S4x2048x704 : Shape := ⟨3, ![4, 2048, 704]⟩
abbrev S2048x1024 : Shape := ⟨2, ![2048, 1024]⟩
abbrev S2048x4x704 : Shape := ⟨3, ![2048, 4, 704]⟩
abbrev S2048x2816 : Shape := ⟨2, ![2048, 2816]⟩
abbrev S_ : Shape := ⟨0, ![]⟩
abbrev S2816x1024 : Shape := ⟨2, ![2816, 1024]⟩
abbrev S1024x2816 : Shape := ⟨2, ![1024, 2816]⟩
abbrev S8x352x1024 : Shape := ⟨3, ![8, 352, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4x2048x704, .bf16⟩
  | .hbm, ⟨1, _⟩ => ⟨S2048x1024, .f32⟩
  | .hbm, ⟨2, _⟩ => ⟨S2048x4x704, .bf16⟩
  | .hbm, ⟨3, _⟩ => ⟨S2048x2816, .bf16⟩
  | .hbm, ⟨4, _⟩ => ⟨S2048x2816, .f32⟩
  | .hbm, ⟨5, _⟩ => ⟨S_, .f32⟩
  | .hbm, ⟨6, _⟩ => ⟨S2816x1024, .f32⟩
  | .hbm, ⟨7, _⟩ => ⟨S2048x1024, .f32⟩
  | .hbm, ⟨8, _⟩ => ⟨S1024x2816, .f32⟩
  | .hbm, ⟨9, _⟩ => ⟨S2816x1024, .f32⟩
  | .hbm, ⟨10, _⟩ => ⟨S8x352x1024, .f32⟩
  | .hbm, ⟨11, _⟩ => ⟨S8x352x1024, .bf16⟩
  | _, _ => ⟨S4x2048x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel4.lean ====
abbrev S8x2048x704 : Shape := ⟨3, ![8, 2048, 704]⟩
abbrev S8x1x704x1024 : Shape := ⟨4, ![8, 1, 704, 1024]⟩
abbrev S2048x1024 : Shape := ⟨2, ![2048, 1024]⟩
abbrev S1x1024x704 : Shape := ⟨3, ![1, 1024, 704]⟩
abbrev S1x1x704x1024 : Shape := ⟨4, ![1, 1, 704, 1024]⟩
abbrev S1024x1024 : Shape := ⟨2, ![1024, 1024]⟩
abbrev S1024x704 : Shape := ⟨2, ![1024, 704]⟩
abbrev S704x1024 : Shape := ⟨2, ![704, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8x2048x704, .bf16⟩
  | .hbm, ⟨1, _⟩ => ⟨S8x1x704x1024, .bf16⟩
  | .hbm, ⟨2, _⟩ => ⟨S2048x1024, .f32⟩
  | .local _ .vmem, ⟨0, _⟩ => ⟨S1x1024x704, .bf16⟩
  | .local _ .vmem, ⟨1, _⟩ => ⟨S1x1024x704, .bf16⟩
  | .local _ .vmem, ⟨2, _⟩ => ⟨S1x1x704x1024, .bf16⟩
  | .local _ .vmem, ⟨3, _⟩ => ⟨S1x1x704x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_9 : BitVec 32 := 0#32
  let v13 : BitVec 1 := Scalar.cmpi .ne v12 c0_i32_9
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg2.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference4Ideal.lean ====
abbrev S8x2048x704 : Shape := ⟨3, ![8, 2048, 704]⟩
abbrev S8x1x704x1024 : Shape := ⟨4, ![8, 1, 704, 1024]⟩
abbrev S2048x8x704 : Shape := ⟨3, ![2048, 8, 704]⟩
abbrev S2048x5632 : Shape := ⟨2, ![2048, 5632]⟩
abbrev S5632x1024 : Shape := ⟨2, ![5632, 1024]⟩
abbrev S1024x5632 : Shape := ⟨2, ![1024, 5632]⟩
abbrev S_ : Shape := ⟨0, ![]⟩
abbrev S2048x1024 : Shape := ⟨2, ![2048, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8x2048x704, .bf16⟩
  | .hbm, ⟨1, _⟩ => ⟨S8x1x704x1024, .bf16⟩
  | .hbm, ⟨2, _⟩ => ⟨S2048x8x704, .bf16⟩
  | .hbm, ⟨3, _⟩ => ⟨S2048x5632, .bf16⟩
  | .hbm, ⟨4, _⟩ => ⟨S2048x5632, .f32⟩
  | .hbm, ⟨5, _⟩ => ⟨S5632x1024, .bf16⟩
  | .hbm, ⟨6, _⟩ => ⟨S1024x5632, .bf16⟩
  | .hbm, ⟨7, _⟩ => ⟨S1024x5632, .f32⟩
  | .hbm, ⟨8, _⟩ => ⟨S_, .f32⟩
  | .hbm, ⟨9, _⟩ => ⟨S2048x1024, .f32⟩
  | .hbm, ⟨10, _⟩ => ⟨S2048x5632, .f32⟩
  | .hbm, ⟨11, _⟩ => ⟨S2048x1024, .f32⟩
  | _, _ => ⟨S8x2048x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel5.lean ====
abbrev S2048x1024 : Shape := ⟨2, ![2048, 1024]⟩
abbrev S8x2048x704 : Shape := ⟨3, ![8, 2048, 704]⟩
abbrev S8x704x1024 : Shape := ⟨3, ![8, 704, 1024]⟩
abbrev S1x2048x704 : Shape := ⟨3, ![1, 2048, 704]⟩
abbrev S1x704x1024 : Shape := ⟨3, ![1, 704, 1024]⟩
abbrev S2048x704 : Shape := ⟨2, ![2048, 704]⟩
abbrev S704x1024 : Shape := ⟨2, ![704, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S8x2048x704, .bf16⟩
  | .hbm, ⟨2, _⟩ => ⟨S8x704x1024, .bf16⟩
  | .local _ .vmem, ⟨0, _⟩ => ⟨S1x2048x704, .bf16⟩
  | .local _ .vmem, ⟨1, _⟩ => ⟨S1x2048x704, .bf16⟩
  | .local _ .vmem, ⟨2, _⟩ => ⟨S2048x1024, .bf16⟩
  | .local _ .vmem, ⟨3, _⟩ => ⟨S1x704x1024, .bf16⟩
  | .local _ .vmem, ⟨4, _⟩ => ⟨S1x704x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference5Ideal.lean ====
abbrev S2048x1024 : Shape := ⟨2, ![2048, 1024]⟩
abbrev S8x2048x704 : Shape := ⟨3, ![8, 2048, 704]⟩
abbrev S2048x8x704 : Shape := ⟨3, ![2048, 8, 704]⟩
abbrev S2048x5632 : Shape := ⟨2, ![2048, 5632]⟩
abbrev S_ : Shape := ⟨0, ![]⟩
abbrev S1024x5632 : Shape := ⟨2, ![1024, 5632]⟩
abbrev S5632x1024 : Shape := ⟨2, ![5632, 1024]⟩
abbrev S8x704x1024 : Shape := ⟨3, ![8, 704, 1024]⟩

abbrev nBuf : Space → Nat
  | .hbm => 14
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S8x2048x704, .bf16⟩
  | .hbm, ⟨2, _⟩ => ⟨S2048x8x704, .bf16⟩
  | .hbm, ⟨3, _⟩ => ⟨S2048x5632, .bf16⟩
  | .hbm, ⟨4, _⟩ => ⟨S2048x5632, .f32⟩
  | .hbm, ⟨5, _⟩ => ⟨S2048x1024, .f32⟩
  | .hbm, ⟨6, _⟩ => ⟨S_, .f32⟩
  | .hbm, ⟨7, _⟩ => ⟨S1024x5632, .f32⟩
  | .hbm, ⟨8, _⟩ => ⟨S2048x5632, .f32⟩
  | .hbm, ⟨9, _⟩ => ⟨S5632x1024, .f32⟩
  | .hbm, ⟨10, _⟩ => ⟨S1024x5632, .f32⟩
  | .hbm, ⟨11, _⟩ => ⟨S5632x1024, .f32⟩
  | .hbm, ⟨12, _⟩ => ⟨S8x704x1024, .f32⟩
  | .hbm, ⟨13, _⟩ => ⟨S8x704x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel6.lean ====
abbrev S2048x1024 : Shape := ⟨2, ![2048, 1024]⟩
abbrev S8x1x704x1024 : Shape := ⟨4, ![8, 1, 704, 1024]⟩
abbrev S8x2048x704 : Shape := ⟨3, ![8, 2048, 704]⟩
abbrev S1x1x704x1024 : Shape := ⟨4, ![1, 1, 704, 1024]⟩
abbrev S1x2048x704 : Shape := ⟨3, ![1, 2048, 704]⟩
abbrev S704x1024 : Shape := ⟨2, ![704, 1024]⟩
abbrev S2048x704 : Shape := ⟨2, ![2048, 704]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S8x1x704x1024, .bf16⟩
  | .hbm, ⟨2, _⟩ => ⟨S8x2048x704, .bf16⟩
  | .local _ .vmem, ⟨0, _⟩ => ⟨S2048x1024, .bf16⟩
  | .local _ .vmem, ⟨1, _⟩ => ⟨S1x1x704x1024, .bf16⟩
  | .local _ .vmem, ⟨2, _⟩ => ⟨S1x1x704x1024, .bf16⟩
  | .local _ .vmem, ⟨3, _⟩ => ⟨S1x2048x704, .bf16⟩
  | .local _ .vmem, ⟨4, _⟩ => ⟨S1x2048x704, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, false]

abbrev stage0_1 : Fin 2 → Memref sig .tc .vmem S1x1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S2048x1024 : Shape := ⟨2, ![2048, 1024]⟩
abbrev S8x1x704x1024 : Shape := ⟨4, ![8, 1, 704, 1024]⟩
abbrev S5632x1024 : Shape := ⟨2, ![5632, 1024]⟩
abbrev S1024x5632 : Shape := ⟨2, ![1024, 5632]⟩
abbrev S2048x5632 : Shape := ⟨2, ![2048, 5632]⟩
abbrev S2048x8x704 : Shape := ⟨3, ![2048, 8, 704]⟩
abbrev S8x2048x704 : Shape := ⟨3, ![8, 2048, 704]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S8x1x704x1024, .bf16⟩
  | .hbm, ⟨2, _⟩ => ⟨S2048x1024, .f32⟩
  | .hbm, ⟨3, _⟩ => ⟨S5632x1024, .bf16⟩
  | .hbm, ⟨4, _⟩ => ⟨S1024x5632, .bf16⟩
  | .hbm, ⟨5, _⟩ => ⟨S1024x5632, .f32⟩
  | .hbm, ⟨6, _⟩ => ⟨S2048x5632, .f32⟩
  | .hbm, ⟨7, _⟩ => ⟨S2048x8x704, .f32⟩
  | .hbm, ⟨8, _⟩ => ⟨S8x2048x704, .f32⟩
  | .hbm, ⟨9, _⟩ => ⟨S8x2048x704, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Kernel7.lean ====
abbrev S4x2048x704 : Shape := ⟨3, ![4, 2048, 704]⟩
abbrev S8x1x352x1024 : Shape := ⟨4, ![8, 1, 352, 1024]⟩
abbrev S2048x1024 : Shape := ⟨2, ![2048, 1024]⟩
abbrev S1x1024 : Shape := ⟨2, ![1, 1024]⟩
abbrev S1x1024x704 : Shape := ⟨3, ![1, 1024, 704]⟩
abbrev S2x1x352x1024 : Shape := ⟨4, ![2, 1, 352, 1024]⟩
abbrev S1024x1024 : Shape := ⟨2, ![1024, 1024]⟩
abbrev S1024x704 : Shape := ⟨2, ![1024, 704]⟩
abbrev S2x352x1024 : Shape := ⟨3, ![2, 352, 1024]⟩
abbrev S704x1024 : Shape := ⟨2, ![704, 1024]⟩
abbrev S1024 : Shape := ⟨1, ![1024]⟩
abbrev S1024x1 : Shape := ⟨2, ![1024, 1]⟩

abbrev nBuf : Space → Nat
  | .hbm => 6
  | .vmem => 12
  | .smem => 0
  | _ => 0

abbrev bufTy : (tb : Table) → Fin (tcTables nBuf tb) → BufTy
  | .hbm, ⟨0, _⟩ => ⟨S4x2048x704, .bf16⟩
  | .hbm, ⟨1, _⟩ => ⟨S8x1x352x1024, .bf16⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x1024, .bf16⟩
  | .local _ .vmem, ⟨0, _⟩ => ⟨S1x1024x704, .bf16⟩
  | .local _ .vmem, ⟨1, _⟩ => ⟨S1x1024x704, .bf16⟩
  | .local _ .vmem, ⟨2, _⟩ => ⟨S2x1x352x1024, .bf16⟩
  | .local _ .vmem, ⟨3, _⟩ => ⟨S2x1x352x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .f32⟩
  | _, _ => ⟨S4x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg2.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1x352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]
-- ==== Reference7Ideal.lean ====
abbrev S4x2048x704 : Shape := ⟨3, ![4, 2048, 704]⟩
abbrev S8x1x352x1024 : Shape := ⟨4, ![8, 1, 352, 1024]⟩
abbrev S2048x1024 : Shape := ⟨2, ![2048, 1024]⟩
abbrev S1x1024 : Shape := ⟨2, ![1, 1024]⟩
abbrev S2048x4x704 : Shape := ⟨3, ![2048, 4, 704]⟩
abbrev S2048x2816 : Shape := ⟨2, ![2048, 2816]⟩
abbrev S2816x1024 : Shape := ⟨2, ![2816, 1024]⟩
abbrev S_ : Shape := ⟨0, ![]⟩
abbrev S2048 : Shape := ⟨1, ![2048]⟩
abbrev S2048x1 : Shape := ⟨2, ![2048, 1]⟩

abbrev nBuf : Space → Nat
  | .hbm => 27
  | .vmem => 0
  | .smem => 0
  | _ => 0

abbrev bufTy : (tb : Table) → Fin (tcTables nBuf tb) → BufTy
  | .hbm, ⟨0, _⟩ => ⟨S4x2048x704, .bf16⟩
  | .hbm, ⟨1, _⟩ => ⟨S8x1x352x1024, .bf16⟩
  | .hbm, ⟨2, _⟩ => ⟨S2048x1024, .f32⟩
  | .hbm, ⟨3, _⟩ => ⟨S1x1024, .f32⟩
  | .hbm, ⟨4, _⟩ => ⟨S2048x4x704, .bf16⟩
  | .hbm, ⟨5, _⟩ => ⟨S2048x2816, .bf16⟩
  | .hbm, ⟨6, _⟩ => ⟨S2048x2816, .f32⟩
  | .hbm, ⟨7, _⟩ => ⟨S2816x1024, .bf16⟩
  | .hbm, ⟨8, _⟩ => ⟨S2816x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .bf16⟩
  | _, _ => ⟨S4x2048x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel8.lean ====
abbrev S3x2048x1024 : Shape := ⟨3, ![3, 2048, 1024]⟩
abbrev S8x1x1024x384 : Shape := ⟨4, ![8, 1, 1024, 384]⟩
abbrev S2048x1024 : Shape := ⟨2, ![2048, 1024]⟩
abbrev S1x1024x128 : Shape := ⟨3, ![1, 1024, 128]⟩
abbrev S1x1x1024x384 : Shape := ⟨4, ![1, 1, 1024, 384]⟩
abbrev S1024x1024 : Shape := ⟨2, ![1024, 1024]⟩
abbrev S1024x128 : Shape := ⟨2, ![1024, 128]⟩
abbrev S1024x384 : Shape := ⟨2, ![1024, 384]⟩

abbrev nBuf : Space → Nat
  | .hbm => 3
  | .vmem => 11
  | .smem => 0
  | _ => 0

abbrev bufTy : (tb : Table) → Fin (tcTables nBuf tb) → BufTy
  | .hbm, ⟨0, _⟩ => ⟨S3x2048x1024, .bf16⟩
  | .hbm, ⟨1, _⟩ => ⟨S8x1x1024x384, .bf16⟩
  | .hbm, ⟨2, _⟩ => ⟨S2048x1024, .f32⟩
  | .local _ .vmem, ⟨0, _⟩ => ⟨S1x1024x128, .bf16⟩
  | .local _ .vmem, ⟨1, _⟩ => ⟨S1x1024x128, .bf16⟩
  | .local _ .vmem, ⟨2, _⟩ => ⟨S1x1024x128, .bf16⟩
  | .local _ .vmem, ⟨3, _⟩ => ⟨S1x1024x128, .bf16⟩
  | .local _ .vmem, ⟨4, _⟩ => ⟨S1x1024x128, .bf16⟩
  | .local _ .vmem, ⟨5, _⟩ => ⟨S1x1024x128, .bf16⟩
  | .local _ .vmem, ⟨6, _⟩ => ⟨S1x1x1024x384, .bf16⟩
  | .local _ .vmem, ⟨7, _⟩ => ⟨S1x1x1024x384, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S3x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v16 : BitVec 1 := Scalar.cmpi .eq arg2 c7_i32
  let v17 : BitVec 32 := Scalar.extui v16
  let c0_i32_15 : BitVec 32 := 0#32
  let v18 : BitVec 1 := Scalar.cmpi .ne v17 c0_i32_15
  v18

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli arg2 c3_i32
  let c0_i32 : BitVec 32 := 0#32
  let v1 : BitVec 32 := Scalar.addi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  ![v18.toNat, arg0.toNat, v28.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli arg2 c3_i32
  let c1_i32 : BitVec 32 := 1#32
  let v1 : BitVec 32 := Scalar.addi v0 c1_i32
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  ![v18.toNat, arg0.toNat, v28.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli arg2 c3_i32
  let c2_i32 : BitVec 32 := 2#32
  let v1 : BitVec 32 := Scalar.addi v0 c2_i32
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  ![v18.toNat, arg0.toNat, v28.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg2.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1x1024x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]
-- ==== Reference8Ideal.lean ====
abbrev S3x2048x1024 : Shape := ⟨3, ![3, 2048, 1024]⟩
abbrev S8x1x1024x384 : Shape := ⟨4, ![8, 1, 1024, 384]⟩
abbrev S2048x3x1024 : Shape := ⟨3, ![2048, 3, 1024]⟩
abbrev S2048x3072 : Shape := ⟨2, ![2048, 3072]⟩
abbrev S1024x1x8x384 : Shape := ⟨4, ![1024, 1, 8, 384]⟩
abbrev S1024x3072 : Shape := ⟨2, ![1024, 3072]⟩
abbrev S_ : Shape := ⟨0, ![]⟩
abbrev S2048x1024 : Shape := ⟨2, ![2048, 1024]⟩

abbrev nBuf : Space → Nat
  | .hbm => 12
  | .vmem => 0
  | .smem => 0
  | _ => 0

abbrev bufTy : (tb : Table) → Fin (tcTables nBuf tb) → BufTy
  | .hbm, ⟨0, _⟩ => ⟨S3x2048x1024, .bf16⟩
  | .hbm, ⟨1, _⟩ => ⟨S8x1x1024x384, .bf16⟩
  | .hbm, ⟨2, _⟩ => ⟨S2048x3x1024, .bf16⟩
  | .hbm, ⟨3, _⟩ => ⟨S2048x3072, .bf16⟩
  | .hbm, ⟨4, _⟩ => ⟨S2048x3072, .f32⟩
  | .hbm, ⟨5, _⟩ => ⟨S1024x1x8x384, .bf16⟩
  | .hbm, ⟨6, _⟩ => ⟨S1024x3072, .bf16⟩
  | .hbm, ⟨7, _⟩ => ⟨S1024x3072, .f32⟩
  | .hbm, ⟨8, _⟩ => ⟨S_, .f32⟩
  | .hbm, ⟨9, _⟩ => ⟨S2048x1024, .f32⟩
  | .hbm, ⟨10, _⟩ => ⟨S2048x3072, .f32⟩
  | .hbm, ⟨11, _⟩ => ⟨S2048x1024, .f32⟩
  | _, _ => ⟨S3x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel9.lean ====
abbrev S2048x1024 : Shape := ⟨2, ![2048, 1024]⟩
abbrev S3x2048x1024 : Shape := ⟨3, ![3, 2048, 1024]⟩
abbrev S8x1024x384 : Shape := ⟨3, ![8, 1024, 384]⟩
abbrev S1x2048x128 : Shape := ⟨3, ![1, 2048, 128]⟩
abbrev S1x1024x384 : Shape := ⟨3, ![1, 1024, 384]⟩
abbrev S2048x128 : Shape := ⟨2, ![2048, 128]⟩
abbrev S2048x384 : Shape := ⟨2, ![2048, 384]⟩
abbrev S1024x384 : Shape := ⟨2, ![1024, 384]⟩

abbrev nBuf : Space → Nat
  | .hbm => 3
  | .vmem => 9
  | .smem => 0
  | _ => 0

abbrev bufTy : (tb : Table) → Fin (tcTables nBuf tb) → BufTy
  | .hbm, ⟨0, _⟩ => ⟨S2048x1024, .bf16⟩
  | .hbm, ⟨1, _⟩ => ⟨S3x2048x1024, .bf16⟩
  | .hbm, ⟨2, _⟩ => ⟨S8x1024x384, .bf16⟩
  | .local _ .vmem, ⟨0, _⟩ => ⟨S2048x1024, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .bf16⟩
  | .local _ .vmem, ⟨7, _⟩ => ⟨S1x1024x384, .bf16⟩
  | .local _ .vmem, ⟨8, _⟩ => ⟨S1x1024x384, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli arg0 c3_i32
  let c0_i32 : BitVec 32 := 0#32
  let v1 : BitVec 32 := Scalar.addi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  ![v18.toNat, arg2.toNat, v28.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli arg0 c3_i32
  let c1_i32 : BitVec 32 := 1#32
  let v1 : BitVec 32 := Scalar.addi v0 c1_i32
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  ![v18.toNat, arg2.toNat, v28.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli arg0 c3_i32
  let c2_i32 : BitVec 32 := 2#32
  let v1 : BitVec 32 := Scalar.addi v0 c2_i32
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  ![v18.toNat, arg2.toNat, v28.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1024x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]
-- ==== Reference9Ideal.lean ====
abbrev S2048x1024 : Shape := ⟨2, ![2048, 1024]⟩
abbrev S3x2048x1024 : Shape := ⟨3, ![3, 2048, 1024]⟩
abbrev S2048x3x1024 : Shape := ⟨3, ![2048, 3, 1024]⟩
abbrev S2048x3072 : Shape := ⟨2, ![2048, 3072]⟩
abbrev S_ : Shape := ⟨0, ![]⟩
abbrev S1024x3072 : Shape := ⟨2, ![1024, 3072]⟩
abbrev S3072x1024 : Shape := ⟨2, ![3072, 1024]⟩
abbrev S1024x8x384 : Shape := ⟨3, ![1024, 8, 384]⟩
abbrev S8x1024x384 : Shape := ⟨3, ![8, 1024, 384]⟩

abbrev nBuf : Space → Nat
  | .hbm => 14
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S3x2048x1024, .bf16⟩
  | .hbm, ⟨2, _⟩ => ⟨S2048x3x1024, .bf16⟩
  | .hbm, ⟨3, _⟩ => ⟨S2048x3072, .bf16⟩
  | .hbm, ⟨4, _⟩ => ⟨S2048x3072, .f32⟩
  | .hbm, ⟨5, _⟩ => ⟨S2048x1024, .f32⟩
  | .hbm, ⟨6, _⟩ => ⟨S_, .f32⟩
  | .hbm, ⟨7, _⟩ => ⟨S1024x3072, .f32⟩
  | .hbm, ⟨8, _⟩ => ⟨S2048x3072, .f32⟩
  | .hbm, ⟨9, _⟩ => ⟨S3072x1024, .f32⟩
  | .hbm, ⟨10, _⟩ => ⟨S1024x3072, .f32⟩
  | .hbm, ⟨11, _⟩ => ⟨S1024x8x384, .f32⟩
  | .hbm, ⟨12, _⟩ => ⟨S8x1024x384, .f32⟩
  | .hbm, ⟨13, _⟩ => ⟨S8x1024x384, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel10.lean ====
abbrev S2048x1024 : Shape := ⟨2, ![2048, 1024]⟩
abbrev S8x1x1024x384 : Shape := ⟨4, ![8, 1, 1024, 384]⟩
abbrev S2048x3072 : Shape := ⟨2, ![2048, 3072]⟩
abbrev S1x1x1024x384 : Shape := ⟨4, ![1, 1, 1024, 384]⟩
abbrev S2048x384 : Shape := ⟨2, ![2048, 384]⟩
abbrev S1024x384 : Shape := ⟨2, ![1024, 384]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S8x1x1024x384, .bf16⟩
  | .hbm, ⟨2, _⟩ => ⟨S2048x3072, .bf16⟩
  | .local _ .vmem, ⟨0, _⟩ => ⟨S2048x1024, .bf16⟩
  | .local _ .vmem, ⟨1, _⟩ => ⟨S1x1x1024x384, .bf16⟩
  | .local _ .vmem, ⟨2, _⟩ => ⟨S1x1x1024x384, .bf16⟩
  | .local _ .vmem, ⟨3, _⟩ => ⟨S2048x384, .bf16⟩
  | .local _ .vmem, ⟨4, _⟩ => ⟨S2048x384, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, false]

abbrev stage0_1 : Fin 2 → Memref sig .tc .vmem S1x1x1024x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S2048x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S2048x1024 : Shape := ⟨2, ![2048, 1024]⟩
abbrev S8x1x1024x384 : Shape := ⟨4, ![8, 1, 1024, 384]⟩
abbrev S1024x1x8x384 : Shape := ⟨4, ![1024, 1, 8, 384]⟩
abbrev S1024x3072 : Shape := ⟨2, ![1024, 3072]⟩
abbrev S2048x3072 : Shape := ⟨2, ![2048, 3072]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S8x1x1024x384, .bf16⟩
  | .hbm, ⟨2, _⟩ => ⟨S1024x1x8x384, .bf16⟩
  | .hbm, ⟨3, _⟩ => ⟨S1024x3072, .bf16⟩
  | .hbm, ⟨4, _⟩ => ⟨S1024x3072, .f32⟩
  | .hbm, ⟨5, _⟩ => ⟨S2048x1024, .f32⟩
  | .hbm, ⟨6, _⟩ => ⟨S2048x3072, .f32⟩
  | .hbm, ⟨7, _⟩ => ⟨S2048x3072, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel11.lean ====
abbrev S2048x1024 : Shape := ⟨2, ![2048, 1024]⟩
abbrev S8x1x128x1024 : Shape := ⟨4, ![8, 1, 128, 1024]⟩
abbrev S1024x1024 : Shape := ⟨2, ![1024, 1024]⟩
abbrev S8x128x1024 : Shape := ⟨3, ![8, 128, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S8x1x128x1024, .bf16⟩
  | .hbm, ⟨2, _⟩ => ⟨S2048x1024, .bf16⟩
  | .local _ .vmem, ⟨0, _⟩ => ⟨S1024x1024, .f32⟩
  | .local _ .vmem, ⟨1, _⟩ => ⟨S1024x1024, .f32⟩
  | .local _ .vmem, ⟨2, _⟩ => ⟨S8x1x128x1024, .bf16⟩
  | .local _ .vmem, ⟨3, _⟩ => ⟨S1024x1024, .bf16⟩
  | .local _ .vmem, ⟨4, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S8x1x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference11Ideal.lean ====
abbrev S2048x1024 : Shape := ⟨2, ![2048, 1024]⟩
abbrev S8x1x128x1024 : Shape := ⟨4, ![8, 1, 128, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S8x1x128x1024, .bf16⟩
  | .hbm, ⟨2, _⟩ => ⟨S1024x1024, .bf16⟩
  | .hbm, ⟨3, _⟩ => ⟨S1024x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel12.lean ====
abbrev S2048x1024 : Shape := ⟨2, ![2048, 1024]⟩
abbrev S8x128x1024 : Shape := ⟨3, ![8, 128, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .hbm, ⟨2, _⟩ => ⟨S8x128x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S8x128x1024, .bf16⟩
  | .local _ .vmem, ⟨5, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 1 → Memref sig .tc .vmem S8x128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]
-- ==== Reference12Ideal.lean ====
abbrev S2048x1024 : Shape := ⟨2, ![2048, 1024]⟩
abbrev S_ : Shape := ⟨0, ![]⟩
abbrev S1024x1024 : Shape := ⟨2, ![1024, 1024]⟩
abbrev S8x128x1024 : Shape := ⟨3, ![8, 128, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .hbm, ⟨2, _⟩ => ⟨S2048x1024, .f32⟩
  | .hbm, ⟨3, _⟩ => ⟨S_, .f32⟩
  | .hbm, ⟨4, _⟩ => ⟨S1024x1024, .f32⟩
  | .hbm, ⟨5, _⟩ => ⟨S2048x1024, .f32⟩
  | .hbm, ⟨6, _⟩ => ⟨S1024x1024, .f32⟩
  | .hbm, ⟨7, _⟩ => ⟨S1024x1024, .f32⟩
  | .hbm, ⟨8, _⟩ => ⟨S8x128x1024, .f32⟩
  | .hbm, ⟨9, _⟩ => ⟨S8x128x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel13.lean ====
abbrev S2x1024x384 : Shape := ⟨3, ![2, 1024, 384]⟩
abbrev S7x1024x384 : Shape := ⟨3, ![7, 1024, 384]⟩
abbrev S8x1024x384 : Shape := ⟨3, ![8, 1024, 384]⟩
abbrev S_ : Shape := ⟨0, ![]⟩
abbrev S1 : Shape := ⟨1, ![1]⟩
abbrev S1x256x384 : Shape := ⟨3, ![1, 256, 384]⟩
abbrev S7x256x384 : Shape := ⟨3, ![7, 256, 384]⟩
abbrev S256x384 : Shape := ⟨2, ![256, 384]⟩

abbrev nBuf : Space → Nat
  | .hbm => 12
  | .vmem => 22
  | .smem => 1
  | _ => 0

abbrev bufTy : (tb : Table) → Fin (tcTables nBuf tb) → BufTy
  | .hbm, ⟨0, _⟩ => ⟨S2x1024x384, .f32⟩
  | .hbm, ⟨1, _⟩ => ⟨S2x1024x384, .f32⟩
  | .hbm, ⟨2, _⟩ => ⟨S2x1024x384, .f32⟩
  | .hbm, ⟨3, _⟩ => ⟨S7x1024x384, .bf16⟩
  | .hbm, ⟨4, _⟩ => ⟨S7x1024x384, .bf16⟩
  | .hbm, ⟨5, _⟩ => ⟨S8x1024x384, .bf16⟩
  | .hbm, ⟨6, _⟩ => ⟨S8x1024x384, .bf16⟩
  | .hbm, ⟨7, _⟩ => ⟨S_, .i32⟩
  | .hbm, ⟨8, _⟩ => ⟨S2x1024x384, .f32⟩
  | .hbm, ⟨9, _⟩ => ⟨S2x1024x384, .f32⟩
  | .hbm, ⟨10, _⟩ => ⟨S2x1024x384, .f32⟩
  | .hbm, ⟨11, _⟩ => ⟨S2x1024x384, .f32⟩
  | .local _ .vmem, ⟨0, _⟩ => ⟨S1x256x384, .f32⟩
  | .local _ .vmem, ⟨1, _⟩ => ⟨S1x256x384, .f32⟩
  | .local _ .vmem, ⟨2, _⟩ => ⟨S1x256x384, .f32⟩
  | .local _ .vmem, ⟨3, _⟩ => ⟨S1x256x384, .f32⟩
  | .local _ .vmem, ⟨4, _⟩ => ⟨S1x256x384, .f32⟩
  | .local _ .vmem, ⟨5, _⟩ => ⟨S1x256x384, .f32⟩
  | .local _ .vmem, ⟨6, _⟩ => ⟨S7x256x384, .bf16⟩
  | .local _ .vmem, ⟨7, _⟩ => ⟨S7x256x384, .bf16⟩
  | .local _ .vmem, ⟨8, _⟩ => ⟨S7x256x384, .bf16⟩
  | .local _ .vmem, ⟨9, _⟩ => ⟨S7x256x384, .bf16⟩
  | .local _ .vmem, ⟨10, _⟩ => ⟨S1x256x384, .bf16⟩
  | .local _ .vmem, ⟨11, _⟩ => ⟨S1x256x384, .bf16⟩
  | .local _ .vmem, ⟨12, _⟩ => ⟨S1x256x384, .bf16⟩
  | .local _ .vmem, ⟨13, _⟩ => ⟨S1x256x384, .bf16⟩
  | .local _ .vmem, ⟨14, _⟩ => ⟨S1x256x384, .f32⟩
  | .local _ .vmem, ⟨15, _⟩ => ⟨S1x256x384, .f32⟩
  | .local _ .vmem, ⟨16, _⟩ => ⟨S1x256x384, .f32⟩
  | .local _ .vmem, ⟨17, _⟩ => ⟨S1x256x384, .f32⟩
  | .local _ .vmem, ⟨18, _⟩ => ⟨S1x256x384, .f32⟩
  | .local _ .vmem, ⟨19, _⟩ => ⟨S1x256x384, .f32⟩
  | .local _ .vmem, ⟨20, _⟩ => ⟨S1x256x384, .f32⟩
  | .local _ .vmem, ⟨21, _⟩ => ⟨S1x256x384, .f32⟩
  | .local _ .smem, ⟨0, _⟩ => ⟨S1, .i32⟩
  | _, _ => ⟨S2x1024x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 4], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_5 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let v1 : BitVec 1 := Scalar.cmpi .eq arg0 c0_i32
  let c0_i32_0 : BitVec 32 := 0#32
  let v2 : BitVec 32 := Scalar.select v1 arg1 c0_i32_0
  let c0_i32_1 : BitVec 32 := 0#32
  let c0_i32_2 : BitVec 32 := 0#32
  ![v0.toNat, v2.toNat, c0_i32_1.toNat]

def cc0_transform_6 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 1 := Scalar.cmpi .eq arg0 c1_i32
  let c0_i32 : BitVec 32 := 0#32
  let v2 : BitVec 32 := Scalar.select v1 arg1 c0_i32
  let c0_i32_0 : BitVec 32 := 0#32
  let c0_i32_1 : BitVec 32 := 0#32
  ![v0.toNat, v2.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S7x256x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S7x256x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x384 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x384 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x384 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference13Ideal.lean ====
abbrev S2x1024x384 : Shape := ⟨3, ![2, 1024, 384]⟩
abbrev S7x1024x384 : Shape := ⟨3, ![7, 1024, 384]⟩
abbrev S8x1024x384 : Shape := ⟨3, ![8, 1024, 384]⟩
abbrev S1x1024x384 : Shape := ⟨3, ![1, 1024, 384]⟩
abbrev S1024x384 : Shape := ⟨2, ![1024, 384]⟩
abbrev S_ : Shape := ⟨0, ![]⟩

abbrev nBuf : Space → Nat
  | .hbm => 57
  | .vmem => 0
  | .smem => 0
  | _ => 0

abbrev bufTy : (tb : Table) → Fin (tcTables nBuf tb) → BufTy
  | .hbm, ⟨0, _⟩ => ⟨S2x1024x384, .f32⟩
  | .hbm, ⟨1, _⟩ => ⟨S2x1024x384, .f32⟩
  | .hbm, ⟨2, _⟩ => ⟨S2x1024x384, .f32⟩
  | .hbm, ⟨3, _⟩ => ⟨S7x1024x384, .bf16⟩
  | .hbm, ⟨4, _⟩ => ⟨S7x1024x384, .bf16⟩
  | .hbm, ⟨5, _⟩ => ⟨S8x1024x384, .bf16⟩
  | .hbm, ⟨6, _⟩ => ⟨S8x1024x384, .bf16⟩
  | .hbm, ⟨7, _⟩ => ⟨S1x1024x384, .bf16⟩
  | .hbm, ⟨8, _⟩ => ⟨S1024x384, .bf16⟩
  | .hbm, ⟨9, _⟩ => ⟨S1024x384, .f32⟩
  | .hbm, ⟨10, _⟩ => ⟨S7x1024x384, .f32⟩
  | .hbm, ⟨11, _⟩ => ⟨S_, .f32⟩
  | .hbm, ⟨12, _⟩ => ⟨S1024x384, .f32⟩
  | .hbm, ⟨13, _⟩ => ⟨S1024x384, .f32⟩
  | .hbm, ⟨14, _⟩ => ⟨S1x1024x384, .bf16⟩
  | .hbm, ⟨15, _⟩ => ⟨S1024x384, .bf16⟩
  | .hbm, ⟨16, _⟩ => ⟨S1024x384, .f32⟩
  | .hbm, ⟨17, _⟩ => ⟨S7x1024x384, .f32⟩
  | .hbm, ⟨18, _⟩ => ⟨S_, .f32⟩
  | .hbm, ⟨19, _⟩ => ⟨S1024x384, .f32⟩
  | .hbm, ⟨20, _⟩ => ⟨S1024x384, .f32⟩
  | .hbm, ⟨21, _⟩ => ⟨S1x1024x384, .f32⟩
  | .hbm, ⟨22, _⟩ => ⟨S1x1024x384, .f32⟩
  | .hbm, ⟨23, _⟩ => ⟨S2x1024x384, .f32⟩
  | .hbm, ⟨24, _⟩ => ⟨S_, .f32⟩
  | .hbm, ⟨25, _⟩ => ⟨S2x1024x384, .f32⟩
  | .hbm, ⟨26, _⟩ => ⟨S2x1024x384, .f32⟩
  | .hbm, ⟨27, _⟩ => ⟨S_, .f32⟩
  | .hbm, ⟨28, _⟩ => ⟨S2x1024x384, .f32⟩
  | .hbm, ⟨29, _⟩ => ⟨S2x1024x384, .f32⟩
  | .hbm, ⟨30, _⟩ => ⟨S2x1024x384, .f32⟩
  | .hbm, ⟨31, _⟩ => ⟨S_, .f32⟩
  | .hbm, ⟨32, _⟩ => ⟨S2x1024x384, .f32⟩
  | .hbm, ⟨33, _⟩ => ⟨S2x1024x384, .f32⟩
  | .hbm, ⟨34, _⟩ => ⟨S2x1024x384, .f32⟩
  | .hbm, ⟨35, _⟩ => ⟨S_, .f32⟩
  | .hbm, ⟨36, _⟩ => ⟨S2x1024x384, .f32⟩
  | .hbm, ⟨37, _⟩ => ⟨S2x1024x384, .f32⟩
  | .hbm, ⟨38, _⟩ => ⟨S2x1024x384, .f32⟩
  | .hbm, ⟨39, _⟩ => ⟨S_, .f32⟩
  | .hbm, ⟨40, _⟩ => ⟨S2x1024x384, .f32⟩
  | .hbm, ⟨41, _⟩ => ⟨S2x1024x384, .f32⟩
  | .hbm, ⟨42, _⟩ => ⟨S_, .f32⟩
  | .hbm, ⟨43, _⟩ => ⟨S2x1024x384, .f32⟩
  | .hbm, ⟨44, _⟩ => ⟨S2x1024x384, .f32⟩
  | .hbm, ⟨45, _⟩ => ⟨S2x1024x384, .f32⟩
  | .hbm, ⟨46, _⟩ => ⟨S_, .f32⟩
  | .hbm, ⟨47, _⟩ => ⟨S2x1024x384, .f32⟩
  | .hbm, ⟨48, _⟩ => ⟨S2x1024x384, .f32⟩
  | .hbm, ⟨49, _⟩ => ⟨S2x1024x384, .f32⟩
  | .hbm, ⟨50, _⟩ => ⟨S_, .f32⟩
  | .hbm, ⟨51, _⟩ => ⟨S2x1024x384, .f32⟩
  | .hbm, ⟨52, _⟩ => ⟨S2x1024x384, .f32⟩
  | .hbm, ⟨53, _⟩ => ⟨S2x1024x384, .f32⟩
  | .hbm, ⟨54, _⟩ => ⟨S_, .f32⟩
  | .hbm, ⟨55, _⟩ => ⟨S2x1024x384, .f32⟩
  | .hbm, ⟨56, _⟩ => ⟨S2x1024x384, .f32⟩
  | _, _ => ⟨S2x1024x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_8 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_9 : Ref sig .tc := ⟨.hbm, 54, rfl⟩
abbrev main_v37 : Ref sig .tc := ⟨.hbm, 55, rfl⟩
abbrev main_v38 : Ref sig .tc := ⟨.hbm, 56, rfl⟩

abbrev nD : Nat := 1
abbrev τ : Topo := Topo.v7x

variable {F : FTy → Type} [FloatOps F]
-- ==== Kernel14.lean ====
abbrev S2x128x1024 : Shape := ⟨3, ![2, 128, 1024]⟩
abbrev S7x128x1024 : Shape := ⟨3, ![7, 128, 1024]⟩
abbrev S8x128x1024 : Shape := ⟨3, ![8, 128, 1024]⟩
abbrev S_ : Shape := ⟨0, ![]⟩
abbrev S1 : Shape := ⟨1, ![1]⟩
abbrev S1x128x1024 : Shape := ⟨3, ![1, 128, 1024]⟩
abbrev S128x1024 : Shape := ⟨2, ![128, 1024]⟩

abbrev nBuf : Space → Nat
  | .hbm => 12
  | .vmem => 22
  | .smem => 1
  | _ => 0

abbrev bufTy : (tb : Table) → Fin (tcTables nBuf tb) → BufTy
  | .hbm, ⟨0, _⟩ => ⟨S2x128x1024, .f32⟩
  | .hbm, ⟨1, _⟩ => ⟨S2x128x1024, .f32⟩
  | .hbm, ⟨2, _⟩ => ⟨S2x128x1024, .f32⟩
  | .hbm, ⟨3, _⟩ => ⟨S7x128x1024, .bf16⟩
  | .hbm, ⟨4, _⟩ => ⟨S7x128x1024, .bf16⟩
  | .hbm, ⟨5, _⟩ => ⟨S8x128x1024, .bf16⟩
  | .hbm, ⟨6, _⟩ => ⟨S8x128x1024, .bf16⟩
  | .hbm, ⟨7, _⟩ => ⟨S_, .i32⟩
  | .hbm, ⟨8, _⟩ => ⟨S2x128x1024, .f32⟩
  | .hbm, ⟨9, _⟩ => ⟨S2x128x1024, .f32⟩
  | .hbm, ⟨10, _⟩ => ⟨S2x128x1024, .f32⟩
  | .hbm, ⟨11, _⟩ => ⟨S2x128x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S7x128x1024, .bf16⟩
  | .local _ .vmem, ⟨7, _⟩ => ⟨S7x128x1024, .bf16⟩
  | .local _ .vmem, ⟨8, _⟩ => ⟨S7x128x1024, .bf16⟩
  | .local _ .vmem, ⟨9, _⟩ => ⟨S7x128x1024, .bf16⟩
  | .local _ .vmem, ⟨10, _⟩ => ⟨S1x128x1024, .bf16⟩
  | .local _ .vmem, ⟨11, _⟩ => ⟨S1x128x1024, .bf16⟩
  | .local _ .vmem, ⟨12, _⟩ => ⟨S1x128x1024, .bf16⟩
  | .local _ .vmem, ⟨13, _⟩ => ⟨S1x128x1024, .bf16⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | .local _ .vmem, ⟨18, _⟩ => ⟨S1x128x1024, .f32⟩
  | .local _ .vmem, ⟨19, _⟩ => ⟨S1x128x1024, .f32⟩
  | .local _ .vmem, ⟨20, _⟩ => ⟨S1x128x1024, .f32⟩
  | .local _ .vmem, ⟨21, _⟩ => ⟨S1x128x1024, .f32⟩
  | .local _ .smem, ⟨0, _⟩ => ⟨S1, .i32⟩
  | _, _ => ⟨S2x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_5 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let v1 : BitVec 1 := Scalar.cmpi .eq arg0 c0_i32
  let c0_i32_0 : BitVec 32 := 0#32
  let v2 : BitVec 32 := Scalar.select v1 arg1 c0_i32_0
  let c0_i32_1 : BitVec 32 := 0#32
  let c0_i32_2 : BitVec 32 := 0#32
  ![v0.toNat, v2.toNat, c0_i32_1.toNat]

def cc0_transform_6 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 1 := Scalar.cmpi .eq arg0 c1_i32
  let c0_i32 : BitVec 32 := 0#32
  let v2 : BitVec 32 := Scalar.select v1 arg1 c0_i32
  let c0_i32_0 : BitVec 32 := 0#32
  let c0_i32_1 : BitVec 32 := 0#32
  ![v0.toNat, v2.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S7x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S7x128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference14Ideal.lean ====
abbrev S2x128x1024 : Shape := ⟨3, ![2, 128, 1024]⟩
abbrev S7x128x1024 : Shape := ⟨3, ![7, 128, 1024]⟩
abbrev S8x128x1024 : Shape := ⟨3, ![8, 128, 1024]⟩
abbrev S1x128x1024 : Shape := ⟨3, ![1, 128, 1024]⟩
abbrev S128x1024 : Shape := ⟨2, ![128, 1024]⟩
abbrev S_ : Shape := ⟨0, ![]⟩

abbrev nBuf : Space → Nat
  | .hbm => 57
  | .vmem => 0
  | .smem => 0
  | _ => 0

abbrev bufTy : (tb : Table) → Fin (tcTables nBuf tb) → BufTy
  | .hbm, ⟨0, _⟩ => ⟨S2x128x1024, .f32⟩
  | .hbm, ⟨1, _⟩ => ⟨S2x128x1024, .f32⟩
  | .hbm, ⟨2, _⟩ => ⟨S2x128x1024, .f32⟩
  | .hbm, ⟨3, _⟩ => ⟨S7x128x1024, .bf16⟩
  | .hbm, ⟨4, _⟩ => ⟨S7x128x1024, .bf16⟩
  | .hbm, ⟨5, _⟩ => ⟨S8x128x1024, .bf16⟩
  | .hbm, ⟨6, _⟩ => ⟨S8x128x1024, .bf16⟩
  | .hbm, ⟨7, _⟩ => ⟨S1x128x1024, .bf16⟩
  | .hbm, ⟨8, _⟩ => ⟨S128x1024, .bf16⟩
  | .hbm, ⟨9, _⟩ => ⟨S128x1024, .f32⟩
  | .hbm, ⟨10, _⟩ => ⟨S7x128x1024, .f32⟩
  | .hbm, ⟨11, _⟩ => ⟨S_, .f32⟩
  | .hbm, ⟨12, _⟩ => ⟨S128x1024, .f32⟩
  | .hbm, ⟨13, _⟩ => ⟨S128x1024, .f32⟩
  | .hbm, ⟨14, _⟩ => ⟨S1x128x1024, .bf16⟩
  | .hbm, ⟨15, _⟩ => ⟨S128x1024, .bf16⟩
  | .hbm, ⟨16, _⟩ => ⟨S128x1024, .f32⟩
  | .hbm, ⟨17, _⟩ => ⟨S7x128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S1x128x1024, .f32⟩
  | .hbm, ⟨22, _⟩ => ⟨S1x128x1024, .f32⟩
  | .hbm, ⟨23, _⟩ => ⟨S2x128x1024, .f32⟩
  | .hbm, ⟨24, _⟩ => ⟨S_, .f32⟩
  | .hbm, ⟨25, _⟩ => ⟨S2x128x1024, .f32⟩
  | .hbm, ⟨26, _⟩ => ⟨S2x128x1024, .f32⟩
  | .hbm, ⟨27, _⟩ => ⟨S_, .f32⟩
  | .hbm, ⟨28, _⟩ => ⟨S2x128x1024, .f32⟩
  | .hbm, ⟨29, _⟩ => ⟨S2x128x1024, .f32⟩
  | .hbm, ⟨30, _⟩ => ⟨S2x128x1024, .f32⟩
  | .hbm, ⟨31, _⟩ => ⟨S_, .f32⟩
  | .hbm, ⟨32, _⟩ => ⟨S2x128x1024, .f32⟩
  | .hbm, ⟨33, _⟩ => ⟨S2x128x1024, .f32⟩
  | .hbm, ⟨34, _⟩ => ⟨S2x128x1024, .f32⟩
  | .hbm, ⟨35, _⟩ => ⟨S_, .f32⟩
  | .hbm, ⟨36, _⟩ => ⟨S2x128x1024, .f32⟩
  | .hbm, ⟨37, _⟩ => ⟨S2x128x1024, .f32⟩
  | .hbm, ⟨38, _⟩ => ⟨S2x128x1024, .f32⟩
  | .hbm, ⟨39, _⟩ => ⟨S_, .f32⟩
  | .hbm, ⟨40, _⟩ => ⟨S2x128x1024, .f32⟩
  | .hbm, ⟨41, _⟩ => ⟨S2x128x1024, .f32⟩
  | .hbm, ⟨42, _⟩ => ⟨S_, .f32⟩
  | .hbm, ⟨43, _⟩ => ⟨S2x128x1024, .f32⟩
  | .hbm, ⟨44, _⟩ => ⟨S2x128x1024, .f32⟩
  | .hbm, ⟨45, _⟩ => ⟨S2x128x1024, .f32⟩
  | .hbm, ⟨46, _⟩ => ⟨S_, .f32⟩
  | .hbm, ⟨47, _⟩ => ⟨S2x128x1024, .f32⟩
  | .hbm, ⟨48, _⟩ => ⟨S2x128x1024, .f32⟩
  | .hbm, ⟨49, _⟩ => ⟨S2x128x1024, .f32⟩
  | .hbm, ⟨50, _⟩ => ⟨S_, .f32⟩
  | .hbm, ⟨51, _⟩ => ⟨S2x128x1024, .f32⟩
  | .hbm, ⟨52, _⟩ => ⟨S2x128x1024, .f32⟩
  | .hbm, ⟨53, _⟩ => ⟨S2x128x1024, .f32⟩
  | .hbm, ⟨54, _⟩ => ⟨S_, .f32⟩
  | .hbm, ⟨55, _⟩ => ⟨S2x128x1024, .f32⟩
  | .hbm, ⟨56, _⟩ => ⟨S2x128x1024, .f32⟩
  | _, _ => ⟨S2x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_8 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_9 : Ref sig .tc := ⟨.hbm, 54, rfl⟩
abbrev main_v37 : Ref sig .tc := ⟨.hbm, 55, rfl⟩
abbrev main_v38 : Ref sig .tc := ⟨.hbm, 56, rfl⟩

abbrev nD : Nat := 1
abbrev τ : Topo := Topo.v7x

variable {F : FTy → Type} [FloatOps F]
-- ==== Kernel15.lean ====
abbrev S1x1024x256 : Shape := ⟨3, ![1, 1024, 256]⟩
abbrev S7x1024x256 : Shape := ⟨3, ![7, 1024, 256]⟩
abbrev S8x1024x256 : Shape := ⟨3, ![8, 1024, 256]⟩
abbrev S_ : Shape := ⟨0, ![]⟩
abbrev S1 : Shape := ⟨1, ![1]⟩
abbrev S1x256x256 : Shape := ⟨3, ![1, 256, 256]⟩
abbrev S7x256x256 : Shape := ⟨3, ![7, 256, 256]⟩
abbrev S256x256 : Shape := ⟨2, ![256, 256]⟩

abbrev nBuf : Space → Nat
  | .hbm => 10
  | .vmem => 18
  | .smem => 1
  | _ => 0

abbrev bufTy : (tb : Table) → Fin (tcTables nBuf tb) → BufTy
  | .hbm, ⟨0, _⟩ => ⟨S1x1024x256, .f32⟩
  | .hbm, ⟨1, _⟩ => ⟨S1x1024x256, .f32⟩
  | .hbm, ⟨2, _⟩ => ⟨S1x1024x256, .f32⟩
  | .hbm, ⟨3, _⟩ => ⟨S7x1024x256, .bf16⟩
  | .hbm, ⟨4, _⟩ => ⟨S8x1024x256, .bf16⟩
  | .hbm, ⟨5, _⟩ => ⟨S_, .i32⟩
  | .hbm, ⟨6, _⟩ => ⟨S1x1024x256, .f32⟩
  | .hbm, ⟨7, _⟩ => ⟨S1x1024x256, .f32⟩
  | .hbm, ⟨8, _⟩ => ⟨S1x1024x256, .f32⟩
  | .hbm, ⟨9, _⟩ => ⟨S1x1024x256, .f32⟩
  | .local _ .vmem, ⟨0, _⟩ => ⟨S1x256x256, .f32⟩
  | .local _ .vmem, ⟨1, _⟩ => ⟨S1x256x256, .f32⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | .local _ .vmem, ⟨6, _⟩ => ⟨S7x256x256, .bf16⟩
  | .local _ .vmem, ⟨7, _⟩ => ⟨S7x256x256, .bf16⟩
  | .local _ .vmem, ⟨8, _⟩ => ⟨S1x256x256, .bf16⟩
  | .local _ .vmem, ⟨9, _⟩ => ⟨S1x256x256, .bf16⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | .local _ .vmem, ⟨14, _⟩ => ⟨S1x256x256, .f32⟩
  | .local _ .vmem, ⟨15, _⟩ => ⟨S1x256x256, .f32⟩
  | .local _ .vmem, ⟨16, _⟩ => ⟨S1x256x256, .f32⟩
  | .local _ .vmem, ⟨17, _⟩ => ⟨S1x256x256, .f32⟩
  | .local _ .smem, ⟨0, _⟩ => ⟨S1, .i32⟩
  | _, _ => ⟨S1x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![1, 4], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_4 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let v1 : BitVec 1 := Scalar.cmpi .eq arg0 c0_i32
  let c0_i32_0 : BitVec 32 := 0#32
  let v2 : BitVec 32 := Scalar.select v1 arg1 c0_i32_0
  let c0_i32_1 : BitVec 32 := 0#32
  let c0_i32_2 : BitVec 32 := 0#32
  ![v0.toNat, v2.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S7x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference15Ideal.lean ====
abbrev S1x1024x256 : Shape := ⟨3, ![1, 1024, 256]⟩
abbrev S7x1024x256 : Shape := ⟨3, ![7, 1024, 256]⟩
abbrev S8x1024x256 : Shape := ⟨3, ![8, 1024, 256]⟩
abbrev S1024x256 : Shape := ⟨2, ![1024, 256]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S1x1024x256, .f32⟩
  | .hbm, ⟨1, _⟩ => ⟨S1x1024x256, .f32⟩
  | .hbm, ⟨2, _⟩ => ⟨S1x1024x256, .f32⟩
  | .hbm, ⟨3, _⟩ => ⟨S7x1024x256, .bf16⟩
  | .hbm, ⟨4, _⟩ => ⟨S8x1024x256, .bf16⟩
  | .hbm, ⟨5, _⟩ => ⟨S1x1024x256, .bf16⟩
  | .hbm, ⟨6, _⟩ => ⟨S1024x256, .bf16⟩
  | .hbm, ⟨7, _⟩ => ⟨S1024x256, .f32⟩
  | .hbm, ⟨8, _⟩ => ⟨S7x1024x256, .f32⟩
  | .hbm, ⟨9, _⟩ => ⟨S_, .f32⟩
  | .hbm, ⟨10, _⟩ => ⟨S1024x256, .f32⟩
  | .hbm, ⟨11, _⟩ => ⟨S1024x256, .f32⟩
  | .hbm, ⟨12, _⟩ => ⟨S1x1024x256, .f32⟩
  | .hbm, ⟨13, _⟩ => ⟨S_, .f32⟩
  | .hbm, ⟨14, _⟩ => ⟨S1x1024x256, .f32⟩
  | .hbm, ⟨15, _⟩ => ⟨S1x1024x256, .f32⟩
  | .hbm, ⟨16, _⟩ => ⟨S_, .f32⟩
  | .hbm, ⟨17, _⟩ => ⟨S1x1024x256, .f32⟩
  | .hbm, ⟨18, _⟩ => ⟨S1x1024x256, .f32⟩
  | .hbm, ⟨19, _⟩ => ⟨S1x1024x256, .f32⟩
  | .hbm, ⟨20, _⟩ => ⟨S_, .f32⟩
  | .hbm, ⟨21, _⟩ => ⟨S1x1024x256, .f32⟩
  | .hbm, ⟨22, _⟩ => ⟨S1x1024x256, .f32⟩
  | .hbm, ⟨23, _⟩ => ⟨S1x1024x256, .f32⟩
  | .hbm, ⟨24, _⟩ => ⟨S_, .f32⟩
  | .hbm, ⟨25, _⟩ => ⟨S1x1024x256, .f32⟩
  | .hbm, ⟨26, _⟩ => ⟨S1x1024x256, .f32⟩
  | .hbm, ⟨27, _⟩ => ⟨S1x1024x256, .f32⟩
  | .hbm, ⟨28, _⟩ => ⟨S_, .f32⟩
  | .hbm, ⟨29, _⟩ => ⟨S1x1024x256, .f32⟩
  | .hbm, ⟨30, _⟩ => ⟨S1x1024x256, .f32⟩
  | .hbm, ⟨31, _⟩ => ⟨S_, .f32⟩
  | .hbm, ⟨32, _⟩ => ⟨S1x1024x256, .f32⟩
  | .hbm, ⟨33, _⟩ => ⟨S1x1024x256, .f32⟩
  | .hbm, ⟨34, _⟩ => ⟨S1x1024x256, .f32⟩
  | .hbm, ⟨35, _⟩ => ⟨S_, .f32⟩
  | .hbm, ⟨36, _⟩ => ⟨S1x1024x256, .f32⟩
  | .hbm, ⟨37, _⟩ => ⟨S1x1024x256, .f32⟩
  | .hbm, ⟨38, _⟩ => ⟨S1x1024x256, .f32⟩
  | .hbm, ⟨39, _⟩ => ⟨S_, .f32⟩
  | .hbm, ⟨40, _⟩ => ⟨S1x1024x256, .f32⟩
  | .hbm, ⟨41, _⟩ => ⟨S1x1024x256, .f32⟩
  | .hbm, ⟨42, _⟩ => ⟨S1x1024x256, .f32⟩
  | .hbm, ⟨43, _⟩ => ⟨S_, .f32⟩
  | .hbm, ⟨44, _⟩ => ⟨S1x1024x256, .f32⟩
  | .hbm, ⟨45, _⟩ => ⟨S1x1024x256, .f32⟩
  | _, _ => ⟨S1x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_8 : Ref sig .tc := ⟨.hbm, 43, rfl⟩
abbrev main_v29 : Ref sig .tc := ⟨.hbm, 44, rfl⟩
abbrev main_v30 : Ref sig .tc := ⟨.hbm, 45, rfl⟩

abbrev nD : Nat := 1
abbrev τ : Topo := Topo.v7x

variable {F : FTy → Type} [FloatOps F]
-- ==== Kernel16.lean ====
abbrev S1x128x1024 : Shape := ⟨3, ![1, 128, 1024]⟩
abbrev S7x128x1024 : Shape := ⟨3, ![7, 128, 1024]⟩
abbrev S8x128x1024 : Shape := ⟨3, ![8, 128, 1024]⟩
abbrev S_ : Shape := ⟨0, ![]⟩
abbrev S1 : Shape := ⟨1, ![1]⟩
abbrev S128x1024 : Shape := ⟨2, ![128, 1024]⟩

abbrev nBuf : Space → Nat
  | .hbm => 10
  | .vmem => 9
  | .smem => 1
  | _ => 0

abbrev bufTy : (tb : Table) → Fin (tcTables nBuf tb) → BufTy
  | .hbm, ⟨0, _⟩ => ⟨S1x128x1024, .f32⟩
  | .hbm, ⟨1, _⟩ => ⟨S1x128x1024, .f32⟩
  | .hbm, ⟨2, _⟩ => ⟨S1x128x1024, .f32⟩
  | .hbm, ⟨3, _⟩ => ⟨S7x128x1024, .bf16⟩
  | .hbm, ⟨4, _⟩ => ⟨S8x128x1024, .bf16⟩
  | .hbm, ⟨5, _⟩ => ⟨S_, .i32⟩
  | .hbm, ⟨6, _⟩ => ⟨S1x128x1024, .f32⟩
  | .hbm, ⟨7, _⟩ => ⟨S1x128x1024, .f32⟩
  | .hbm, ⟨8, _⟩ => ⟨S1x128x1024, .f32⟩
  | .hbm, ⟨9, _⟩ => ⟨S1x128x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S7x128x1024, .bf16⟩
  | .local _ .vmem, ⟨4, _⟩ => ⟨S1x128x1024, .bf16⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .smem, ⟨0, _⟩ => ⟨S1, .i32⟩
  | _, _ => ⟨S1x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨2, ![1, 1], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_4 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let v1 : BitVec 1 := Scalar.cmpi .eq arg0 c0_i32
  let c0_i32_0 : BitVec 32 := 0#32
  let v2 : BitVec 32 := Scalar.select v1 arg1 c0_i32_0
  let c0_i32_1 : BitVec 32 := 0#32
  let c0_i32_2 : BitVec 32 := 0#32
  ![v0.toNat, v2.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S7x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S1x128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]
-- ==== Reference16Ideal.lean ====
abbrev S1x128x1024 : Shape := ⟨3, ![1, 128, 1024]⟩
abbrev S7x128x1024 : Shape := ⟨3, ![7, 128, 1024]⟩
abbrev S8x128x1024 : Shape := ⟨3, ![8, 128, 1024]⟩
abbrev S128x1024 : Shape := ⟨2, ![128, 1024]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S1x128x1024, .f32⟩
  | .hbm, ⟨1, _⟩ => ⟨S1x128x1024, .f32⟩
  | .hbm, ⟨2, _⟩ => ⟨S1x128x1024, .f32⟩
  | .hbm, ⟨3, _⟩ => ⟨S7x128x1024, .bf16⟩
  | .hbm, ⟨4, _⟩ => ⟨S8x128x1024, .bf16⟩
  | .hbm, ⟨5, _⟩ => ⟨S1x128x1024, .bf16⟩
  | .hbm, ⟨6, _⟩ => ⟨S128x1024, .bf16⟩
  | .hbm, ⟨7, _⟩ => ⟨S128x1024, .f32⟩
  | .hbm, ⟨8, _⟩ => ⟨S7x128x1024, .f32⟩
  | .hbm, ⟨9, _⟩ => ⟨S_, .f32⟩
  | .hbm, ⟨10, _⟩ => ⟨S128x1024, .f32⟩
  | .hbm, ⟨11, _⟩ => ⟨S128x1024, .f32⟩
  | .hbm, ⟨12, _⟩ => ⟨S1x128x1024, .f32⟩
  | .hbm, ⟨13, _⟩ => ⟨S_, .f32⟩
  | .hbm, ⟨14, _⟩ => ⟨S1x128x1024, .f32⟩
  | .hbm, ⟨15, _⟩ => ⟨S1x128x1024, .f32⟩
  | .hbm, ⟨16, _⟩ => ⟨S_, .f32⟩
  | .hbm, ⟨17, _⟩ => ⟨S1x128x1024, .f32⟩
  | .hbm, ⟨18, _⟩ => ⟨S1x128x1024, .f32⟩
  | .hbm, ⟨19, _⟩ => ⟨S1x128x1024, .f32⟩
  | .hbm, ⟨20, _⟩ => ⟨S_, .f32⟩
  | .hbm, ⟨21, _⟩ => ⟨S1x128x1024, .f32⟩
  | .hbm, ⟨22, _⟩ => ⟨S1x128x1024, .f32⟩
  | .hbm, ⟨23, _⟩ => ⟨S1x128x1024, .f32⟩
  | .hbm, ⟨24, _⟩ => ⟨S_, .f32⟩
  | .hbm, ⟨25, _⟩ => ⟨S1x128x1024, .f32⟩
  | .hbm, ⟨26, _⟩ => ⟨S1x128x1024, .f32⟩
  | .hbm, ⟨27, _⟩ => ⟨S1x128x1024, .f32⟩
  | .hbm, ⟨28, _⟩ => ⟨S_, .f32⟩
  | .hbm, ⟨29, _⟩ => ⟨S1x128x1024, .f32⟩
  | .hbm, ⟨30, _⟩ => ⟨S1x128x1024, .f32⟩
  | .hbm, ⟨31, _⟩ => ⟨S_, .f32⟩
  | .hbm, ⟨32, _⟩ => ⟨S1x128x1024, .f32⟩
  | .hbm, ⟨33, _⟩ => ⟨S1x128x1024, .f32⟩
  | .hbm, ⟨34, _⟩ => ⟨S1x128x1024, .f32⟩
  | .hbm, ⟨35, _⟩ => ⟨S_, .f32⟩
  | .hbm, ⟨36, _⟩ => ⟨S1x128x1024, .f32⟩
  | .hbm, ⟨37, _⟩ => ⟨S1x128x1024, .f32⟩
  | .hbm, ⟨38, _⟩ => ⟨S1x128x1024, .f32⟩
  | .hbm, ⟨39, _⟩ => ⟨S_, .f32⟩
  | .hbm, ⟨40, _⟩ => ⟨S1x128x1024, .f32⟩
  | .hbm, ⟨41, _⟩ => ⟨S1x128x1024, .f32⟩
  | .hbm, ⟨42, _⟩ => ⟨S1x128x1024, .f32⟩
  | .hbm, ⟨43, _⟩ => ⟨S_, .f32⟩
  | .hbm, ⟨44, _⟩ => ⟨S1x128x1024, .f32⟩
  | .hbm, ⟨45, _⟩ => ⟨S1x128x1024, .f32⟩
  | _, _ => ⟨S1x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_8 : Ref sig .tc := ⟨.hbm, 43, rfl⟩
abbrev main_v29 : Ref sig .tc := ⟨.hbm, 44, rfl⟩
abbrev main_v30 : Ref sig .tc := ⟨.hbm, 45, rfl⟩

abbrev nD : Nat := 1
abbrev τ : Topo := Topo.v7x

variable {F : FTy → Type} [FloatOps F]
-- ==== Kernel19.lean ====
abbrev S88x128 : Shape := ⟨2, ![88, 128]⟩
abbrev S8x88x128 : Shape := ⟨3, ![8, 88, 128]⟩
abbrev S1x88x128 : Shape := ⟨3, ![1, 88, 128]⟩

abbrev nBuf : Space → Nat
  | .hbm => 8
  | .vmem => 8
  | .smem => 0
  | _ => 0

abbrev bufTy : (tb : Table) → Fin (tcTables nBuf tb) → BufTy
  | .hbm, ⟨0, _⟩ => ⟨S88x128, .f32⟩
  | .hbm, ⟨1, _⟩ => ⟨S88x128, .f32⟩
  | .hbm, ⟨2, _⟩ => ⟨S88x128, .f32⟩
  | .hbm, ⟨3, _⟩ => ⟨S8x88x128, .f32⟩
  | .hbm, ⟨4, _⟩ => ⟨S88x128, .f32⟩
  | .hbm, ⟨5, _⟩ => ⟨S88x128, .f32⟩
  | .hbm, ⟨6, _⟩ => ⟨S88x128, .f32⟩
  | .hbm, ⟨7, _⟩ => ⟨S88x128, .f32⟩
  | .local _ .vmem, ⟨0, _⟩ => ⟨S88x128, .f32⟩
  | .local _ .vmem, ⟨1, _⟩ => ⟨S88x128, .f32⟩
  | .local _ .vmem, ⟨2, _⟩ => ⟨S88x128, .f32⟩
  | .local _ .vmem, ⟨3, _⟩ => ⟨S8x88x128, .f32⟩
  | .local _ .vmem, ⟨4, _⟩ => ⟨S88x128, .f32⟩
  | .local _ .vmem, ⟨5, _⟩ => ⟨S88x128, .f32⟩
  | .local _ .vmem, ⟨6, _⟩ => ⟨S88x128, .f32⟩
  | .local _ .vmem, ⟨7, _⟩ => ⟨S88x128, .f32⟩
  | _, _ => ⟨S88x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S88x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S88x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S88x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x88x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S88x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S88x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S88x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S88x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference19Ideal.lean ====
abbrev S88x128 : Shape := ⟨2, ![88, 128]⟩
abbrev S8x88x128 : Shape := ⟨3, ![8, 88, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S88x128, .f32⟩
  | .hbm, ⟨1, _⟩ => ⟨S88x128, .f32⟩
  | .hbm, ⟨2, _⟩ => ⟨S88x128, .f32⟩
  | .hbm, ⟨3, _⟩ => ⟨S8x88x128, .f32⟩
  | .hbm, ⟨4, _⟩ => ⟨S_, .f32⟩
  | .hbm, ⟨5, _⟩ => ⟨S88x128, .f32⟩
  | .hbm, ⟨6, _⟩ => ⟨S_, .f32⟩
  | .hbm, ⟨7, _⟩ => ⟨S88x128, .f32⟩
  | .hbm, ⟨8, _⟩ => ⟨S88x128, .f32⟩
  | .hbm, ⟨9, _⟩ => ⟨S_, .f32⟩
  | .hbm, ⟨10, _⟩ => ⟨S88x128, .f32⟩
  | .hbm, ⟨11, _⟩ => ⟨S88x128, .f32⟩
  | .hbm, ⟨12, _⟩ => ⟨S88x128, .f32⟩
  | .hbm, ⟨13, _⟩ => ⟨S_, .f32⟩
  | .hbm, ⟨14, _⟩ => ⟨S88x128, .f32⟩
  | .hbm, ⟨15, _⟩ => ⟨S88x128, .f32⟩
  | .hbm, ⟨16, _⟩ => ⟨S88x128, .f32⟩
  | .hbm, ⟨17, _⟩ => ⟨S_, .f32⟩
  | .hbm, ⟨18, _⟩ => ⟨S88x128, .f32⟩
  | .hbm, ⟨19, _⟩ => ⟨S88x128, .f32⟩
  | .hbm, ⟨20, _⟩ => ⟨S88x128, .f32⟩
  | .hbm, ⟨21, _⟩ => ⟨S_, .f32⟩
  | .hbm, ⟨22, _⟩ => ⟨S88x128, .f32⟩
  | .hbm, ⟨23, _⟩ => ⟨S88x128, .f32⟩
  | .hbm, ⟨24, _⟩ => ⟨S_, .f32⟩
  | .hbm, ⟨25, _⟩ => ⟨S88x128, .f32⟩
  | .hbm, ⟨26, _⟩ => ⟨S88x128, .f32⟩
  | .hbm, ⟨27, _⟩ => ⟨S88x128, .f32⟩
  | .hbm, ⟨28, _⟩ => ⟨S_, .f32⟩
  | .hbm, ⟨29, _⟩ => ⟨S88x128, .f32⟩
  | .hbm, ⟨30, _⟩ => ⟨S88x128, .f32⟩
  | .hbm, ⟨31, _⟩ => ⟨S88x128, .f32⟩
  | .hbm, ⟨32, _⟩ => ⟨S_, .f32⟩
  | .hbm, ⟨33, _⟩ => ⟨S88x128, .f32⟩
  | .hbm, ⟨34, _⟩ => ⟨S88x128, .f32⟩
  | .hbm, ⟨35, _⟩ => ⟨S88x128, .f32⟩
  | .hbm, ⟨36, _⟩ => ⟨S_, .f32⟩
  | .hbm, ⟨37, _⟩ => ⟨S88x128, .f32⟩
  | .hbm, ⟨38, _⟩ => ⟨S88x128, .f32⟩
  | _, _ => ⟨S88x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel20.lean ====
abbrev S3344x128 : Shape := ⟨2, ![3344, 128]⟩
abbrev S8x3344x128 : Shape := ⟨3, ![8, 3344, 128]⟩
abbrev S176x128 : Shape := ⟨2, ![176, 128]⟩
abbrev S8x176x128 : Shape := ⟨3, ![8, 176, 128]⟩
abbrev S1x176x128 : Shape := ⟨3, ![1, 176, 128]⟩

abbrev nBuf : Space → Nat
  | .hbm => 8
  | .vmem => 16
  | .smem => 0
  | _ => 0

abbrev bufTy : (tb : Table) → Fin (tcTables nBuf tb) → BufTy
  | .hbm, ⟨0, _⟩ => ⟨S3344x128, .f32⟩
  | .hbm, ⟨1, _⟩ => ⟨S3344x128, .f32⟩
  | .hbm, ⟨2, _⟩ => ⟨S3344x128, .f32⟩
  | .hbm, ⟨3, _⟩ => ⟨S8x3344x128, .bf16⟩
  | .hbm, ⟨4, _⟩ => ⟨S3344x128, .f32⟩
  | .hbm, ⟨5, _⟩ => ⟨S3344x128, .f32⟩
  | .hbm, ⟨6, _⟩ => ⟨S3344x128, .f32⟩
  | .hbm, ⟨7, _⟩ => ⟨S3344x128, .f32⟩
  | .local _ .vmem, ⟨0, _⟩ => ⟨S176x128, .f32⟩
  | .local _ .vmem, ⟨1, _⟩ => ⟨S176x128, .f32⟩
  | .local _ .vmem, ⟨2, _⟩ => ⟨S176x128, .f32⟩
  | .local _ .vmem, ⟨3, _⟩ => ⟨S176x128, .f32⟩
  | .local _ .vmem, ⟨4, _⟩ => ⟨S176x128, .f32⟩
  | .local _ .vmem, ⟨5, _⟩ => ⟨S176x128, .f32⟩
  | .local _ .vmem, ⟨6, _⟩ => ⟨S8x176x128, .bf16⟩
  | .local _ .vmem, ⟨7, _⟩ => ⟨S8x176x128, .bf16⟩
  | .local _ .vmem, ⟨8, _⟩ => ⟨S176x128, .f32⟩
  | .local _ .vmem, ⟨9, _⟩ => ⟨S176x128, .f32⟩
  | .local _ .vmem, ⟨10, _⟩ => ⟨S176x128, .f32⟩
  | .local _ .vmem, ⟨11, _⟩ => ⟨S176x128, .f32⟩
  | .local _ .vmem, ⟨12, _⟩ => ⟨S176x128, .f32⟩
  | .local _ .vmem, ⟨13, _⟩ => ⟨S176x128, .f32⟩
  | .local _ .vmem, ⟨14, _⟩ => ⟨S176x128, .f32⟩
  | .local _ .vmem, ⟨15, _⟩ => ⟨S176x128, .f32⟩
  | _, _ => ⟨S3344x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![19], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x176x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference20Ideal.lean ====
abbrev S3344x128 : Shape := ⟨2, ![3344, 128]⟩
abbrev S8x3344x128 : Shape := ⟨3, ![8, 3344, 128]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S3344x128, .f32⟩
  | .hbm, ⟨1, _⟩ => ⟨S3344x128, .f32⟩
  | .hbm, ⟨2, _⟩ => ⟨S3344x128, .f32⟩
  | .hbm, ⟨3, _⟩ => ⟨S8x3344x128, .bf16⟩
  | .hbm, ⟨4, _⟩ => ⟨S8x3344x128, .f32⟩
  | .hbm, ⟨5, _⟩ => ⟨S_, .f32⟩
  | .hbm, ⟨6, _⟩ => ⟨S3344x128, .f32⟩
  | .hbm, ⟨7, _⟩ => ⟨S_, .f32⟩
  | .hbm, ⟨8, _⟩ => ⟨S3344x128, .f32⟩
  | .hbm, ⟨9, _⟩ => ⟨S3344x128, .f32⟩
  | .hbm, ⟨10, _⟩ => ⟨S_, .f32⟩
  | .hbm, ⟨11, _⟩ => ⟨S3344x128, .f32⟩
  | .hbm, ⟨12, _⟩ => ⟨S3344x128, .f32⟩
  | .hbm, ⟨13, _⟩ => ⟨S3344x128, .f32⟩
  | .hbm, ⟨14, _⟩ => ⟨S_, .f32⟩
  | .hbm, ⟨15, _⟩ => ⟨S3344x128, .f32⟩
  | .hbm, ⟨16, _⟩ => ⟨S3344x128, .f32⟩
  | .hbm, ⟨17, _⟩ => ⟨S3344x128, .f32⟩
  | .hbm, ⟨18, _⟩ => ⟨S_, .f32⟩
  | .hbm, ⟨19, _⟩ => ⟨S3344x128, .f32⟩
  | .hbm, ⟨20, _⟩ => ⟨S3344x128, .f32⟩
  | .hbm, ⟨21, _⟩ => ⟨S3344x128, .f32⟩
  | .hbm, ⟨22, _⟩ => ⟨S_, .f32⟩
  | .hbm, ⟨23, _⟩ => ⟨S3344x128, .f32⟩
  | .hbm, ⟨24, _⟩ => ⟨S3344x128, .f32⟩
  | .hbm, ⟨25, _⟩ => ⟨S_, .f32⟩
  | .hbm, ⟨26, _⟩ => ⟨S3344x128, .f32⟩
  | .hbm, ⟨27, _⟩ => ⟨S3344x128, .f32⟩
  | .hbm, ⟨28, _⟩ => ⟨S3344x128, .f32⟩
  | .hbm, ⟨29, _⟩ => ⟨S_, .f32⟩
  | .hbm, ⟨30, _⟩ => ⟨S3344x128, .f32⟩
  | .hbm, ⟨31, _⟩ => ⟨S3344x128, .f32⟩
  | .hbm, ⟨32, _⟩ => ⟨S3344x128, .f32⟩
  | .hbm, ⟨33, _⟩ => ⟨S_, .f32⟩
  | .hbm, ⟨34, _⟩ => ⟨S3344x128, .f32⟩
  | .hbm, ⟨35, _⟩ => ⟨S3344x128, .f32⟩
  | .hbm, ⟨36, _⟩ => ⟨S3344x128, .f32⟩
  | .hbm, ⟨37, _⟩ => ⟨S_, .f32⟩
  | .hbm, ⟨38, _⟩ => ⟨S3344x128, .f32⟩
  | .hbm, ⟨39, _⟩ => ⟨S3344x128, .f32⟩
  | _, _ => ⟨S3344x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel21.lean ====
abbrev S2048x1024 : Shape := ⟨2, ![2048, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v39 : BitVec 1 := Scalar.cmpi .eq arg0 c0_i32
  let v40 : BitVec 32 := Scalar.extui v39
  let c0_i32_16 : BitVec 32 := 0#32
  let v41 : BitVec 1 := Scalar.cmpi .ne v40 c0_i32_16
  v41

def k0_cond2 (i : grid0.Coords) : BitVec 1 :=
  let arg0 : BitVec 32 := BitVec.ofNat 32 (i 0).val
  let c0_i32_17 : BitVec 32 := 0#32
  let v42 : BitVec 1 := Scalar.cmpi .sgt arg0 c0_i32_17
  let v43 : BitVec 32 := Scalar.extui v42
  let c0_i32_18 : BitVec 32 := 0#32
  let v44 : BitVec 1 := Scalar.cmpi .ne v43 c0_i32_18
  v44

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference21Ideal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S2048x1024, .f32⟩
  | .hbm, ⟨34, _⟩ => ⟨S2048x1024, .f32⟩
  | .hbm, ⟨35, _⟩ => ⟨S2048x1, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S_, .f32⟩
  | .hbm, ⟨40, _⟩ => ⟨S2048, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Kernel22.lean ====
abbrev S2048x1024 : Shape := ⟨2, ![2048, 1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1x512 : Shape := ⟨2, ![1, 512]⟩
abbrev S1 : Shape := ⟨1, ![1]⟩
abbrev S1x1 : Shape := ⟨2, ![1, 1]⟩
abbrev S1024 : Shape := ⟨1, ![1024]⟩

abbrev nBuf : Space → Nat
  | .hbm => 6
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S2048x1024, .f32⟩
  | .hbm, ⟨4, _⟩ => ⟨S1x128, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x128, .f32⟩
  | .local _ .vmem, ⟨8, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v59 : BitVec 1 := Scalar.cmpi .eq arg0 c0_i32
  let v60 : BitVec 32 := Scalar.extui v59
  let c0_i32_22 : BitVec 32 := 0#32
  let v61 : BitVec 1 := Scalar.cmpi .ne v60 c0_i32_22
  v61

def k0_cond2 (i : grid0.Coords) : BitVec 1 :=
  let arg0 : BitVec 32 := BitVec.ofNat 32 (i 0).val
  let c0_i32_23 : BitVec 32 := 0#32
  let v62 : BitVec 1 := Scalar.cmpi .sgt arg0 c0_i32_23
  let v63 : BitVec 32 := Scalar.extui v62
  let c0_i32_24 : BitVec 32 := 0#32
  let v64 : BitVec 1 := Scalar.cmpi .ne v63 c0_i32_24
  v64

def k0_cond3 (i : grid0.Coords) : BitVec 1 :=
  let arg0 : BitVec 32 := BitVec.ofNat 32 (i 0).val
  let c0_i32_25 : BitVec 32 := 0#32
  let v65 : BitVec 1 := Scalar.cmpi .eq arg0 c0_i32_25
  let v66 : BitVec 32 := Scalar.extui v65
  let c0_i32_26 : BitVec 32 := 0#32
  let v67 : BitVec 1 := Scalar.cmpi .ne v66 c0_i32_26
  v67

def k0_cond4 (i : grid0.Coords) : BitVec 1 :=
  let arg0 : BitVec 32 := BitVec.ofNat 32 (i 0).val
  let c0_i32_27 : BitVec 32 := 0#32
  let v68 : BitVec 1 := Scalar.cmpi .sgt arg0 c0_i32_27
  let v69 : BitVec 32 := Scalar.extui v68
  let c0_i32_28 : BitVec 32 := 0#32
  let v70 : BitVec 1 := Scalar.cmpi .ne v69 c0_i32_28
  v70

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference22Ideal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩
abbrev S1x128 : Shape := ⟨2, ![1, 128]⟩

abbrev nBuf : Space → Nat
  | .hbm => 69
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048, .f32⟩
  | .hbm, ⟨29, _⟩ => ⟨S_, .f32⟩
  | .hbm, ⟨30, _⟩ => ⟨S2048, .f32⟩
  | .hbm, ⟨31, _⟩ => ⟨S2048, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S2048, .f32⟩
  | .hbm, ⟨40, _⟩ => ⟨S_, .f32⟩
  | .hbm, ⟨41, _⟩ => ⟨S2048, .f32⟩
  | .hbm, ⟨42, _⟩ => ⟨S2048, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S2048, .f32⟩
  | .hbm, ⟨54, _⟩ => ⟨S2048x1, .f32⟩
  | .hbm, ⟨55, _⟩ => ⟨S2048x1024, .f32⟩
  | .hbm, ⟨56, _⟩ => ⟨S2048x1024, .f32⟩
  | .hbm, ⟨57, _⟩ => ⟨S2048x1, .f32⟩
  | .hbm, ⟨58, _⟩ => ⟨S_, .f32⟩
  | .hbm, ⟨59, _⟩ => ⟨S2048x1, .f32⟩
  | .hbm, ⟨60, _⟩ => ⟨S2048x1, .f32⟩
  | .hbm, ⟨61, _⟩ => ⟨S_, .f32⟩
  | .hbm, ⟨62, _⟩ => ⟨S2048, .f32⟩
  | .hbm, ⟨63, _⟩ => ⟨S2048x1024, .f32⟩
  | .hbm, ⟨64, _⟩ => ⟨S2048x1024, .f32⟩
  | .hbm, ⟨65, _⟩ => ⟨S2048x1024, .f32⟩
  | .hbm, ⟨66, _⟩ => ⟨S2048x1024, .f32⟩
  | .hbm, ⟨67, _⟩ => ⟨S2048x1024, .f32⟩
  | .hbm, ⟨68, _⟩ => ⟨S1x128, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== Kernel24.lean ====
abbrev S2048x2048 : Shape := ⟨2, ![2048, 2048]⟩
abbrev S2048x1024 : Shape := ⟨2, ![2048, 1024]⟩
abbrev S8x128 : Shape := ⟨2, ![8, 128]⟩
abbrev S512x2048 : Shape := ⟨2, ![512, 2048]⟩
abbrev S512x1024 : Shape := ⟨2, ![512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x1024, .f32⟩
  | .hbm, ⟨2, _⟩ => ⟨S8x128, .f32⟩
  | .hbm, ⟨3, _⟩ => ⟨S2048x2048, .bf16⟩
  | .local _ .vmem, ⟨0, _⟩ => ⟨S512x2048, .bf16⟩
  | .local _ .vmem, ⟨1, _⟩ => ⟨S512x2048, .bf16⟩
  | .local _ .vmem, ⟨2, _⟩ => ⟨S512x1024, .f32⟩
  | .local _ .vmem, ⟨3, _⟩ => ⟨S512x1024, .f32⟩
  | .local _ .vmem, ⟨4, _⟩ => ⟨S512x2048, .bf16⟩
  | .local _ .vmem, ⟨5, _⟩ => ⟨S512x2048, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference24Ideal.lean ====
abbrev S2048x2048 : Shape := ⟨2, ![2048, 2048]⟩
abbrev S2048x1024 : Shape := ⟨2, ![2048, 1024]⟩
abbrev S8x128 : Shape := ⟨2, ![8, 128]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x1024, .f32⟩
  | .hbm, ⟨2, _⟩ => ⟨S8x128, .f32⟩
  | .hbm, ⟨3, _⟩ => ⟨S2048x2048, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S_, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x2048, .f32⟩
  | .hbm, ⟨23, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel25.lean ====
abbrev S2048x1024 : Shape := ⟨2, ![2048, 1024]⟩
abbrev S1x1024 : Shape := ⟨2, ![1, 1024]⟩
abbrev S512x1024 : Shape := ⟨2, ![512, 1024]⟩
abbrev S1024 : Shape := ⟨1, ![1024]⟩

abbrev nBuf : Space → Nat
  | .hbm => 7
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v46 : BitVec 1 := Scalar.cmpi .eq arg0 c0_i32
  let v47 : BitVec 32 := Scalar.extui v46
  let c0_i32_21 : BitVec 32 := 0#32
  let v48 : BitVec 1 := Scalar.cmpi .ne v47 c0_i32_21
  v48

def k0_cond2 (i : grid0.Coords) : BitVec 1 :=
  let arg0 : BitVec 32 := BitVec.ofNat 32 (i 0).val
  let c0_i32_22 : BitVec 32 := 0#32
  let v49 : BitVec 1 := Scalar.cmpi .sgt arg0 c0_i32_22
  let v50 : BitVec 32 := Scalar.extui v49
  let c0_i32_23 : BitVec 32 := 0#32
  let v51 : BitVec 1 := Scalar.cmpi .ne v50 c0_i32_23
  v51

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference25Ideal.lean ====
abbrev S2048x1024 : Shape := ⟨2, ![2048, 1024]⟩
abbrev S1x1024 : Shape := ⟨2, ![1, 1024]⟩
abbrev S_ : Shape := ⟨0, ![]⟩
abbrev S1024 : Shape := ⟨1, ![1024]⟩

abbrev nBuf : Space → Nat
  | .hbm => 56
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S_, .f32⟩
  | .hbm, ⟨11, _⟩ => ⟨S2048x1024, .f32⟩
  | .hbm, ⟨12, _⟩ => ⟨S2048x1024, .f32⟩
  | .hbm, ⟨13, _⟩ => ⟨S_, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S_, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S_, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S_, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S_, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S_, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S_, .f32⟩
  | .hbm, ⟨54, _⟩ => ⟨S1024, .f32⟩
  | .hbm, ⟨55, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_7 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_8 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_9 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]
-- ==== Kernel29.lean ====
abbrev S2048x1024 : Shape := ⟨2, ![2048, 1024]⟩
abbrev S8x1x128x1024 : Shape := ⟨4, ![8, 1, 128, 1024]⟩
abbrev S1x1024 : Shape := ⟨2, ![1, 1024]⟩
abbrev S1024x1024 : Shape := ⟨2, ![1024, 1024]⟩
abbrev S8x128x1024 : Shape := ⟨3, ![8, 128, 1024]⟩
abbrev S1024 : Shape := ⟨1, ![1024]⟩
abbrev S1024x1 : Shape := ⟨2, ![1024, 1]⟩

abbrev nBuf : Space → Nat
  | .hbm => 6
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S8x1x128x1024, .bf16⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x1024, .bf16⟩
  | .local _ .vmem, ⟨0, _⟩ => ⟨S1024x1024, .f32⟩
  | .local _ .vmem, ⟨1, _⟩ => ⟨S1024x1024, .f32⟩
  | .local _ .vmem, ⟨2, _⟩ => ⟨S8x1x128x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S8x1x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]
-- ==== Reference29Ideal.lean ====
abbrev S2048x1024 : Shape := ⟨2, ![2048, 1024]⟩
abbrev S8x1x128x1024 : Shape := ⟨4, ![8, 1, 128, 1024]⟩
abbrev S1x1024 : Shape := ⟨2, ![1, 1024]⟩
abbrev S1024x1024 : Shape := ⟨2, ![1024, 1024]⟩
abbrev S_ : Shape := ⟨0, ![]⟩
abbrev S2048 : Shape := ⟨1, ![2048]⟩
abbrev S2048x1 : Shape := ⟨2, ![2048, 1]⟩

abbrev nBuf : Space → Nat
  | .hbm => 24
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S8x1x128x1024, .bf16⟩
  | .hbm, ⟨2, _⟩ => ⟨S2048x1024, .f32⟩
  | .hbm, ⟨3, _⟩ => ⟨S1x1024, .f32⟩
  | .hbm, ⟨4, _⟩ => ⟨S1024x1024, .bf16⟩
  | .hbm, ⟨5, _⟩ => ⟨S1024x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Proof.Totals.lean ====
/- What the host puts into the kernel's input of row totals: the masked log-complements of the row,
   summed over the keys and repeated over the head's columns. -/
module

public import proofs.«01_k».proof.Proof.Gen.KernelIdeal.Frame
public import proofs.«01_k».proof.Proof.Gen.ReferenceIdeal.Read
public import Idealize.ShloMosaic.Lib.StableHlo.RunRead
public import Idealize.ShloMosaic.Lib.KernelVsHost
public import Idealize.ShloMosaic.Lib.Pointwise

@[expose] public section

set_option maxRecDepth 16384

open Idealize.ShloMosaic
open Idealize.ShloMosaic.TcCoe

namespace Cert.Totals

open Cert.KernelIdeal Cert.KernelIdeal.Gen

variable (m : (ℓ : Loc nD τ sig) → Buf (Elt Ideal) ℓ)

/-- The masked log-complements are the same computation on both hosts. -/
theorem masked_eq (c : Dev nD) :
    (V m c main_v18 : (⟨S16x2048x2048, .f32⟩ : BufTy).Contents (Elt Ideal))
      = Cert.ReferenceIdeal.Read.val_main_v20_0 (F := Ideal) (m ((c : Thread nD τ).loc main_arg0)) := by
  unfold_abbrev_sides
  after_reads_simp
  rfl

/-- The totals are those masked log-complements, added up along the keys and spread over the head's columns. -/
theorem totals_eq (c : Dev nD) :
    (V m c main_v24 : (⟨S2048x1024, .f32⟩ : BufTy).Contents (Elt Ideal))
      = shapeCast S2048x1024 (shapeCast S2048x16x64 (broadcastInDim S2048x16x1x64 ![0, 1, 2] bcast_S2048x16x1_S2048x16x1x64_0_1_2
          (broadcastInDim S2048x16x1 ![0, 1] bcast_S2048x16_S2048x16x1_0_1 (transpose S2048x16 [1, 0]
            (Host.reduceAdd (F := Ideal) (Cert.ReferenceIdeal.Read.val_main_v20_0 (F := Ideal) (m ((c : Thread nD τ).loc main_arg0)))
              (constant S_ .f32 0x00000000#32) reducesTo_S16x2048x2048_S16x2048_d2 h_S_) transposes_S16x2048_S2048x16_1_0)))
          shapeCasts_S2048x16x1x64_S2048x16x64) shapeCasts_S2048x16x64_S2048x1024 := by
  rw [← masked_eq]
  unfold_abbrev_sides
  after_reads_simp
  rfl

/-- One row total: the sum over the keys of the head the column belongs to. -/
theorem total_apply (c : Dev nD) (t : Fin 2048) (j : Fin 1024) (h : Fin 16) (hh : j.val / 64 = h.val) :
    (V m c main_v24 : (⟨S2048x1024, .f32⟩ : BufTy).Contents (Elt Ideal)) (ix2 t j)
      = ∑ s : Fin 2048, Cert.ReferenceIdeal.Read.val_main_v20_0 (F := Ideal) (m ((c : Thread nD τ).loc main_arg0)) (ix3 h t s) := by
  rw [totals_eq]
  have hj := j.isLt
  have ht := t.isLt
  refine (shapeCast_apply _ _ (ix2 t j) (ix3 t h (⟨j.val % 64, by omega⟩ : Fin 64)) (by
    rw [Shape.rowMajor_val_two, Shape.rowMajor_val_three]
    show (t.val * 16 + h.val) * 64 + j.val % 64 = t.val * 1024 + j.val
    omega)).trans ?_
  refine (shapeCast_apply _ _ _ (ix4 t h (0 : Fin 1) (⟨j.val % 64, by omega⟩ : Fin 64)) (by
    rw [Shape.rowMajor_val_three, Shape.rowMajor_val_four]
    show ((t.val * 16 + h.val) * 1 + 0) * 64 + j.val % 64 = (t.val * 16 + h.val) * 64 + j.val % 64
    omega)).trans ?_
  refine (broadcastInDim_apply _ _ _ _ (ix3 t h (0 : Fin 1)) (fun a => match a with
    | ⟨0, _⟩ => rfl
    | ⟨1, _⟩ => rfl
    | ⟨2, _⟩ => rfl)).trans ?_
  refine (broadcastInDim_apply _ _ _ _ (ix2 t h) (fun a => match a with
    | ⟨0, _⟩ => rfl
    | ⟨1, _⟩ => rfl)).trans ?_
  refine (transpose_apply _ _ _ _ (ix2 h t) (fun a => match a with
    | ⟨0, _⟩ => rfl
    | ⟨1, _⟩ => rfl)).trans ?_
  generalize Cert.ReferenceIdeal.Read.val_main_v20_0 (F := Ideal) (m ((c : Thread nD τ).loc main_arg0)) = x
  refine (Ideal.hostReduceAdd_r3_a2 _ _ _ _).trans ?_
  rw [show (constant S_ .f32 0x00000000#32 : FVec Ideal S_ .f32) (Shape.Idx.first h_S_) = 0 from Ideal.ofBits_zero_f32, zero_add]
  rfl

end Cert.Totals
-- ==== Proof.Stick.lean ====
/- Stick-breaking attention and its gradient over the real numbers: a query's weights on the keys before it are the
   pieces broken off a stick of length one, taken from the nearest key to the farthest, and every formula here is about
   the scores `z t s` (query `t`, key `s`) and the products `e t s` of the result's gradient with the values. -/
module

public import Idealize.ShloMosaic.PureOps
public import Idealize.ShloMosaic.PureOps.Ideal.Laws

@[expose] public section

noncomputable section

namespace Cert.Stick

open Finset

/-- The logarithm of the logistic function, in the form that both programs take: the exponent is never positive. -/
def lsig (x : ℝ) : ℝ := min x 0 - Real.log (1 + Real.exp (-|x|))

/-- The logarithm of one minus the logistic function. -/
def lneg (x : ℝ) : ℝ := lsig x - x

theorem lneg_eq (x : ℝ) : lneg x = lsig (-x) := by
  unfold lneg lsig
  rw [abs_neg]
  rcases le_total x 0 with h | h
  · rw [min_eq_left h, min_eq_right (by linarith)]; ring
  · rw [min_eq_right h, min_eq_left (by linarith)]; ring

variable (z e : ℕ → ℕ → ℝ)

/-- What key `s` leaves of query `t`'s stick, as a logarithm: nothing is taken at or after the query. -/
def lm (t s : ℕ) : ℝ := if s < t then lneg (z t s) else 0

/-- The sum of the logarithms over the first `n` keys. -/
def lpre (t n : ℕ) : ℝ := ∑ s ∈ range n, lm z t s

/-- Query `t`'s weight on key `s`, over a sequence of 2048 keys. -/
def wt (t s : ℕ) : ℝ := if s < t then Real.exp (lsig (z t s) + (lpre z t 2048 - lpre z t (s + 1))) else 0

/-- The weight's gradient times the weight. -/
def gt (t s : ℕ) : ℝ := e t s * wt z t s

/-- Its sum over the first `n` keys. -/
def gpre (t n : ℕ) : ℝ := ∑ s ∈ range n, gt z e t s

/-- The score's gradient. -/
def dz (t s : ℕ) : ℝ :=
  if s < t then gt z e t s * Real.exp (lneg (z t s)) - Real.exp (lsig (z t s)) * gpre z e t s else 0

theorem lm_of_le {t s : ℕ} (h : t ≤ s) : lm z t s = 0 := if_neg (by omega)
theorem wt_of_le {t s : ℕ} (h : t ≤ s) : wt z t s = 0 := if_neg (by omega)
theorem dz_of_le {t s : ℕ} (h : t ≤ s) : dz z e t s = 0 := if_neg (by omega)
theorem gt_of_le {t s : ℕ} (h : t ≤ s) : gt z e t s = 0 := by rw [gt, wt_of_le z h, mul_zero]

theorem lpre_add (t a b : ℕ) : lpre z t (a + b) = lpre z t a + ∑ s ∈ range b, lm z t (a + s) := sum_range_add _ a b
theorem gpre_add (t a b : ℕ) : gpre z e t (a + b) = gpre z e t a + ∑ s ∈ range b, gt z e t (a + s) := sum_range_add _ a b

/-- A query's sums no longer change once the keys have reached it. -/
theorem lpre_stop {t a b : ℕ} (h : t ≤ a) : lpre z t (a + b) = lpre z t a := by
  rw [lpre_add, sum_eq_zero fun s _ => lm_of_le z (by omega), add_zero]
theorem gpre_stop {t a b : ℕ} (h : t ≤ a) : gpre z e t (a + b) = gpre z e t a := by
  rw [gpre_add, sum_eq_zero fun s _ => gt_of_le z e (by omega), add_zero]

/-! ## Finite sums of reals among the extended reals -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

/-- The sum of a block's entries up to column `j`, as a product with a triangle of ones. -/
theorem sum_upto (a : ℕ → ℝ) {N m : ℕ} (h : m ≤ N) : ∑ k : Fin N, a k.val * (if k.val < m then (1 : ℝ) else 0) = ∑ k ∈ range m, a k := by
  rw [← Finset.sum_range fun k => a k * (if k < m then (1 : ℝ) else 0)]
  rw [← Finset.sum_subset (Finset.range_subset_range.2 h)]
  · exact sum_congr rfl fun k hk => by rw [if_pos (mem_range.1 hk), mul_one]
  · intro k _ hk; rw [if_neg (by simpa using hk), mul_zero]

/-- The sum over all queries is the sum over those from the block's first on, since earlier queries have no gradient at the block's keys. -/
theorem sum_from (a : ℕ → ℝ) {r n : ℕ} (h : ∀ t < r, a t = 0) : ∑ t ∈ range (r + n), a t = ∑ i : Fin n, a (r + i.val) := by
  rw [sum_range_add, sum_eq_zero fun t ht => h t (mem_range.1 ht), zero_add, Finset.sum_range]

end Cert.Stick

end
-- ==== Proof.Block.lean ====
/- One head's share of the gradient at one block of 256 keys, for the `n` queries from the block's first on: the vectors
   that the kernel computes, at any number of queries, over the extended reals. -/
module

public import Idealize.ShloMosaic.Lib.MatmulPlain
public import Idealize.ShloMosaic.Lib.Pointwise.IndexVar
public import proofs.«01_k».proof.Proof.Stick

@[expose] public section

noncomputable section

namespace Cert.Block

open Idealize.ShloMosaic
open scoped BigOperators

/-- A matrix's shape. -/
abbrev Mat (n m : ℕ) : Shape := ⟨2, ![n, m]⟩

/-- The shapes fit together: a column spreads over a block's keys, the lanes' mask over its rows, and a block's row sums are a column. -/
structure Fits (n : ℕ) : Prop where
  spread : (Mat n 1).Broadcasts (Mat n 256)
  lanes : (Mat 1 128).Broadcasts (Mat 256 128)
  same : (Mat 1 128).ShapeCasts (Mat 1 128)
  sums : (Mat n 256).Reduces [1] ⟨1, ![n]⟩
  column : (⟨1, ![n]⟩ : Shape).ShapeCasts (Mat n 1)

/-- What one head reads at one block: its queries and its result's gradient with the other head's lanes at zero, its total, and the
    two sums over the earlier blocks; the block's keys and values; which key lies before which query; and the two triangles of ones. -/
structure In (n : ℕ) where
  q : FVec Ideal (Mat n 128) .bf16
  o : FVec Ideal (Mat n 128) .bf16
  total : FVec Ideal (Mat n 1) .f32
  lrun : FVec Ideal (Mat n 1) .f32
  grun : FVec Ideal (Mat n 1) .f32
  before : IVec (Mat n 256) 1
  k : FVec Ideal (Mat 256 128) .bf16
  v : FVec Ideal (Mat 256 128) .bf16
  upto : FVec Ideal (Mat 256 256) .bf16
  below : FVec Ideal (Mat 256 256) .bf16
  lanes : IVec (Mat 1 128) 1

variable {n : ℕ} (S : Fits n) (x : In n)

/-- A matrix of zeros. -/
def zeros (a b : ℕ) : FVec Ideal (Mat a b) .f32 := broadcast (Mat a b) (Scalar.ofBits (F := Ideal) .f32 0x00000000#32)

theorem narrows : FTy.bits .bf16 < FTy.bits .f32 := by decide

def score : FVec Ideal (Mat n 256) .f32 := matmul (DotDims.transposedRhs n 128 256) none x.q x.k (constant (Mat n 256) .f32 0x00000000#32)

def lsp : FVec Ideal (Mat n 256) .f32 :=
  subf (minimumf (score x) (zeros n 256))
    (log (addf (broadcast (Mat n 256) (Scalar.ofBits (F := Ideal) .f32 0x3F800000#32)) (exp (subf (zeros n 256) (absf (score x))))))

def lraw : FVec Ideal (Mat n 256) .f32 := subf (lsp x) (score x)

def lm : FVec Ideal (Mat n 256) .f32 := select x.before (lraw x) (zeros n 256)

def split : FVec Ideal (Mat n 256) .f32 :=
  addf (matmul (DotDims.plain n 256 256) none (truncf .bf16 (lm x) narrows) x.upto (constant (Mat n 256) .f32 0x00000000#32))
    (matmul (DotDims.plain n 256 256) none (truncf .bf16 (subf (lm x) (extf .f32 (truncf .bf16 (lm x) narrows) narrows)) narrows) x.upto
      (constant (Mat n 256) .f32 0x00000000#32))

def weight : FVec Ideal (Mat n 256) .f32 :=
  select x.before
    (exp (addf (lsp x) (subf (broadcastTo (Mat n 256) x.total S.spread) (addf (broadcastTo (Mat n 256) x.lrun S.spread) (split x)))))
    (zeros n 256)

def grad : FVec Ideal (Mat n 256) .f32 :=
  mulf (matmul (DotDims.transposedRhs n 128 256) none x.o x.v (constant (Mat n 256) .f32 0x00000000#32)) (weight S x)

def dz : FVec Ideal (Mat n 256) .bf16 :=
  truncf .bf16
    (select x.before
      (subf (mulf (grad S x) (exp (lraw x)))
        (mulf (exp (lsp x))
          (addf (broadcastTo (Mat n 256) x.grun S.spread)
            (matmul (DotDims.plain n 256 256) none (truncf .bf16 (grad S x) narrows) x.below (constant (Mat n 256) .f32 0x00000000#32)))))
      (zeros n 256)) narrows

/-- The head's own lanes of the keys. -/
def kept : FVec Ideal (Mat 256 128) .bf16 :=
  select (broadcastTo (Mat 256 128) (shapeCast (Mat 1 128) x.lanes S.same) S.lanes) x.k
    (broadcast (Mat 256 128) (Scalar.truncf .bf16 narrows (Scalar.ofBits (F := Ideal) .f32 0x00000000#32)))

/-- What the block adds to the queries' gradient. -/
def dq : FVec Ideal (Mat n 128) .f32 := matmul (DotDims.plain n 256 128) none (dz S x) (kept S x) (constant (Mat n 128) .f32 0x00000000#32)

/-- A product that sums over the rows of both operands. -/
def overRows (K M N : ℕ) : DotDims (Mat K M) (Mat K N) (Mat M N) where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

/-- What the head adds to the block's keys' and values' gradients. -/
def dk : FVec Ideal (Mat 256 128) .f32 := matmul (overRows n 256 128) none (dz S x) x.q (constant (Mat 256 128) .f32 0x00000000#32)
def dv : FVec Ideal (Mat 256 128) .f32 :=
  matmul (overRows n 256 128) none (truncf .bf16 (weight S x) narrows) x.o (constant (Mat 256 128) .f32 0x00000000#32)

/-- The two running sums after the block. -/
def lrunNext : FVec Ideal (Mat n 1) .f32 :=
  addf x.lrun (shapeCast (Mat n 1) (multiReduction .add [1] ⟨1, ![n]⟩ (lm x) 0x00000000#32 S.sums (.inl rfl) rfl) S.column)
def grunNext : FVec Ideal (Mat n 1) .f32 :=
  addf x.grun (shapeCast (Mat n 1) (multiReduction .add [1] ⟨1, ![n]⟩ (grad S x) 0x00000000#32 S.sums (.inl rfl) rfl) S.column)

end Cert.Block

end
-- ==== Proof.BlockValue.lean ====
/- The block's vectors at real inputs: entry by entry they are the reals of the stick-breaking gradient. -/
module

public import proofs.«01_k».proof.Proof.Block

@[expose] public section

noncomputable section

namespace Cert.Block

open Idealize.ShloMosaic Cert.Stick
open scoped BigOperators

/-- The scores of a head, from its scaled queries and its keys. -/
def scores (Q K : ℕ → Fin 128 → ℝ) (t s : ℕ) : ℝ := ∑ c, Q t c * K s c

/-- The inputs of the block whose first key is `r` are real: rows `r, r + 1, …` of the head's matrices, the totals and the sums over the keys before `r`. -/
structure Reads {n : ℕ} (x : In n) (r : ℕ) (Q O K V : ℕ → Fin 128 → ℝ) (on : Fin 128 → Prop) : Prop where
  q : ∀ i c, x.q (ix2 i c) = (Q (r + i.val) c : EReal)
  o : ∀ i c, x.o (ix2 i c) = (O (r + i.val) c : EReal)
  k : ∀ j c, x.k (ix2 j c) = (K (r + j.val) c : EReal)
  v : ∀ j c, x.v (ix2 j c) = (V (r + j.val) c : EReal)
  total : ∀ i, x.total (ix2 i 0) = (lpre (scores Q K) (r + i.val) 2048 : EReal)
  lrun : ∀ i, x.lrun (ix2 i 0) = (lpre (scores Q K) (r + i.val) r : EReal)
  grun : ∀ i, x.grun (ix2 i 0) = (gpre (scores Q K) (scores O V) (r + i.val) r : EReal)
  before : ∀ i j, x.before (ix2 i j) = BitVec.ofBool (decide (j.val < i.val))
  upto : ∀ i j, x.upto (ix2 i j) = ((if i.val < j.val + 1 then 1 else 0 : ℝ) : EReal)
  below : ∀ i j, x.below (ix2 i j) = ((if i.val < j.val then 1 else 0 : ℝ) : EReal)
  lanes : ∀ c, on c ↔ x.lanes (ix2 0 c) = 1

theorem sum_coe {ι : Type} [Fintype ι] (f : ι → ℝ) : ∑ i, (f i : EReal) = ((∑ i, f i : ℝ) : EReal) := (coe_sum Finset.univ f).symm

theorem zeros_apply (a b : ℕ) (i : Shape.Idx (Mat a b)) : zeros a b i = ((0 : ℝ) : EReal) := Ideal.ofBits_zero_f32

theorem rows_contr_rank (K M N : ℕ) : (overRows K M N).contr.rank = 1 := rfl
theorem rows_contr_size (K M N : ℕ) : (overRows K M N).contr.size ⟨0, by rw [rows_contr_rank]; exact Nat.one_pos⟩ = K := rfl

theorem overRows_apply {K M N : ℕ} {φ₁ φ₂ : FTy} (prec : Option ContractPrecision)
    (a : FVec Ideal (Mat K M) φ₁) (b : FVec Ideal (Mat K N) φ₂) (acc : FVec Ideal (Mat M N) .f32) (r : Fin M) (c : Fin N) :
    FloatOps.matmul (overRows K M N) prec a b acc (ix2 r c) = acc (ix2 r c) + ∑ k : Fin K, a (ix2 k r) * b (ix2 k c) := by
  rw [Ideal.matmul_apply, ← Equiv.sum_comp (ValueIdx.contrEquiv1 _ K (rows_contr_rank K M N) (rows_contr_size K M N)).symm]
  refine congrArg (acc (ix2 r c) + ·) (Finset.sum_congr rfl fun k _ => ?_)
  have hk := ValueIdx.contrEquiv1_symm_val _ K (rows_contr_rank K M N) (rows_contr_size K M N) k
  have el : (overRows K M N).lhsIdx (ix2 r c) ((ValueIdx.contrEquiv1 _ K (rows_contr_rank K M N) (rows_contr_size K M N)).symm k) = ix2 k r := by
    funext a; apply Fin.ext
    match a with
    | ⟨0, _⟩ => exact hk
    | ⟨1, _⟩ => rfl
  have er : (overRows K M N).rhsIdx (ix2 r c) ((ValueIdx.contrEquiv1 _ K (rows_contr_rank K M N) (rows_contr_size K M N)).symm k) = ix2 k c := by
    funext a; apply Fin.ext
    match a with
    | ⟨0, _⟩ => exact hk
    | ⟨1, _⟩ => rfl
  rw [el, er]

/-! Products of real matrices onto zeros. -/

theorem plain_real {K M N : ℕ} {φ₁ φ₂ : FTy} (a : FVec Ideal (Mat M K) φ₁) (b : FVec Ideal (Mat K N) φ₂) (r : Fin M) (c : Fin N)
    (f g : Fin K → ℝ) (ha : ∀ k, a (ix2 r k) = (f k : EReal)) (hb : ∀ k, b (ix2 k c) = (g k : EReal)) :
    matmul (DotDims.plain M K N) none a b (constant (Mat M N) .f32 0x00000000#32) (ix2 r c) = ((∑ k, f k * g k : ℝ) : EReal) := by
  refine (Ideal.matmul_plain_apply none a b _ r c).trans ?_
  change constant (F := Ideal) (Mat M N) .f32 0x00000000#32 (ix2 r c) + ∑ k, a (ix2 r k) * b (ix2 k c) = _
  rw [show constant (F := Ideal) (Mat M N) .f32 0x00000000#32 (ix2 r c) = 0 from Ideal.ofBits_zero_f32, zero_add, ← sum_coe]
  exact Finset.sum_congr rfl fun k _ => by rw [ha, hb, EReal.coe_mul]

theorem transposed_real {K M N : ℕ} {φ₁ φ₂ : FTy} (a : FVec Ideal (Mat M K) φ₁) (b : FVec Ideal (Mat N K) φ₂) (r : Fin M) (c : Fin N)
    (f g : Fin K → ℝ) (ha : ∀ k, a (ix2 r k) = (f k : EReal)) (hb : ∀ k, b (ix2 c k) = (g k : EReal)) :
    matmul (DotDims.transposedRhs M K N) none a b (constant (Mat M N) .f32 0x00000000#32) (ix2 r c) = ((∑ k, f k * g k : ℝ) : EReal) := by
  refine (Ideal.matmul_transposedRhs_apply none a b _ r c).trans ?_
  change constant (F := Ideal) (Mat M N) .f32 0x00000000#32 (ix2 r c) + ∑ k, a (ix2 r k) * b (ix2 c k) = _
  rw [show constant (F := Ideal) (Mat M N) .f32 0x00000000#32 (ix2 r c) = 0 from Ideal.ofBits_zero_f32, zero_add, ← sum_coe]
  exact Finset.sum_congr rfl fun k _ => by rw [ha, hb, EReal.coe_mul]

theorem overRows_real {K M N : ℕ} {φ₁ φ₂ : FTy} (a : FVec Ideal (Mat K M) φ₁) (b : FVec Ideal (Mat K N) φ₂) (r : Fin M) (c : Fin N)
    (f g : Fin K → ℝ) (ha : ∀ k, a (ix2 k r) = (f k : EReal)) (hb : ∀ k, b (ix2 k c) = (g k : EReal)) :
    matmul (overRows K M N) none a b (constant (Mat M N) .f32 0x00000000#32) (ix2 r c) = ((∑ k, f k * g k : ℝ) : EReal) := by
  refine (overRows_apply none a b _ r c).trans ?_
  rw [show constant (F := Ideal) (Mat M N) .f32 0x00000000#32 (ix2 r c) = 0 from Ideal.ofBits_zero_f32, zero_add, ← sum_coe]
  exact Finset.sum_congr rfl fun k _ => by rw [ha, hb, EReal.coe_mul]

/-- A column over a block's keys. -/
theorem spread_apply {n : ℕ} (u : FVec Ideal (Mat n 1) .f32) (h : (Mat n 1).Broadcasts (Mat n 256)) (i : Fin n) (j : Fin 256) :
    broadcastTo (Mat n 256) u h (ix2 i j) = u (ix2 i 0) := by
  refine congrArg u (funext fun a => Fin.ext ?_)
  match a with
  | ⟨0, _⟩ => have := i.isLt; by_cases h1 : n = 1 <;> simp [h1, ix2]; omega
  | ⟨1, _⟩ => simp [ix2]

/-- A row of lanes over a block's keys. -/
theorem lanes_apply {α : Type} {m : ℕ} (u : Shape.Idx (Mat 1 128) → α) (h : (Mat 1 128).Broadcasts (Mat m 128)) (i : Fin m) (c : Fin 128) :
    broadcastTo (Mat m 128) u h (ix2 i c) = u (ix2 0 c) := by
  refine congrArg u (funext fun a => Fin.ext ?_)
  match a with
  | ⟨0, _⟩ => simp [ix2]
  | ⟨1, _⟩ => simp [ix2]

/-- A list of numbers as a column. -/
theorem column_apply {α : Type} {n : ℕ} (u : Shape.Idx ⟨1, ![n]⟩ → α) (h : (⟨1, ![n]⟩ : Shape).ShapeCasts (Mat n 1)) (i : Fin n) :
    shapeCast (Mat n 1) u h (ix2 i 0) = u (ix1 i) := by
  refine congrArg u (Shape.reshapeEquiv_eq_of_rowMajor h ?_)
  rw [rowMajor_val1, rowMajor_val2 _ 1 rfl]
  simp

/-- A block's row sums as a column. -/
theorem rowSum_real {n : ℕ} (S : Fits n) (u : FVec Ideal (Mat n 256) .f32) (i : Fin n) (f : Fin 256 → ℝ) (h : ∀ j, u (ix2 i j) = (f j : EReal)) :
    shapeCast (Mat n 1) (multiReduction .add [1] ⟨1, ![n]⟩ u 0x00000000#32 S.sums (.inl rfl) rfl) S.column (ix2 i 0) = ((∑ j, f j : ℝ) : EReal) := by
  rw [← sum_coe, column_apply]
  refine (Ideal.reduceAdd_r2_a1 S.sums u (ix1 i)).trans (Finset.sum_congr rfl fun j _ => ?_)
  rw [← h j]
  rfl

variable {n : ℕ} (S : Fits n) {x : In n} {r : ℕ} {Q O K V : ℕ → Fin 128 → ℝ} {on : Fin 128 → Prop} (R : Reads x r Q O K V on)

include R

theorem score_real (i : Fin n) (j : Fin 256) : score x (ix2 i j) = (scores Q K (r + i.val) (r + j.val) : EReal) :=
  transposed_real x.q x.k i j _ _ (R.q i) (R.k j)

theorem lsp_real (i : Fin n) (j : Fin 256) : lsp x (ix2 i j) = (lsig (scores Q K (r + i.val) (r + j.val)) : EReal) := by
  show min (score x (ix2 i j)) (zeros n 256 (ix2 i j)) - Ideal.log (FloatOps.ofBits (F := Ideal) .f32 0x3F800000#32 +
    Ideal.exp (zeros n 256 (ix2 i j) - max (score x (ix2 i j)) (-score x (ix2 i j)))) = _
  rw [score_real R, zeros_apply, show FloatOps.ofBits (F := Ideal) .f32 0x3F800000#32 = ((1 : ℝ) : EReal) from Ideal.ofBits_one_f32,
    ← EReal.coe_neg, ← EReal.coe_strictMono.monotone.map_max, ← EReal.coe_strictMono.monotone.map_min, ← EReal.coe_sub, Ideal.exp_coe, ← EReal.coe_add, Ideal.log_coe,
    if_neg (not_le.2 (by positivity)), ← EReal.coe_sub]
  unfold lsig
  rw [zero_sub, abs_eq_max_neg]

theorem lraw_real (i : Fin n) (j : Fin 256) : lraw x (ix2 i j) = (lneg (scores Q K (r + i.val) (r + j.val)) : EReal) := by
  show lsp x (ix2 i j) - score x (ix2 i j) = _
  rw [lsp_real R, score_real R, ← EReal.coe_sub]; rfl

/-- A selection by the order of keys and queries. -/
theorem select_real {φ : FTy} (a b : FVec Ideal (Mat n 256) φ) (i : Fin n) (j : Fin 256) (f g : ℝ)
    (ha : j.val < i.val → a (ix2 i j) = (f : EReal)) (hb : b (ix2 i j) = (g : EReal)) :
    select x.before a b (ix2 i j) = ((if r + j.val < r + i.val then f else g : ℝ) : EReal) := by
  show (if x.before (ix2 i j) = 1 then a (ix2 i j) else b (ix2 i j)) = _
  rw [R.before]
  by_cases h : j.val < i.val
  · rw [if_pos (by simp [h]), if_pos (by omega), ha h]
  · rw [if_neg (by simp [h]), if_neg (by omega), hb]

theorem lm_real (i : Fin n) (j : Fin 256) : lm x (ix2 i j) = (Stick.lm (scores Q K) (r + i.val) (r + j.val) : EReal) :=
  select_real R _ _ i j _ 0 (fun _ => lraw_real R i j) (zeros_apply _ _ _)

theorem split_real (i : Fin n) (j : Fin 256) :
    split x (ix2 i j) = ((lpre (scores Q K) (r + i.val) (r + j.val + 1) - lpre (scores Q K) (r + i.val) r : ℝ) : EReal) := by
  have h1 := plain_real (truncf .bf16 (lm x) narrows) x.upto i j _ _ (lm_real R i) fun k => R.upto k j
  have h2 := plain_real (truncf .bf16 (subf (lm x) (extf .f32 (truncf .bf16 (lm x) narrows) narrows)) narrows) x.upto i j (fun _ => 0) _
    (fun k => by
      show lm x (ix2 i k) - lm x (ix2 i k) = _
      rw [lm_real R, ← EReal.coe_sub, sub_self]) fun k => R.upto k j
  show matmul (DotDims.plain n 256 256) none _ _ _ _ + matmul (DotDims.plain n 256 256) none _ _ _ _ = _
  rw [h1, h2, ← EReal.coe_add, sum_upto (fun k => Stick.lm (scores Q K) (r + i.val) (r + k)) (show j.val + 1 ≤ 256 by omega),
    add_assoc r, lpre_add]
  simp

theorem weight_real (i : Fin n) (j : Fin 256) : weight S x (ix2 i j) = (wt (scores Q K) (r + i.val) (r + j.val) : EReal) := by
  refine select_real R _ _ i j _ 0 (fun _ => ?_) (zeros_apply _ _ _)
  show Ideal.exp (lsp x (ix2 i j) + (broadcastTo (Mat n 256) x.total S.spread (ix2 i j) -
    (broadcastTo (Mat n 256) x.lrun S.spread (ix2 i j) + split x (ix2 i j)))) = _
  rw [spread_apply, spread_apply, lsp_real R, split_real R, R.total, R.lrun, ← EReal.coe_add, ← EReal.coe_sub, ← EReal.coe_add, Ideal.exp_coe]
  congr 4; ring

theorem grad_real (i : Fin n) (j : Fin 256) : grad S x (ix2 i j) = (gt (scores Q K) (scores O V) (r + i.val) (r + j.val) : EReal) := by
  show matmul (DotDims.transposedRhs n 128 256) none x.o x.v _ (ix2 i j) * weight S x (ix2 i j) = _
  rw [transposed_real x.o x.v i j _ _ (R.o i) (R.v j), weight_real S R, ← EReal.coe_mul]; rfl

theorem dz_real (i : Fin n) (j : Fin 256) : dz S x (ix2 i j) = (Stick.dz (scores Q K) (scores O V) (r + i.val) (r + j.val) : EReal) := by
  refine select_real R _ _ i j _ 0 (fun _ => ?_) (zeros_apply _ _ _)
  show grad S x (ix2 i j) * Ideal.exp (lraw x (ix2 i j)) - Ideal.exp (lsp x (ix2 i j)) * (broadcastTo (Mat n 256) x.grun S.spread (ix2 i j) +
    matmul (DotDims.plain n 256 256) none (truncf .bf16 (grad S x) narrows) x.below _ (ix2 i j)) = _
  rw [plain_real (truncf .bf16 (grad S x) narrows) x.below i j _ _ (grad_real S R i) fun k => R.below k j, spread_apply, grad_real S R,
    lraw_real R, lsp_real R, R.grun, Ideal.exp_coe, Ideal.exp_coe, ← EReal.coe_add, ← EReal.coe_mul, ← EReal.coe_mul, ← EReal.coe_sub,
    sum_upto (fun k => gt (scores Q K) (scores O V) (r + i.val) (r + k)) (show j.val ≤ 256 by omega), ← gpre_add]

theorem kept_real [DecidablePred on] (j : Fin 256) (c : Fin 128) : kept S x (ix2 j c) = ((if on c then K (r + j.val) c else 0 : ℝ) : EReal) := by
  have h1 : shapeCast (Mat 1 128) x.lanes S.same = x.lanes := shapeCast_id _ _
  show (if broadcastTo (Mat 256 128) (shapeCast (Mat 1 128) x.lanes S.same) S.lanes (ix2 j c) = 1 then x.k (ix2 j c)
    else FloatOps.ofBits (F := Ideal) .f32 0x00000000#32) = _
  rw [lanes_apply, h1, R.k]
  by_cases h : on c
  · rw [if_pos ((R.lanes c).1 h), if_pos h]
  · rw [if_neg (fun e => h ((R.lanes c).2 e)), if_neg h]; exact Ideal.ofBits_zero_f32

theorem dq_real [DecidablePred on] (i : Fin n) (c : Fin 128) :
    dq S x (ix2 i c) = ((∑ j : Fin 256, Stick.dz (scores Q K) (scores O V) (r + i.val) (r + j.val) * (if on c then K (r + j.val) c else 0) : ℝ) : EReal) :=
  plain_real _ _ i c _ _ (dz_real S R i) fun j => kept_real S R j c

theorem dk_real (j : Fin 256) (c : Fin 128) :
    dk S x (ix2 j c) = ((∑ i : Fin n, Stick.dz (scores Q K) (scores O V) (r + i.val) (r + j.val) * Q (r + i.val) c : ℝ) : EReal) :=
  overRows_real _ _ j c _ _ (fun i => dz_real S R i j) fun i => R.q i c

theorem dv_real (j : Fin 256) (c : Fin 128) :
    dv S x (ix2 j c) = ((∑ i : Fin n, wt (scores Q K) (r + i.val) (r + j.val) * O (r + i.val) c : ℝ) : EReal) :=
  overRows_real _ _ j c _ _ (fun i => weight_real S R i j) fun i => R.o i c

theorem lrunNext_real (i : Fin n) : lrunNext S x (ix2 i 0) = (lpre (scores Q K) (r + i.val) (r + 256) : EReal) := by
  show x.lrun (ix2 i 0) + shapeCast (Mat n 1) _ S.column (ix2 i 0) = _
  rw [rowSum_real S (lm x) i _ (lm_real R i), R.lrun, ← EReal.coe_add, lpre_add, Finset.sum_range]

theorem grunNext_real (i : Fin n) : grunNext S x (ix2 i 0) = (gpre (scores Q K) (scores O V) (r + i.val) (r + 256) : EReal) := by
  show x.grun (ix2 i 0) + shapeCast (Mat n 1) _ S.column (ix2 i 0) = _
  rw [rowSum_real S (grad S x) i _ (grad_real S R i), R.grun, ← EReal.coe_add, gpre_add, Finset.sum_range]

end Cert.Block

end
-- ==== Proof.Trips.lean ====
/- The blocks of keys one after another: what the kernel keeps for each head between two blocks, and what one block adds to the
   three sums that it accumulates in memory. -/
module

public import Idealize.ShloMosaic.Lib.Pipeline.FrameBody
public import proofs.«01_k».proof.Proof.BlockValue

@[expose] public section

noncomputable section

namespace Cert.Block

open Idealize.ShloMosaic Idealize.SL.Sem

/-- A stack of matrices' shape. -/
abbrev Stack (a n m : ℕ) : Shape := ⟨3, ![a, n, m]⟩

/-- What a head keeps for the whole sequence. -/
structure Head where
  q : FVec Ideal (Mat 2048 128) .bf16
  o : FVec Ideal (Mat 2048 128) .bf16
  total : FVec Ideal (Mat 2048 1) .f32
  lanes : IVec (Mat 1 128) 1

/-- The two running sums of a head. -/
structure Sums where
  l : FVec Ideal (Mat 2048 1) .f32
  g : FVec Ideal (Mat 2048 1) .f32

/-- The two triangles of ones. -/
structure Tris where
  upto : FVec Ideal (Mat 256 256) .bf16
  below : FVec Ideal (Mat 256 256) .bf16

/-- The last `n` of 2048 rows, from row `r` on. -/
structure Cuts (r n : ℕ) : Prop where
  lanes : (Mat 2048 128).Slices ![r, 0] (Mat n 128)
  column : (Mat 2048 1).Slices ![r, 0] (Mat n 1)
  top : (Mat 2048 1).Slices ![0, 0] (Mat r 1)
  keys : (Mat 2048 256).Slices ![0, 0] (Mat n 256)
  join : Shape.Concatenates [Mat r 1, Mat n 1] (Mat 2048 1) 0

theorem cuts {r n : ℕ} (h : r + n = 2048) : Cuts r n where
  lanes := ⟨rfl, fun a => by match a with | ⟨0, _⟩ => exact h.le | ⟨1, _⟩ => exact le_rfl⟩
  column := ⟨rfl, fun a => by match a with | ⟨0, _⟩ => exact h.le | ⟨1, _⟩ => exact le_rfl⟩
  top := ⟨rfl, fun a => by match a with | ⟨0, _⟩ => show 0 + r ≤ 2048; omega | ⟨1, _⟩ => exact le_rfl⟩
  keys := ⟨rfl, fun a => by match a with | ⟨0, _⟩ => show 0 + n ≤ 2048; omega | ⟨1, _⟩ => exact le_rfl⟩
  join := ⟨le_rfl, fun s hs => by
    rcases List.mem_pair.1 hs with rfl | rfl
    · exact ⟨rfl, fun b hb => by match b with | ⟨0, _⟩ => exact absurd rfl hb | ⟨1, _⟩ => rfl⟩
    · exact ⟨rfl, fun b hb => by match b with | ⟨0, _⟩ => exact absurd rfl hb | ⟨1, _⟩ => rfl⟩, by simpa using h⟩

theorem fits (n : ℕ) : Fits n where
  spread := ⟨le_rfl, fun a => by match a with | ⟨0, _⟩ => exact .inr fun _ => rfl | ⟨1, _⟩ => exact .inl rfl⟩
  lanes := ⟨le_rfl, fun a => by match a with | ⟨0, _⟩ => exact .inl rfl | ⟨1, _⟩ => exact .inr fun _ => rfl⟩
  same := rfl
  sums := ⟨rfl, Nat.one_pos, fun b => by match b with | ⟨0, _⟩ => rfl⟩
  column := by simp [Shape.ShapeCasts, Shape.numel]

variable {r n : ℕ} (C : Cuts r n) (S : Fits n)

/-- Which key of a block lies before which query, of `n` queries. -/
def order (rows keys : IVec (Mat 2048 256) 32) : IVec (Mat n 256) 1 :=
  cmpi .slt (extractStridedSlice (Mat n 256) ![0, 0] keys C.keys) (extractStridedSlice (Mat n 256) ![0, 0] rows C.keys)

/-- A head's inputs at the block whose first key is `r`. -/
def Head.at (H : Head) (s : Sums) (T : Tris) (before : IVec (Mat n 256) 1) (k v : FVec Ideal (Mat 256 128) .bf16) : In n where
  q := extractStridedSlice (Mat n 128) ![r, 0] H.q C.lanes
  o := extractStridedSlice (Mat n 128) ![r, 0] H.o C.lanes
  total := extractStridedSlice (Mat n 1) ![r, 0] H.total C.column
  lrun := extractStridedSlice (Mat n 1) ![r, 0] s.l C.column
  grun := extractStridedSlice (Mat n 1) ![r, 0] s.g C.column
  before := before
  k := k
  v := v
  upto := T.upto
  below := T.below
  lanes := H.lanes

/-- A head's inputs at the first block, where nothing is cut off. -/
def Head.start (H : Head) (s : Sums) (T : Tris) (before : IVec (Mat 2048 256) 1) (k v : FVec Ideal (Mat 256 128) .bf16) : In 2048 where
  q := H.q
  o := H.o
  total := H.total
  lrun := s.l
  grun := s.g
  before := before
  k := k
  v := v
  upto := T.upto
  below := T.below
  lanes := H.lanes

/-- A column whose last `n` rows are replaced. -/
def grow (u : FVec Ideal (Mat 2048 1) .f32) (w : FVec Ideal (Mat n 1) .f32) : FVec Ideal (Mat 2048 1) .f32 :=
  concatenate (Mat 2048 1) 0 [⟨Mat r 1, extractStridedSlice (Mat r 1) ![0, 0] u C.top⟩, ⟨Mat n 1, w⟩] C.join

/-- The running sums after a block. -/
def Sums.next (s : Sums) (x : In n) : Sums := ⟨grow C s.l (lrunNext S x), grow C s.g (grunNext S x)⟩

/-- A row block's gradient sum with what two heads add. -/
def addRows (old u w : FVec Ideal (Mat 256 128) .f32) : FVec Ideal (Mat 256 128) .f32 :=
  shapeCast (Mat 256 128) (addf old (addf (addf (zeros 256 128) u) w)) rfl

/-- A head's query gradients with what a block adds. -/
def addHead (h : (Stack 1 n 128).ShapeCasts (Mat n 128)) (old : FVec Ideal (Stack 1 n 128) .f32) (u : FVec Ideal (Mat n 128) .f32) :
    FVec Ideal (Stack 1 n 128) .f32 :=
  shapeCast (Stack 1 n 128) (addf (shapeCast (Mat n 128) old h) u) h.symm

end Cert.Block

end
-- ==== Proof.Bridge.lean ====
/- The kernel's run at one grid point, read as its blocks of keys in order: the names that the run gives its values are the ones of
   the blocks' own description. -/
module

public import proofs.«01_k».proof.Proof.Trips
public import proofs.«01_k».proof.Proof.Gen.KernelIdeal.Frame

@[expose] public section

set_option maxRecDepth 16384

noncomputable section

namespace Cert.Bridge

open Idealize.ShloMosaic Idealize.ShloMosaic.TcCoe Idealize.SL.Sem Cert.KernelIdeal Cert.KernelIdeal.Gen Cert.Block
open Cert.KernelIdeal.Gen.kernelRun0_A

/-- A grid point, the kernel's buffers there and the contents of its five inputs. -/
structure Run where
  c : Dev nD
  i : grid0.Coords
  arg1 : Memref sig .tc .vmem S2048x128 .bf16
  harg1 : arg1.IsWhole
  arg2 : Memref sig .tc .vmem S2048x128 .bf16
  harg2 : arg2.IsWhole
  arg3 : Memref sig .tc .vmem S2048x128 .bf16
  harg3 : arg3.IsWhole
  arg4 : Memref sig .tc .vmem S2048x128 .f32
  harg4 : arg4.IsWhole
  arg5 : Memref sig .tc .vmem S2048x128 .bf16
  harg5 : arg5.IsWhole
  arg6 : Memref sig .tc .vmem S3x2048x128 .bf16
  harg6 : arg6.IsWhole
  arg7 : Memref sig .tc .vmem S2048x128 .f32
  harg7 : arg7.IsWhole
  arg8 : Memref sig .tc .vmem S2048x128 .f32
  harg8 : arg8.IsWhole
  arg9 : Memref sig .tc .vmem S2x2048x128 .f32
  harg9 : arg9.IsWhole
  x0 : Vec Ideal S2048x128 .bf16
  x1 : Vec Ideal S2048x128 .bf16
  x2 : Vec Ideal S2048x128 .bf16
  x3 : Vec Ideal S2048x128 .f32
  x4 : Vec Ideal S2048x128 .bf16

namespace Run

/-- A value that the run names, at this grid point. -/
def get {β : Type} (f : (c : Dev nD) → (i : grid0.Coords) → (arg1 : Memref sig .tc .vmem S2048x128 .bf16) → (harg1 : arg1.IsWhole) → (arg2 : Memref sig .tc .vmem S2048x128 .bf16) → (harg2 : arg2.IsWhole) → (arg3 : Memref sig .tc .vmem S2048x128 .bf16) → (harg3 : arg3.IsWhole) → (arg4 : Memref sig .tc .vmem S2048x128 .f32) → (harg4 : arg4.IsWhole) → (arg5 : Memref sig .tc .vmem S2048x128 .bf16) → (harg5 : arg5.IsWhole) → (arg6 : Memref sig .tc .vmem S3x2048x128 .bf16) → (harg6 : arg6.IsWhole) → (arg7 : Memref sig .tc .vmem S2048x128 .f32) → (harg7 : arg7.IsWhole) → (arg8 : Memref sig .tc .vmem S2048x128 .f32) → (harg8 : arg8.IsWhole) → (arg9 : Memref sig .tc .vmem S2x2048x128 .f32) → (harg9 : arg9.IsWhole) → Vec Ideal S2048x128 .bf16 → Vec Ideal S2048x128 .bf16 → Vec Ideal S2048x128 .bf16 → Vec Ideal S2048x128 .f32 → Vec Ideal S2048x128 .bf16 → β) (E : Run) : β :=
  f E.c E.i E.arg1 E.harg1 E.arg2 E.harg2 E.arg3 E.harg3 E.arg4 E.harg4 E.arg5 E.harg5 E.arg6 E.harg6 E.arg7 E.harg7 E.arg8 E.harg8 E.arg9 E.harg9 E.x0 E.x1 E.x2 E.x3 E.x4

variable (E : Run)

/-- The head's queries, scaled, and its part of the result's gradient, each with the other head's lanes at zero. -/
def head : Fin 2 → Head
  | 0 => ⟨sl.r_3 E.c E.arg1 E.harg1 E.x0, sl.r_5 E.c E.arg5 E.harg5 E.x4, sl.r_7 E.c E.arg4 E.harg4 E.x3, k0_pay60⟩
  | 1 => ⟨sl.r_4 E.c E.arg1 E.harg1 E.x0, sl.r_6 E.c E.arg5 E.harg5 E.x4, sl.r_8 E.c E.arg4 E.harg4 E.x3, k0_pay61⟩

/-- The running sums before each block. -/
def sums : Fin 2 → ℕ → Sums
  | 0, 0 => ⟨E.get sl.r_9, E.get sl.r_11⟩
  | 0, 1 => ⟨E.get sl.r_22, E.get sl.r_23⟩
  | 0, 2 => ⟨E.get sl.r_46, E.get sl.r_47⟩
  | 0, 3 => ⟨E.get sl.r_76, E.get sl.r_77⟩
  | 0, 4 => ⟨E.get sl.r_105, E.get sl.r_106⟩
  | 0, 5 => ⟨E.get sl.r_133, E.get sl.r_134⟩
  | 0, 6 => ⟨E.get sl.r_160, E.get sl.r_161⟩
  | 0, _ => ⟨E.get sl.r_187, E.get sl.r_188⟩
  | 1, 0 => ⟨E.get sl.r_10, E.get sl.r_12⟩
  | 1, 1 => ⟨E.get sl.r_30, E.get sl.r_31⟩
  | 1, 2 => ⟨E.get sl.r_60, E.get sl.r_61⟩
  | 1, 3 => ⟨E.get sl.r_90, E.get sl.r_91⟩
  | 1, 4 => ⟨E.get sl.r_118, E.get sl.r_119⟩
  | 1, 5 => ⟨E.get sl.r_146, E.get sl.r_147⟩
  | 1, 6 => ⟨E.get sl.r_171, E.get sl.r_173⟩
  | 1, _ => ⟨E.get sl.r_197, E.get sl.r_198⟩

/-- What is stored, last first, of the keys' gradient before each block; -/
def dk : ℕ → List (View.Piece (Elt Ideal) S2048x128 .f32)
  | 0 => sl.HS0_1
  | 1 => E.get sl.HS0_2
  | 2 => E.get sl.HS0_3
  | 3 => E.get sl.HS0_4
  | 4 => E.get sl.HS0_5
  | 5 => E.get sl.HS0_6
  | 6 => E.get sl.HS0_7
  | 7 => E.get sl.HS0_8
  | _ => E.get sl.HS0_9

/-- of the values' gradient; -/
def dv : ℕ → List (View.Piece (Elt Ideal) S2048x128 .f32)
  | 0 => sl.HS1_1
  | 1 => E.get sl.HS1_2
  | 2 => E.get sl.HS1_3
  | 3 => E.get sl.HS1_4
  | 4 => E.get sl.HS1_5
  | 5 => E.get sl.HS1_6
  | 6 => E.get sl.HS1_7
  | 7 => E.get sl.HS1_8
  | _ => E.get sl.HS1_9

/-- and of the queries' gradient, where the two heads take turns. -/
def dq : ℕ → List (View.Piece (Elt Ideal) S2x2048x128 .f32)
  | 0 => sl.HS2_1
  | 1 => E.get sl.HS2_2
  | 2 => E.get sl.HS2_3
  | 3 => E.get sl.HS2_4
  | 4 => E.get sl.HS2_5
  | 5 => E.get sl.HS2_6
  | 6 => E.get sl.HS2_7
  | 7 => E.get sl.HS2_8
  | 8 => E.get sl.HS2_9
  | 9 => E.get sl.HS2_10
  | 10 => E.get sl.HS2_11
  | 11 => E.get sl.HS2_12
  | 12 => E.get sl.HS2_13
  | 13 => E.get sl.HS2_14
  | 14 => E.get sl.HS2_15
  | 15 => E.get sl.HS2_16
  | _ => E.get sl.HS2_17

/-- The rows from `r` on of the keys' block and of the values' block. -/
def keys (r : ℕ) (h : ∀ a, (![r, 0] : Fin 2 → ℕ) a + S256x128.size a ≤ S2048x128.size a) : FVec Ideal S256x128 .bf16 :=
  E.arg2.view.readAt (Elt Ideal) (Rect.unit (s := S2048x128) ![r, 0] S256x128.size h).toLoadRect (E.harg2.unread E.x1)
def vals (r : ℕ) (h : ∀ a, (![r, 0] : Fin 2 → ℕ) a + S256x128.size a ≤ S2048x128.size a) : FVec Ideal S256x128 .bf16 :=
  E.arg3.view.readAt (Elt Ideal) (Rect.unit (s := S2048x128) ![r, 0] S256x128.size h).toLoadRect (E.harg3.unread E.x2)

/-- The triangles of ones. -/
def tris : Tris := ⟨k0_pay62, k0_pay63⟩

/-- The numbers of a block's rows and columns. -/
def rowNo : IVec S2048x256 32 := iota .tc S2048x256 32 [0] iota_S2048x256_d0_w32
def keyNo : IVec S2048x256 32 := iota .tc S2048x256 32 [1] iota_S2048x256_d1_w32

/-- A head's inputs at block `d`, whose first key is `r`. -/
def inp (h : Fin 2) (d : ℕ) {r n : ℕ} (C : Cuts r n) (hk : ∀ a, (![r, 0] : Fin 2 → ℕ) a + S256x128.size a ≤ S2048x128.size a) : In n :=
  (E.head h).at C (E.sums h d) tris (order C rowNo keyNo) (E.keys r hk) (E.vals r hk)

/-- A head's inputs at the first block. -/
def inp0 (h : Fin 2) (hk : ∀ a, (![0, 0] : Fin 2 → ℕ) a + S256x128.size a ≤ S2048x128.size a) : In 2048 :=
  (E.head h).start (E.sums h 0) tris (cmpi .slt keyNo rowNo) (E.keys 0 hk) (E.vals 0 hk)

/-- A piece of 256 rows stored onto what is there. -/
def pushRows (M : Memref sig .tc .vmem S2048x128 .f32) (r : ℕ) (hk : ∀ a, (![r, 0] : Fin 2 → ℕ) a + S256x128.size a ≤ S2048x128.size a)
    (L : List (View.Piece (Elt Ideal) S2048x128 .f32)) (u w : FVec Ideal S256x128 .f32) : List (View.Piece (Elt Ideal) S2048x128 .f32) :=
  ⟨Rect.unit (s := S2048x128) ![r, 0] S256x128.size hk, addRows (M.view.readCov L (Rect.unit (s := S2048x128) ![r, 0] S256x128.size hk).toLoadRect) u w⟩ :: L

/-- A piece of a head's last `n` rows stored onto what is there. -/
def pushHead (M : Memref sig .tc .vmem S2x2048x128 .f32) (b : ℕ) {r n : ℕ}
    (hq : ∀ a, (![b, r, 0] : Fin 3 → ℕ) a + (Stack 1 n 128).size a ≤ S2x2048x128.size a) (hc : (Stack 1 n 128).ShapeCasts (Mat n 128))
    (L : List (View.Piece (Elt Ideal) S2x2048x128 .f32)) (u : FVec Ideal (Mat n 128) .f32) : List (View.Piece (Elt Ideal) S2x2048x128 .f32) :=
  ⟨Rect.unit (s := S2x2048x128) ![b, r, 0] (Stack 1 n 128).size hq, addHead hc (M.view.readCov L (Rect.unit (s := S2x2048x128) ![b, r, 0] (Stack 1 n 128).size hq).toLoadRect) u⟩ :: L

/-- The run's values at block `d` are the block's. -/
structure Step (d r n : ℕ) : Prop where
  C : Cuts r n
  hk : ∀ a, (![r, 0] : Fin 2 → ℕ) a + S256x128.size a ≤ S2048x128.size a
  hq : ∀ h : Fin 2, ∀ a, (![h.val, r, 0] : Fin 3 → ℕ) a + (Stack 1 n 128).size a ≤ S2x2048x128.size a
  hc : (Stack 1 n 128).ShapeCasts (Mat n 128)
  dk : E.dk (d + 1) = pushRows E.arg7 r hk (E.dk d) (Block.dk (fits n) (E.inp 0 d C hk)) (Block.dk (fits n) (E.inp 1 d C hk))
  dv : E.dv (d + 1) = pushRows E.arg8 r hk (E.dv d) (Block.dv (fits n) (E.inp 0 d C hk)) (Block.dv (fits n) (E.inp 1 d C hk))
  dq0 : E.dq (2 * d + 1) = pushHead E.arg9 0 (hq 0) hc (E.dq (2 * d)) (Block.dq (fits n) (E.inp 0 d C hk))
  dq1 : E.dq (2 * d + 2) = pushHead E.arg9 1 (hq 1) hc (E.dq (2 * d + 1)) (Block.dq (fits n) (E.inp 1 d C hk))

theorem inb_rows {r : ℕ} (h : r + 256 ≤ 2048) (a : Fin 2) : (![r, 0] : Fin 2 → ℕ) a + S256x128.size a ≤ S2048x128.size a := by
  match a with
  | ⟨0, _⟩ => exact h
  | ⟨1, _⟩ => exact le_rfl

theorem inb_head {r n : ℕ} (h : r + n = 2048) (b : Fin 2) (a : Fin 3) :
    (![b.val, r, 0] : Fin 3 → ℕ) a + (Stack 1 n 128).size a ≤ S2x2048x128.size a := by
  match a with
  | ⟨0, _⟩ => exact b.isLt
  | ⟨1, _⟩ => exact h.le
  | ⟨2, _⟩ => exact le_rfl

theorem cast_head (n : ℕ) : (Stack 1 n 128).ShapeCasts (Mat n 128) := by simp [Shape.ShapeCasts, Shape.numel, Fin.prod_univ_succ]

/-- Each later block is the block's own description at the run's values before it. -/
theorem step (d : Fin 7) : E.Step (d.val + 1) (256 * (d.val + 1)) (2048 - 256 * (d.val + 1)) := by
  have h : 256 * (d.val + 1) + (2048 - 256 * (d.val + 1)) = 2048 := by omega
  refine ⟨cuts h, inb_rows (by omega), inb_head h, cast_head _, ?_, ?_, ?_, ?_⟩ <;> revert h <;> fin_cases d <;> intro h <;> sl_kernel_rfl

theorem sums_next (d : Fin 6) (h : Fin 2) (e : 256 * (d.val + 1) + (2048 - 256 * (d.val + 1)) = 2048) :
    E.sums h (d.val + 2) = (E.sums h (d.val + 1)).next (cuts e) (fits _) (E.inp h (d.val + 1) (cuts e) (inb_rows (by omega))) := by
  revert e; fin_cases d <;> fin_cases h <;> intro e <;> sl_kernel_rfl

/-- The first block likewise: the loops over the query blocks before the first one run no trip. -/
theorem dk_first : E.dk 1 = pushRows E.arg7 0 (inb_rows (by decide)) (E.dk 0) (Block.dk (fits 2048) (E.inp0 0 (inb_rows (by decide)))) (Block.dk (fits 2048) (E.inp0 1 (inb_rows (by decide)))) := by sl_kernel_rfl
theorem dv_first : E.dv 1 = pushRows E.arg8 0 (inb_rows (by decide)) (E.dv 0) (Block.dv (fits 2048) (E.inp0 0 (inb_rows (by decide)))) (Block.dv (fits 2048) (E.inp0 1 (inb_rows (by decide)))) := by sl_kernel_rfl
theorem dq0_first : E.dq 1 = pushHead E.arg9 0 (inb_head (r := 0) (n := 2048) rfl 0) (cast_head _) (E.dq 0) (Block.dq (fits 2048) (E.inp0 0 (inb_rows (by decide)))) := by sl_kernel_rfl
theorem dq1_first : E.dq 2 = pushHead E.arg9 1 (inb_head (r := 0) (n := 2048) rfl 1) (cast_head _) (E.dq 1) (Block.dq (fits 2048) (E.inp0 1 (inb_rows (by decide)))) := by sl_kernel_rfl
theorem sums_first (h : Fin 2) : E.sums h 1 =
    ⟨lrunNext (fits 2048) (E.inp0 h (inb_rows (by decide))), grunNext (fits 2048) (E.inp0 h (inb_rows (by decide)))⟩ := by
  match h with
  | 0 => sl_kernel_rfl
  | 1 => sl_kernel_rfl
theorem sums_start (h : Fin 2) : E.sums h 0 = ⟨zeros 2048 1, zeros 2048 1⟩ := by
  match h with
  | 0 => sl_kernel_rfl
  | 1 => sl_kernel_rfl

end Run

end Cert.Bridge

end
-- ==== Proof.Kept.lean ====
/- What is in memory after a piece is stored: the piece's rows are replaced, the others stay. -/
module

public import proofs.«01_k».proof.Proof.Bridge

@[expose] public section

noncomputable section

namespace Cert.Bridge

open Idealize.ShloMosaic Idealize.SL.Sem Cert.KernelIdeal Cert.Block

/-- A unit-stride rectangle places its position `x` at the offsets plus `x`. -/
theorem emb_unit {s : Shape} {off size : Fin s.rank → ℕ} (inb : ∀ a, off a + size a ≤ s.size a) (x : (Rect.unit off size inb).shape.Idx) (y : s.Idx)
    (h : ∀ a, (y a).val = off a + (x a).val) : (Rect.unit off size inb).emb x = y :=
  funext fun a => Fin.ext (by
    show off a + 1 * (x a).val = (y a).val
    rw [h a, Nat.one_mul])

namespace Run

theorem canon_pushRows (M : Memref sig .tc .vmem S2048x128 .f32) (r : ℕ) (hk : ∀ a, (![r, 0] : Fin 2 → ℕ) a + S256x128.size a ≤ S2048x128.size a)
    (L : List (View.Piece (Elt Ideal) S2048x128 .f32)) (u w : FVec Ideal S256x128 .f32) (s : Fin 2048) (c : Fin 128) (j : Fin 256) (e : s.val = r + j.val) :
    View.canon (pushRows M r hk L u w) (ix2 s c) = View.canon L (ix2 s c) + (u (ix2 j c) + w (ix2 j c)) := by
  have he : (Rect.unit (s := S2048x128) ![r, 0] S256x128.size hk).emb (ix2 j c) = (ix2 s c : S2048x128.Idx) :=
    emb_unit hk _ _ fun a => by
      match a with
      | ⟨0, _⟩ => exact e
      | ⟨1, _⟩ => exact (Nat.zero_add _).symm
  have h1 : View.canon (pushRows M r hk L u w) ((Rect.unit (s := S2048x128) ![r, 0] S256x128.size hk).emb (ix2 j c)) = _ := View.canon_cons_emb _ _ _ _
  rw [he] at h1
  rw [h1, View.readCov_eq_canon']
  show (shapeCast (Mat 256 128) _ rfl : FVec Ideal (Mat 256 128) .f32) (ix2 j c) = _
  rw [shapeCast_id]
  show View.canon L ((Rect.unit (s := S2048x128) ![r, 0] S256x128.size hk).emb (ix2 j c)) + (zeros 256 128 (ix2 j c) + u (ix2 j c) + w (ix2 j c)) = _
  rw [he, zeros_apply, EReal.coe_zero, zero_add]

theorem canon_pushRows_off (M : Memref sig .tc .vmem S2048x128 .f32) (r : ℕ) (hk : ∀ a, (![r, 0] : Fin 2 → ℕ) a + S256x128.size a ≤ S2048x128.size a)
    (L : List (View.Piece (Elt Ideal) S2048x128 .f32)) (u w : FVec Ideal S256x128 .f32) (s : Fin 2048) (c : Fin 128) (e : s.val < r ∨ r + 256 ≤ s.val) :
    View.canon (pushRows M r hk L u w) (ix2 s c) = View.canon L (ix2 s c) := by
  refine View.canon_cons_of_not_mem _ _ fun h => ?_
  have := ((Rect.mem_set_unit (inb := hk)).1 h) (0 : Fin 2)
  have h1 : r ≤ s.val ∧ s.val < r + 256 := this
  omega

theorem canon_pushHead (M : Memref sig .tc .vmem S2x2048x128 .f32) (b : ℕ) {r n : ℕ}
    (hq : ∀ a, (![b, r, 0] : Fin 3 → ℕ) a + (Stack 1 n 128).size a ≤ S2x2048x128.size a) (hc : (Stack 1 n 128).ShapeCasts (Mat n 128))
    (L : List (View.Piece (Elt Ideal) S2x2048x128 .f32)) (u : FVec Ideal (Mat n 128) .f32) (h : Fin 2) (t : Fin 2048) (c : Fin 128) (i : Fin n)
    (eh : h.val = b) (e : t.val = r + i.val) :
    View.canon (pushHead M b hq hc L u) (ix3 h t c) = View.canon L (ix3 h t c) + u (ix2 i c) := by
  have he : (Rect.unit (s := S2x2048x128) ![b, r, 0] (Stack 1 n 128).size hq).emb (ix3 0 i c) = (ix3 h t c : S2x2048x128.Idx) :=
    emb_unit hq _ _ fun a => by
      match a with
      | ⟨0, _⟩ => exact eh
      | ⟨1, _⟩ => exact e
      | ⟨2, _⟩ => exact (Nat.zero_add _).symm
  have h1 : View.canon (pushHead M b hq hc L u) ((Rect.unit (s := S2x2048x128) ![b, r, 0] (Stack 1 n 128).size hq).emb (ix3 0 i c)) = _ := View.canon_cons_emb _ _ _ _
  rw [he] at h1
  rw [h1, View.readCov_eq_canon']
  have e1 : Shape.reshapeEquiv hc.symm (ix3 0 i c) = (ix2 i c : (Mat n 128).Idx) := by
    refine Shape.reshapeEquiv_eq_of_rowMajor _ ?_
    rw [rowMajor_val2 _ 128 rfl, rowMajor_val3 _ (n * 128) 128 rfl rfl]; simp
  have e2 : Shape.reshapeEquiv hc (ix2 i c) = (ix3 0 i c : (Stack 1 n 128).Idx) := by
    refine Shape.reshapeEquiv_eq_of_rowMajor _ ?_
    rw [rowMajor_val2 _ 128 rfl, rowMajor_val3 _ (n * 128) 128 rfl rfl]; simp
  show View.canon L ((Rect.unit (s := S2x2048x128) ![b, r, 0] (Stack 1 n 128).size hq).emb (Shape.reshapeEquiv hc (Shape.reshapeEquiv hc.symm (ix3 0 i c)))) + u (Shape.reshapeEquiv hc.symm (ix3 0 i c)) = _
  rw [e1, e2, he]

theorem canon_pushHead_off (M : Memref sig .tc .vmem S2x2048x128 .f32) (b : ℕ) {r n : ℕ}
    (hq : ∀ a, (![b, r, 0] : Fin 3 → ℕ) a + (Stack 1 n 128).size a ≤ S2x2048x128.size a) (hc : (Stack 1 n 128).ShapeCasts (Mat n 128))
    (L : List (View.Piece (Elt Ideal) S2x2048x128 .f32)) (u : FVec Ideal (Mat n 128) .f32) (h : Fin 2) (t : Fin 2048) (c : Fin 128)
    (e : h.val ≠ b ∨ t.val < r) :
    View.canon (pushHead M b hq hc L u) (ix3 h t c) = View.canon L (ix3 h t c) := by
  refine View.canon_cons_of_not_mem _ _ fun hm => ?_
  have h0 : b ≤ h.val ∧ h.val < b + 1 := ((Rect.mem_set_unit (inb := hq)).1 hm) (0 : Fin 3)
  have h1 : r ≤ t.val ∧ t.val < r + n := ((Rect.mem_set_unit (inb := hq)).1 hm) (1 : Fin 3)
  omega

end Run

end Cert.Bridge

end
-- ==== Proof.Point.lean ====
/- One grid point at real inputs: by induction over the blocks of keys, the running sums and the three accumulated gradients are
   those of the two heads' stick-breaking attention. -/
module

public import proofs.«01_k».proof.Proof.Kept

@[expose] public section

set_option maxRecDepth 16384

noncomputable section

namespace Cert.Bridge

open Idealize.ShloMosaic Idealize.SL.Sem Cert.KernelIdeal Cert.KernelIdeal.Gen Cert.KernelIdeal.Gen.kernelRun0_A Cert.Block Cert.Stick

/-- The lanes of the first and of the second head. -/
def own (h : Fin 2) (c : Fin 128) : Prop := c.val / 64 = h.val

instance (h : Fin 2) : DecidablePred (own h) := fun _ => inferInstanceAs (Decidable (_ = _))

/-- A matrix with the other head's lanes at zero. -/
def part (h : Fin 2) (x : ℕ → Fin 128 → ℝ) (t : ℕ) (c : Fin 128) : ℝ := if own h c then x t c else 0

/-- A head's scaled queries. -/
def hq (q : ℕ → Fin 128 → ℝ) (h : Fin 2) : ℕ → Fin 128 → ℝ := part h fun t c => q t c * (1 / 8)

/-- The five inputs are real, and the fourth holds each head's totals in all of the head's lanes. -/
structure Run.Real (E : Run) (Q K V O : ℕ → Fin 128 → ℝ) : Prop where
  q : ∀ (t : Fin 2048) (c : Fin 128), E.x0 (ix2 t c) = (Q t.val c : EReal)
  k : ∀ (t : Fin 2048) (c : Fin 128), E.x1 (ix2 t c) = (K t.val c : EReal)
  v : ∀ (t : Fin 2048) (c : Fin 128), E.x2 (ix2 t c) = (V t.val c : EReal)
  o : ∀ (t : Fin 2048) (c : Fin 128), E.x4 (ix2 t c) = (O t.val c : EReal)
  total : ∀ (h : Fin 2) (t : Fin 2048) (c : Fin 128), own h c → E.x3 (ix2 t c) = (lpre (scores (hq Q h) K) t.val 2048 : EReal)

theorem lane_mask (h : Fin 2) (E : Run) (c : Fin 128) : own h c ↔ (E.head h).lanes (ix2 0 c) = 1 := by
  match h with
  | 0 =>
    show c.val / 64 = 0 ↔ IntOp.cmpi .slt (BitVec.ofNat 32 (0 * 128 + c.val)) 64#32 = 1
    revert c; decide
  | 1 =>
    show c.val / 64 = 1 ↔ IntOp.cmpi .sge (BitVec.ofNat 32 (0 * 128 + c.val)) 64#32 = 1
    revert c; decide

theorem row_lt_key (j : Fin 256) (i : Fin 2048) :
    cmpi .slt Run.keyNo Run.rowNo (ix2 i j) = BitVec.ofBool (decide (j.val < i.val)) := by
  show IntOp.cmpi .slt (BitVec.ofNat 32 (0 * 256 + j.val)) (BitVec.ofNat 32 (0 * 2048 + i.val)) = _
  rw [Nat.zero_mul, Nat.zero_add, Nat.zero_add, WordCmp.cmpi_slt_ofNat (by omega) (by omega)]

/-- A truth value as a number. -/
theorem bit_real (p : Prop) [Decidable p] : Scalar.sitofp (F := Ideal) .f32 (BitVec.setWidth 32 (BitVec.ofBool (decide p))) = ((if p then 1 else 0 : ℝ) : EReal) := by
  by_cases h : p <;> simp [h]

theorem upto_apply (i j : Fin 256) : Run.tris.upto (ix2 i j) = ((if i.val < j.val + 1 then 1 else 0 : ℝ) : EReal) := by
  show Scalar.sitofp (F := Ideal) .f32 (BitVec.setWidth 32 (IntOp.cmpi .sle (BitVec.ofNat 32 (0 * 256 + i.val)) (BitVec.ofNat 32 (0 * 256 + j.val)))) = _
  rw [Nat.zero_mul, Nat.zero_add, Nat.zero_add, WordCmp.cmpi_sle_ofNat (by omega) (by omega), bit_real]
  simp only [Nat.lt_succ_iff]
theorem below_apply (i j : Fin 256) : Run.tris.below (ix2 i j) = ((if i.val < j.val then 1 else 0 : ℝ) : EReal) := by
  show Scalar.sitofp (F := Ideal) .f32 (BitVec.setWidth 32 (IntOp.cmpi .slt (BitVec.ofNat 32 (0 * 256 + i.val)) (BitVec.ofNat 32 (0 * 256 + j.val)))) = _
  rw [Nat.zero_mul, Nat.zero_add, Nat.zero_add, WordCmp.cmpi_slt_ofNat (by omega) (by omega), bit_real]

theorem lanes_spread : (Mat 1 128).Broadcasts (Mat 2048 128) :=
  ⟨le_rfl, fun a => by match a with | ⟨0, _⟩ => exact .inl rfl | ⟨1, _⟩ => exact .inr fun _ => rfl⟩

/-- A matrix with the lanes outside a head replaced. -/
def masked {α : Type} (l : IVec (Mat 1 128) 1) (x : Shape.Idx (Mat 2048 128) → α) (w : α) : Shape.Idx (Mat 2048 128) → α :=
  select (broadcastTo (Mat 2048 128) (shapeCast (Mat 1 128) l rfl) lanes_spread) x (broadcast (Mat 2048 128) w)

theorem masked_apply {α : Type} (h : Fin 2) (E : Run) (x : Shape.Idx (Mat 2048 128) → α) (w : α) (t : Fin 2048) (c : Fin 128) :
    masked (E.head h).lanes x w (ix2 t c) = if own h c then x (ix2 t c) else w := by
  show (if broadcastTo (Mat 2048 128) (shapeCast (Mat 1 128) (E.head h).lanes rfl) lanes_spread (ix2 t c) = 1 then x (ix2 t c) else w) = _
  rw [lanes_apply, shapeCast_id]
  exact if_congr (lane_mask h E c).symm rfl rfl

/-- The whole of a buffer. -/
abbrev all : Rect S2048x128 := Rect.unit (s := S2048x128) k0_off1 S2048x128.size k0_off1_inb

/-- A load of some rows of a block reads them. -/
theorem load_rows {e : EltTy} (m : Memref sig .tc .vmem S2048x128 e) (hm : m.IsWhole) (d : Vec Ideal S2048x128 e) {n : ℕ} (r : ℕ)
    (inb : ∀ a, (![r, 0] : Fin 2 → ℕ) a + (Mat n 128).size a ≤ S2048x128.size a) (j : Fin n) (c : Fin 128) (hr : r + j.val < 2048) :
    m.view.readAt (Elt Ideal) (Rect.unit (s := S2048x128) ![r, 0] (Mat n 128).size inb).toLoadRect (hm.unread d) (ix2 j c) = d (ix2 ⟨r + j.val, hr⟩ c) := by
  rw [View.readAt_eq_ld, Memref.IsWhole.read_unread]
  refine congrArg d (funext fun a => Fin.ext ?_)
  match a with
  | ⟨0, _⟩ => exact congrArg (r + ·) (Nat.one_mul _)
  | ⟨1, _⟩ => exact (Nat.zero_add _).trans (Nat.one_mul _)

theorem load_all {e : EltTy} (m : Memref sig .tc .vmem S2048x128 e) (hm : m.IsWhole) (d : Vec Ideal S2048x128 e) (j : Fin 2048) (c : Fin 128) :
    m.view.readAt (Elt Ideal) all.toLoadRect (hm.unread d) (ix2 j c) = d (ix2 j c) :=
  (load_rows m hm d 0 k0_off1_inb j c (by omega)).trans (by simp only [Nat.zero_add])

/-- The largest of a head's lanes, where they all hold the same number. -/
theorem largest (h : Fin 2) (f : Fin 128 → EReal) (a : EReal) (hf : ∀ c, f c = if own h c then a else ⊥) : Finset.univ.fold max ⊥ f = a := by
  refine le_antisymm (Finset.fold_max_le _ |>.2 ⟨bot_le, fun c _ => ?_⟩) (Finset.le_fold_max _ |>.2 (.inr ⟨⟨64 * h.val, by omega⟩, Finset.mem_univ _, ?_⟩))
  · rw [hf]; split
    · exact le_rfl
    · exact bot_le
  · have ho : own h ⟨64 * h.val, by omega⟩ := Nat.mul_div_cancel_left h.val (by decide : 0 < 64)
    rw [hf, if_pos ho]

theorem minus_inf : Ideal.ofBits .f32 0xFF800000#32 = ⊥ := by simp [Ideal.ofBits, Ideal.ieee]
theorem eighth : Ideal.ofBits .bf16 0x3E00#16 = ((1 / 8 : ℝ) : EReal) := by
  simp [Ideal.ofBits, Ideal.ieee, -EReal.coe_mul]; norm_num

namespace Run

variable {E : Run} {q k v o : ℕ → Fin 128 → ℝ} (R : E.Real q k v o)

include R

theorem head_q (h : Fin 2) (t : Fin 2048) (c : Fin 128) : (E.head h).q (ix2 t c) = (hq q h t.val c : EReal) := by
  have e : (E.head h).q = masked (E.head h).lanes (mulf (φ := .bf16) (E.arg1.view.readAt (Elt Ideal) all.toLoadRect (E.harg1.unread E.x0))
      (broadcast S2048x128 (Scalar.ofBits .bf16 0x3E00#16))) (Scalar.truncf .bf16 bitsLt_bf16_f32 (Scalar.ofBits (F := Ideal) .f32 0x00000000#32)) := by
    match h with
    | 0 => sl_kernel_rfl
    | 1 => sl_kernel_rfl
  rw [e, masked_apply]
  show (if own h c then E.arg1.view.readAt (Elt Ideal) all.toLoadRect (E.harg1.unread E.x0) (ix2 t c) * Ideal.ofBits .bf16 0x3E00#16 else Ideal.ofBits .f32 0x00000000#32) = _
  rw [load_all, R.q, eighth, Ideal.ofBits_zero_f32, ← EReal.coe_mul]
  unfold hq part
  split <;> rfl
theorem head_o (h : Fin 2) (t : Fin 2048) (c : Fin 128) : (E.head h).o (ix2 t c) = (part h o t.val c : EReal) := by
  have e : (E.head h).o = masked (E.head h).lanes (E.arg5.view.readAt (Elt Ideal) all.toLoadRect (E.harg5.unread E.x4))
      (Scalar.truncf .bf16 bitsLt_bf16_f32 (Scalar.ofBits (F := Ideal) .f32 0x00000000#32)) := by
    match h with
    | 0 => sl_kernel_rfl
    | 1 => sl_kernel_rfl
  rw [e, masked_apply]
  show (if own h c then E.arg5.view.readAt (Elt Ideal) all.toLoadRect (E.harg5.unread E.x4) (ix2 t c) else Ideal.ofBits .f32 0x00000000#32) = _
  rw [load_all, R.o, Ideal.ofBits_zero_f32]
  unfold part
  split <;> rfl
theorem head_total (h : Fin 2) (t : Fin 2048) : (E.head h).total (ix2 t 0) = (lpre (scores (hq q h) k) t.val 2048 : EReal) := by
  have e : (E.head h).total = shapeCast (Mat 2048 1) (multiReduction .maximumf [1] S2048 (masked (E.head h).lanes
      (shapeCast (Mat 2048 128) (E.arg4.view.readAt (Elt Ideal) all.toLoadRect (E.harg4.unread E.x3)) rfl) (Scalar.ofBits (F := Ideal) .f32 0xFF800000#32))
      0xFF800000#32 reduces_S2048x128_S2048 (.inl rfl) rfl) shapeCasts_S2048_S2048x1 := by
    match h with
    | 0 => sl_kernel_rfl
    | 1 => sl_kernel_rfl
  rw [e, shapeCast_id]
  refine (column_apply (n := 2048) _ _ t).trans ?_
  simp only [pointwise]
  show Finset.univ.fold max (Ideal.ofBits .f32 0xFF800000#32) _ = _
  rw [minus_inf]
  refine largest h _ _ fun c => ?_
  refine (masked_apply h E _ _ t c).trans ?_
  rw [load_all]
  show (if own h c then E.x3 (ix2 t c) else Ideal.ofBits .f32 0xFF800000#32) = _
  rw [minus_inf]
  by_cases hc : own h c
  · rw [if_pos hc, if_pos hc]; exact R.total h t c hc
  · rw [if_neg hc, if_neg hc]
theorem keys_apply (r : ℕ) (hk) (j : Fin 256) (c : Fin 128) : E.keys r hk (ix2 j c) = (k (r + j.val) c : EReal) :=
  (load_rows (n := 256) E.arg2 E.harg2 E.x1 r hk j c (by have : r + 256 ≤ 2048 := hk 0; omega)).trans (R.k _ c)
theorem vals_apply (r : ℕ) (hk) (j : Fin 256) (c : Fin 128) : E.vals r hk (ix2 j c) = (v (r + j.val) c : EReal) :=
  (load_rows (n := 256) E.arg3 E.harg3 E.x2 r hk j c (by have : r + 256 ≤ 2048 := hk 0; omega)).trans (R.v _ c)

omit R in
theorem cut_apply {α : Type} {r n m : ℕ} (u : Shape.Idx (Mat 2048 m) → α) (h : (Mat 2048 m).Slices ![r, 0] (Mat n m)) (i : Fin n) (c : Fin m)
    (hr : r + i.val < 2048) : extractStridedSlice (Mat n m) ![r, 0] u h (ix2 i c) = u (ix2 ⟨r + i.val, hr⟩ c) := by
  refine congrArg u (funext fun a => Fin.ext ?_)
  match a with
  | ⟨0, _⟩ => rfl
  | ⟨1, _⟩ => exact Nat.zero_add _

/-- The running sums before block `d` are the sums over the keys before it. -/
def SumsAre (E : Run) (q k v o : ℕ → Fin 128 → ℝ) (d : ℕ) : Prop := ∀ (h : Fin 2) (t : Fin 2048),
  (E.sums h d).l (ix2 t 0) = (lpre (scores (hq q h) k) t.val (256 * d) : EReal) ∧
  (E.sums h d).g (ix2 t 0) = (gpre (scores (hq q h) k) (scores (part h o) v) t.val (256 * d) : EReal)

theorem inp_reads {d n : ℕ} (h : Fin 2) (hn : 256 * d + n = 2048) (hk) (hs : SumsAre E q k v o d) :
    Reads (E.inp h d (cuts hn) hk) (256 * d) (hq q h) (part h o) k v (own h) where
  q i c := (cut_apply _ (cuts hn).lanes i c (by omega)).trans (head_q R h _ c)
  o i c := (cut_apply _ (cuts hn).lanes i c (by omega)).trans (head_o R h _ c)
  k j c := keys_apply R _ hk j c
  v j c := vals_apply R _ hk j c
  total i := (cut_apply _ (cuts hn).column i 0 (by omega)).trans (head_total R h _)
  lrun i := (cut_apply _ (cuts hn).column i 0 (by omega)).trans (hs h _).1
  grun i := (cut_apply _ (cuts hn).column i 0 (by omega)).trans (hs h _).2
  before i j := by
    show IntOp.cmpi .slt (extractStridedSlice (Mat n 256) ![0, 0] keyNo _ (ix2 i j)) (extractStridedSlice (Mat n 256) ![0, 0] rowNo _ (ix2 i j)) = _
    rw [cut_apply keyNo _ i j (by omega), cut_apply rowNo _ i j (by omega)]
    exact (row_lt_key j ⟨0 + i.val, by omega⟩).trans (by simp)
  upto := upto_apply
  below := below_apply
  lanes c := lane_mask h E c

theorem inp0_reads (h : Fin 2) (hk) (hs : SumsAre E q k v o 0) : Reads (E.inp0 h hk) 0 (hq q h) (part h o) k v (own h) where
  q i c := by rw [Nat.zero_add]; exact head_q R h _ c
  o i c := by rw [Nat.zero_add]; exact head_o R h _ c
  k j c := keys_apply R _ hk j c
  v j c := vals_apply R _ hk j c
  total i := by rw [Nat.zero_add]; exact head_total R h _
  lrun i := by rw [Nat.zero_add]; exact (hs h _).1
  grun i := by rw [Nat.zero_add]; exact (hs h _).2
  before i j := row_lt_key j i
  upto := upto_apply
  below := below_apply
  lanes c := lane_mask h E c

end Run

end Cert.Bridge

end
-- ==== Proof.Induct.lean ====
/- The kernel's blocks of keys in order at real inputs: the running sums after each block, and what the three accumulated gradients
   hold. -/
module

public import proofs.«01_k».proof.Proof.Point

@[expose] public section

set_option maxRecDepth 16384

noncomputable section

namespace Cert.Bridge

open Idealize.ShloMosaic Idealize.SL.Sem Cert.KernelIdeal Cert.KernelIdeal.Gen Cert.Block Cert.Stick
open scoped BigOperators

/-- Half of the key gradient, of one head; -/
def keySum (h : Fin 2) (q k v o : ℕ → Fin 128 → ℝ) (s : ℕ) (c : Fin 128) : ℝ :=
  ∑ t ∈ Finset.range 2048, dz (scores (hq q h) k) (scores (part h o) v) t s * hq q h t c

/-- of the value gradient; -/
def valSum (h : Fin 2) (q k o : ℕ → Fin 128 → ℝ) (s : ℕ) (c : Fin 128) : ℝ :=
  ∑ t ∈ Finset.range 2048, wt (scores (hq q h) k) t s * part h o t c

/-- and a head's query gradient from the keys before `n`. -/
def qrySum (h : Fin 2) (q k v o : ℕ → Fin 128 → ℝ) (n t : ℕ) (c : Fin 128) : ℝ :=
  ∑ s ∈ Finset.range n, dz (scores (hq q h) k) (scores (part h o) v) t s * (if own h c then k s c else 0)

/-- A column grown by `n` rows. -/
theorem grow_low {r n : ℕ} (C : Cuts r n) (u : FVec Ideal (Mat 2048 1) .f32) (w : FVec Ideal (Mat n 1) .f32) (t : Fin 2048) (h : t.val < r) :
    grow C u w (ix2 t 0) = u (ix2 t 0) := by
  refine (concatenate_pair_apply_left (s₁ := Mat r 1) (s₂ := Mat n 1) _ _ _ _ (ix2 t (0 : Fin 1)) rfl (ix2 (⟨t.val, h⟩ : Fin r) (0 : Fin 1)) fun b => ?_).trans ?_
  · match b with
    | ⟨0, _⟩ => rfl
    | ⟨1, _⟩ => rfl
  · refine congrArg u (funext fun a => Fin.ext ?_)
    match a with
    | ⟨0, _⟩ => exact Nat.zero_add _
    | ⟨1, _⟩ => rfl

theorem grow_high {r n : ℕ} (C : Cuts r n) (u : FVec Ideal (Mat 2048 1) .f32) (w : FVec Ideal (Mat n 1) .f32) (i : Fin n) (h : r + i.val < 2048) :
    grow C u w (ix2 ⟨r + i.val, h⟩ 0) = w (ix2 i 0) := by
  refine concatenate_pair_apply_right (s₁ := Mat r 1) (s₂ := Mat n 1) _ _ _ _ (ix2 (⟨r + i.val, h⟩ : Fin 2048) (0 : Fin 1)) rfl rfl (ix2 i (0 : Fin 1)) (fun b hb => ?_) (Nat.add_comm _ _)
  match b with
  | ⟨0, _⟩ => exact absurd rfl hb
  | ⟨1, _⟩ => rfl

namespace Run

variable {E : Run} {q k v o : ℕ → Fin 128 → ℝ}

/-- What is stored before block `d` of the three gradients. -/
structure Stored (E : Run) (q k v o : ℕ → Fin 128 → ℝ) (d : ℕ) : Prop where
  dk : ∀ (s : Fin 2048) (c : Fin 128), View.canon (E.dk d) (ix2 s c) = ((if s.val < 256 * d then keySum 0 q k v o s.val c + keySum 1 q k v o s.val c else 0 : ℝ) : EReal)
  dv : ∀ (s : Fin 2048) (c : Fin 128), View.canon (E.dv d) (ix2 s c) = ((if s.val < 256 * d then valSum 0 q k o s.val c + valSum 1 q k o s.val c else 0 : ℝ) : EReal)
  dq : ∀ (h : Fin 2) (t : Fin 2048) (c : Fin 128), View.canon (E.dq (2 * d)) (ix3 h t c) = (qrySum h q k v o (256 * d) t.val c : EReal)

theorem sums_zero : SumsAre E q k v o 0 := fun h t => by
  rw [sums_start]
  exact ⟨zeros_apply 2048 1 (ix2 t 0), zeros_apply 2048 1 (ix2 t 0)⟩

omit q k v o in
/-- Zeros stored over a whole buffer. -/
theorem canon_zeros {s : Shape} (off : Fin s.rank → ℕ) (h0 : ∀ a, off a = 0) (inb : ∀ a, off a + s.size a ≤ s.size a) (hs : s.ShapeCasts s) (y : s.Idx) :
    View.canon [(⟨Rect.unit off s.size inb, shapeCast s (broadcast s (Scalar.ofBits (F := Ideal) .f32 0x00000000#32)) hs⟩ : View.Piece (Elt Ideal) s .f32)] y = ((0 : ℝ) : EReal) := by
  have e := View.canon_cons_emb (Val := Elt Ideal) (e := .f32) (Rect.unit off s.size inb) (shapeCast s (broadcast s (Scalar.ofBits (F := Ideal) .f32 0x00000000#32)) hs) [] y
  rw [emb_unit inb y y fun a => by rw [h0, Nat.zero_add]] at e
  exact e.trans Ideal.ofBits_zero_f32

theorem stored_zero : Stored E q k v o 0 where
  dk s c := by
    rw [if_neg (by omega)]
    refine Eq.trans ?_ (canon_zeros ![0, 0] (fun a => by fin_cases a <;> rfl) inb_S2048x128_S2048x128_0_0 shapeCasts_S2048x128_S2048x128 (ix2 s c))
    sl_kernel_rfl
  dv s c := by
    rw [if_neg (by omega)]
    refine Eq.trans ?_ (canon_zeros ![0, 0] (fun a => by fin_cases a <;> rfl) inb_S2048x128_S2048x128_0_0 shapeCasts_S2048x128_S2048x128 (ix2 s c))
    sl_kernel_rfl
  dq h t c := by
    refine Eq.trans ?_ (canon_zeros ![0, 0, 0] (fun a => by fin_cases a <;> rfl) inb_S2x2048x128_S2x2048x128_0_0_0 rfl (ix3 h t c))
    sl_kernel_rfl

section Step

variable {d n : ℕ} (hn : 256 * d + n = 2048) {x : Fin 2 → In n} (hx : ∀ h, Reads (x h) (256 * d) (hq q h) (part h o) k v (own h))

include hn hx

theorem rows_move {L L' : List (View.Piece (Elt Ideal) S2048x128 .f32)} {M : Memref sig .tc .vmem S2048x128 .f32} {hk}
    {u w : FVec Ideal S256x128 .f32} (e : L' = pushRows M (256 * d) hk L u w) (F : ℕ → Fin 128 → ℝ)
    (ho : ∀ (s : Fin 2048) (c : Fin 128), View.canon L (ix2 s c) = ((if s.val < 256 * d then F s.val c else 0 : ℝ) : EReal))
    (hu : ∀ (j : Fin 256) (c : Fin 128), u (ix2 j c) + w (ix2 j c) = (F (256 * d + j.val) c : EReal)) (s : Fin 2048) (c : Fin 128) :
    View.canon L' (ix2 s c) = ((if s.val < 256 * (d + 1) then F s.val c else 0 : ℝ) : EReal) := by
  subst e
  by_cases h : 256 * d ≤ s.val ∧ s.val < 256 * d + 256
  · have e : s.val = 256 * d + (⟨s.val - 256 * d, by omega⟩ : Fin 256).val := by show s.val = 256 * d + (s.val - 256 * d); omega
    rw [canon_pushRows M (256 * d) hk L u w s c _ e, ho, hu, if_neg (by omega), if_pos (by omega), EReal.coe_zero, zero_add, ← e]
  · rw [canon_pushRows_off M (256 * d) hk L u w s c (by omega), ho]
    by_cases h1 : s.val < 256 * d
    · rw [if_pos h1, if_pos (by omega)]
    · rw [if_neg h1, if_neg (by omega)]

theorem head_move {L L' : List (View.Piece (Elt Ideal) S2x2048x128 .f32)} {M : Memref sig .tc .vmem S2x2048x128 .f32} (h' : Fin 2) {hq hc}
    (e : L' = pushHead M h'.val (r := 256 * d) hq hc L (Block.dq (fits n) (x h'))) (h : Fin 2) (t : Fin 2048) (c : Fin 128) :
    View.canon L' (ix3 h t c) = View.canon L (ix3 h t c) + (if h = h' then
      ((∑ j : Fin 256, dz (scores (Bridge.hq q h) k) (scores (part h o) v) t.val (256 * d + j.val) * (if own h c then k (256 * d + j.val) c else 0) : ℝ) : EReal) else 0) := by
  subst e
  by_cases hh : h = h'
  · subst hh
    rw [if_pos rfl]
    by_cases ht : t.val < 256 * d
    · rw [canon_pushHead_off M _ hq hc L _ h t c (.inr ht), Finset.sum_eq_zero, EReal.coe_zero, add_zero]
      intro j _
      rw [dz_of_le _ _ (by omega), zero_mul]
    · have e : t.val = 256 * d + (⟨t.val - 256 * d, by omega⟩ : Fin n).val := by show t.val = 256 * d + (t.val - 256 * d); omega
      rw [canon_pushHead M _ hq hc L _ h t c _ rfl e, dq_real (fits n) (hx h), ← e]
  · rw [if_neg hh, add_zero, canon_pushHead_off M _ hq hc L _ h t c (.inl fun hv => hh (Fin.ext hv))]

theorem key_part (h : Fin 2) (j : Fin 256) (c : Fin 128) : Block.dk (fits n) (x h) (ix2 j c) = (keySum h q k v o (256 * d + j.val) c : EReal) := by
  rw [dk_real (fits n) (hx h)]
  unfold keySum
  rw [← hn, sum_from (fun t => Stick.dz (scores (Bridge.hq q h) k) (scores (part h o) v) t (256 * d + j.val) * Bridge.hq q h t c) fun t ht => by
    rw [dz_of_le _ _ (by omega), zero_mul]]

theorem val_part (h : Fin 2) (j : Fin 256) (c : Fin 128) : Block.dv (fits n) (x h) (ix2 j c) = (valSum h q k o (256 * d + j.val) c : EReal) := by
  rw [dv_real (fits n) (hx h)]
  unfold valSum
  rw [← hn, sum_from (fun t => wt (scores (Bridge.hq q h) k) t (256 * d + j.val) * part h o t c) fun t ht => by
    rw [wt_of_le _ (by omega), zero_mul]]

/-- One block more. -/
theorem stored_move (st : Stored E q k v o d) {hk hb0 hb1 hc}
    (edk : E.dk (d + 1) = pushRows E.arg7 (256 * d) hk (E.dk d) (Block.dk (fits n) (x 0)) (Block.dk (fits n) (x 1)))
    (edv : E.dv (d + 1) = pushRows E.arg8 (256 * d) hk (E.dv d) (Block.dv (fits n) (x 0)) (Block.dv (fits n) (x 1)))
    (edq0 : E.dq (2 * d + 1) = pushHead E.arg9 (0 : Fin 2).val (r := 256 * d) hb0 hc (E.dq (2 * d)) (Block.dq (fits n) (x 0)))
    (edq1 : E.dq (2 * d + 2) = pushHead E.arg9 (1 : Fin 2).val (r := 256 * d) hb1 hc (E.dq (2 * d + 1)) (Block.dq (fits n) (x 1))) :
    Stored E q k v o (d + 1) where
  dk := rows_move hn hx edk (fun s c => keySum 0 q k v o s c + keySum 1 q k v o s c) st.dk fun j c => by
    rw [key_part hn hx, key_part hn hx, ← EReal.coe_add]
  dv := rows_move hn hx edv (fun s c => valSum 0 q k o s c + valSum 1 q k o s c) st.dv fun j c => by
    rw [val_part hn hx, val_part hn hx, ← EReal.coe_add]
  dq h t c := by
    show View.canon (E.dq (2 * d + 2)) (ix3 h t c) = _
    rw [head_move hn hx 1 edq1, head_move hn hx 0 edq0, st.dq]
    unfold qrySum
    rw [show 256 * (d + 1) = 256 * d + 256 from rfl, Finset.sum_range_add, Finset.sum_range (n := 256), EReal.coe_add]
    match h with
    | 0 => rw [if_pos rfl, if_neg (by decide), add_zero]
    | 1 => rw [if_neg (by decide), if_pos rfl, add_zero]

/-- The running sums after a block, in the block's rows. -/
theorem next_l (h : Fin 2) (i : Fin n) : lrunNext (fits n) (x h) (ix2 i 0) = (lpre (scores (Bridge.hq q h) k) (256 * d + i.val) (256 * d + 256) : EReal) :=
  lrunNext_real (fits n) (hx h) i
theorem next_g (h : Fin 2) (i : Fin n) : grunNext (fits n) (x h) (ix2 i 0) =
    (gpre (scores (Bridge.hq q h) k) (scores (part h o) v) (256 * d + i.val) (256 * d + 256) : EReal) :=
  grunNext_real (fits n) (hx h) i

omit hx in
/-- and in all rows. -/
theorem sums_move (hs : SumsAre E q k v o d) (C : Cuts (256 * d) n) (hx : ∀ h, Reads (x h) (256 * d) (Bridge.hq q h) (part h o) k v (own h))
    (e : ∀ h, E.sums h (d + 1) = (E.sums h d).next C (fits n) (x h)) : SumsAre E q k v o (d + 1) := fun h t => by
  rw [e]
  by_cases ht : t.val < 256 * d
  · exact ⟨(grow_low C _ _ t ht).trans ((hs h t).1.trans (congrArg _ (lpre_stop _ (by omega)).symm)),
      (grow_low C _ _ t ht).trans ((hs h t).2.trans (congrArg _ (gpre_stop _ _ (by omega)).symm))⟩
  · have et : t = ⟨256 * d + (⟨t.val - 256 * d, by omega⟩ : Fin n).val, by show 256 * d + (t.val - 256 * d) < 2048; omega⟩ :=
      Fin.ext (show t.val = 256 * d + (t.val - 256 * d) by omega)
    rw [et]
    exact ⟨(grow_high C _ _ _ _).trans (next_l hn hx h _), (grow_high C _ _ _ _).trans (next_g hn hx h _)⟩

end Step

variable (R : E.Real q k v o)

include R

theorem sums_one : SumsAre E q k v o 1 := fun h t => by
  have hx : ∀ h, Reads (E.inp0 h (inb_rows (by decide))) (256 * 0) (hq q h) (part h o) k v (own h) := fun h => inp0_reads R h _ sums_zero
  have e1 := next_l (d := 0) rfl hx h t
  have e2 := next_g (d := 0) rfl hx h t
  change _ = (lpre (scores (hq q h) k) (0 + t.val) 256 : EReal) at e1
  change _ = (gpre (scores (hq q h) k) (scores (part h o) v) (0 + t.val) 256 : EReal) at e2
  rw [Nat.zero_add t.val] at e1 e2
  rw [sums_first]
  exact ⟨e1, e2⟩

/-- Before every later block. -/
theorem sums_all (d : ℕ) (hd : d < 7) : SumsAre E q k v o (d + 1) := by
  induction d with
  | zero => exact sums_one R
  | succ d ih =>
    have hn : 256 * (d + 1) + (2048 - 256 * (d + 1)) = 2048 := by omega
    have hs := ih (by omega)
    exact sums_move hn hs (cuts hn) (fun h => inp_reads R h hn (inb_rows (by omega)) hs) fun h => sums_next E ⟨d, by omega⟩ h hn

/-- After all blocks. -/
theorem stored_all (d : ℕ) (hd : d ≤ 7) : Stored E q k v o (d + 1) := by
  induction d with
  | zero => exact stored_move (d := 0) rfl (fun h => inp0_reads R h (inb_rows (by decide)) sums_zero) stored_zero (dk_first E) (dv_first E) (dq0_first E) (dq1_first E)
  | succ d ih =>
    have hn : 256 * (d + 1) + (2048 - 256 * (d + 1)) = 2048 := by omega
    have S := E.step ⟨d, by omega⟩
    exact stored_move hn (fun h => inp_reads R h hn S.hk (sums_all R d (by omega))) (ih (by omega)) S.dk S.dv S.dq0 S.dq1

end Run

end Cert.Bridge

end
-- ==== Proof.Out.lean ====
/- What a grid point writes, at real inputs: the two heads' gradients of queries, keys and values. -/
module

public import proofs.«01_k».proof.Proof.Induct

@[expose] public section

set_option maxRecDepth 16384

noncomputable section

namespace Cert.Bridge

open Idealize.ShloMosaic Idealize.SL.Sem Cert.KernelIdeal Cert.KernelIdeal.Gen Cert.Block Cert.Stick

namespace Run

/-- What the run stores in its output block. -/
def stores (E : Run) : List (View.Piece (Elt Ideal) S3x2048x128 .bf16) := (E.get fun c i a1 h1 a2 h2 a3 h3 a4 h4 a5 h5 a6 h6 a7 h7 a8 h8 a9 h9 x0 x1 x2 x3 x4 =>
  (kernelRun0_A (F := Ideal) c i a1 h1 a2 h2 a3 h3 a4 h4 a5 h5 a6 h6 a7 h7 a8 h8 a9 h9 x0 x1 x2 x3 x4).1)

theorem inb_plane (b : Fin 3) (a : Fin 3) : (![b.val, 0, 0] : Fin 3 → ℕ) a + S1x2048x128.size a ≤ S3x2048x128.size a := by
  match a with
  | ⟨0, _⟩ => exact b.isLt
  | ⟨1, _⟩ => exact le_rfl
  | ⟨2, _⟩ => exact le_rfl

/-- One of the three planes, from its matrix. -/
def plane (b : Fin 3) (u : FVec Ideal S2048x128 .f32) : View.Piece (Elt Ideal) S3x2048x128 .bf16 :=
  ⟨Rect.unit (s := S3x2048x128) ![b.val, 0, 0] S1x2048x128.size (inb_plane b), shapeCast S1x2048x128 (truncf .bf16 u bitsLt_bf16_f32) shapeCasts_S2048x128_S1x2048x128⟩

/-- A head's query gradient, read back. -/
def readHead (E : Run) (b : Fin 2) : FVec Ideal S2048x128 .f32 :=
  shapeCast S2048x128 (E.arg9.view.readCov (E.dq 16) (Rect.unit (s := S2x2048x128) ![b.val, 0, 0] S1x2048x128.size (inb_head (r := 0) (n := 2048) rfl b)).toLoadRect) shapeCasts_S1x2048x128_S2048x128

theorem stores_eq (E : Run) : E.stores =
    [plane 2 (E.arg8.view.readCov (E.dv 8) all.toLoadRect), plane 1 (E.arg7.view.readCov (E.dk 8) all.toLoadRect),
      plane 0 (mulf (addf (E.readHead 0) (E.readHead 1)) (broadcast S2048x128 (Scalar.ofBits .f32 0x3E000000#32)))] := by
  sl_kernel_rfl

theorem canon_plane (b : Fin 3) (u : FVec Ideal S2048x128 .f32) (L : List (View.Piece (Elt Ideal) S3x2048x128 .bf16)) (t : Fin 2048) (c : Fin 128) :
    View.canon (plane b u :: L) (ix3 b t c) = u (ix2 t c) := by
  have h1 : View.canon (plane b u :: L) ((Rect.unit (s := S3x2048x128) ![b.val, 0, 0] S1x2048x128.size (inb_plane b)).emb (ix3 (0 : Fin 1) t c)) = _ := View.canon_cons_emb _ _ _ _
  rw [emb_unit (inb_plane b) (ix3 (0 : Fin 1) t c) (ix3 b t c) fun a => by
    match a with
    | ⟨0, _⟩ => rfl
    | ⟨1, _⟩ => exact (Nat.zero_add _).symm
    | ⟨2, _⟩ => exact (Nat.zero_add _).symm] at h1
  rw [h1]
  refine congrArg u (Shape.reshapeEquiv_eq_of_rowMajor _ ?_)
  rw [rowMajor_val2 _ 128 rfl, rowMajor_val3 _ (2048 * 128) 128 rfl rfl]
  simp

theorem canon_plane_off (b b' : Fin 3) (hb : b ≠ b') (u : FVec Ideal S2048x128 .f32) (L : List (View.Piece (Elt Ideal) S3x2048x128 .bf16)) (t : Fin 2048) (c : Fin 128) :
    View.canon (plane b' u :: L) (ix3 b t c) = View.canon L (ix3 b t c) := by
  refine View.canon_cons_of_not_mem _ _ fun h => hb (Fin.ext ?_)
  have h1 : b'.val ≤ b.val ∧ b.val < b'.val + 1 := ((Rect.mem_set_unit (inb := inb_plane b')).1 h) (0 : Fin 3)
  omega

theorem read_rows (M : Memref sig .tc .vmem S2048x128 .f32) (L : List (View.Piece (Elt Ideal) S2048x128 .f32)) (t : Fin 2048) (c : Fin 128) :
    M.view.readCov L all.toLoadRect (ix2 t c) = View.canon L (ix2 t c) := by
  rw [View.readCov_eq_canon']
  exact congrArg (View.canon L) (emb_unit k0_off1_inb (ix2 t c) (ix2 t c) fun a => by
    match a with
    | ⟨0, _⟩ => exact (Nat.zero_add _).symm
    | ⟨1, _⟩ => exact (Nat.zero_add _).symm)

theorem readHead_apply (E : Run) (h : Fin 2) (t : Fin 2048) (c : Fin 128) : E.readHead h (ix2 t c) = View.canon (E.dq 16) (ix3 h t c) := by
  unfold readHead
  rw [View.readCov_eq_canon']
  have e2 : Shape.reshapeEquiv shapeCasts_S1x2048x128_S2048x128 (ix2 t c) = (ix3 (0 : Fin 1) t c : S1x2048x128.Idx) := by
    refine Shape.reshapeEquiv_eq_of_rowMajor _ ?_
    rw [rowMajor_val2 _ 128 rfl, rowMajor_val3 _ (2048 * 128) 128 rfl rfl]; simp
  show View.canon (E.dq 16) ((Rect.unit (s := S2x2048x128) ![h.val, 0, 0] S1x2048x128.size _).emb (Shape.reshapeEquiv shapeCasts_S1x2048x128_S2048x128 (ix2 t c))) = _
  rw [e2]
  exact congrArg (View.canon (E.dq 16)) (emb_unit _ (ix3 (0 : Fin 1) t c) (ix3 h t c) fun a => by
    match a with
    | ⟨0, _⟩ => rfl
    | ⟨1, _⟩ => exact (Nat.zero_add _).symm
    | ⟨2, _⟩ => exact (Nat.zero_add _).symm)

/-- The three gradients of a grid point's two heads. -/
def grads (q k v o : ℕ → Fin 128 → ℝ) (b : Fin 3) (t : ℕ) (c : Fin 128) : ℝ :=
  match b with
  | 0 => (qrySum 0 q k v o 2048 t c + qrySum 1 q k v o 2048 t c) * (1 / 8)
  | 1 => keySum 0 q k v o t c + keySum 1 q k v o t c
  | 2 => valSum 0 q k o t c + valSum 1 q k o t c

theorem eighth_f32 : Ideal.ofBits .f32 0x3E000000#32 = ((1 / 8 : ℝ) : EReal) := by
  simp [Ideal.ofBits, Ideal.ieee, -EReal.coe_mul]; norm_num

theorem stores_real {E : Run} {q k v o : ℕ → Fin 128 → ℝ} (R : E.Real q k v o) (b : Fin 3) (t : Fin 2048) (c : Fin 128) :
    View.canon E.stores (ix3 b t c) = (grads q k v o b t.val c : EReal) := by
  have st := stored_all R 7 le_rfl
  rw [stores_eq]
  match b with
  | 0 =>
    rw [canon_plane_off 0 2 (by decide), canon_plane_off 0 1 (by decide), canon_plane]
    show (E.readHead 0 (ix2 t c) + E.readHead 1 (ix2 t c)) * Ideal.ofBits .f32 0x3E000000#32 = _
    rw [readHead_apply, readHead_apply, eighth_f32, st.dq 0 t c, st.dq 1 t c, ← EReal.coe_add, ← EReal.coe_mul]
    rfl
  | 1 =>
    rw [canon_plane_off 1 2 (by decide), canon_plane, read_rows, st.dk, if_pos (by omega)]
    rfl
  | 2 =>
    rw [canon_plane, read_rows, st.dv, if_pos (by omega)]
    rfl

end Run

end Cert.Bridge

end
-- ==== Proof.Spec.lean ====
/- The gradients of stick-breaking attention as real sums, one head at a time, and the kernel's lane-masked sums
   brought to them: a block of 128 lanes holds two heads of 64. -/
module

public import proofs.«01_k».proof.Proof.Out

@[expose] public section

noncomputable section

namespace Cert.Spec

open Idealize.ShloMosaic Cert.Block Cert.Stick Cert.Bridge

/-- The inputs as real matrices: the projected queries, keys and values side by side, and the result's gradient. -/
structure Data where
  qkv : ℕ → ℕ → ℝ
  ct : ℕ → ℕ → ℝ

namespace Data

variable (D : Data)

/-- A head's scaled queries. -/
def q (h t d : ℕ) : ℝ := D.qkv t (64 * h + d) * (1 / 8)
/-- A head's keys. -/
def k (h t d : ℕ) : ℝ := D.qkv t (1024 + (64 * h + d))
/-- A head's values. -/
def v (h t d : ℕ) : ℝ := D.qkv t (2048 + (64 * h + d))
/-- A head's part of the result's gradient. -/
def o (h t d : ℕ) : ℝ := D.ct t (64 * h + d)

/-- A head's scores. -/
def z (h t s : ℕ) : ℝ := ∑ d : Fin 64, D.q h t d * D.k h s d
/-- The gradient of a head's weights. -/
def e (h t s : ℕ) : ℝ := ∑ d : Fin 64, D.o h t d * D.v h s d

/-- A head's gradients of queries, keys and values. -/
def headGrad (h : ℕ) : Fin 3 → ℕ → ℕ → ℝ
  | 0, t, d => (∑ s ∈ Finset.range 2048, dz (D.z h) (D.e h) t s * D.k h s d) * (1 / 8)
  | 1, s, d => ∑ t ∈ Finset.range 2048, dz (D.z h) (D.e h) t s * D.q h t d
  | 2, s, d => ∑ t ∈ Finset.range 2048, wt (D.z h) t s * D.o h t d

/-- The same by column: the heads lie side by side. -/
def grad (b : Fin 3) (t j : ℕ) : ℝ := D.headGrad (j / 64) b t (j % 64)

end Data

/-- The lanes of one head, out of the block's 128. -/
theorem sum_own (h : Fin 2) (f : Fin 128 → ℝ) :
    (∑ c, if own h c then f c else 0) = ∑ d : Fin 64, f ⟨64 * h.val + d.val, by omega⟩ := by
  rw [← Finset.sum_filter]
  refine Finset.sum_nbij' (fun c => ⟨c.val % 64, Nat.mod_lt _ (by norm_num)⟩) (fun d => ⟨64 * h.val + d.val, by omega⟩) ?_ ?_ ?_ ?_ ?_
  · intro c _; exact Finset.mem_univ _
  · intro d _
    simp only [Finset.mem_filter, Finset.mem_univ, true_and]
    show (64 * h.val + d.val) / 64 = h.val
    have := d.isLt; omega
  · intro c hc
    have hc : c.val / 64 = h.val := (Finset.mem_filter.1 hc).2
    apply Fin.ext; show 64 * h.val + c.val % 64 = c.val; omega
  · intro d _
    apply Fin.ext; show (64 * h.val + d.val) % 64 = d.val; have := d.isLt; omega
  · intro c hc
    have hc : c.val / 64 = h.val := (Finset.mem_filter.1 hc).2
    congr 1; apply Fin.ext; show c.val = 64 * h.val + c.val % 64; omega

variable (D : Data) (p : ℕ)

/-- The columns of a block of two heads. -/
def qBlk (t : ℕ) (c : Fin 128) : ℝ := D.qkv t (128 * p + c.val)
def kBlk (t : ℕ) (c : Fin 128) : ℝ := D.qkv t (1024 + (128 * p + c.val))
def vBlk (t : ℕ) (c : Fin 128) : ℝ := D.qkv t (2048 + (128 * p + c.val))
def oBlk (t : ℕ) (c : Fin 128) : ℝ := D.ct t (128 * p + c.val)

theorem scores_q (h : Fin 2) : scores (hq (qBlk D p) h) (kBlk D p) = D.z (2 * p + h.val) := by
  funext t s
  refine Eq.trans (Finset.sum_congr rfl fun c _ => ?_) ((sum_own h fun c => qBlk D p t c * (1 / 8) * kBlk D p s c).trans ?_)
  · unfold hq part; split <;> simp
  · refine Finset.sum_congr rfl fun d _ => ?_
    unfold qBlk kBlk Data.q Data.k
    simp only [show 128 * p + (64 * h.val + d.val) = 64 * (2 * p + h.val) + d.val by omega]

theorem scores_o (h : Fin 2) : scores (part h (oBlk D p)) (vBlk D p) = D.e (2 * p + h.val) := by
  funext t s
  refine Eq.trans (Finset.sum_congr rfl fun c _ => ?_) ((sum_own h fun c => oBlk D p t c * vBlk D p s c).trans ?_)
  · unfold part; split <;> simp
  · refine Finset.sum_congr rfl fun d _ => ?_
    unfold oBlk vBlk Data.o Data.v
    simp only [show 128 * p + (64 * h.val + d.val) = 64 * (2 * p + h.val) + d.val by omega]

/-- A lane of one head carries that head's sum; the other head's is zero there. -/
theorem two_heads (c : Fin 128) (F : Fin 2 → ℝ) (x : ℝ) (hx : ∀ h, F h = if own h c then x else 0) : F 0 + F 1 = x := by
  rw [hx, hx]
  have hlt := c.isLt
  by_cases hc : c.val < 64
  · rw [if_pos (show own 0 c by show c.val / 64 = 0; omega), if_neg (show ¬ own 1 c by show ¬ c.val / 64 = 1; omega), add_zero]
  · rw [if_neg (show ¬ own 0 c by show ¬ c.val / 64 = 0; omega), if_pos (show own 1 c by show c.val / 64 = 1; omega), zero_add]

/-- The kernel's sums at a grid point are the gradients of its two heads. -/
theorem grads_eq (b : Fin 3) (t : ℕ) (c : Fin 128) :
    Run.grads (qBlk D p) (kBlk D p) (vBlk D p) (oBlk D p) b t c = D.grad b t (128 * p + c.val) := by
  have hc := c.isLt
  have col (h : Fin 2) (ho : own h c) : (128 * p + c.val) / 64 = 2 * p + h.val ∧ 64 * (2 * p + h.val) + (128 * p + c.val) % 64 = 128 * p + c.val := by
    unfold own at ho; omega
  unfold Data.grad
  match b with
  | 0 =>
    show (_ + _) * (1 / 8) = (_ : ℝ) * (1 / 8)
    congr 1
    refine two_heads c (fun h => qrySum h (qBlk D p) (kBlk D p) (vBlk D p) (oBlk D p) 2048 t c) _ fun h => ?_
    simp only [qrySum, scores_q, scores_o]
    split
    · next ho =>
      obtain ⟨e1, e2⟩ := col h ho
      rw [e1]
      refine Finset.sum_congr rfl fun s _ => ?_
      unfold kBlk Data.k
      rw [e2]
    · simp
  | 1 =>
    refine two_heads c (fun h => keySum h (qBlk D p) (kBlk D p) (vBlk D p) (oBlk D p) t c) _ fun h => ?_
    simp only [keySum, scores_q, scores_o]
    simp only [hq, part]
    split
    · next ho =>
      obtain ⟨e1, e2⟩ := col h ho
      rw [e1]
      refine Finset.sum_congr rfl fun s _ => ?_
      unfold qBlk Data.q
      rw [e2]
    · simp
  | 2 =>
    refine two_heads c (fun h => valSum h (qBlk D p) (kBlk D p) (oBlk D p) t c) _ fun h => ?_
    simp only [valSum, scores_q]
    simp only [part]
    split
    · next ho =>
      obtain ⟨e1, e2⟩ := col h ho
      rw [e1]
      refine Finset.sum_congr rfl fun s _ => ?_
      unfold oBlk Data.o
      rw [e2]
    · simp

end Cert.Spec
-- ==== Proof.Host.lean ====
/- The reference's values up to the masked log-complements, at real inputs. -/
module

public import proofs.«01_k».proof.Proof.Spec
public import proofs.«01_k».proof.Proof.Gen.ReferenceIdeal.Read

@[expose] public section

set_option maxRecDepth 16384

noncomputable section

namespace Cert.Ref

open Idealize.ShloMosaic Cert.Spec Cert.Stick Cert.ReferenceIdeal Cert.ReferenceIdeal.Read

/-- An index is known by its coordinates. -/
theorem at2 {n0 n1 : ℕ} (i : (⟨2, ![n0, n1]⟩ : Shape).Idx) (a : Fin n0) (b : Fin n1) (h0 : (i 0).val = a.val) (h1 : (i 1).val = b.val) : i = ix2 a b := by
  funext x
  match x with
  | ⟨0, _⟩ => exact Fin.ext h0
  | ⟨1, _⟩ => exact Fin.ext h1

theorem at3 {n0 n1 n2 : ℕ} (i : (⟨3, ![n0, n1, n2]⟩ : Shape).Idx) (a : Fin n0) (b : Fin n1) (c : Fin n2) (h0 : (i 0).val = a.val) (h1 : (i 1).val = b.val)
    (h2 : (i 2).val = c.val) : i = ix3 a b c := by
  funext x
  match x with
  | ⟨0, _⟩ => exact Fin.ext h0
  | ⟨1, _⟩ => exact Fin.ext h1
  | ⟨2, _⟩ => exact Fin.ext h2

theorem at4 {n0 n1 n2 n3 : ℕ} (i : (⟨4, ![n0, n1, n2, n3]⟩ : Shape).Idx) (a : Fin n0) (b : Fin n1) (c : Fin n2) (d : Fin n3) (h0 : (i 0).val = a.val)
    (h1 : (i 1).val = b.val) (h2 : (i 2).val = c.val) (h3 : (i 3).val = d.val) : i = ix4 a b c d := by
  funext x
  match x with
  | ⟨0, _⟩ => exact Fin.ext h0
  | ⟨1, _⟩ => exact Fin.ext h1
  | ⟨2, _⟩ => exact Fin.ext h2
  | ⟨3, _⟩ => exact Fin.ext h3

/-- The two inputs are real. -/
structure Real (x0 : (⟨S2048x3072, .bf16⟩ : BufTy).Contents (Elt Ideal)) (x1 : (⟨S2048x1024, .bf16⟩ : BufTy).Contents (Elt Ideal)) (D : Data) : Prop where
  qkv : ∀ (t : Fin 2048) (j : Fin 3072), x0 (ix2 t j) = (D.qkv t.val j.val : EReal)
  ct : ∀ (t : Fin 2048) (j : Fin 1024), x1 (ix2 t j) = (D.ct t.val j.val : EReal)

variable {x0 : (⟨S2048x3072, .bf16⟩ : BufTy).Contents (Elt Ideal)} {x1 : (⟨S2048x1024, .bf16⟩ : BufTy).Contents (Elt Ideal)} {D : Data}

theorem eighth : (FloatOps.ofBits (F := Ideal) .f32 0x3E000000#32) = ((1 / 8 : ℝ) : EReal) := Cert.Bridge.Run.eighth_f32

theorem split_apply (R : Real x0 x1 D) (t : Fin 2048) (a : Fin 3) (h : Fin 16) (d : Fin 64) :
    val_main_v1 (F := Ideal) x0 (ix4 t a h d) = (D.qkv t.val (1024 * a.val + (64 * h.val + d.val)) : EReal) := by
  have := a.isLt; have := h.isLt; have := d.isLt; have := t.isLt
  rw [val_main_v1_apply, at2 (idx_main_v1 (ix4 t a h d)) t ⟨1024 * a.val + (64 * h.val + d.val), by omega⟩
    (by show (((t.val * 3 + a.val) * 16 + h.val) * 64 + d.val) / 3072 = t.val; omega)
    (by show (((t.val * 3 + a.val) * 16 + h.val) * 64 + d.val) % 3072 = 1024 * a.val + (64 * h.val + d.val); omega)]
  exact R.qkv _ _

theorem q_apply (R : Real x0 x1 D) (t : Fin 2048) (h : Fin 16) (d : Fin 64) : val_main_v5 (F := Ideal) x0 (ix3 t h d) = (D.q h.val t.val d.val : EReal) := by
  have := h.isLt; have := d.isLt; have := t.isLt
  rw [val_main_v5_apply, val_main_v3_apply, val_main_v2_apply, val_main_v4_apply, val_main_cst_apply, eighth,
    at4 (idx_main_v2 (idx_main_v3 (ix3 t h d))) t 0 h d
      (by show ((t.val * 16 + h.val) * 64 + d.val) / 1024 = t.val; omega) rfl
      (by show ((t.val * 16 + h.val) * 64 + d.val) / 64 % 16 = h.val; omega)
      (by show ((t.val * 16 + h.val) * 64 + d.val) % 64 = d.val; omega), split_apply R]
  unfold Data.q
  rw [EReal.coe_mul]
  simp only [Fin.val_zero, mul_zero, zero_add]
  rfl

theorem k_apply (R : Real x0 x1 D) (t : Fin 2048) (h : Fin 16) (d : Fin 64) : val_main_v7 (F := Ideal) x0 (ix3 t h d) = (D.k h.val t.val d.val : EReal) := by
  have := h.isLt; have := d.isLt; have := t.isLt
  rw [val_main_v7_apply, val_main_v6_apply,
    at4 (idx_main_v6 (idx_main_v7 (ix3 t h d))) t 1 h d
      (by show ((t.val * 16 + h.val) * 64 + d.val) / 1024 = t.val; omega) rfl
      (by show ((t.val * 16 + h.val) * 64 + d.val) / 64 % 16 = h.val; omega)
      (by show ((t.val * 16 + h.val) * 64 + d.val) % 64 = d.val; omega), split_apply R]
  rfl

theorem v_apply (R : Real x0 x1 D) (t : Fin 2048) (h : Fin 16) (d : Fin 64) : val_main_v9 (F := Ideal) x0 (ix3 t h d) = (D.v h.val t.val d.val : EReal) := by
  have := h.isLt; have := d.isLt; have := t.isLt
  rw [val_main_v9_apply, val_main_v8_apply,
    at4 (idx_main_v8 (idx_main_v9 (ix3 t h d))) t 2 h d
      (by show ((t.val * 16 + h.val) * 64 + d.val) / 1024 = t.val; omega) rfl
      (by show ((t.val * 16 + h.val) * 64 + d.val) / 64 % 16 = h.val; omega)
      (by show ((t.val * 16 + h.val) * 64 + d.val) % 64 = d.val; omega), split_apply R]
  rfl

theorem z_apply (R : Real x0 x1 D) (h : Fin 16) (t s : Fin 2048) : val_main_v10 (F := Ideal) x0 (ix3 h t s) = (D.z h.val t.val s.val : EReal) := by
  rw [val_main_v10_apply]
  unfold Data.z
  rw [← Cert.Block.sum_coe]
  refine Finset.sum_congr rfl fun d _ => ?_
  rw [at3 (lidx_main_v10 (ix3 h t s) d) t h d rfl rfl rfl, at3 (ridx_main_v10 (ix3 h t s) d) s h d rfl rfl rfl, q_apply R, k_apply R, EReal.coe_mul]

/-- Keys before the row. -/
theorem mask_apply (t s : Fin 2048) : val_main_v17 (F := Ideal) (ix2 t s) = if s.val < t.val then 1 else 0 := by
  rw [val_main_v17_apply, val_main_v15_apply, val_main_v13_apply, val_main_v12_apply, val_main_v16_apply, val_main_v14_apply, val_main_v11_apply]
  show IntOp.cmpi .slt (BitVec.ofNat 32 s.val) (BitVec.ofNat 32 t.val) = _
  rw [WordCmp.cmpi_slt_ofNat (by have := s.isLt; omega) (by have := t.isLt; omega)]
  by_cases h : s.val < t.val <;> simp [h]

/-- The host's softplus of a real. -/
def softplus (x : Ideal .f32) : Ideal .f32 :=
  Scalar.select (Ideal.cmp .une (x - Ideal.ofBits .f32 0x00000000#32) (x - Ideal.ofBits .f32 0x00000000#32))
    (x + Ideal.ofBits .f32 0x00000000#32)
    (max x (Ideal.ofBits .f32 0x00000000#32) + Ideal.log1p (Ideal.exp (-(max (x - Ideal.ofBits .f32 0x00000000#32) (-(x - Ideal.ofBits .f32 0x00000000#32))))))

theorem softplus_real (x : ℝ) : softplus (x : EReal) = ((-lsig (-x) : ℝ) : EReal) := by
  unfold softplus Scalar.select
  rw [Ideal.ofBits_zero_f32, sub_zero, if_neg (by simp [Ideal.cmp]), ← EReal.coe_neg, ← EReal.coe_zero,
    ← EReal.coe_strictMono.monotone.map_max, ← EReal.coe_strictMono.monotone.map_max, ← EReal.coe_neg, Ideal.exp_coe, Ideal.log1p, ← EReal.coe_one,
    ← EReal.coe_add, Ideal.log_coe, if_neg (not_le.2 (by positivity)), ← EReal.coe_add]
  unfold lsig
  rw [abs_neg, abs_eq_max_neg]
  congr 1
  rcases le_total x 0 with h | h
  · rw [max_eq_right h, min_eq_right (by linarith)]; ring
  · rw [max_eq_left h, min_eq_left (by linarith)]; ring

/-- The softplus's slope, as the host computes it from the softplus's value. -/
def slope (x sp : Ideal .f32) : Ideal .f32 :=
  Ideal.exp (Scalar.select (Ideal.cmp .oeq x (Ideal.ofBits .f32 0x7F800000#32)) (Ideal.ofBits .f32 0x00000000#32) x
    - Scalar.select (Ideal.cmp .oeq sp (Ideal.ofBits .f32 0x7F800000#32)) (Ideal.ofBits .f32 0x00000000#32) sp)

theorem infinity : Ideal.ofBits .f32 0x7F800000#32 = (⊤ : EReal) := by simp [Ideal.ofBits, Ideal.ieee]

theorem slope_real (x : ℝ) : slope (x : EReal) ((-lsig (-x) : ℝ) : EReal) = ((Real.exp (lsig x) : ℝ) : EReal) := by
  unfold slope Scalar.select
  rw [infinity, if_neg (by simp [Ideal.cmp]), if_neg (by simp [Ideal.cmp]), ← EReal.coe_sub, Ideal.exp_coe]
  have := lneg_eq x
  unfold lneg at this
  congr 2; linarith

theorem lneg_apply (R : Real x0 x1 D) (h : Fin 16) (t s : Fin 2048) :
    val_main_v19_0 (F := Ideal) x0 (ix3 h t s) = (lneg (D.z h.val t.val s.val) : EReal) := by
  show -softplus (-(-(val_main_v10 (F := Ideal) x0 (ix3 h t s)))) = _
  rw [neg_neg, z_apply R, softplus_real, ← EReal.coe_neg, neg_neg, lneg_eq]

theorem slope_apply (R : Real x0 x1 D) (h : Fin 16) (t s : Fin 2048) :
    val_main_v19_1 (F := Ideal) x0 (ix3 h t s) = (Real.exp (lsig (D.z h.val t.val s.val)) : EReal) := by
  show slope (-(-(val_main_v10 (F := Ideal) x0 (ix3 h t s)))) (softplus (-(-(val_main_v10 (F := Ideal) x0 (ix3 h t s))))) = _
  rw [neg_neg, z_apply R, softplus_real, slope_real]

theorem lsig_apply (R : Real x0 x1 D) (h : Fin 16) (t s : Fin 2048) :
    val_main_v21_0 (F := Ideal) x0 (ix3 h t s) = (lsig (D.z h.val t.val s.val) : EReal) := by
  show -softplus (-(val_main_v10 (F := Ideal) x0 (ix3 h t s))) = _
  rw [z_apply R, ← EReal.coe_neg, softplus_real, ← EReal.coe_neg, neg_neg, neg_neg]

theorem slope_neg_apply (R : Real x0 x1 D) (h : Fin 16) (t s : Fin 2048) :
    val_main_v21_1 (F := Ideal) x0 (ix3 h t s) = (Real.exp (lneg (D.z h.val t.val s.val)) : EReal) := by
  show slope (-(val_main_v10 (F := Ideal) x0 (ix3 h t s))) (softplus (-(val_main_v10 (F := Ideal) x0 (ix3 h t s)))) = _
  rw [z_apply R, ← EReal.coe_neg, softplus_real, slope_real, lneg_eq]

/-- The mask, the same for all heads. -/
theorem select_mask (a b : Ideal .f32) (t s : Fin 2048) (i : S2048x2048.Idx) (hi : i = ix2 t s) :
    Scalar.select (val_main_v17 (F := Ideal) i) a b = if s.val < t.val then a else b := by
  rw [hi, mask_apply]
  unfold Scalar.select
  by_cases h : s.val < t.val
  · rw [if_pos h, if_pos h, if_pos rfl]
  · rw [if_neg h, if_neg h, if_neg (by decide)]

theorem lm_apply (R : Real x0 x1 D) (h : Fin 16) (t s : Fin 2048) :
    val_main_v20_0 (F := Ideal) x0 (ix3 h t s) = (lm (D.z h.val) t.val s.val : EReal) := by
  rw [val_main_v20_0_apply, val_main_v20_1_apply, select_mask _ _ t s _ (at2 _ t s rfl rfl), lneg_apply R]
  unfold lm
  split
  · rfl
  · exact Ideal.ofBits_zero_f32

/-- The row totals. -/
theorem total_sum (R : Real x0 x1 D) (h : Fin 16) (t : Fin 2048) :
    ∑ s : Fin 2048, val_main_v20_0 (F := Ideal) x0 (ix3 h t s) = (lpre (D.z h.val) t.val 2048 : EReal) := by
  rw [lpre, Finset.sum_range, ← Cert.Block.sum_coe]
  exact Finset.sum_congr rfl fun s _ => lm_apply R h t s

end Cert.Ref
-- ==== Proof.Array.lean ====
/- The kernel's whole result: every grid point writes the gradients of its two heads. -/
module

public import proofs.«01_k».proof.Proof.Totals
public import proofs.«01_k».proof.Proof.Host
public import proofs.«01_k».proof.Proof.Gen.KernelIdeal.Value
public import Idealize.ShloMosaic.Lib.Claim
public import Idealize.ShloMosaic.Lib.Pipeline.ValueKit

@[expose] public section

set_option maxRecDepth 16384

noncomputable section

open Idealize.ShloMosaic
open Idealize.ShloMosaic.TcCoe

namespace Cert.Array

open Idealize.SL.Sem Cert.KernelIdeal Cert.KernelIdeal.Gen Cert.Spec Cert.Stick Cert.Block Cert.Bridge

variable (m : (ℓ : Loc nD τ sig) → Buf (Elt Ideal) ℓ)

/-- The gradients of all heads, as the kernel's result is laid out. -/
def result (D : Data) : S3x2048x1024.Idx → EReal := fun i => (D.grad (i 0) (i 1).val (i 2).val : EReal)

/-- A grid point's run, on the blocks it is given. -/
def point (c : Dev nD) (t : Fin cfg0.N) : Run where
  c := c
  i := grid0.coords t
  arg1 := ms0_0 t
  harg1 := hs0_0 t
  arg2 := ms0_1 t
  harg2 := hs0_1 t
  arg3 := ms0_2 t
  harg3 := hs0_2 t
  arg4 := ms0_3 t
  harg4 := hs0_3 t
  arg5 := ms0_4 t
  harg5 := hs0_4 t
  arg6 := ms0_5 t
  harg6 := hs0_5 t
  arg7 := scM0_0
  harg7 := Memref.isWhole_whole _
  arg8 := scM0_1
  harg8 := Memref.isWhole_whole _
  arg9 := scM0_2
  harg9 := Memref.isWhole_whole _
  x0 := iblk m c 0 t
  x1 := iblk m c 1 t
  x2 := iblk m c 2 t
  x3 := iblk m c 3 t
  x4 := iblk m c 4 t

theorem index_all : ∀ t : Fin cfg0.N, (cfg0.win 0).index t = ![0, t.val] ∧ (cfg0.win 1).index t = ![0, 8 + t.val] ∧ (cfg0.win 2).index t = ![0, 16 + t.val]
    ∧ (cfg0.win 3).index t = ![0, t.val] ∧ (cfg0.win 4).index t = ![0, t.val] ∧ (cfg0.win 5).index t = ![0, 0, t.val] := by
  decide +kernel

variable {m} {c : Dev nD} {D : Data}

theorem q_block (t : Fin cfg0.N) (r : Fin 2048) (l : Fin 128) (hl : 128 * t.val + l.val < 3072) :
    iblk m c 0 t (ix2 r l) = m ((c : Thread nD τ).loc main_arg0) (ix2 r (⟨128 * t.val + l.val, hl⟩ : Fin 3072)) := by
  have i0 := (index_all t).1
  blk_ext [iblk, V_main_arg0, i0]

theorem k_block (t : Fin cfg0.N) (r : Fin 2048) (l : Fin 128) (hl : 1024 + (128 * t.val + l.val) < 3072) :
    iblk m c 1 t (ix2 r l) = m ((c : Thread nD τ).loc main_arg0) (ix2 r (⟨1024 + (128 * t.val + l.val), hl⟩ : Fin 3072)) := by
  have i0 := (index_all t).2.1
  blk_ext [iblk, V_main_arg0, i0]

theorem v_block (t : Fin cfg0.N) (r : Fin 2048) (l : Fin 128) (hl : 2048 + (128 * t.val + l.val) < 3072) :
    iblk m c 2 t (ix2 r l) = m ((c : Thread nD τ).loc main_arg0) (ix2 r (⟨2048 + (128 * t.val + l.val), hl⟩ : Fin 3072)) := by
  have i0 := (index_all t).2.2.1
  blk_ext [iblk, V_main_arg0, i0]

theorem o_block (t : Fin cfg0.N) (r : Fin 2048) (l : Fin 128) (hl : 128 * t.val + l.val < 1024) :
    iblk m c 4 t (ix2 r l) = m ((c : Thread nD τ).loc main_arg1) (ix2 r (⟨128 * t.val + l.val, hl⟩ : Fin 1024)) := by
  have i0 := (index_all t).2.2.2.2.1
  blk_ext [iblk, V_main_arg1, i0]

theorem total_block (t : Fin cfg0.N) (r : Fin 2048) (l : Fin 128) (hl : 128 * t.val + l.val < 1024) :
    iblk m c 3 t (ix2 r l) = (V m c main_v24 : (⟨S2048x1024, .f32⟩ : BufTy).Contents (Elt Ideal)) (ix2 r (⟨128 * t.val + l.val, hl⟩ : Fin 1024)) := by
  have i0 := (index_all t).2.2.2.1
  unfold iblk
  show (((cfg0.win 3).blk t).view.read (Elt Ideal) (V m c main_v24)) (ix2 r l) = _
  generalize V m c main_v24 = x
  blk_ext [i0]

theorem column_lt (t : Fin cfg0.N) (l : Fin 128) : 128 * t.val + l.val < 1024 := by
  have ht : t.val < 8 := t.isLt
  have := l.isLt
  omega

theorem total_real (R : Ref.Real (m ((c : Thread nD τ).loc main_arg0)) (m ((c : Thread nD τ).loc main_arg1)) D) (t : Fin cfg0.N) (h : Fin 2) (r : Fin 2048)
    (l : Fin 128) (ho : l.val / 64 = h.val) : iblk m c 3 t (ix2 r l) = (lpre (D.z (2 * t.val + h.val)) r.val 2048 : EReal) := by
  have hl := column_lt t l
  exact (total_block t r l hl).trans ((Totals.total_apply m c r ⟨128 * t.val + l.val, hl⟩ ⟨2 * t.val + h.val, by have : t.val < 8 := t.isLt; omega⟩
    (by show (128 * t.val + l.val) / 64 = 2 * t.val + h.val; omega)).trans (Ref.total_sum R _ r))

theorem q_real (R : Ref.Real (m ((c : Thread nD τ).loc main_arg0)) (m ((c : Thread nD τ).loc main_arg1)) D) (t : Fin cfg0.N) (r : Fin 2048)
    (l : Fin 128) : iblk m c 0 t (ix2 r l) = (qBlk D t.val r.val l : EReal) :=
  (q_block t r l (by have := column_lt t l; omega)).trans (R.qkv r _)

theorem k_real (R : Ref.Real (m ((c : Thread nD τ).loc main_arg0)) (m ((c : Thread nD τ).loc main_arg1)) D) (t : Fin cfg0.N) (r : Fin 2048)
    (l : Fin 128) : iblk m c 1 t (ix2 r l) = (kBlk D t.val r.val l : EReal) :=
  (k_block t r l (by have := column_lt t l; omega)).trans (R.qkv r _)

theorem v_real (R : Ref.Real (m ((c : Thread nD τ).loc main_arg0)) (m ((c : Thread nD τ).loc main_arg1)) D) (t : Fin cfg0.N) (r : Fin 2048)
    (l : Fin 128) : iblk m c 2 t (ix2 r l) = (vBlk D t.val r.val l : EReal) :=
  (v_block t r l (by have := column_lt t l; omega)).trans (R.qkv r _)

theorem o_real (R : Ref.Real (m ((c : Thread nD τ).loc main_arg0)) (m ((c : Thread nD τ).loc main_arg1)) D) (t : Fin cfg0.N) (r : Fin 2048)
    (l : Fin 128) : iblk m c 4 t (ix2 r l) = (oBlk D t.val r.val l : EReal) :=
  (o_block t r l (column_lt t l)).trans (R.ct r _)

theorem point_real (R : Ref.Real (m ((c : Thread nD τ).loc main_arg0)) (m ((c : Thread nD τ).loc main_arg1)) D) (t : Fin cfg0.N) :
    (point m c t).Real (qBlk D t.val) (kBlk D t.val) (vBlk D t.val) (oBlk D t.val) :=
  ⟨q_real R t, k_real R t, v_real R t, o_real R t, fun h r l ho => by rw [scores_q]; exact total_real R t h r l ho⟩

/-- What a grid point leaves in its block of the result. -/
theorem out_eq (t : Fin cfg0.N) : outsAt0 m c t = View.canon (point m c t).stores := by
  unfold outsAt0 out0_A_5
  exact View.read_writes_junk_eq_canon _ _

theorem array_eq (R : Ref.Real (m ((c : Thread nD τ).loc main_arg0)) (m ((c : Thread nD τ).loc main_arg1)) D) :
    (dats m 0 c).arrAt 5 cfg0.N = result D := by
  refine (dats m 0 c).arrAt_eq_of_covers 5 _ (by decide +kernel) fun t hf y => ?_
  have i0 := (index_all t).2.2.2.2.2
  have ht : t.val < 8 := t.isLt
  rw [after0_5, out_eq]
  rw [cast_eq]
  obtain ⟨b, r, l, hy⟩ : ∃ (b : Fin 3) (r : Fin 2048) (l : Fin 128), (cfg0.win 5).xinj (cfg0.grid.coords t) y = ix3 b r l :=
    ⟨(cfg0.win 5).xinj (cfg0.grid.coords t) y 0, (cfg0.win 5).xinj (cfg0.grid.coords t) y 1, (cfg0.win 5).xinj (cfg0.grid.coords t) y 2, Ref.at3 _ _ _ _ rfl rfl rfl⟩
  rw [hy]
  refine (Run.stores_real (point_real R t) b r l).trans ?_
  rw [grads_eq]
  have hb : (y 0).val = b.val := congrArg Fin.val (congrFun hy 0)
  have hr : (y 1).val = r.val := congrArg Fin.val (congrFun hy 1)
  have hl : (y 2).val = l.val := congrArg Fin.val (congrFun hy 2)
  unfold result
  have e0 : ((((cfg0.win 5).blk t).view.emb y) 0).val = b.val := by blk_simp [i0]; omega
  have e1 : ((((cfg0.win 5).blk t).view.emb y) 1).val = r.val := by blk_simp [i0]; omega
  have e2 : ((((cfg0.win 5).blk t).view.emb y) 2).val = 128 * t.val + l.val := by blk_simp [i0]; omega
  rw [e1, e2, show (((cfg0.win 5).blk t).view.emb y) 0 = b from Fin.ext e0]

end Cert.Array
-- ==== Proof.Window.lean ====
/- Running sums along the last axis, read off the host's windows. -/
module

public import proofs.«01_k».proof.Proof.Host

@[expose] public section

noncomputable section

namespace Cert.Window

open Idealize.ShloMosaic Finset

theorem foldl_add {ι : Type} (g : ι → EReal) (l : List ι) (v : EReal) : l.foldl (fun r n => r + g n) v = v + (l.map g).sum := by
  induction l generalizing v with
  | nil => simp
  | cons a l ih => rw [List.foldl_cons, ih, List.map_cons, List.sum_cons, add_assoc]

/-- A sum over a window that is long in the last axis only. -/
theorem sum_idx {N : ℕ} (g : ℕ → EReal) :
    ∑ w : (⟨3, ![1, 1, N]⟩ : Shape).Idx, g (w 2).val = ∑ n ∈ range N, g n := by
  rw [Finset.sum_range]
  refine Finset.sum_nbij' (fun w => w 2) (fun k : Fin N => ix3 (0 : Fin 1) (0 : Fin 1) k) (fun _ _ => mem_univ _) (fun _ _ => mem_univ _) (fun w _ => ?_)
    (fun _ _ => rfl) (fun _ _ => rfl)
  refine (Ref.at3 w (0 : Fin 1) (0 : Fin 1) (w 2) ?_ ?_ rfl).symm
  · have : (w 0).val < 1 := (w 0).isLt
    show (w 0).val = 0; omega
  · have : (w 1).val < 1 := (w 1).isLt
    show (w 1).val = 0; omega

variable {A B N lo hi : ℕ}

/-- A window's sum at an index, of a real row, with zero outside. -/
theorem window_apply (x : (⟨3, ![A, B, N]⟩ : Shape).Idx → EReal) (v : EReal) (hv : v = 0)
    (h : (⟨3, ![A, B, N]⟩ : Shape).ReduceWindows ![1, 1, N] ![1, 1, 1] ![0, 0, lo] ![0, 0, hi] ⟨3, ![A, B, N]⟩) (a : Fin A) (b : Fin B) (j : Fin N) (f : ℕ → ℝ)
    (hf : ∀ s : Fin N, x (ix3 a b s) = (f s.val : EReal)) :
    Ideal.hostReduceWindowAdd ![1, 1, N] ![1, 1, 1] ![0, 0, lo] ![0, 0, hi] h x v (ix3 a b j)
      = ((∑ n ∈ range N, if lo ≤ j.val + n ∧ j.val + n - lo < N then f (j.val + n - lo) else 0 : ℝ) : EReal) := by
  subst hv
  unfold Ideal.hostReduceWindowAdd Host.reduceWindow
  dsimp only
  rw [foldl_add, zero_add, ← Fin.sum_univ_def]
  have key (w : (⟨3, ![1, 1, N]⟩ : Shape).Idx) (dec : Decidable (∀ c : Fin 3, (![0, 0, lo] : Fin 3 → ℕ) c ≤ ((ix3 a b j : (⟨3, ![A, B, N]⟩ : Shape).Idx) (c.cast h.1.symm)).val * (![1, 1, 1] : Fin 3 → ℕ) c + (w c).val
          ∧ ((ix3 a b j : (⟨3, ![A, B, N]⟩ : Shape).Idx) (c.cast h.1.symm)).val * (![1, 1, 1] : Fin 3 → ℕ) c + (w c).val - (![0, 0, lo] : Fin 3 → ℕ) c < (![A, B, N] : Fin 3 → ℕ) c)) :
      (if hin : ∀ c : Fin 3, (![0, 0, lo] : Fin 3 → ℕ) c ≤ ((ix3 a b j : (⟨3, ![A, B, N]⟩ : Shape).Idx) (c.cast h.1.symm)).val * (![1, 1, 1] : Fin 3 → ℕ) c + (w c).val
          ∧ ((ix3 a b j : (⟨3, ![A, B, N]⟩ : Shape).Idx) (c.cast h.1.symm)).val * (![1, 1, 1] : Fin 3 → ℕ) c + (w c).val - (![0, 0, lo] : Fin 3 → ℕ) c < (![A, B, N] : Fin 3 → ℕ) c
        then x (fun c => ⟨_, (hin c).2⟩) else 0)
      = (((if lo ≤ j.val + (w 2).val ∧ j.val + (w 2).val - lo < N then f (j.val + (w 2).val - lo) else 0 : ℝ)) : EReal) := by
    have w0 : (w 0).val = 0 := by have : (w 0).val < 1 := (w 0).isLt; omega
    have w1 : (w 1).val = 0 := by have : (w 1).val < 1 := (w 1).isLt; omega
    by_cases hc : lo ≤ j.val + (w 2).val ∧ j.val + (w 2).val - lo < N
    · rw [if_pos hc, dif_pos]
      · refine (congrArg x (Ref.at3 _ a b ⟨j.val + (w 2).val - lo, hc.2⟩ ?_ ?_ ?_)).trans (hf _)
        · show a.val * 1 + (w 0).val - 0 = a.val; omega
        · show b.val * 1 + (w 1).val - 0 = b.val; omega
        · show j.val * 1 + (w 2).val - lo = j.val + (w 2).val - lo; omega
      · intro c
        match c with
        | ⟨0, _⟩ => show 0 ≤ a.val * 1 + (w 0).val ∧ a.val * 1 + (w 0).val - 0 < A; have := a.isLt; omega
        | ⟨1, _⟩ => show 0 ≤ b.val * 1 + (w 1).val ∧ b.val * 1 + (w 1).val - 0 < B; have := b.isLt; omega
        | ⟨2, _⟩ => show lo ≤ j.val * 1 + (w 2).val ∧ j.val * 1 + (w 2).val - lo < N; omega
    · rw [if_neg hc, dif_neg]
      · rfl
      · intro hin
        have h2 : lo ≤ j.val * 1 + (w 2).val ∧ j.val * 1 + (w 2).val - lo < N := hin 2
        exact hc (by omega)
  refine (Finset.sum_congr rfl fun n _ => key _ _).trans ?_
  rw [Equiv.sum_comp (⟨3, ![1, 1, N]⟩ : Shape).rowMajor.symm (fun w => (((if lo ≤ j.val + (w 2).val ∧ j.val + (w 2).val - lo < N then f (j.val + (w 2).val - lo) else 0 : ℝ)) : EReal)),
    sum_idx fun n => (((if lo ≤ j.val + n ∧ j.val + n - lo < N then f (j.val + n - lo) else 0 : ℝ)) : EReal), Finset.sum_range, Finset.sum_range, Cert.Block.sum_coe]

/-- The same for the host's operation. -/
theorem host_apply {u : Shape} (x : FVec Ideal ⟨3, ![A, B, N]⟩ .f32) (v : FVec Ideal u .f32) (hu : 0 < u.numel) (hv : v (Shape.Idx.first hu) = (0 : EReal))
    (h : (⟨3, ![A, B, N]⟩ : Shape).ReduceWindows ![1, 1, N] ![1, 1, 1] ![0, 0, lo] ![0, 0, hi] ⟨3, ![A, B, N]⟩) (a : Fin A) (b : Fin B) (j : Fin N) (f : ℕ → ℝ)
    (hf : ∀ s : Fin N, x (ix3 a b s) = (f s.val : EReal)) :
    Host.reduceWindowAdd (F := Ideal) ![1, 1, N] ![1, 1, 1] ![0, 0, lo] ![0, 0, hi] x v h hu (ix3 a b j)
      = ((∑ n ∈ range N, if lo ≤ j.val + n ∧ j.val + n - lo < N then f (j.val + n - lo) else 0 : ℝ) : EReal) :=
  window_apply x _ hv h a b j f hf

/-- Looking ahead: what is left of the row from here on. -/
theorem ahead (f : ℕ → ℝ) (N j : ℕ) (hj : j ≤ N) :
    (∑ n ∈ range N, if 0 ≤ j + n ∧ j + n - 0 < N then f (j + n - 0) else 0) = ∑ s ∈ range N, f s - ∑ s ∈ range j, f s := by
  rw [← Finset.sum_range_add_sum_Ico f hj, add_sub_cancel_left, Finset.sum_Ico_eq_sum_range, ← Finset.sum_filter]
  refine Finset.sum_congr ?_ fun n _ => rfl
  ext n
  simp only [mem_filter, mem_range]
  omega

/-- Looking back: the row up to and with here. -/
theorem behind (f : ℕ → ℝ) (N j : ℕ) (hj : j < N) :
    (∑ n ∈ range N, if N - 1 ≤ j + n ∧ j + n - (N - 1) < N then f (j + n - (N - 1)) else 0) = ∑ s ∈ range (j + 1), f s := by
  rw [← Finset.sum_filter]
  refine Finset.sum_nbij' (fun n => j + n - (N - 1)) (fun s => s + (N - 1) - j) ?_ ?_ ?_ ?_ ?_ <;>
    (try intro n hn; simp only [mem_filter, mem_range] at hn ⊢; try omega)

end Cert.Window
-- ==== Proof.Ref.lean ====
/- The reference's gradients, at real inputs. -/
module

public import proofs.«01_k».proof.Proof.Window
public import Idealize.ShloMosaic.Lib.KernelVsHost

@[expose] public section

set_option maxRecDepth 16384

noncomputable section

namespace Cert.Ref

open Idealize.ShloMosaic Cert.Spec Cert.Stick Cert.ReferenceIdeal Cert.ReferenceIdeal.Gen Cert.ReferenceIdeal.Read Finset

variable {x0 : (⟨S2048x3072, .bf16⟩ : BufTy).Contents (Elt Ideal)} {x1 : (⟨S2048x1024, .bf16⟩ : BufTy).Contents (Elt Ideal)} {D : Data}

/-- The logarithms from a key on. -/
theorem ahead_apply (R : Real x0 x1 D) (h : Fin 16) (t s : Fin 2048) :
    val_main_v22 (F := Ideal) x0 (ix3 h t s) = ((lpre (D.z h.val) t.val 2048 - lpre (D.z h.val) t.val s.val : ℝ) : EReal) := by
  have hl := lm_apply R h t
  have hv : val_main_call3_v0 (F := Ideal) (Shape.Idx.first h_S_) = (0 : EReal) := by
    rw [val_main_call3_v0_apply, val_main_call3_cst_apply]; exact Ideal.ofBits_zero_f32
  unfold val_main_v22
  generalize val_main_v20_0 (F := Ideal) x0 = x at hl ⊢
  generalize val_main_call3_v0 (F := Ideal) = v at hv ⊢
  refine (Window.host_apply (A := 16) (B := 2048) (N := 2048) (lo := 0) (hi := 2047) x v h_S_ hv reduceWindows_S16x2048x2048_S16x2048x2048_w1s1p0_0_w1s1p0_0_w2048s1p0_2047
    h t s (fun k => lm (D.z h.val) t.val k) hl).trans ?_
  rw [Window.ahead _ _ _ (by omega)]
  rfl

/-- A weight, before the mask. -/
theorem weight_apply (R : Real x0 x1 D) (h : Fin 16) (t s : Fin 2048) :
    val_main_v25 (F := Ideal) x0 (ix3 h t s)
      = (Real.exp (lsig (D.z h.val t.val s.val) + (lpre (D.z h.val) t.val 2048 - lpre (D.z h.val) t.val (s.val + 1))) : EReal) := by
  show Ideal.exp (val_main_v21_0 (F := Ideal) x0 (ix3 h t s) + val_main_v22 (F := Ideal) x0 (ix3 h t s) - val_main_v20_0 (F := Ideal) x0 (ix3 h t s)) = _
  rw [lsig_apply R, ahead_apply R, lm_apply R, ← EReal.coe_add, ← EReal.coe_sub, Ideal.exp_coe, show lpre (D.z h.val) t.val (s.val + 1) =
    lpre (D.z h.val) t.val s.val + lm (D.z h.val) t.val s.val from Finset.sum_range_succ _ _]
  congr 2; ring

theorem zero_f32 : FloatOps.ofBits (F := Ideal) .f32 0x00000000#32 = ((0 : ℝ) : EReal) := Ideal.ofBits_zero_f32

theorem wt_apply (R : Real x0 x1 D) (h : Fin 16) (t s : Fin 2048) :
    val_main_v26_0 (F := Ideal) x0 (ix3 h t s) = (wt (D.z h.val) t.val s.val : EReal) := by
  rw [val_main_v26_0_apply, val_main_v26_1_apply, select_mask _ _ t s _ (at2 _ t s rfl rfl), weight_apply R]
  unfold wt
  split
  · rfl
  · exact zero_f32

theorem o_apply (R : Real x0 x1 D) (h : Fin 16) (d : Fin 64) (t : Fin 2048) : val_main_v32 (F := Ideal) x1 (ix3 h d t) = (D.o h.val t.val d.val : EReal) := by
  have := h.isLt; have := d.isLt; have := t.isLt
  rw [val_main_v32_apply, val_main_v31_apply, val_main_v30_apply, at2 (idx_main_v31 (idx_main_v32 (ix3 h d t))) t ⟨64 * h.val + d.val, by omega⟩
    (by show ((t.val * 16 + h.val) * 64 + d.val) / 1024 = t.val; omega)
    (by show ((t.val * 16 + h.val) * 64 + d.val) % 1024 = 64 * h.val + d.val; omega)]
  exact R.ct _ _

theorem e_apply (R : Real x0 x1 D) (h : Fin 16) (t s : Fin 2048) : val_main_v33 (F := Ideal) x0 x1 (ix3 h t s) = (D.e h.val t.val s.val : EReal) := by
  rw [val_main_v33_apply]
  unfold Data.e
  rw [← Cert.Block.sum_coe]
  refine Finset.sum_congr rfl fun d _ => ?_
  rw [at3 (lidx_main_v33 (ix3 h t s) d) h d t rfl rfl rfl, at3 (ridx_main_v33 (ix3 h t s) d) s h d rfl rfl rfl, o_apply R, v_apply R, EReal.coe_mul]

theorem gt_apply (R : Real x0 x1 D) (h : Fin 16) (t s : Fin 2048) :
    val_main_v37 (F := Ideal) x0 x1 (ix3 h t s) = (gt (D.z h.val) (D.e h.val) t.val s.val : EReal) := by
  rw [val_main_v37_apply, val_main_v36_apply, val_main_v26_1_apply, select_mask _ _ t s _ (at2 _ t s rfl rfl), e_apply R, weight_apply R]
  unfold gt wt
  split
  · exact (EReal.coe_mul _ _).symm
  · show (Ideal.ofBits .f32 0x00000000#32 : EReal) * _ = _
    rw [Ideal.ofBits_zero_f32, zero_mul, mul_zero, EReal.coe_zero]

/-- The sum over the keys before this one. -/
theorem gpre_apply (R : Real x0 x1 D) (h : Fin 16) (t s : Fin 2048) :
    val_main_v40 (F := Ideal) x0 x1 (ix3 h t s) = (gpre (D.z h.val) (D.e h.val) t.val s.val : EReal) := by
  have hb : val_main_v39 (F := Ideal) x0 x1 (ix3 h t s) = (gpre (D.z h.val) (D.e h.val) t.val (s.val + 1) : EReal) := by
    have hl := gt_apply R h t
    have hv : val_main_call6_v0 (F := Ideal) (Shape.Idx.first h_S_) = (0 : EReal) := by
      rw [val_main_call6_v0_apply, val_main_call6_cst_apply]; exact Ideal.ofBits_zero_f32
    unfold val_main_v39
    generalize val_main_v37 (F := Ideal) x0 x1 = x at hl ⊢
    generalize val_main_call6_v0 (F := Ideal) = v at hv ⊢
    refine (Window.host_apply (A := 16) (B := 2048) (N := 2048) (lo := 2047) (hi := 0) x v h_S_ hv reduceWindows_S16x2048x2048_S16x2048x2048_w1s1p0_0_w1s1p0_0_w2048s1p2047_0
      h t s (fun k => gt (D.z h.val) (D.e h.val) t.val k) hl).trans ?_
    exact congrArg _ (Window.behind _ 2048 _ s.isLt)
  show -(val_main_v37 (F := Ideal) x0 x1 (ix3 h t s)) + val_main_v39 (F := Ideal) x0 x1 (ix3 h t s) = _
  rw [gt_apply R, hb, ← EReal.coe_neg, ← EReal.coe_add, show gpre (D.z h.val) (D.e h.val) t.val (s.val + 1) =
    gpre (D.z h.val) (D.e h.val) t.val s.val + gt (D.z h.val) (D.e h.val) t.val s.val from Finset.sum_range_succ _ _]
  refine congrArg Real.toEReal ?_; ring

theorem dz_apply (R : Real x0 x1 D) (h : Fin 16) (t s : Fin 2048) :
    val_main_v45 (F := Ideal) x0 x1 (ix3 h t s) = (dz (D.z h.val) (D.e h.val) t.val s.val : EReal) := by
  have hm : val_main_v42 (F := Ideal) x0 x1 (ix3 h t s) = ((if s.val < t.val then gpre (D.z h.val) (D.e h.val) t.val s.val else 0 : ℝ) : EReal) := by
    rw [val_main_v42_apply, val_main_v20_1_apply, select_mask _ _ t s _ (at2 _ t s rfl rfl), gpre_apply R]
    split
    · rfl
    · exact zero_f32
  show -(-(val_main_v37 (F := Ideal) x0 x1 (ix3 h t s)) * val_main_v21_1 (F := Ideal) x0 (ix3 h t s))
    + -(-(-(val_main_v42 (F := Ideal) x0 x1 (ix3 h t s)) * val_main_v19_1 (F := Ideal) x0 (ix3 h t s))) = _
  rw [gt_apply R, slope_neg_apply R, hm, slope_apply R, ← EReal.coe_neg, ← EReal.coe_neg, ← EReal.coe_mul, ← EReal.coe_mul, ← EReal.coe_neg, ← EReal.coe_neg,
    ← EReal.coe_neg, ← EReal.coe_add]
  refine congrArg Real.toEReal ?_
  unfold dz
  split
  · ring
  · next hs => rw [gt, wt, if_neg hs]; ring

/-- The three gradients, by head. -/
theorem dv_apply (R : Real x0 x1 D) (t : Fin 2048) (h : Fin 16) (d : Fin 64) :
    val_main_v35 (F := Ideal) x0 x1 (ix3 t h d) = (D.headGrad h.val 2 t.val d.val : EReal) := by
  rw [val_main_v35_apply, at3 (idx_main_v35 (ix3 t h d)) h d t rfl rfl rfl, val_main_v34_apply]
  show _ = ((∑ s ∈ range 2048, _ : ℝ) : EReal)
  rw [Finset.sum_range, ← Cert.Block.sum_coe]
  refine Finset.sum_congr rfl fun s _ => ?_
  rw [at3 (lidx_main_v34 (ix3 h d t) s) h d s rfl rfl rfl, at3 (ridx_main_v34 (ix3 h d t) s) h s t rfl rfl rfl, o_apply R, wt_apply R, ← EReal.coe_mul, mul_comm]

theorem dk_apply (R : Real x0 x1 D) (t : Fin 2048) (h : Fin 16) (d : Fin 64) :
    val_main_v47 (F := Ideal) x0 x1 (ix3 t h d) = (D.headGrad h.val 1 t.val d.val : EReal) := by
  rw [val_main_v47_apply, at3 (idx_main_v47 (ix3 t h d)) h t d rfl rfl rfl, val_main_v46_apply]
  show _ = ((∑ s ∈ range 2048, _ : ℝ) : EReal)
  rw [Finset.sum_range, ← Cert.Block.sum_coe]
  refine Finset.sum_congr rfl fun s _ => ?_
  rw [at3 (lidx_main_v46 (ix3 h t d) s) h s t rfl rfl rfl, at3 (ridx_main_v46 (ix3 h t d) s) s h d rfl rfl rfl, dz_apply R, q_apply R, ← EReal.coe_mul]

theorem dq_apply (R : Real x0 x1 D) (t : Fin 2048) (h : Fin 16) (d : Fin 64) :
    val_main_v56 (F := Ideal) x0 x1 (ix3 t h d) = (D.headGrad h.val 0 t.val d.val : EReal) := by
  rw [val_main_v56_apply, val_main_v49_apply, val_main_v55_apply, val_main_cst_4_apply, eighth, at3 (idx_main_v49 (ix3 t h d)) h t d rfl rfl rfl, val_main_v48_apply]
  show _ = ((_ * (1 / 8) : ℝ) : EReal)
  rw [EReal.coe_mul, Finset.sum_range, ← Cert.Block.sum_coe]
  show _ * _ = _ * _
  refine congrArg₂ (· * ·) ?_ rfl
  refine Finset.sum_congr rfl fun s _ => ?_
  rw [at3 (lidx_main_v48 (ix3 h t d) s) h t s rfl rfl rfl, at3 (ridx_main_v48 (ix3 h t d) s) s h d rfl rfl rfl, dz_apply R, k_apply R, ← EReal.coe_mul]

/-- A plane padded to one of three. -/
theorem pad_apply (lo hi : Fin 4 → ℕ) (x : FVec Ideal S2048x1x16x64 .f32) (v : FVec Ideal S_ .f32) (hv : v (Shape.Idx.first h_S_) = 0) (p a : Fin 3)
    (h : S2048x1x16x64.Pads lo hi ![0, 0, 0, 0] S2048x3x16x64) (hlo : lo = ![0, p.val, 0, 0]) (t : Fin 2048) (g : Fin 16) (d : Fin 64) :
    pad S2048x3x16x64 lo hi ![0, 0, 0, 0] x v h h_S_ (ix4 t a g d) = if a = p then x (ix4 t 0 g d) else 0 := by
  subst hlo
  by_cases hp : a = p
  · rw [if_pos hp]
    refine pad_apply_of_inside _ _ _ x v h h_S_ _ (ix4 t (0 : Fin 1) g d) fun b => ?_
    match b with
    | ⟨0, _⟩ => show t.val = 0 + t.val * (0 + 1); omega
    | ⟨1, _⟩ => show a.val = p.val + 0 * (0 + 1); rw [hp]; omega
    | ⟨2, _⟩ => show g.val = 0 + g.val * (0 + 1); omega
    | ⟨3, _⟩ => show d.val = 0 + d.val * (0 + 1); omega
  · rw [if_neg hp, ← hv]
    refine pad_apply_of_not_inside _ _ _ x v h h_S_ _ (1 : Fin 4) fun hin => ?_
    have hne : a.val ≠ p.val := fun e => hp (Fin.ext e)
    have h1 : p.val ≤ a.val ∧ (a.val - p.val) % (0 + 1) = 0 ∧ (a.val - p.val) / (0 + 1) < 1 := hin
    rw [Nat.div_one] at h1
    omega

/-- Side by side. -/
theorem grad_apply (R : Real x0 x1 D) (t : Fin 2048) (a : Fin 3) (h : Fin 16) (d : Fin 64) :
    val_main_v59 (F := Ideal) x0 x1 (ix4 t a h d) = (D.headGrad h.val a t.val d.val : EReal) := by
  have e2 : val_main_v51 (F := Ideal) x0 x1 (ix4 t a h d) = if a = 2 then (D.headGrad h.val 2 t.val d.val : EReal) else 0 := by
    refine (pad_apply _ _ _ _ Ideal.ofBits_zero_f32 2 a _ rfl t h d).trans ?_
    rw [val_main_v50_apply, at3 (idx_main_v50 (ix4 t 0 h d)) t h d rfl rfl rfl, dv_apply R]
  have e1 : val_main_v53 (F := Ideal) x0 x1 (ix4 t a h d) = if a = 1 then (D.headGrad h.val 1 t.val d.val : EReal) else 0 := by
    refine (pad_apply _ _ _ _ Ideal.ofBits_zero_f32 1 a _ rfl t h d).trans ?_
    rw [val_main_v52_apply, at3 (idx_main_v52 (ix4 t 0 h d)) t h d rfl rfl rfl, dk_apply R]
  have e0 : val_main_v58 (F := Ideal) x0 x1 (ix4 t a h d) = if a = 0 then (D.headGrad h.val 0 t.val d.val : EReal) else 0 := by
    refine (pad_apply _ _ _ _ Ideal.ofBits_zero_f32 0 a _ rfl t h d).trans ?_
    rw [val_main_v57_apply, at3 (idx_main_v57 (ix4 t 0 h d)) t h d rfl rfl rfl, dq_apply R]
  show val_main_v51 (F := Ideal) x0 x1 (ix4 t a h d) + val_main_v53 (F := Ideal) x0 x1 (ix4 t a h d) + val_main_v58 (F := Ideal) x0 x1 (ix4 t a h d) = _
  rw [e0, e1, e2]
  match a with
  | 0 => simp
  | 1 => simp
  | 2 => simp

/-- The reference's result. -/
theorem result_eq (R : Real x0 x1 D) (a : Fin 3) (t : Fin 2048) (j : Fin 1024) :
    val_main_v63 (F := Ideal) x0 x1 (ix3 a t j) = (D.grad a t.val j.val : EReal) := by
  have := a.isLt; have := t.isLt; have := j.isLt
  show val_main_v62 (F := Ideal) x0 x1 (ix3 a t j) = _
  rw [val_main_v62_apply, val_main_v61_apply, val_main_v60_apply, at4 (idx_main_v60 (idx_main_v61 (idx_main_v62 (ix3 a t j)))) t a ⟨j.val / 64, by omega⟩ ⟨j.val % 64, by omega⟩
    (by show (((t.val * 3 + a.val) * 1024 + j.val) / 3072 * 3072 + ((t.val * 3 + a.val) * 1024 + j.val) % 3072) / 3072 = t.val; omega)
    (by show (((t.val * 3 + a.val) * 1024 + j.val) / 3072 * 3072 + ((t.val * 3 + a.val) * 1024 + j.val) % 3072) / 1024 % 3 = a.val; omega)
    (by show (((t.val * 3 + a.val) * 1024 + j.val) / 3072 * 3072 + ((t.val * 3 + a.val) * 1024 + j.val) % 3072) / 64 % 16 = j.val / 64; omega)
    (by show (((t.val * 3 + a.val) * 1024 + j.val) / 3072 * 3072 + ((t.val * 3 + a.val) * 1024 + j.val) % 3072) % 64 = j.val % 64; omega), grad_apply R]
  rfl

end Cert.Ref
-- ==== Proof.Finite.lean ====
/- What the precondition says: both inputs are real. -/
module

public import proofs.«01_k».proof.Pre_finite
public import proofs.«01_k».proof.Proof.Host
public import Idealize.ShloMosaic.Lib.KernelVsHost

@[expose] public section

set_option maxRecDepth 16384

noncomputable section

namespace Cert.Ref

open Idealize.ShloMosaic Cert.Spec

/-- The predicate's shape relations. -/
instance finiteShapes : Cert.Pre_finite.Facts where
  bitsLt_bf16_f32 := by decide
  concatenates_S2048x3072_S2048x1024_S2048x4096_d1 := by decide
  bcast_S_S2048x4096 := by decide

/-- A value whose magnitude lies below infinity is real. -/
theorem real_of_lt (x : EReal) (h : Ideal.cmp .olt (max x (-x)) (Ideal.ofBits .f32 0x7F800000#32) = 1#1) : x = (x.toReal : EReal) := by
  rw [infinity] at h
  induction x with
  | coe r => rfl
  | top => simp [Ideal.cmp] at h
  | bot => simp [Ideal.cmp] at h

variable {x0 : (⟨Cert.ReferenceIdeal.S2048x3072, .bf16⟩ : BufTy).Contents (Elt Ideal)} {x1 : (⟨Cert.ReferenceIdeal.S2048x1024, .bf16⟩ : BufTy).Contents (Elt Ideal)}

/-- The two inputs' magnitudes, side by side. -/
def sizes (x0 : (⟨Cert.ReferenceIdeal.S2048x3072, .bf16⟩ : BufTy).Contents (Elt Ideal)) (x1 : (⟨Cert.ReferenceIdeal.S2048x1024, .bf16⟩ : BufTy).Contents (Elt Ideal)) :
    Cert.Pre_finite.S2048x4096.Idx → EReal :=
  concatenate Cert.Pre_finite.S2048x4096 1 [⟨Cert.Pre_finite.S2048x3072, (fun i => max (x0 i) (-(x0 i)) : Cert.Pre_finite.S2048x3072.Idx → EReal)⟩,
    ⟨Cert.Pre_finite.S2048x1024, (fun i => max (x1 i) (-(x1 i)) : Cert.Pre_finite.S2048x1024.Idx → EReal)⟩] finiteShapes.concatenates_S2048x3072_S2048x1024_S2048x4096_d1

theorem fn_eq (i : Cert.Pre_finite.S2048x4096.Idx) :
    Cert.Pre_finite.fn (F := Ideal) x0 x1 i = Ideal.cmp .olt (sizes x0 x1 i) (Ideal.ofBits .f32 0x7F800000#32) := rfl

theorem left_real (h : Cert.Pre_finite.fn (F := Ideal) x0 x1 = fun _ => 1#1) (t : Fin 2048) (j : Fin 3072) :
    x0 (ix2 t j) = (EReal.toReal (x0 (ix2 t j)) : EReal) := by
  have e := congrFun h (ix2 t (⟨j.val, by omega⟩ : Fin 4096))
  rw [fn_eq] at e
  have c : sizes x0 x1 (ix2 t (⟨j.val, by omega⟩ : Fin 4096)) = max (x0 (ix2 t j)) (-(x0 (ix2 t j))) :=
    concatenate_pair_apply_left (s₁ := Cert.Pre_finite.S2048x3072) (s₂ := Cert.Pre_finite.S2048x1024) (t := Cert.Pre_finite.S2048x4096) 1 _ _
      finiteShapes.concatenates_S2048x3072_S2048x1024_S2048x4096_d1 _ rfl (ix2 t j) fun b => by
      match b with
      | ⟨0, _⟩ => rfl
      | ⟨1, _⟩ => rfl
  rw [c] at e
  exact real_of_lt _ e

theorem right_real (h : Cert.Pre_finite.fn (F := Ideal) x0 x1 = fun _ => 1#1) (t : Fin 2048) (j : Fin 1024) :
    x1 (ix2 t j) = (EReal.toReal (x1 (ix2 t j)) : EReal) := by
  have e := congrFun h (ix2 t (⟨j.val + 3072, by omega⟩ : Fin 4096))
  rw [fn_eq] at e
  have c : sizes x0 x1 (ix2 t (⟨j.val + 3072, by omega⟩ : Fin 4096)) = max (x1 (ix2 t j)) (-(x1 (ix2 t j))) :=
    concatenate_pair_apply_right (s₁ := Cert.Pre_finite.S2048x3072) (s₂ := Cert.Pre_finite.S2048x1024) (t := Cert.Pre_finite.S2048x4096) 1 _ _
      finiteShapes.concatenates_S2048x3072_S2048x1024_S2048x4096_d1 _ rfl rfl (ix2 t j) (fun b hb => by
      match b with
      | ⟨0, _⟩ => rfl
      | ⟨1, _⟩ => exact absurd rfl hb) rfl
  rw [c] at e
  exact real_of_lt _ e

/-- The inputs as real numbers. -/
def data (x0 : (⟨Cert.ReferenceIdeal.S2048x3072, .bf16⟩ : BufTy).Contents (Elt Ideal)) (x1 : (⟨Cert.ReferenceIdeal.S2048x1024, .bf16⟩ : BufTy).Contents (Elt Ideal)) : Data where
  qkv t j := if h : t < 2048 ∧ j < 3072 then EReal.toReal (x0 (ix2 (⟨t, h.1⟩ : Fin 2048) (⟨j, h.2⟩ : Fin 3072))) else 0
  ct t j := if h : t < 2048 ∧ j < 1024 then EReal.toReal (x1 (ix2 (⟨t, h.1⟩ : Fin 2048) (⟨j, h.2⟩ : Fin 1024))) else 0

theorem real_data (h : Cert.Pre_finite.fn (F := Ideal) x0 x1 = fun _ => 1#1) : Real x0 x1 (data x0 x1) where
  qkv t j := by
    rw [left_real h t j]
    show _ = ((dite _ _ _ : ℝ) : EReal)
    rw [dif_pos (And.intro t.isLt j.isLt)]
  ct t j := by
    rw [right_real h t j]
    show _ = ((dite _ _ _ : ℝ) : EReal)
    rw [dif_pos (And.intro t.isLt j.isLt)]

end Cert.Ref
-- ==== Proof.Attention.lean ====
/- The attention's backward call: its gradients are the reference's. -/
module

public import proofs.«01_k».proof.Defs
public import proofs.«01_k».proof.Proof.Array
public import proofs.«01_k».proof.Proof.Ref
public import proofs.«01_k».proof.Proof.Finite
public import proofs.«01_k».proof.Proof.Gen.ReferenceIdeal.Run

@[expose] public section

set_option maxRecDepth 16384

noncomputable section

namespace Cert.Attention

open Idealize.ShloMosaic Idealize.SL.Sem Idealize.ShloMosaic.TcCoe Cert.Spec

/-- The reference's run keeps its arguments and declares no semaphore. -/
theorem reference_quiet (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m g)

/-- The reference's result on real inputs. -/
theorem reference_result {x0 : (⟨Cert.ReferenceIdeal.S2048x3072, .bf16⟩ : BufTy).Contents (Elt Ideal)} {x1 : (⟨Cert.ReferenceIdeal.S2048x1024, .bf16⟩ : BufTy).Contents (Elt Ideal)}
    {D : Data} (R : Ref.Real x0 x1 D) : Cert.ReferenceIdeal.Read.val_main_v63 (F := Ideal) x0 x1 = Array.result D := by
  funext i
  have h := Ref.result_eq R (i 0) (i 1) (i 2)
  rw [← Ref.at3 i (i 0) (i 1) (i 2) rfl rfl rfl] at h
  exact h

/-- On finite inputs the kernel and the reference end with the same gradients. -/
theorem equal : Cert.algebraic_KernelIdeal_ReferenceIdeal_pre_finite (hKernelIdeal := Cert.KernelIdeal.Gen.facts) (hReferenceIdeal := Cert.ReferenceIdeal.Gen.facts)
    (hPre_finite := Ref.finiteShapes) := by
  intro m g m' g' hpre hagree
  refine ⟨fun c => Array.result (Ref.data (m ((c.tc : Thread Cert.KernelIdeal.nD Cert.KernelIdeal.τ).loc Cert.KernelIdeal.main_arg0))
      (m ((c.tc : Thread Cert.KernelIdeal.nD Cert.KernelIdeal.τ).loc Cert.KernelIdeal.main_arg1))), ?_, ?_⟩
  · refine (θ_run Cert.KernelIdeal.defs _ _).mono (fun r h c => ⟨(h c).1.trans ?_, (h c).2⟩) (Cert.KernelIdeal.Value.run_blocks (F := Ideal) m g)
    exact Array.array_eq (Ref.real_data (hpre c))
  · refine (θ_run Cert.ReferenceIdeal.defs _ _).mono (fun r h c => ⟨(h c).1.trans ?_, (h c).2⟩) (Cert.ReferenceIdeal.Value.run (F := Ideal) m' g')
    refine (Cert.ReferenceIdeal.Read.val_main_v63_eq (StableHlo.launchContents m' c)).trans ?_
    have R := Ref.real_data (hpre c)
    have e0 := (hagree c).1
    have e1 := (hagree c).2
    exact (congrArg₂ (Cert.ReferenceIdeal.Read.val_main_v63 (F := Ideal)) e0 e1).trans (reference_result R)

end Cert.Attention
-- ==== Proof.DownDa.lean ====
module

public import proofs.«01_k».proof.Defs
public import proofs.«01_k».proof.Proof.Gen.Kernel2Ideal.Value
public import proofs.«01_k».proof.Proof.Gen.Reference2Ideal.Run
public import proofs.«01_k».proof.Proof.Gen.Reference2Ideal.Read
public import Idealize.ShloMosaic.Lib.Claim
public import Idealize.ShloMosaic.Lib.Pointwise
public import Idealize.ShloMosaic.Lib.Pipeline.ValueKit

/-! # The down product's gradient of its activations

Grid point `t` holds the whole incoming gradient and the weights of one slice; it multiplies the one by the
transpose of the other and writes one slice of the gradient. The reference multiplies all slices at once.
-/

@[expose] public section
set_option maxRecDepth 16384
noncomputable section
open Idealize.ShloMosaic Idealize.ShloMosaic.TcCoe Idealize.SL.Sem

namespace Cert.DownDa

open Cert.Kernel2Ideal Cert.Kernel2Ideal.Gen Cert.Reference2Ideal.Read

variable (m : (ℓ : Loc nD τ sig) → Buf (Elt Ideal) ℓ)

/-- What the reference computes from the arguments the kernel was given. -/
abbrev want (c : Dev nD) :=
  val_main_v7 (F := Ideal) (m ((c : Thread nD τ).loc main_arg0)) (m ((c : Thread nD τ).loc main_arg1))

/-- The block every window stands at, at each grid point. -/
theorem index_all : ∀ t : Fin cfg0.N, win0_0.index t = ![0, 0] ∧ win0_1.index t = ![t.val, 0, 0, 0] ∧ win0_2.index t = ![t.val, 0, 0] :=
  (by decide +kernel : ∀ t : Fin grid0.N, _)

/-- At one grid point the written block is the slice of the reference's product that it covers. -/
theorem point (c : Dev nD) (t : Fin cfg0.N) (y) : k0_pay1 (iblk m c 0 t) (iblk m c 1 t) y
    = want m c (((cfg0.win 2).blk t).view.emb y) := by
  unfold want
  pointwise [k0_pay1, val_main_v7, val_main_v6, val_main_v5, val_main_v4, val_main_v1, val_main_v0]
  blk_point [iblk, V, index_all t]

/-- The kernel's whole result is the reference's. -/
theorem final (c : Dev nD) : (dats m 0 c).arrAt 2 cfg0.N = want m c := by
  refine (dats m 0 c).arrAt_eq_of_covers 2 _ (by decide +kernel) fun t _ y => ?_
  blk_simp
  rw [after0_2]; frame_out
  exact point m c t y

/-- The reference runs, and leaves its arguments as they were. -/
theorem reference_quiet : Cert.quiescent_Reference2Ideal := fun m g _ =>
  (θ_run (Cert.Reference2Ideal.defs (F := Ideal)) _ _).mono
    (fun r h => ⟨fun c => (h c).2, sem_eq_zero_of_no_sems (by decide) r.2⟩)
    (Cert.Reference2Ideal.Value.run (F := Ideal) m g)

/-- The claim: from memories that agree on the arguments, both run and end with equal results. -/
theorem equal : Cert.algebraic_Kernel2Ideal_Reference2Ideal := by
  intro m g m' g' _ hagree
  refine ⟨fun c => want m c, ?_, ?_⟩
  · exact (θ_run (Cert.Kernel2Ideal.defs (F := Ideal)) _ _).mono
      (fun r h c => ⟨(h c).1.trans (final m c), (h c).2⟩) (Cert.Kernel2Ideal.Value.run_blocks (F := Ideal) m g)
  · refine (θ_run (Cert.Reference2Ideal.defs (F := Ideal)) _ _).mono
      (fun r h c => ⟨(h c).1.trans ?_, (h c).2⟩) (Cert.Reference2Ideal.Value.run (F := Ideal) m' g')
    refine (val_main_v7_eq _ _).trans ?_
    exact congrArg₂ (val_main_v7 (F := Ideal)) (hagree c).1 (hagree c).2

end Cert.DownDa
-- ==== Proof.DownDw.lean ====
module

public import proofs.«01_k».proof.Defs
public import proofs.«01_k».proof.Proof.Gen.Kernel3Ideal.Value
public import proofs.«01_k».proof.Proof.Gen.Reference3Ideal.Run
public import proofs.«01_k».proof.Proof.Gen.Reference3Ideal.Read
public import Idealize.ShloMosaic.Lib.Claim
public import Idealize.ShloMosaic.Lib.Pointwise
public import Idealize.ShloMosaic.Lib.Pipeline.ValueKit

/-! # The down product's gradient of its weights

Grid point `t` multiplies the transpose of one slice of the activations by the whole incoming gradient, and cuts
the product in the two halves of 352 rows that two devices hold.
-/

@[expose] public section
set_option maxRecDepth 16384
noncomputable section
open Idealize.ShloMosaic Idealize.ShloMosaic.TcCoe Idealize.SL.Sem

namespace Cert.DownDw

open Cert.Kernel3Ideal Cert.Kernel3Ideal.Gen Cert.Reference3Ideal.Read

variable (m : (ℓ : Loc nD τ sig) → Buf (Elt Ideal) ℓ)

/-- What the reference computes from the arguments the kernel was given. -/
abbrev want (c : Dev nD) :=
  val_main_v8 (F := Ideal) (m ((c : Thread nD τ).loc main_arg0)) (m ((c : Thread nD τ).loc main_arg1))

/-- The block every window stands at, at each grid point. -/
theorem index_all : ∀ t : Fin cfg0.N, win0_0.index t = ![t.val, 0, 0] ∧ win0_1.index t = ![0, 0] ∧ win0_2.index t = ![t.val, 0, 0] :=
  (by decide +kernel : ∀ t : Fin grid0.N, _)

/-- At one grid point the written block is two of the eight parts of the reference's product: entry `y` of the block
against entry `z` of the array, where `z` is `y` moved to the block's place. -/
theorem point (c : Dev nD) (t : Fin cfg0.N) (y : S2x352x1024.Idx) (z : S8x352x1024.Idx)
    (h0 : (z 0 : ℕ) = t.val * 2 + y 0) (h1 : (z 1 : ℕ) = y 1) (h2 : (z 2 : ℕ) = y 2) :
    k0_pay1 (iblk m c 0 t) (iblk m c 1 t) y = want m c z := by
  unfold want
  pointwise [k0_pay1, val_main_v8, val_main_v7, val_main_v6, val_main_v5, val_main_v2, val_main_v1, val_main_v0]
  refine Fin.sum_fin_congr fun k => (EReal.mul_comm _ _).trans ?_
  blk_point [iblk, V, index_all t]

/-- The kernel's whole result is the reference's. -/
theorem final (c : Dev nD) : (dats m 0 c).arrAt 2 cfg0.N = want m c := by
  refine (dats m 0 c).arrAt_eq_of_covers 2 _ (by decide +kernel) fun t _ y => ?_
  blk_simp
  rw [after0_2]; frame_out
  refine point m c t y _ ?_ ?_ ?_ <;> (blk_simp [index_all t] <;> try omega)

/-- The reference runs, and leaves its arguments as they were. -/
theorem reference_quiet : Cert.quiescent_Reference3Ideal := fun m g _ =>
  (θ_run (Cert.Reference3Ideal.defs (F := Ideal)) _ _).mono
    (fun r h => ⟨fun c => (h c).2, sem_eq_zero_of_no_sems (by decide) r.2⟩)
    (Cert.Reference3Ideal.Value.run (F := Ideal) m g)

/-- The claim: from memories that agree on the arguments, both run and end with equal results. -/
theorem equal : Cert.algebraic_Kernel3Ideal_Reference3Ideal := by
  intro m g m' g' _ hagree
  refine ⟨fun c => want m c, ?_, ?_⟩
  · exact (θ_run (Cert.Kernel3Ideal.defs (F := Ideal)) _ _).mono
      (fun r h c => ⟨(h c).1.trans (final m c), (h c).2⟩) (Cert.Kernel3Ideal.Value.run_blocks (F := Ideal) m g)
  · refine (θ_run (Cert.Reference3Ideal.defs (F := Ideal)) _ _).mono
      (fun r h c => ⟨(h c).1.trans ?_, (h c).2⟩) (Cert.Reference3Ideal.Value.run (F := Ideal) m' g')
    refine (val_main_v8_eq _ _).trans ?_
    exact congrArg₂ (val_main_v8 (F := Ideal)) (hagree c).1 (hagree c).2

end Cert.DownDw
-- ==== Proof.UpDa.lean ====
module

public import proofs.«01_k».proof.Defs
public import proofs.«01_k».proof.Proof.Gen.Kernel4Ideal.Value
public import proofs.«01_k».proof.Proof.Gen.Reference4Ideal.Run
public import proofs.«01_k».proof.Proof.Gen.Reference4Ideal.Read
public import Idealize.ShloMosaic.Lib.Claim
public import Idealize.ShloMosaic.Lib.Pointwise
public import Idealize.ShloMosaic.Lib.Pipeline.ValueKit
public import Idealize.ShloMosaic.Lib.Pipeline.ReadBack

/-! # The up product's gradient of its activations

Eight grid points in a row share one block of 1024 rows of the result. Each multiplies one slice of the incoming
gradient by one slice of the weights and adds the product to what the points before it left; the last one writes the
sum. The reference contracts all slices at once.
-/

@[expose] public section
set_option maxRecDepth 16384
noncomputable section
open Idealize.ShloMosaic Idealize.ShloMosaic.TcCoe Idealize.SL.Sem

namespace Cert.UpDa

open Cert.Kernel4Ideal Cert.Kernel4Ideal.Gen Cert.Reference4Ideal.Read

variable (m : (ℓ : Loc nD τ sig) → Buf (Elt Ideal) ℓ)

/-- What the reference computes from the arguments the kernel was given. -/
abbrev want (c : Dev nD) :=
  val_main_v8 (F := Ideal) (m ((c : Thread nD τ).loc main_arg0)) (m ((c : Thread nD τ).loc main_arg1))

/-- The block every window stands at, at each grid point. -/
theorem index_all : ∀ t : Fin cfg0.N, win0_0.index t = ![t.val % 8, t.val / 8, 0]
    ∧ win0_1.index t = ![t.val % 8, 0, 0, 0] ∧ win0_2.index t = ![t.val / 8, 0] :=
  (by decide +kernel : ∀ t : Fin grid0.N, _)

/-- The product of one slice, which the first point of a row stores. -/
theorem first (x0 : Vec Ideal S1x1024x704 .bf16) (x1 : Vec Ideal S1x1x704x1024 .bf16) (j : S1024x1024.Idx) :
    k0_pay2 x0 x1 j = ∑ k : Fin 704, x0 (ix3 0 (j 0) k) * x1 (ix4 0 0 k (j 1)) := by
  pointwise [k0_pay2, k0_pay1]

/-- The product of one slice, which every later point adds. -/
theorem next (x0 : Vec Ideal S1x1024x704 .bf16) (x1 : Vec Ideal S1x1x704x1024 .bf16) (acc : Vec Ideal S1024x1024 .f32)
    (j : S1024x1024.Idx) :
    k0_pay3 x0 x1 acc j = acc j + ∑ k : Fin 704, x0 (ix3 0 (j 0) k) * x1 (ix4 0 0 k (j 1)) := by
  pointwise [k0_pay3, k0_pay1]

/-- The reference at one index, slice by slice. -/
theorem want_at (x0 : Vec Ideal S8x2048x704 .bf16) (x1 : Vec Ideal S8x1x704x1024 .bf16) (j : S2048x1024.Idx) :
    val_main_v8 x0 x1 j = ∑ a : Fin 8, ∑ k : Fin 704, x0 (ix3 a (j 0) k) * x1 (ix4 a 0 k (j 1)) := by
  pointwise [val_main_v8, val_main_v5, val_main_v4, val_main_v3, val_main_v2, val_main_v1, val_main_v0]
  refine (Fin.sum_mul_add_congr fun a k hl => ?_).symm
  congr 1 <;> blk_ext

/-- What point `t` adds to the sum. -/
abbrev part (c : Dev nD) (t : Fin cfg0.N) (j : S1024x1024.Idx) : EReal :=
  ∑ k : Fin 704, (show FVec Ideal S1x1024x704 .bf16 from iblk m c 0 t) (ix3 0 (j 0) k)
    * (show FVec Ideal S1x1x704x1024 .bf16 from iblk m c 1 t) (ix4 0 0 k (j 1))

/-- The first point of a row stores its part. -/
theorem step_first (c : Dev nD) (t : Fin cfg0.N) (h : t.val % 8 = 0) (j : S1024x1024.Idx) :
    (outsAt0 m c t.val t.isLt).2 j = 0 + part m c t j := by
  rw [outsAt0_A m c t h (by omega) (by omega)]; frame_out
  rw [first, zero_add]

/-- Every later point adds its part to what the point before it left. -/
theorem step_next (c : Dev nD) (t : Fin cfg0.N) (h : ¬t.val % 8 = 0) (j : S1024x1024.Idx) :
    (outsAt0 m c t.val t.isLt).2 j
      = (outsAt0 m c (t.val - 1) (Nat.lt_of_le_of_lt (Nat.sub_le _ _) t.isLt)).2 j + part m c t j := by
  by_cases h7 : t.val % 8 = 7
  · rw [outsAt0_C m c t h (by omega) h7]; frame_out
    rw [next]; simp only [read_unread_whole]
  · rw [outsAt0_B m c t h (by omega) h7]; frame_out
    rw [next]; simp only [read_unread_whole]

/-- The last point of a row writes the sum it has reached. -/
theorem written (c : Dev nD) (t : Fin cfg0.N) (h : t.val % 8 = 7) :
    (outsAt0 m c t.val t.isLt).1 = (outsAt0 m c t.val t.isLt).2 := by
  rw [outsAt0_C m c t (by omega) (by omega) h]; frame_out

/-- The kernel's whole result is the reference's. -/
theorem final (c : Dev nD) : (dats m 0 c).arrAt 2 cfg0.N = want m c := by
  refine (dats m 0 c).arrAt_eq_of_covers 2 _ (by decide +kernel) fun t hf y => ?_
  blk_simp
  have h7 := (flush0_2 t).mp hf
  rw [after0_2, written m c t h7, Pipeline.eq_sum_fin_of_reset_step_apply_of_flush (fun n h => (outsAt0 m c n h).2) 8
    (fun _ => (0 : EReal)) (part m c) (step_first m c) (step_next m c) t h7, zero_add]
  unfold want
  rw [want_at]
  refine Fin.sum_fin_congr fun s => ?_
  refine Fin.sum_fin_congr fun k => ?_
  blk_point [iblk, V, index_all t, index_all ⟨_, Pipeline.run_point_lt_of_flush t h7 s⟩]

/-- The reference runs, and leaves its arguments as they were. -/
theorem reference_quiet : Cert.quiescent_Reference4Ideal := fun m g _ =>
  (θ_run (Cert.Reference4Ideal.defs (F := Ideal)) _ _).mono
    (fun r h => ⟨fun c => (h c).2, sem_eq_zero_of_no_sems (by decide) r.2⟩)
    (Cert.Reference4Ideal.Value.run (F := Ideal) m g)

/-- The claim: from memories that agree on the arguments, both run and end with equal results. -/
theorem equal : Cert.algebraic_Kernel4Ideal_Reference4Ideal := by
  intro m g m' g' _ hagree
  refine ⟨fun c => want m c, ?_, ?_⟩
  · exact (θ_run (Cert.Kernel4Ideal.defs (F := Ideal)) _ _).mono
      (fun r h c => ⟨(h c).1.trans (final m c), (h c).2⟩) (Cert.Kernel4Ideal.Value.run_blocks (F := Ideal) m g)
  · refine (θ_run (Cert.Reference4Ideal.defs (F := Ideal)) _ _).mono
      (fun r h c => ⟨(h c).1.trans ?_, (h c).2⟩) (Cert.Reference4Ideal.Value.run (F := Ideal) m' g')
    refine (val_main_v8_eq _ _).trans ?_
    exact congrArg₂ (val_main_v8 (F := Ideal)) (hagree c).1 (hagree c).2

end Cert.UpDa
-- ==== Proof.UpDw.lean ====
module

public import proofs.«01_k».proof.Defs
public import proofs.«01_k».proof.Proof.Gen.Kernel5Ideal.Value
public import proofs.«01_k».proof.Proof.Gen.Reference5Ideal.Run
public import proofs.«01_k».proof.Proof.Gen.Reference5Ideal.Read
public import Idealize.ShloMosaic.Lib.Claim
public import Idealize.ShloMosaic.Lib.Pointwise
public import Idealize.ShloMosaic.Lib.Pipeline.ValueKit

/-! # The up product's gradient of its weights

Grid point `t` multiplies the transpose of one slice of the incoming gradient by the whole activations.
-/

@[expose] public section
set_option maxRecDepth 16384
noncomputable section
open Idealize.ShloMosaic Idealize.ShloMosaic.TcCoe Idealize.SL.Sem

namespace Cert.UpDw

open Cert.Kernel5Ideal Cert.Kernel5Ideal.Gen Cert.Reference5Ideal.Read

variable (m : (ℓ : Loc nD τ sig) → Buf (Elt Ideal) ℓ)

/-- What the reference computes from the arguments the kernel was given. -/
abbrev want (c : Dev nD) :=
  val_main_v10 (F := Ideal) (m ((c : Thread nD τ).loc main_arg0)) (m ((c : Thread nD τ).loc main_arg1))

/-- The block every window stands at, at each grid point. -/
theorem index_all : ∀ t : Fin cfg0.N, win0_0.index t = ![t.val, 0, 0] ∧ win0_1.index t = ![0, 0] ∧ win0_2.index t = ![t.val, 0, 0] :=
  (by decide +kernel : ∀ t : Fin grid0.N, _)

/-- At one grid point the written block is the slice of the reference's product that it covers. -/
theorem point (c : Dev nD) (t : Fin cfg0.N) (y) : k0_pay1 (iblk m c 0 t) (iblk m c 1 t) y
    = want m c (((cfg0.win 2).blk t).view.emb y) := by
  unfold want
  pointwise [k0_pay1, val_main_v10, val_main_v9, val_main_v8, val_main_v7, val_main_v6, val_main_v3, val_main_v2, val_main_v1, val_main_v0]
  blk_point [iblk, V, index_all t]

/-- The kernel's whole result is the reference's. -/
theorem final (c : Dev nD) : (dats m 0 c).arrAt 2 cfg0.N = want m c := by
  refine (dats m 0 c).arrAt_eq_of_covers 2 _ (by decide +kernel) fun t _ y => ?_
  blk_simp
  rw [after0_2]; frame_out
  exact point m c t y

/-- The reference runs, and leaves its arguments as they were. -/
theorem reference_quiet : Cert.quiescent_Reference5Ideal := fun m g _ =>
  (θ_run (Cert.Reference5Ideal.defs (F := Ideal)) _ _).mono
    (fun r h => ⟨fun c => (h c).2, sem_eq_zero_of_no_sems (by decide) r.2⟩)
    (Cert.Reference5Ideal.Value.run (F := Ideal) m g)

/-- The claim: from memories that agree on the arguments, both run and end with equal results. -/
theorem equal : Cert.algebraic_Kernel5Ideal_Reference5Ideal := by
  intro m g m' g' _ hagree
  refine ⟨fun c => want m c, ?_, ?_⟩
  · exact (θ_run (Cert.Kernel5Ideal.defs (F := Ideal)) _ _).mono
      (fun r h c => ⟨(h c).1.trans (final m c), (h c).2⟩) (Cert.Kernel5Ideal.Value.run_blocks (F := Ideal) m g)
  · refine (θ_run (Cert.Reference5Ideal.defs (F := Ideal)) _ _).mono
      (fun r h c => ⟨(h c).1.trans ?_, (h c).2⟩) (Cert.Reference5Ideal.Value.run (F := Ideal) m' g')
    refine (val_main_v10_eq _ _).trans ?_
    exact congrArg₂ (val_main_v10 (F := Ideal)) (hagree c).1 (hagree c).2

end Cert.UpDw
-- ==== Proof.UpFwd.lean ====
module

public import proofs.«01_k».proof.Defs
public import proofs.«01_k».proof.Proof.Gen.Kernel6Ideal.Value
public import proofs.«01_k».proof.Proof.Gen.Reference6Ideal.Run
public import proofs.«01_k».proof.Proof.Gen.Reference6Ideal.Read
public import Idealize.ShloMosaic.Lib.Claim
public import Idealize.ShloMosaic.Lib.Pointwise
public import Idealize.ShloMosaic.Lib.Pipeline.ValueKit

/-! # The up product

Grid point `t` multiplies the whole activations by the transpose of one slice of the weights.
-/

@[expose] public section
set_option maxRecDepth 16384
noncomputable section
open Idealize.ShloMosaic Idealize.ShloMosaic.TcCoe Idealize.SL.Sem

namespace Cert.UpFwd

open Cert.Kernel6Ideal Cert.Kernel6Ideal.Gen Cert.Reference6Ideal.Read

variable (m : (ℓ : Loc nD τ sig) → Buf (Elt Ideal) ℓ)

/-- What the reference computes from the arguments the kernel was given. -/
abbrev want (c : Dev nD) :=
  val_main_v7 (F := Ideal) (m ((c : Thread nD τ).loc main_arg0)) (m ((c : Thread nD τ).loc main_arg1))

/-- The block every window stands at, at each grid point. -/
theorem index_all : ∀ t : Fin cfg0.N, win0_0.index t = ![0, 0] ∧ win0_1.index t = ![t.val, 0, 0, 0] ∧ win0_2.index t = ![t.val, 0, 0] :=
  (by decide +kernel : ∀ t : Fin grid0.N, _)

/-- At one grid point the written block is the slice of the reference's product that it covers. -/
theorem point (c : Dev nD) (t : Fin cfg0.N) (y) : k0_pay1 (iblk m c 0 t) (iblk m c 1 t) y
    = want m c (((cfg0.win 2).blk t).view.emb y) := by
  unfold want
  pointwise [k0_pay1, val_main_v7, val_main_v6, val_main_v5, val_main_v4, val_main_v3, val_main_v2, val_main_v1, val_main_v0]
  blk_point [iblk, V, index_all t]

/-- The kernel's whole result is the reference's. -/
theorem final (c : Dev nD) : (dats m 0 c).arrAt 2 cfg0.N = want m c := by
  refine (dats m 0 c).arrAt_eq_of_covers 2 _ (by decide +kernel) fun t _ y => ?_
  blk_simp
  rw [after0_2]; frame_out
  exact point m c t y

/-- The reference runs, and leaves its arguments as they were. -/
theorem reference_quiet : Cert.quiescent_Reference6Ideal := fun m g _ =>
  (θ_run (Cert.Reference6Ideal.defs (F := Ideal)) _ _).mono
    (fun r h => ⟨fun c => (h c).2, sem_eq_zero_of_no_sems (by decide) r.2⟩)
    (Cert.Reference6Ideal.Value.run (F := Ideal) m g)

/-- The claim: from memories that agree on the arguments, both run and end with equal results. -/
theorem equal : Cert.algebraic_Kernel6Ideal_Reference6Ideal := by
  intro m g m' g' _ hagree
  refine ⟨fun c => want m c, ?_, ?_⟩
  · exact (θ_run (Cert.Kernel6Ideal.defs (F := Ideal)) _ _).mono
      (fun r h c => ⟨(h c).1.trans (final m c), (h c).2⟩) (Cert.Kernel6Ideal.Value.run_blocks (F := Ideal) m g)
  · refine (θ_run (Cert.Reference6Ideal.defs (F := Ideal)) _ _).mono
      (fun r h c => ⟨(h c).1.trans ?_, (h c).2⟩) (Cert.Reference6Ideal.Value.run (F := Ideal) m' g')
    refine (val_main_v7_eq _ _).trans ?_
    exact congrArg₂ (val_main_v7 (F := Ideal)) (hagree c).1 (hagree c).2

end Cert.UpFwd
-- ==== Proof.DownFwd.lean ====
module

public import proofs.«01_k».proof.Defs
public import proofs.«01_k».proof.Proof.Gen.Kernel7Ideal.Value
public import proofs.«01_k».proof.Proof.Gen.Reference7Ideal.Run
public import proofs.«01_k».proof.Proof.Gen.Reference7Ideal.Read
public import Idealize.ShloMosaic.Lib.Claim
public import Idealize.ShloMosaic.Lib.Pointwise
public import Idealize.ShloMosaic.Lib.Pipeline.ValueKit
public import Idealize.ShloMosaic.Lib.Pipeline.ReadBack

/-! # The down product, with the residual and the norm after it

Four grid points in a row share one block of 1024 rows. Each multiplies one slice of the activations by two parts of the
weights and adds the product to what the points before it left. The last one adds the residual, writes the sum as the
first result, and writes the sum divided by its root mean square and scaled as the second. The reference contracts all
slices at once.
-/

@[expose] public section
set_option maxRecDepth 16384
noncomputable section
open Idealize.ShloMosaic Idealize.ShloMosaic.TcCoe Idealize.SL.Sem

namespace Cert.DownFwd

open Cert.Kernel7Ideal Cert.Kernel7Ideal.Gen Cert.Reference7Ideal.Read

variable (m : (ℓ : Loc nD τ sig) → Buf (Elt Ideal) ℓ)

/-- What the reference computes from the arguments the kernel was given. -/
abbrev want (c : Dev nD) :=
  val_main_v6 (F := Ideal) (m ((c : Thread nD τ).loc main_arg0)) (m ((c : Thread nD τ).loc main_arg1))
    (m ((c : Thread nD τ).loc main_arg2))

/-- The block every window stands at, at each grid point. -/
theorem index_all : ∀ t : Fin cfg0.N, win0_0.index t = ![t.val % 4, t.val / 4, 0]
    ∧ win0_1.index t = ![t.val % 4, 0, 0, 0] ∧ win0_2.index t = ![t.val / 4, 0] ∧ win0_3.index t = ![0, 0]
    ∧ win0_4.index t = ![t.val / 4, 0] ∧ win0_5.index t = ![t.val / 4, 0] :=
  (by decide +kernel : ∀ t : Fin grid0.N, _)

/-- The first point of a row stores the product of its slice. -/
theorem first (x0 : Vec Ideal S1x1024x704 .bf16) (x1 : Vec Ideal S2x1x352x1024 .bf16) (j : S1024x1024.Idx) :
    k0_pay2 x0 x1 j = k0_pay1 x0 x1 j := by
  pointwise [k0_pay2]

/-- Every later point adds the product of its slice. -/
theorem next (x0 : Vec Ideal S1x1024x704 .bf16) (x1 : Vec Ideal S2x1x352x1024 .bf16) (acc : Vec Ideal S1024x1024 .f32)
    (j : S1024x1024.Idx) : k0_pay3 x0 x1 acc j = acc j + k0_pay1 x0 x1 j := by
  pointwise [k0_pay3]

/-- The two parts of 352 rows that slice `l / 704` of the weights is made of, read as one matrix: row `l`. -/
abbrev row (X : Vec Ideal S8x1x352x1024 .bf16) (l : Fin 2816) (i : Fin 1024) : EReal :=
  X (ix4 ⟨l.val / 352, by omega⟩ 0 ⟨l.val % 352, by omega⟩ i)

/-- The reference's first result at one index, slice by slice. -/
theorem want_at (x0 : Vec Ideal S4x2048x704 .bf16) (x1 : Vec Ideal S8x1x352x1024 .bf16) (x2 : Vec Ideal S2048x1024 .f32)
    (j : S2048x1024.Idx) : val_main_v6 x0 x1 x2 j
      = x2 j + ∑ a : Fin 4, ∑ k : Fin 704, x0 (ix3 a (j 0) k) * row x1 ⟨a.val * 704 + k.val, by omega⟩ (j 1) := by
  pointwise [val_main_v6, val_main_v5, val_main_v4, val_main_v3, val_main_v2, val_main_v1, val_main_v0]
  congr 1
  refine (Fin.sum_mul_add_congr fun a k hl => ?_).symm
  congr 1 <;> blk_ext

/-- What point `t` adds to the sum. -/
abbrev part (c : Dev nD) (t : Fin cfg0.N) (j : S1024x1024.Idx) : EReal :=
  k0_pay1 (F := Ideal) (iblk m c 0 t) (iblk m c 1 t) j

/-- One part is one slice of the reference's sum: entry `y` of the block against entry `z` of the array, where `z` is `y`
moved to the block's place. -/
theorem part_eq (c : Dev nD) (t : Fin cfg0.N) (a : Fin 4) (y : S1024x1024.Idx) (z : S2048x1024.Idx)
    (ha : t.val % 4 = a.val) (h0 : (z 0 : ℕ) = t.val / 4 * 1024 + y 0) (h1 : (z 1 : ℕ) = y 1) :
    part m c t y = ∑ k : Fin 704, (show Vec Ideal S4x2048x704 .bf16 from m ((c : Thread nD τ).loc main_arg0)) (ix3 a (z 0) k)
      * row (m ((c : Thread nD τ).loc main_arg1)) ⟨a.val * 704 + k.val, by omega⟩ (z 1) := by
  unfold part row
  pointwise [k0_pay1]
  blk_point [iblk, V, index_all t]

/-- The first point of a row stores its part. -/
theorem step_first (c : Dev nD) (t : Fin cfg0.N) (h : t.val % 4 = 0) (j : S1024x1024.Idx) :
    (outsAt0 m c t.val t.isLt).2.2 j = 0 + part m c t j := by
  rw [outsAt0_A m c t h (by omega) (by omega)]; frame_out
  rw [first, zero_add]

/-- Every later point adds its part to what the point before it left. -/
theorem step_next (c : Dev nD) (t : Fin cfg0.N) (h : ¬t.val % 4 = 0) (j : S1024x1024.Idx) :
    (outsAt0 m c t.val t.isLt).2.2 j
      = (outsAt0 m c (t.val - 1) (Nat.lt_of_le_of_lt (Nat.sub_le _ _) t.isLt)).2.2 j + part m c t j := by
  by_cases h7 : t.val % 4 = 3
  · rw [outsAt0_C m c t h (by omega) h7]; frame_out
    rw [next]; simp only [read_unread_whole]
  · rw [outsAt0_B m c t h (by omega) h7]; frame_out
    rw [next]; simp only [read_unread_whole]

/-- The last point of a row writes the residual plus the sum it has reached, and the norm of that. -/
theorem written (c : Dev nD) (t : Fin cfg0.N) (h : t.val % 4 = 3) :
    (outsAt0 m c t.val t.isLt).1 = k0_pay4 (outsAt0 m c t.val t.isLt).2.2 (iblk m c 2 t)
      ∧ (outsAt0 m c t.val t.isLt).2.1 = k0_pay5 (outsAt0 m c t.val t.isLt).2.2 (iblk m c 2 t) (iblk m c 3 t) := by
  constructor <;> (rw [outsAt0_C m c t (by omega) (by omega) h]; frame_out)

/-- The first result, at the last point of a row: entry `y` of the block against entry `z` of the array. -/
theorem point (c : Dev nD) (t : Fin cfg0.N) (h : t.val % 4 = 3) (y : S1024x1024.Idx) (z : S2048x1024.Idx)
    (h0 : (z 0 : ℕ) = t.val / 4 * 1024 + y 0) (h1 : (z 1 : ℕ) = y 1) :
    k0_pay4 (F := Ideal) (outsAt0 m c t.val t.isLt).2.2 (iblk m c 2 t) y = want m c z := by
  have hs := Pipeline.eq_sum_fin_of_reset_step_apply_of_flush (fun n h => (outsAt0 m c n h).2.2) 4
    (fun _ => (0 : EReal)) (part m c) (step_first m c) (step_next m c) t h y
  generalize (outsAt0 m c t.val t.isLt).2.2 = s at hs ⊢
  unfold want
  rw [want_at]
  pointwise [k0_pay4]
  rw [hs, zero_add]
  refine (add_comm (G := EReal) _ _).trans ?_
  congr 1
  · blk_ext [iblk, V, index_all t]
  · refine Fin.sum_fin_congr fun s => part_eq m c _ s _ _ ?_ ?_ h1
    · show (4 * (t.val / 4) + s.val) % 4 = s.val
      omega
    · show _ = (4 * (t.val / 4) + s.val) / 4 * 1024 + _
      omega

/-- The kernel's first result is the reference's. -/
theorem final (c : Dev nD) : (dats m 0 c).arrAt 4 cfg0.N = want m c := by
  refine (dats m 0 c).arrAt_eq_of_covers 4 _ (by decide +kernel) fun t hf y => ?_
  blk_simp
  have h3 := (flush0_4 t).mp hf
  rw [after0_4, (written m c t h3).1]
  refine point m c t h3 _ _ ?_ ?_ <;> (blk_simp [index_all t] <;> try omega)

/-- What the reference computes as its second result. -/
abbrev wantNormed (c : Dev nD) :=
  val_main_v19 (F := Ideal) (m ((c : Thread nD τ).loc main_arg0)) (m ((c : Thread nD τ).loc main_arg1))
    (m ((c : Thread nD τ).loc main_arg2)) (m ((c : Thread nD τ).loc main_arg3))

/-- The norm of one row, when the row the kernel norms is the reference's. -/
theorem normed (a b : Vec Ideal S1024x1024 .f32) (g g' : Vec Ideal S1x1024 .f32) (x0 : Vec Ideal S4x2048x704 .bf16)
    (x1 : Vec Ideal S8x1x352x1024 .bf16) (x2 : Vec Ideal S2048x1024 .f32) (y : S1024x1024.Idx) (z : S2048x1024.Idx)
    (hrow : ∀ k : Fin 1024, k0_pay4 a b (ix2 (y 0) k) = val_main_v6 x0 x1 x2 (ix2 (z 0) k)) (hg : g = g')
    (h1 : (z 1 : ℕ) = y 1) : k0_pay5 a b g y = val_main_v19 x0 x1 x2 g' z := by
  subst hg
  unfold k0_pay5 val_main_v19 val_main_v18 val_main_v17 val_main_v16 val_main_v15 val_main_v14 val_main_v13 val_main_v12
    val_main_v11 val_main_v10 val_main_v9 val_main_v8 val_main_v7 val_main_cst val_main_cst_0 val_main_cst_1
  generalize k0_pay4 a b = p at hrow ⊢
  generalize val_main_v6 x0 x1 x2 = q at hrow ⊢
  have hy : p y = q z := (congrArg p (by blk_ext)).trans ((hrow (y 1)).trans (congrArg q (by blk_ext)))
  pointwise
  simp only [hrow]
  rw [hy, show y 1 = z 1 from Fin.ext h1.symm]

/-- The kernel's second result is the reference's. -/
theorem finalNormed (c : Dev nD) : (dats m 0 c).arrAt 5 cfg0.N = wantNormed m c := by
  refine (dats m 0 c).arrAt_eq_of_covers 5 _ (by decide +kernel) fun t hf y => ?_
  blk_simp
  have h3 := (flush0_5 t).mp hf
  rw [after0_5, (written m c t h3).2]
  refine normed _ _ _ _ _ _ _ _ _ (fun k => point m c t h3 _ _ ?_ ?_) ?_ ?_
  · blk_simp [index_all t]
  · blk_simp
  · funext i
    blk_ext [iblk, V, index_all t]
  · blk_simp [index_all t]

/-- The reference runs, and leaves its arguments as they were. -/
theorem reference_quiet : Cert.quiescent_Reference7Ideal := fun m g _ =>
  (θ_run (Cert.Reference7Ideal.defs (F := Ideal)) _ _).mono
    (fun r h => ⟨fun c => (h c).2.2, sem_eq_zero_of_no_sems (by decide) r.2⟩)
    (Cert.Reference7Ideal.Value.run (F := Ideal) m g)

/-- The claim: from memories that agree on the arguments, both run and end with equal results. -/
theorem equal : Cert.algebraic_Kernel7Ideal_Reference7Ideal := by
  intro m g m' g' _ hagree
  refine ⟨fun c => want m c, fun c => wantNormed m c, ?_, ?_⟩
  · exact (θ_run (Cert.Kernel7Ideal.defs (F := Ideal)) _ _).mono
      (fun r h c => ⟨(h c).1.trans (final m c), (h c).2.1.trans (finalNormed m c), (h c).2.2⟩)
      (Cert.Kernel7Ideal.Value.run_blocks (F := Ideal) m g)
  · refine (θ_run (Cert.Reference7Ideal.defs (F := Ideal)) _ _).mono
      (fun r h c => ⟨(h c).1.trans ?_, (h c).2.1.trans ?_, (h c).2.2⟩) (Cert.Reference7Ideal.Value.run (F := Ideal) m' g')
    · refine (val_main_v6_eq _ _ _).trans ?_
      exact (congr (congrArg₂ (val_main_v6 (F := Ideal)) (hagree c).1 (hagree c).2.1) (hagree c).2.2.1)
    · refine (val_main_v19_eq _ _ _ _).trans ?_
      exact congr (congr (congrArg₂ (val_main_v19 (F := Ideal)) (hagree c).1 (hagree c).2.1) (hagree c).2.2.1)
        (hagree c).2.2.2

end Cert.DownFwd
-- ==== Proof.QkvDa.lean ====
module

public import proofs.«01_k».proof.Defs
public import proofs.«01_k».proof.Proof.Gen.Kernel8Ideal.Value
public import proofs.«01_k».proof.Proof.Gen.Reference8Ideal.Run
public import proofs.«01_k».proof.Proof.Gen.Reference8Ideal.Read
public import Idealize.ShloMosaic.Lib.Claim
public import Idealize.ShloMosaic.Lib.Pointwise
public import Idealize.ShloMosaic.Lib.Pipeline.ValueKit
public import Idealize.ShloMosaic.Lib.Pipeline.ReadBack

/-! # The gradient of the activations that the queries, keys and values came from

Eight grid points in a row share one block of 1024 rows of the result. Each sets three runs of 128 columns of the
incoming gradient side by side, multiplies them by the transpose of one slice of the weights and adds the product to
what the points before it left; the last one writes the sum. The reference contracts all slices at once.
-/

@[expose] public section
set_option maxRecDepth 16384
noncomputable section
open Idealize.ShloMosaic Idealize.ShloMosaic.TcCoe Idealize.SL.Sem

namespace Cert.QkvDa

open Cert.Kernel8Ideal Cert.Kernel8Ideal.Gen Cert.Reference8Ideal.Read

variable (m : (ℓ : Loc nD τ sig) → Buf (Elt Ideal) ℓ)

/-- What the reference computes from the arguments the kernel was given. -/
abbrev want (c : Dev nD) :=
  val_main_v8 (F := Ideal) (m ((c : Thread nD τ).loc main_arg0)) (m ((c : Thread nD τ).loc main_arg1))

/-- The block every window stands at, at each grid point. -/
theorem index_all : ∀ t : Fin cfg0.N, win0_0.index t = ![3 * (t.val % 8) / 8, t.val / 8, 3 * (t.val % 8) % 8]
    ∧ win0_1.index t = ![(3 * (t.val % 8) + 1) / 8, t.val / 8, (3 * (t.val % 8) + 1) % 8]
    ∧ win0_2.index t = ![(3 * (t.val % 8) + 2) / 8, t.val / 8, (3 * (t.val % 8) + 2) % 8]
    ∧ win0_3.index t = ![t.val % 8, 0, 0, 0] ∧ win0_4.index t = ![t.val / 8, 0] :=
  (by decide +kernel : ∀ t : Fin grid0.N, _)

/-- The first point of a row stores the product of its slice. -/
theorem first (x0 x1 x2 : Vec Ideal S1x1024x128 .bf16) (w : Vec Ideal S1x1x1024x384 .bf16) (j : S1024x1024.Idx) :
    k0_pay2 x0 x1 x2 w j = k0_pay1 x0 x1 x2 w j := by
  pointwise [k0_pay2]

/-- Every later point adds the product of its slice. -/
theorem next (x0 x1 x2 : Vec Ideal S1x1024x128 .bf16) (w : Vec Ideal S1x1x1024x384 .bf16) (acc : Vec Ideal S1024x1024 .f32)
    (j : S1024x1024.Idx) : k0_pay3 x0 x1 x2 w acc j = acc j + k0_pay1 x0 x1 x2 w j := by
  pointwise [k0_pay3]

/-- Column `l` of the row of gradients, at row `i`: the three gradients stand side by side. -/
abbrev col (X : Vec Ideal S3x2048x1024 .bf16) (i : Fin 2048) (l : Fin 3072) : EReal :=
  X (ix3 ⟨l.val / 1024, by omega⟩ i ⟨l.val % 1024, by omega⟩)

/-- The reference at one index, slice by slice. -/
theorem want_at (x0 : Vec Ideal S3x2048x1024 .bf16) (x1 : Vec Ideal S8x1x1024x384 .bf16) (j : S2048x1024.Idx) :
    val_main_v8 x0 x1 j = ∑ a : Fin 8, ∑ k : Fin 384, col x0 (j 0) ⟨a.val * 384 + k.val, by omega⟩ * x1 (ix4 a 0 (j 1) k) := by
  pointwise [val_main_v8, val_main_v5, val_main_v4, val_main_v3, val_main_v2, val_main_v1, val_main_v0]
  refine (Fin.sum_mul_add_congr fun a k hl => ?_).symm
  congr 1 <;> blk_ext

/-- What point `t` adds to the sum. -/
abbrev part (c : Dev nD) (t : Fin cfg0.N) (j : S1024x1024.Idx) : EReal :=
  k0_pay1 (F := Ideal) (iblk m c 0 t) (iblk m c 1 t) (iblk m c 2 t) (iblk m c 3 t) j

/-- One part is one slice of the reference's sum: entry `y` of the block against entry `z` of the array, where `z` is `y`
moved to the block's place. -/
theorem part_eq (c : Dev nD) (t : Fin cfg0.N) (a : Fin 8) (y : S1024x1024.Idx) (z : S2048x1024.Idx)
    (ha : t.val % 8 = a.val) (h0 : (z 0 : ℕ) = t.val / 8 * 1024 + y 0) (h1 : (z 1 : ℕ) = y 1) :
    part m c t y = ∑ k : Fin 384, col (m ((c : Thread nD τ).loc main_arg0)) (z 0) ⟨a.val * 384 + k.val, by omega⟩
      * (show Vec Ideal S8x1x1024x384 .bf16 from m ((c : Thread nD τ).loc main_arg1)) (ix4 a 0 (z 1) k) := by
  unfold part col
  pointwise [k0_pay1]
  blk_point [iblk, V, index_all t]

/-- The first point of a row stores its part. -/
theorem step_first (c : Dev nD) (t : Fin cfg0.N) (h : t.val % 8 = 0) (j : S1024x1024.Idx) :
    (outsAt0 m c t.val t.isLt).2 j = 0 + part m c t j := by
  rw [outsAt0_A m c t h (by omega) (by omega)]; frame_out
  rw [first, zero_add]

/-- Every later point adds its part to what the point before it left. -/
theorem step_next (c : Dev nD) (t : Fin cfg0.N) (h : ¬t.val % 8 = 0) (j : S1024x1024.Idx) :
    (outsAt0 m c t.val t.isLt).2 j
      = (outsAt0 m c (t.val - 1) (Nat.lt_of_le_of_lt (Nat.sub_le _ _) t.isLt)).2 j + part m c t j := by
  by_cases h7 : t.val % 8 = 7
  · rw [outsAt0_C m c t h (by omega) h7]; frame_out
    rw [next]; simp only [read_unread_whole]
  · rw [outsAt0_B m c t h (by omega) h7]; frame_out
    rw [next]; simp only [read_unread_whole]

/-- The last point of a row writes the sum it has reached. -/
theorem written (c : Dev nD) (t : Fin cfg0.N) (h : t.val % 8 = 7) :
    (outsAt0 m c t.val t.isLt).1 = (outsAt0 m c t.val t.isLt).2 := by
  rw [outsAt0_C m c t (by omega) (by omega) h]; frame_out

/-- The kernel's whole result is the reference's. -/
theorem final (c : Dev nD) : (dats m 0 c).arrAt 4 cfg0.N = want m c := by
  refine (dats m 0 c).arrAt_eq_of_covers 4 _ (by decide +kernel) fun t hf y => ?_
  blk_simp
  have h7 := (flush0_4 t).mp hf
  rw [after0_4, written m c t h7, Pipeline.eq_sum_fin_of_reset_step_apply_of_flush (fun n h => (outsAt0 m c n h).2) 8
    (fun _ => (0 : EReal)) (part m c) (step_first m c) (step_next m c) t h7, zero_add]
  unfold want
  rw [want_at]
  refine Fin.sum_fin_congr fun s => part_eq m c _ s _ _ ?_ ?_ ?_
  · show (8 * (t.val / 8) + s.val) % 8 = s.val
    omega
  · blk_simp [index_all t]
    show t.val / 8 * 1024 + _ = (8 * (t.val / 8) + s.val) / 8 * 1024 + _
    omega
  · blk_simp [index_all t]

/-- The reference runs, and leaves its arguments as they were. -/
theorem reference_quiet : Cert.quiescent_Reference8Ideal := fun m g _ =>
  (θ_run (Cert.Reference8Ideal.defs (F := Ideal)) _ _).mono
    (fun r h => ⟨fun c => (h c).2, sem_eq_zero_of_no_sems (by decide) r.2⟩)
    (Cert.Reference8Ideal.Value.run (F := Ideal) m g)

/-- The claim: from memories that agree on the arguments, both run and end with equal results. -/
theorem equal : Cert.algebraic_Kernel8Ideal_Reference8Ideal := by
  intro m g m' g' _ hagree
  refine ⟨fun c => want m c, ?_, ?_⟩
  · exact (θ_run (Cert.Kernel8Ideal.defs (F := Ideal)) _ _).mono
      (fun r h c => ⟨(h c).1.trans (final m c), (h c).2⟩) (Cert.Kernel8Ideal.Value.run_blocks (F := Ideal) m g)
  · refine (θ_run (Cert.Reference8Ideal.defs (F := Ideal)) _ _).mono
      (fun r h c => ⟨(h c).1.trans ?_, (h c).2⟩) (Cert.Reference8Ideal.Value.run (F := Ideal) m' g')
    refine (val_main_v8_eq _ _).trans ?_
    exact congrArg₂ (val_main_v8 (F := Ideal)) (hagree c).1 (hagree c).2

end Cert.QkvDa
-- ==== Proof.QkvDw.lean ====
module

public import proofs.«01_k».proof.Defs
public import proofs.«01_k».proof.Proof.Gen.Kernel9Ideal.Value
public import proofs.«01_k».proof.Proof.Gen.Reference9Ideal.Run
public import proofs.«01_k».proof.Proof.Gen.Reference9Ideal.Read
public import Idealize.ShloMosaic.Lib.Claim
public import Idealize.ShloMosaic.Lib.Pointwise
public import Idealize.ShloMosaic.Lib.Pipeline.ValueKit

/-! # The gradient of the weights of the queries, keys and values

Grid point `t` takes three runs of 128 columns of the incoming gradient, sets them side by side, and multiplies
them by the transpose of the whole activations. The three runs are the columns `384 * t` to `384 * t + 383` of the
three gradients in a row.
-/

@[expose] public section
set_option maxRecDepth 16384
noncomputable section
open Idealize.ShloMosaic Idealize.ShloMosaic.TcCoe Idealize.SL.Sem

namespace Cert.QkvDw

open Cert.Kernel9Ideal Cert.Kernel9Ideal.Gen Cert.Reference9Ideal.Read

variable (m : (ℓ : Loc nD τ sig) → Buf (Elt Ideal) ℓ)

/-- What the reference computes from the arguments the kernel was given. -/
abbrev want (c : Dev nD) :=
  val_main_v10 (F := Ideal) (m ((c : Thread nD τ).loc main_arg0)) (m ((c : Thread nD τ).loc main_arg1))

/-- The block every window stands at, at each grid point. -/
theorem index_all : ∀ t : Fin cfg0.N, win0_0.index t = ![0, 0] ∧ win0_1.index t = ![3 * t.val / 8, 0, 3 * t.val % 8]
    ∧ win0_2.index t = ![(3 * t.val + 1) / 8, 0, (3 * t.val + 1) % 8]
    ∧ win0_3.index t = ![(3 * t.val + 2) / 8, 0, (3 * t.val + 2) % 8] ∧ win0_4.index t = ![t.val, 0, 0] :=
  (by decide +kernel : ∀ t : Fin grid0.N, _)

/-- At one grid point the written block is the slice of the reference's product that it covers: entry `y` of the block
against entry `z` of the array, where `z` is `y` moved to the block's place. -/
theorem point (c : Dev nD) (t : Fin cfg0.N) (y : S1x1024x384.Idx) (z : S8x1024x384.Idx)
    (h0 : (z 0 : ℕ) = t.val) (h1 : (z 1 : ℕ) = y 1) (h2 : (z 2 : ℕ) = y 2) :
    k0_pay1 (iblk m c 0 t) (iblk m c 1 t) (iblk m c 2 t) (iblk m c 3 t) y = want m c z := by
  unfold want
  pointwise [k0_pay1, val_main_v10, val_main_v9, val_main_v8, val_main_v7, val_main_v6, val_main_v3, val_main_v2,
    val_main_v1, val_main_v0]
  refine Fin.sum_fin_congr fun k => (EReal.mul_comm _ _).trans ?_
  blk_point [iblk, V, index_all t]

/-- The kernel's whole result is the reference's. -/
theorem final (c : Dev nD) : (dats m 0 c).arrAt 4 cfg0.N = want m c := by
  refine (dats m 0 c).arrAt_eq_of_covers 4 _ (by decide +kernel) fun t _ y => ?_
  blk_simp
  rw [after0_4]; frame_out
  refine point m c t y _ ?_ ?_ ?_ <;> (blk_simp [index_all t] <;> try omega)

/-- The reference runs, and leaves its arguments as they were. -/
theorem reference_quiet : Cert.quiescent_Reference9Ideal := fun m g _ =>
  (θ_run (Cert.Reference9Ideal.defs (F := Ideal)) _ _).mono
    (fun r h => ⟨fun c => (h c).2, sem_eq_zero_of_no_sems (by decide) r.2⟩)
    (Cert.Reference9Ideal.Value.run (F := Ideal) m g)

/-- The claim: from memories that agree on the arguments, both run and end with equal results. -/
theorem equal : Cert.algebraic_Kernel9Ideal_Reference9Ideal := by
  intro m g m' g' _ hagree
  refine ⟨fun c => want m c, ?_, ?_⟩
  · exact (θ_run (Cert.Kernel9Ideal.defs (F := Ideal)) _ _).mono
      (fun r h c => ⟨(h c).1.trans (final m c), (h c).2⟩) (Cert.Kernel9Ideal.Value.run_blocks (F := Ideal) m g)
  · refine (θ_run (Cert.Reference9Ideal.defs (F := Ideal)) _ _).mono
      (fun r h c => ⟨(h c).1.trans ?_, (h c).2⟩) (Cert.Reference9Ideal.Value.run (F := Ideal) m' g')
    refine (val_main_v10_eq _ _).trans ?_
    exact congrArg₂ (val_main_v10 (F := Ideal)) (hagree c).1 (hagree c).2

end Cert.QkvDw
-- ==== Proof.QkvFwd.lean ====
module

public import proofs.«01_k».proof.Defs
public import proofs.«01_k».proof.Proof.Gen.Kernel10Ideal.Value
public import proofs.«01_k».proof.Proof.Gen.Reference10Ideal.Run
public import proofs.«01_k».proof.Proof.Gen.Reference10Ideal.Read
public import Idealize.ShloMosaic.Lib.Claim
public import Idealize.ShloMosaic.Lib.Pointwise
public import Idealize.ShloMosaic.Lib.Pipeline.ValueKit

/-! # The product that gives the queries, keys and values

Grid point `t` multiplies the whole activations by one slice of the weights, and writes 384 columns.
-/

@[expose] public section
set_option maxRecDepth 16384
noncomputable section
open Idealize.ShloMosaic Idealize.ShloMosaic.TcCoe Idealize.SL.Sem

namespace Cert.QkvFwd

open Cert.Kernel10Ideal Cert.Kernel10Ideal.Gen Cert.Reference10Ideal.Read

variable (m : (ℓ : Loc nD τ sig) → Buf (Elt Ideal) ℓ)

/-- What the reference computes from the arguments the kernel was given. -/
abbrev want (c : Dev nD) :=
  val_main_v5 (F := Ideal) (m ((c : Thread nD τ).loc main_arg0)) (m ((c : Thread nD τ).loc main_arg1))

/-- The block every window stands at, at each grid point. -/
theorem index_all : ∀ t : Fin cfg0.N, win0_0.index t = ![0, 0] ∧ win0_1.index t = ![t.val, 0, 0, 0] ∧ win0_2.index t = ![0, t.val] :=
  (by decide +kernel : ∀ t : Fin grid0.N, _)

/-- At one grid point the written block is the columns of the reference's product that it covers. -/
theorem point (c : Dev nD) (t : Fin cfg0.N) (y) : k0_pay1 (iblk m c 0 t) (iblk m c 1 t) y
    = want m c (((cfg0.win 2).blk t).view.emb y) := by
  unfold want
  pointwise [k0_pay1, val_main_v5, val_main_v4, val_main_v3, val_main_v2, val_main_v1, val_main_v0]
  blk_point [iblk, V, index_all t]

/-- The kernel's whole result is the reference's. -/
theorem final (c : Dev nD) : (dats m 0 c).arrAt 2 cfg0.N = want m c := by
  refine (dats m 0 c).arrAt_eq_of_covers 2 _ (by decide +kernel) fun t _ y => ?_
  blk_simp
  rw [after0_2]; frame_out
  exact point m c t y

/-- The reference runs, and leaves its arguments as they were. -/
theorem reference_quiet : Cert.quiescent_Reference10Ideal := fun m g _ =>
  (θ_run (Cert.Reference10Ideal.defs (F := Ideal)) _ _).mono
    (fun r h => ⟨fun c => (h c).2, sem_eq_zero_of_no_sems (by decide) r.2⟩)
    (Cert.Reference10Ideal.Value.run (F := Ideal) m g)

/-- The claim: from memories that agree on the arguments, both run and end with equal results. -/
theorem equal : Cert.algebraic_Kernel10Ideal_Reference10Ideal := by
  intro m g m' g' _ hagree
  refine ⟨fun c => want m c, ?_, ?_⟩
  · exact (θ_run (Cert.Kernel10Ideal.defs (F := Ideal)) _ _).mono
      (fun r h c => ⟨(h c).1.trans (final m c), (h c).2⟩) (Cert.Kernel10Ideal.Value.run_blocks (F := Ideal) m g)
  · refine (θ_run (Cert.Reference10Ideal.defs (F := Ideal)) _ _).mono
      (fun r h c => ⟨(h c).1.trans ?_, (h c).2⟩) (Cert.Reference10Ideal.Value.run (F := Ideal) m' g')
    refine (val_main_v5_eq _ _).trans ?_
    exact congrArg₂ (val_main_v5 (F := Ideal)) (hagree c).1 (hagree c).2

end Cert.QkvFwd
-- ==== Proof.OutDa.lean ====
module

public import proofs.«01_k».proof.Defs
public import proofs.«01_k».proof.Proof.Gen.Kernel11Ideal.Value
public import proofs.«01_k».proof.Proof.Gen.Reference11Ideal.Run
public import proofs.«01_k».proof.Proof.Gen.Reference11Ideal.Read
public import Idealize.ShloMosaic.Lib.Claim
public import Idealize.ShloMosaic.Lib.Pointwise
public import Idealize.ShloMosaic.Lib.Pipeline.ValueKit

/-! # The output product's gradient of its activations

Grid point `t` multiplies 1024 rows of the incoming gradient by the transpose of the weights of all slices.
-/

@[expose] public section
set_option maxRecDepth 16384
noncomputable section
open Idealize.ShloMosaic Idealize.ShloMosaic.TcCoe Idealize.SL.Sem

namespace Cert.OutDa

open Cert.Kernel11Ideal Cert.Kernel11Ideal.Gen Cert.Reference11Ideal.Read

variable (m : (ℓ : Loc nD τ sig) → Buf (Elt Ideal) ℓ)

/-- What the reference computes from the arguments the kernel was given. -/
abbrev want (c : Dev nD) :=
  val_main_v5 (F := Ideal) (m ((c : Thread nD τ).loc main_arg0)) (m ((c : Thread nD τ).loc main_arg1))

/-- The block every window stands at, at each grid point. -/
theorem index_all : ∀ t : Fin cfg0.N, win0_0.index t = ![t.val, 0] ∧ win0_1.index t = ![0, 0, 0, 0] ∧ win0_2.index t = ![t.val, 0] :=
  (by decide +kernel : ∀ t : Fin grid0.N, _)

/-- At one grid point the written block is the rows of the reference's product that it covers. -/
theorem point (c : Dev nD) (t : Fin cfg0.N) (y) : k0_pay1 (iblk m c 0 t) (iblk m c 1 t) y
    = want m c (((cfg0.win 2).blk t).view.emb y) := by
  unfold want
  pointwise [k0_pay1, val_main_v5, val_main_v4, val_main_v1, val_main_v0]
  blk_point [iblk, V, index_all t]

/-- The kernel's whole result is the reference's. -/
theorem final (c : Dev nD) : (dats m 0 c).arrAt 2 cfg0.N = want m c := by
  refine (dats m 0 c).arrAt_eq_of_covers 2 _ (by decide +kernel) fun t _ y => ?_
  blk_simp
  rw [after0_2]; frame_out
  exact point m c t y

/-- The reference runs, and leaves its arguments as they were. -/
theorem reference_quiet : Cert.quiescent_Reference11Ideal := fun m g _ =>
  (θ_run (Cert.Reference11Ideal.defs (F := Ideal)) _ _).mono
    (fun r h => ⟨fun c => (h c).2, sem_eq_zero_of_no_sems (by decide) r.2⟩)
    (Cert.Reference11Ideal.Value.run (F := Ideal) m g)

/-- The claim: from memories that agree on the arguments, both run and end with equal results. -/
theorem equal : Cert.algebraic_Kernel11Ideal_Reference11Ideal := by
  intro m g m' g' _ hagree
  refine ⟨fun c => want m c, ?_, ?_⟩
  · exact (θ_run (Cert.Kernel11Ideal.defs (F := Ideal)) _ _).mono
      (fun r h c => ⟨(h c).1.trans (final m c), (h c).2⟩) (Cert.Kernel11Ideal.Value.run_blocks (F := Ideal) m g)
  · refine (θ_run (Cert.Reference11Ideal.defs (F := Ideal)) _ _).mono
      (fun r h c => ⟨(h c).1.trans ?_, (h c).2⟩) (Cert.Reference11Ideal.Value.run (F := Ideal) m' g')
    refine (val_main_v5_eq _ _).trans ?_
    exact congrArg₂ (val_main_v5 (F := Ideal)) (hagree c).1 (hagree c).2

end Cert.OutDa
-- ==== Proof.OutDw.lean ====
module

public import proofs.«01_k».proof.Defs
public import proofs.«01_k».proof.Proof.Gen.Kernel12Ideal.Value
public import proofs.«01_k».proof.Proof.Gen.Reference12Ideal.Run
public import proofs.«01_k».proof.Proof.Gen.Reference12Ideal.Read
public import Idealize.ShloMosaic.Lib.Claim
public import Idealize.ShloMosaic.Lib.Pointwise
public import Idealize.ShloMosaic.Lib.Pipeline.ValueKit
public import Idealize.ShloMosaic.Lib.Pipeline.ReadBack

/-! # The output product's gradient of its weights

Two grid points each multiply the transpose of 1024 rows of the activations by the same rows of the incoming gradient.
The second adds its product to the first's and writes the sum, cut into the parts that eight devices hold. The
reference contracts all rows at once.
-/

@[expose] public section
set_option maxRecDepth 16384
noncomputable section
open Idealize.ShloMosaic Idealize.ShloMosaic.TcCoe Idealize.SL.Sem

namespace Cert.OutDw

open Cert.Kernel12Ideal Cert.Kernel12Ideal.Gen Cert.Reference12Ideal.Read

variable (m : (ℓ : Loc nD τ sig) → Buf (Elt Ideal) ℓ)

/-- What the reference computes from the arguments the kernel was given. -/
abbrev want (c : Dev nD) :=
  val_main_v6 (F := Ideal) (m ((c : Thread nD τ).loc main_arg0)) (m ((c : Thread nD τ).loc main_arg1))

/-- The block every window stands at, at each grid point. -/
theorem index_all : ∀ t : Fin cfg0.N, win0_0.index t = ![t.val, 0] ∧ win0_1.index t = ![t.val, 0]
    ∧ win0_2.index t = ![0, 0, 0] :=
  (by decide +kernel : ∀ t : Fin grid0.N, _)

/-- The first point stores the product of its rows. -/
theorem first (x0 : Vec Ideal S1024x1024 .bf16) (x1 : Vec Ideal S1024x1024 .f32) (j : S1024x1024.Idx) :
    k0_pay2 x0 x1 j = ∑ k : Fin 1024, x0 (ix2 k (j 0)) * x1 (ix2 k (j 1)) := by
  pointwise [k0_pay2, k0_pay1]

/-- The second point adds the product of its rows. -/
theorem next (x0 : Vec Ideal S1024x1024 .bf16) (x1 : Vec Ideal S1024x1024 .f32) (acc : Vec Ideal S1024x1024 .f32)
    (j : S1024x1024.Idx) : k0_pay3 x0 x1 acc j = acc j + ∑ k : Fin 1024, x0 (ix2 k (j 0)) * x1 (ix2 k (j 1)) := by
  pointwise [k0_pay3, k0_pay1]

/-- The sum, cut into eight parts of 128 rows: entry `y` of the parts is entry `j` of the sum. -/
theorem cut (s : Vec Ideal S1024x1024 .f32) (y : S8x128x1024.Idx) (j : S1024x1024.Idx)
    (h0 : (j 0 : ℕ) = y 0 * 128 + y 1) (h1 : (j 1 : ℕ) = y 2) : k0_pay4 s y = s j := by
  pointwise [k0_pay4]
  blk_ext

/-- The reference at one index, the two halves of the rows one after the other. -/
theorem want_at (x0 : Vec Ideal S2048x1024 .bf16) (x1 : Vec Ideal S2048x1024 .f32) (y : S8x128x1024.Idx) (j : S1024x1024.Idx)
    (h0 : (j 0 : ℕ) = y 0 * 128 + y 1) (h1 : (j 1 : ℕ) = y 2) :
    val_main_v6 x0 x1 y = ∑ a : Fin 2, ∑ k : Fin 1024, x0 (ix2 ⟨a.val * 1024 + k.val, by omega⟩ (j 0))
      * x1 (ix2 ⟨a.val * 1024 + k.val, by omega⟩ (j 1)) := by
  pointwise [val_main_v6, val_main_v5, val_main_v4, val_main_v3, val_main_v0]
  refine (Fin.sum_mul_add_congr fun a k hl => (EReal.mul_comm _ _).trans ?_).symm
  congr 1 <;> blk_ext

/-- What point `t` adds to the sum. -/
abbrev part (c : Dev nD) (t : Fin cfg0.N) (j : S1024x1024.Idx) : EReal :=
  ∑ k : Fin 1024, (show FVec Ideal S1024x1024 .bf16 from iblk m c 0 t) (ix2 k (j 0))
    * (show FVec Ideal S1024x1024 .f32 from iblk m c 1 t) (ix2 k (j 1))

/-- The first point of a row stores its part. -/
theorem step_first (c : Dev nD) (t : Fin cfg0.N) (h : t.val % 2 = 0) (j : S1024x1024.Idx) :
    (outsAt0 m c t.val t.isLt).2 j = 0 + part m c t j := by
  rw [outsAt0_A m c t h (by omega) (by omega)]; frame_out
  rw [first, zero_add]

/-- Every later point adds its part to what the point before it left. -/
theorem step_next (c : Dev nD) (t : Fin cfg0.N) (h : ¬t.val % 2 = 0) (j : S1024x1024.Idx) :
    (outsAt0 m c t.val t.isLt).2 j
      = (outsAt0 m c (t.val - 1) (Nat.lt_of_le_of_lt (Nat.sub_le _ _) t.isLt)).2 j + part m c t j := by
  rw [outsAt0_B m c t h (by omega) (by omega)]; frame_out
  rw [next]; simp only [read_unread_whole]

/-- The second point writes the sum it has reached, cut into parts. -/
theorem written (c : Dev nD) (t : Fin cfg0.N) (h : t.val % 2 = 1) :
    (outsAt0 m c t.val t.isLt).1 = k0_pay4 (outsAt0 m c t.val t.isLt).2 := by
  rw [outsAt0_B m c t (by omega) h h]; frame_out

/-- The kernel's whole result is the reference's. -/
theorem final (c : Dev nD) : (dats m 0 c).arrAt 2 cfg0.N = want m c := by
  refine (dats m 0 c).arrAt_eq_of_covers 2 _ (by decide +kernel) fun t hf y => ?_
  blk_simp
  have h1 := (flush0_2 t).mp hf
  obtain_idx j : S1024x1024 := [(y 0 : ℕ) * 128 + (y 1 : ℕ), (y 2 : ℕ)] with hj
  rw [after0_2, written m c t h1, cut _ _ j hj0 hj1,
    Pipeline.eq_sum_fin_of_reset_step_apply_of_flush (fun n h => (outsAt0 m c n h).2) 2
    (fun _ => (0 : EReal)) (part m c) (step_first m c) (step_next m c) t h1, zero_add]
  unfold want
  rw [want_at _ _ _ j (by blk_simp [index_all t]; omega) (by blk_simp [index_all t]; omega)]
  refine Fin.sum_fin_congr fun s => ?_
  refine Fin.sum_fin_congr fun k => ?_
  blk_point [iblk, V, index_all t, index_all ⟨_, Pipeline.run_point_lt_of_flush t h1 s⟩]

/-- The reference runs, and leaves its arguments as they were. -/
theorem reference_quiet : Cert.quiescent_Reference12Ideal := fun m g _ =>
  (θ_run (Cert.Reference12Ideal.defs (F := Ideal)) _ _).mono
    (fun r h => ⟨fun c => (h c).2, sem_eq_zero_of_no_sems (by decide) r.2⟩)
    (Cert.Reference12Ideal.Value.run (F := Ideal) m g)

/-- The claim: from memories that agree on the arguments, both run and end with equal results. -/
theorem equal : Cert.algebraic_Kernel12Ideal_Reference12Ideal := by
  intro m g m' g' _ hagree
  refine ⟨fun c => want m c, ?_, ?_⟩
  · exact (θ_run (Cert.Kernel12Ideal.defs (F := Ideal)) _ _).mono
      (fun r h c => ⟨(h c).1.trans (final m c), (h c).2⟩) (Cert.Kernel12Ideal.Value.run_blocks (F := Ideal) m g)
  · refine (θ_run (Cert.Reference12Ideal.defs (F := Ideal)) _ _).mono
      (fun r h c => ⟨(h c).1.trans ?_, (h c).2⟩) (Cert.Reference12Ideal.Value.run (F := Ideal) m' g')
    refine (val_main_v6_eq _ _).trans ?_
    exact congrArg₂ (val_main_v6 (F := Ideal)) (hagree c).1 (hagree c).2

end Cert.OutDw
-- ==== Proof.AdamQkv.lean ====
module

public import proofs.«01_k».proof.Defs
public import proofs.«01_k».proof.Proof.Gen.Kernel13.Frame
public import proofs.«01_k».proof.Proof.Gen.Kernel13Ideal.Frame
public import proofs.«01_k».proof.Proof.Gen.Reference13Ideal.Run
public import proofs.«01_k».proof.Proof.Gen.Reference13Ideal.Read
public import Idealize.ShloMosaic.Lib.Claim
public import Idealize.ShloMosaic.Lib.Pointwise
public import Idealize.ShloMosaic.Lib.Pipeline.ValueKit
public import Idealize.ShloMosaic.Lib.Pipeline.ReadBack

/-! # The optimiser on a device's share of the attention's query, key and value weights

A grid point belongs to one layer.  It adds the device's own part of that layer's gradient and the seven
parts that came from the other devices, and steps the layer's rows of the weights by AdamW.
-/

@[expose] public section
set_option maxRecDepth 16384
noncomputable section
open Idealize.ShloMosaic Idealize.ShloMosaic.TcCoe Idealize.SL.Sem

namespace Cert.AdamQkv

/-- The table of device numbers is zero, so every window stays inside its array: at the machine's values. -/
theorem ok_bits (m : (ℓ : Loc Cert.Kernel13.nD Cert.Kernel13.τ Cert.Kernel13.sig) → Buf (Elt Bits) ℓ) : Cert.Kernel13.Gen.Ok m :=
  of_decide_eq_true (by sl_kernel_rfl)

open Cert.Kernel13Ideal Cert.Kernel13Ideal.Gen Cert.Reference13Ideal.Read

variable (m : (ℓ : Loc nD τ sig) → Buf (Elt Ideal) ℓ)

/-- The same at the ideal values. -/
theorem ok : Ok m := of_decide_eq_true (by sl_kernel_rfl)

/-- The weights and the two moments the kernel was given. -/
abbrev weights (c : Dev nD) := m ((c : Thread nD τ).loc main_arg0)
abbrev mean (c : Dev nD) := m ((c : Thread nD τ).loc main_arg1)
abbrev square (c : Dev nD) := m ((c : Thread nD τ).loc main_arg2)
/-- Each layer's gradient parts: those that came from the other devices, and the device's own. -/
abbrev land0 (c : Dev nD) := m ((c : Thread nD τ).loc main_arg3)
abbrev land1 (c : Dev nD) := m ((c : Thread nD τ).loc main_arg4)
abbrev own0 (c : Dev nD) := m ((c : Thread nD τ).loc main_arg5)
abbrev own1 (c : Dev nD) := m ((c : Thread nD τ).loc main_arg6)

/-- What the reference computes from them: the summed gradient, the update, and the two new moments. -/
abbrev wantGrad (c : Dev nD) := val_main_v14 (F := Ideal) (land0 m c) (land1 m c) (own0 m c) (own1 m c)
abbrev wantDelta (c : Dev nD) := val_main_v38 (F := Ideal) (weights m c) (mean m c) (square m c) (land0 m c) (land1 m c) (own0 m c) (own1 m c)
abbrev wantMean (c : Dev nD) := val_main_v19 (F := Ideal) (mean m c) (land0 m c) (land1 m c) (own0 m c) (own1 m c)
abbrev wantSquare (c : Dev nD) := val_main_v25 (F := Ideal) (square m c) (land0 m c) (land1 m c) (own0 m c) (own1 m c)

/-! ## Where the windows stand -/

/-- Two ways to name a block at the grid points of a kind agree when they agree by computation. -/
theorem of_all {a : Nat} (p : Fin a → Bool) (f g : Fin a → Fin 3 → ℕ) (h : decide (∀ t, p t = true → f t = g t) = true) (t : Fin a)
    (ht : p t = true) : f t = g t := of_decide_eq_true h t ht

/-- The weights' window, and so the moments' and the outputs', stands at the point's layer and rows. -/
theorem index0 (t : Fin grid0.N) : ((cfgM m (ok m)).win 0).index t = (![t.val / 4, t.val % 4, 0] : Fin 3 → ℕ) :=
  of_all (fun _ => true) (fun t => ((cfgM m (ok m)).win 0).index t) (fun t => ![t.val / 4, t.val % 4, 0]) (by sl_kernel_rfl) t rfl
theorem index1 (t : Fin grid0.N) : ((cfgM m (ok m)).win 1).index t = (![t.val / 4, t.val % 4, 0] : Fin 3 → ℕ) := index0 m t
theorem index2 (t : Fin grid0.N) : ((cfgM m (ok m)).win 2).index t = (![t.val / 4, t.val % 4, 0] : Fin 3 → ℕ) := index0 m t
theorem index7 (t : Fin grid0.N) : (pcfg0.win (adm m (ok m)) 7).index t = (![t.val / 4, t.val % 4, 0] : Fin 3 → ℕ) := index0 m t
theorem index8 (t : Fin grid0.N) : (pcfg0.win (adm m (ok m)) 8).index t = (![t.val / 4, t.val % 4, 0] : Fin 3 → ℕ) := index0 m t
theorem index9 (t : Fin grid0.N) : (pcfg0.win (adm m (ok m)) 9).index t = (![t.val / 4, t.val % 4, 0] : Fin 3 → ℕ) := index0 m t
theorem index10 (t : Fin grid0.N) : (pcfg0.win (adm m (ok m)) 10).index t = (![t.val / 4, t.val % 4, 0] : Fin 3 → ℕ) := index0 m t

/-- A layer's parts are read at the point's rows. -/
theorem index3 (t : Fin grid0.N) (ht : t.val / 4 = 0) : ((cfgM m (ok m)).win 3).index t = (![0, t.val % 4, 0] : Fin 3 → ℕ) :=
  of_all (fun t => decide (t.val / 4 = 0)) (fun t => ((cfgM m (ok m)).win 3).index t) (fun t => ![0, t.val % 4, 0]) (by sl_kernel_rfl) t (decide_eq_true ht)
theorem index5 (t : Fin grid0.N) (ht : t.val / 4 = 0) : ((cfgM m (ok m)).win 5).index t = (![0, t.val % 4, 0] : Fin 3 → ℕ) :=
  of_all (fun t => decide (t.val / 4 = 0)) (fun t => ((cfgM m (ok m)).win 5).index t) (fun t => ![0, t.val % 4, 0]) (by sl_kernel_rfl) t (decide_eq_true ht)
theorem index4 (t : Fin grid0.N) (ht : t.val / 4 = 1) : ((cfgM m (ok m)).win 4).index t = (![0, t.val % 4, 0] : Fin 3 → ℕ) :=
  of_all (fun t => decide (t.val / 4 = 1)) (fun t => ((cfgM m (ok m)).win 4).index t) (fun t => ![0, t.val % 4, 0]) (by sl_kernel_rfl) t (decide_eq_true ht)
theorem index6 (t : Fin grid0.N) (ht : t.val / 4 = 1) : ((cfgM m (ok m)).win 6).index t = (![0, t.val % 4, 0] : Fin 3 → ℕ) :=
  of_all (fun t => decide (t.val / 4 = 1)) (fun t => ((cfgM m (ok m)).win 6).index t) (fun t => ![0, t.val % 4, 0]) (by sl_kernel_rfl) t (decide_eq_true ht)

/-- The layer of a grid point is one of the layers. -/
theorem layer (t : Fin grid0.N) : t.val / 4 = 0 ∨ t.val / 4 = 1 := by
  have h : t.val < 8 := t.isLt
  omega

/-- The entry of the whole arrays that an entry of the point's block is. -/
def place (t : Fin grid0.N) (y : S1x256x384.Idx) : S2x1024x384.Idx :=
  ix3 ⟨t.val / 4, by have h : t.val < 8 := t.isLt; omega⟩ ⟨t.val % 4 * 256 + (y 1).val, by have h : (y 1).val < 256 := (y 1).isLt; omega⟩ (y 2)

theorem weights_at (c : Dev nD) (t : Fin grid0.N) (y : S1x256x384.Idx) : iblk m (ok m) c 0 t y = weights m c (place t y) := by
  unfold place
  blk_point [iblk, V, index0 m t]
theorem mean_at (c : Dev nD) (t : Fin grid0.N) (y : S1x256x384.Idx) : iblk m (ok m) c 1 t y = mean m c (place t y) := by
  unfold place
  blk_point [iblk, V, index1 m t]
theorem square_at (c : Dev nD) (t : Fin grid0.N) (y : S1x256x384.Idx) : iblk m (ok m) c 2 t y = square m c (place t y) := by
  unfold place
  blk_point [iblk, V, index2 m t]
theorem emb7 (t : Fin grid0.N) (y : S1x256x384.Idx) :
    ((spec0 7).arr.view.slice ((pcfg0.win (adm m (ok m)) 7).rect t)).emb y = place t y := by
  unfold place
  blk_point [index7 m t]
theorem emb8 (t : Fin grid0.N) (y : S1x256x384.Idx) :
    ((spec0 8).arr.view.slice ((pcfg0.win (adm m (ok m)) 8).rect t)).emb y = place t y := by
  unfold place
  blk_point [index8 m t]
theorem emb9 (t : Fin grid0.N) (y : S1x256x384.Idx) :
    ((spec0 9).arr.view.slice ((pcfg0.win (adm m (ok m)) 9).rect t)).emb y = place t y := by
  unfold place
  blk_point [index9 m t]
theorem emb10 (t : Fin grid0.N) (y : S1x256x384.Idx) :
    ((spec0 10).arr.view.slice ((pcfg0.win (adm m (ok m)) 10).rect t)).emb y = place t y := by
  unfold place
  blk_point [index10 m t]

/-! ## The summed gradient -/

/-- The eight parts of a block added one after another. -/
def summed (o : Vec Ideal S1x256x384 .bf16) (l : Vec Ideal S7x256x384 .bf16) : Vec Ideal S256x384 .f32 :=
  k0_pay5 o
    (View.ld l (Rect.unit ![0, 0, 0] ![1, 256, 384] inb_S7x256x384_S1x256x384_0_0_0))
    (View.ld l (Rect.unit ![1, 0, 0] ![1, 256, 384] inb_S7x256x384_S1x256x384_1_0_0))
    (View.ld l (Rect.unit ![2, 0, 0] ![1, 256, 384] inb_S7x256x384_S1x256x384_2_0_0))
    (View.ld l (Rect.unit ![3, 0, 0] ![1, 256, 384] inb_S7x256x384_S1x256x384_3_0_0))
    (View.ld l (Rect.unit ![4, 0, 0] ![1, 256, 384] inb_S7x256x384_S1x256x384_4_0_0))
    (View.ld l (Rect.unit ![5, 0, 0] ![1, 256, 384] inb_S7x256x384_S1x256x384_5_0_0))
    (View.ld l (Rect.unit ![6, 0, 0] ![1, 256, 384] inb_S7x256x384_S1x256x384_6_0_0))

theorem summed_at (o : Vec Ideal S1x256x384 .bf16) (l : Vec Ideal S7x256x384 .bf16) (y : S256x384.Idx) :
    summed o l y = o (ix3 0 (y 0) (y 1)) + ∑ p : Fin 7, l (ix3 p (y 0) (y 1)) := by
  unfold summed
  pointwise [k0_pay5]
  simp only [Fin.sum_univ_seven, add_assoc]

/-- The reference's sum of one layer's parts. -/
theorem want_at (l : Vec Ideal Cert.Reference13Ideal.S7x1024x384 .bf16) (o : Vec Ideal Cert.Reference13Ideal.S8x1024x384 .bf16) (q : Cert.Reference13Ideal.S1024x384.Idx) :
    val_main_v5 (F := Ideal) l o q = (o (ix3 0 (q 0) (q 1)) + ∑ p : Fin 7, l (ix3 p (q 0) (q 1)) : EReal) := by
  pointwise [val_main_v5, val_main_v4, val_main_v3, val_main_v2, val_main_v1, val_main_v0, val_main_cst]

/-- The stacked sums, at layer 0. -/
theorem stack0 (c : Dev nD) (z : S2x1024x384.Idx) (hz : (z 0).val = 0) :
    wantGrad m c z = val_main_v5 (F := Ideal) (land0 m c) (own0 m c) (ix2 (z 1) (z 2)) := by
  unfold wantGrad
  pointwise [val_main_v14, val_main_v12, val_main_v13]
  (repeat' split) <;> first | (exfalso; omega) | rfl

/-- The kernel's sum of layer 0's parts at one entry of a block is the reference's. -/
theorem grad0 (c : Dev nD) (t : Fin grid0.N) (ht : t.val / 4 = 0) (y : S1x256x384.Idx) :
    summed (iblk m (ok m) c 5 t) (iblk m (ok m) c 3 t) (ix2 (y 1) (y 2)) = wantGrad m c (place t y) := by
  refine (summed_at _ _ _).trans (Eq.trans ?_ ((stack0 m c _ ht).trans (want_at _ _ _)).symm)
  refine congrArg₂ (fun a b : EReal => a + b) ?_ (Finset.sum_congr rfl fun p _ => ?_)
  · unfold place
    blk_point [iblk, V, index5 m t ht]
  · unfold place
    blk_point [iblk, V, index3 m t ht]

/-- The stacked sums, at layer 1. -/
theorem stack1 (c : Dev nD) (z : S2x1024x384.Idx) (hz : (z 0).val = 1) :
    wantGrad m c z = val_main_v5 (F := Ideal) (land1 m c) (own1 m c) (ix2 (z 1) (z 2)) := by
  unfold wantGrad
  pointwise [val_main_v14, val_main_v12, val_main_v13]
  (repeat' split) <;> first | (exfalso; omega) | rfl

/-- The kernel's sum of layer 1's parts at one entry of a block is the reference's. -/
theorem grad1 (c : Dev nD) (t : Fin grid0.N) (ht : t.val / 4 = 1) (y : S1x256x384.Idx) :
    summed (iblk m (ok m) c 6 t) (iblk m (ok m) c 4 t) (ix2 (y 1) (y 2)) = wantGrad m c (place t y) := by
  refine (summed_at _ _ _).trans (Eq.trans ?_ ((stack1 m c _ ht).trans (want_at _ _ _)).symm)
  refine congrArg₂ (fun a b : EReal => a + b) ?_ (Finset.sum_congr rfl fun p _ => ?_)
  · unfold place
    blk_point [iblk, V, index6 m t ht]
  · unfold place
    blk_point [iblk, V, index4 m t ht]

/-! ## AdamW at one entry of a block, from the summed gradient -/

section entry
variable (c : Dev nD) (g : FVec Ideal S256x384 .f32) (w x s : Vec Ideal S1x256x384 .f32) (y : S1x256x384.Idx) (z : S2x1024x384.Idx)

theorem grad_point (hg : g (ix2 (y 1) (y 2)) = wantGrad m c z) : k0_pay9 g y = wantGrad m c z := by
  unfold wantGrad at hg ⊢
  generalize val_main_v14 (F := Ideal) (land0 m c) (land1 m c) (own0 m c) (own1 m c) = total at hg ⊢
  pointwise [k0_pay9]
  exact hg

theorem mean_point (hx : x y = mean m c z) (hg : g (ix2 (y 1) (y 2)) = wantGrad m c z) :
    k0_pay1 (k0_pay7 g x) y = wantMean m c z := by
  unfold wantMean
  unfold k0_pay1 k0_pay7 val_main_v19 val_main_v18 val_main_v17 val_main_v16 val_main_v15 val_main_cst_1 val_main_cst_2
  unfold wantGrad at hg
  generalize val_main_v14 (F := Ideal) (land0 m c) (land1 m c) (own0 m c) (own1 m c) = total at hg ⊢
  pointwise
  rw [hg, hx]

theorem square_point (hs : s y = square m c z) (hg : g (ix2 (y 1) (y 2)) = wantGrad m c z) :
    k0_pay2 (k0_pay8 g s) y = wantSquare m c z := by
  unfold wantSquare
  unfold k0_pay2 k0_pay8 val_main_v25 val_main_v24 val_main_v23 val_main_v22 val_main_v21 val_main_v20 val_main_cst_3 val_main_cst_4
  unfold wantGrad at hg
  generalize val_main_v14 (F := Ideal) (land0 m c) (land1 m c) (own0 m c) (own1 m c) = total at hg ⊢
  pointwise
  rw [hg, hs]

theorem delta_point (hw : w y = weights m c z) (hx : x y = mean m c z) (hs : s y = square m c z)
    (hg : g (ix2 (y 1) (y 2)) = wantGrad m c z) : k0_pay10 g (k0_pay6 w) x s y = wantDelta m c z := by
  have hm := mean_point m c g x y z hx hg
  have hv := square_point m c g s y z hs hg
  unfold wantDelta
  unfold k0_pay10 k0_pay6 val_main_v38 val_main_v37 val_main_v36 val_main_v35 val_main_v34 val_main_v33 val_main_v32 val_main_v31 val_main_v30 val_main_v29 val_main_v28 val_main_v27 val_main_v26 val_main_cst_5 val_main_cst_6 val_main_cst_7 val_main_cst_8 val_main_cst_9
  unfold wantMean k0_pay1 at hm
  unfold wantSquare k0_pay2 at hv
  generalize val_main_v19 (F := Ideal) (mean m c) (land0 m c) (land1 m c) (own0 m c) (own1 m c) = mean' at hm ⊢
  generalize k0_pay7 (F := Ideal) g x = meanBlock at hm ⊢
  generalize val_main_v25 (F := Ideal) (square m c) (land0 m c) (land1 m c) (own0 m c) (own1 m c) = square' at hv ⊢
  generalize k0_pay8 (F := Ideal) g s = squareBlock at hv ⊢
  pointwise at hm hv
  pointwise
  rw [hm, hv, hw]

end entry

/-! ## The whole results -/

/-- The kernel's whole summed gradient is the reference's. -/
theorem finalGrad (c : Dev nD) : (dats m (ok m) 0 c).arrAt 7 (cfgM m (ok m)).N = wantGrad m c := by
  refine (dats m (ok m) 0 c).arrAt_eq_of_covers 7 _ (of_decide_eq_true (by sl_kernel_rfl)) fun t _ y => ?_
  blk_simp
  rw [after0_7]
  refine Eq.trans ?_ (congrArg (wantGrad m c) (emb7 m t y).symm)
  rcases layer t with ht | ht
  · rw [outsAt0_A m (ok m) c t (by omega) (by omega)]
    dsimp only
    frame_out
    refine (congrFun (congrArg k0_pay9 (congrArg₂ summed ((hs0_5 m (ok m) t).read_unread _) ((hs0_3 m (ok m) t).read_unread _))) y).trans ?_
    exact grad_point m c _ y _ (grad0 m c t ht y)
  · rw [outsAt0_B m (ok m) c t (by omega) (by omega)]
    dsimp only
    frame_out
    refine (congrFun (congrArg k0_pay15 (congrArg₂ summed ((hs0_6 m (ok m) t).read_unread _) ((hs0_4 m (ok m) t).read_unread _))) y).trans ?_
    exact grad_point m c _ y _ (grad1 m c t ht y)

/-- The kernel's whole update is the reference's. -/
theorem finalDelta (c : Dev nD) : (dats m (ok m) 0 c).arrAt 8 (cfgM m (ok m)).N = wantDelta m c := by
  refine (dats m (ok m) 0 c).arrAt_eq_of_covers 8 _ (of_decide_eq_true (by sl_kernel_rfl)) fun t _ y => ?_
  blk_simp
  rw [after0_8]
  refine Eq.trans ?_ (congrArg (wantDelta m c) (emb8 m t y).symm)
  rcases layer t with ht | ht
  · rw [outsAt0_A m (ok m) c t (by omega) (by omega)]
    dsimp only
    frame_out
    refine (congrFun (congr (congr (congrArg₂ k0_pay10 (congrArg₂ summed ((hs0_5 m (ok m) t).read_unread _) ((hs0_3 m (ok m) t).read_unread _)) (congrArg k0_pay6 ((hs0_0 m (ok m) t).read_unread _))) ((hs0_1 m (ok m) t).read_unread _)) ((hs0_2 m (ok m) t).read_unread _)) y).trans ?_
    exact delta_point m c _ _ _ _ y _ (weights_at m c t y) (mean_at m c t y) (square_at m c t y) (grad0 m c t ht y)
  · rw [outsAt0_B m (ok m) c t (by omega) (by omega)]
    dsimp only
    frame_out
    refine (congrFun (congr (congr (congrArg₂ k0_pay16 (congrArg₂ summed ((hs0_6 m (ok m) t).read_unread _) ((hs0_4 m (ok m) t).read_unread _)) (congrArg k0_pay12 ((hs0_0 m (ok m) t).read_unread _))) ((hs0_1 m (ok m) t).read_unread _)) ((hs0_2 m (ok m) t).read_unread _)) y).trans ?_
    exact delta_point m c _ _ _ _ y _ (weights_at m c t y) (mean_at m c t y) (square_at m c t y) (grad1 m c t ht y)

/-- The kernel's whole new first moment is the reference's. -/
theorem finalMean (c : Dev nD) : (dats m (ok m) 0 c).arrAt 9 (cfgM m (ok m)).N = wantMean m c := by
  refine (dats m (ok m) 0 c).arrAt_eq_of_covers 9 _ (of_decide_eq_true (by sl_kernel_rfl)) fun t _ y => ?_
  blk_simp
  rw [after0_9]
  refine Eq.trans ?_ (congrArg (wantMean m c) (emb9 m t y).symm)
  rcases layer t with ht | ht
  · rw [outsAt0_A m (ok m) c t (by omega) (by omega)]
    dsimp only
    frame_out
    refine (congrFun (congrArg k0_pay1 (congrArg₂ k0_pay7 (congrArg₂ summed ((hs0_5 m (ok m) t).read_unread _) ((hs0_3 m (ok m) t).read_unread _)) ((hs0_1 m (ok m) t).read_unread _))) y).trans ?_
    exact mean_point m c _ _ y _ (mean_at m c t y) (grad0 m c t ht y)
  · rw [outsAt0_B m (ok m) c t (by omega) (by omega)]
    dsimp only
    frame_out
    refine (congrFun (congrArg k0_pay3 (congrArg₂ k0_pay13 (congrArg₂ summed ((hs0_6 m (ok m) t).read_unread _) ((hs0_4 m (ok m) t).read_unread _)) ((hs0_1 m (ok m) t).read_unread _))) y).trans ?_
    exact mean_point m c _ _ y _ (mean_at m c t y) (grad1 m c t ht y)

/-- The kernel's whole new second moment is the reference's. -/
theorem finalSquare (c : Dev nD) : (dats m (ok m) 0 c).arrAt 10 (cfgM m (ok m)).N = wantSquare m c := by
  refine (dats m (ok m) 0 c).arrAt_eq_of_covers 10 _ (of_decide_eq_true (by sl_kernel_rfl)) fun t _ y => ?_
  blk_simp
  rw [after0_10]
  refine Eq.trans ?_ (congrArg (wantSquare m c) (emb10 m t y).symm)
  rcases layer t with ht | ht
  · rw [outsAt0_A m (ok m) c t (by omega) (by omega)]
    dsimp only
    frame_out
    refine (congrFun (congrArg k0_pay2 (congrArg₂ k0_pay8 (congrArg₂ summed ((hs0_5 m (ok m) t).read_unread _) ((hs0_3 m (ok m) t).read_unread _)) ((hs0_2 m (ok m) t).read_unread _))) y).trans ?_
    exact square_point m c _ _ y _ (square_at m c t y) (grad0 m c t ht y)
  · rw [outsAt0_B m (ok m) c t (by omega) (by omega)]
    dsimp only
    frame_out
    refine (congrFun (congrArg k0_pay4 (congrArg₂ k0_pay14 (congrArg₂ summed ((hs0_6 m (ok m) t).read_unread _) ((hs0_4 m (ok m) t).read_unread _)) ((hs0_2 m (ok m) t).read_unread _))) y).trans ?_
    exact square_point m c _ _ y _ (square_at m c t y) (grad1 m c t ht y)

/-- The reference runs, and leaves its arguments as they were. -/
theorem reference_quiet : Cert.quiescent_Reference13Ideal := fun m g _ =>
  (θ_run (Cert.Reference13Ideal.defs (F := Ideal)) _ _).mono
    (fun r h => ⟨fun c => (h c).2.2.2.2, sem_eq_zero_of_no_sems (by decide) r.2⟩)
    (Cert.Reference13Ideal.Value.run (F := Ideal) m g)

/-- The claim: from memories that agree on the arguments, both run and end with equal results. -/
theorem equal : Cert.algebraic_Kernel13Ideal_Reference13Ideal := by
  intro m g m' g' _ hagree
  refine ⟨fun c => wantGrad m c, fun c => wantDelta m c, fun c => wantMean m c, fun c => wantSquare m c, ?_, ?_⟩
  · exact (θ_run (Cert.Kernel13Ideal.defs (F := Ideal)) _ _).mono
      (fun r h c => ⟨((h.1 c).1 7).trans (finalGrad m c), ((h.1 c).1 8).trans (finalDelta m c),
        ((h.1 c).1 9).trans (finalMean m c), ((h.1 c).1 10).trans (finalSquare m c), h.2 c⟩)
      (θ_run_and (run_main (F := Ideal) m g (ok m)) (unchanged (F := Ideal) m g (ok m)))
  · refine (θ_run (Cert.Reference13Ideal.defs (F := Ideal)) _ _).mono
      (fun r h c => ⟨(h c).1.trans ?_, (h c).2.1.trans ?_, (h c).2.2.1.trans ?_, (h c).2.2.2.1.trans ?_,
        (h c).2.2.2.2⟩) (Cert.Reference13Ideal.Value.run (F := Ideal) m' g')
    · exact (val_main_v14_eq _ _ _ _ ).trans (congr (congr (congr (congrArg (val_main_v14 (F := Ideal)) (hagree c).2.2.2.1) (hagree c).2.2.2.2.1) (hagree c).2.2.2.2.2.1) (hagree c).2.2.2.2.2.2)
    · exact (val_main_v38_eq _ _ _ _ _ _ _ ).trans (congr (congr (congr (congr (congr (congr (congrArg (val_main_v38 (F := Ideal)) (hagree c).1) (hagree c).2.1) (hagree c).2.2.1) (hagree c).2.2.2.1) (hagree c).2.2.2.2.1) (hagree c).2.2.2.2.2.1) (hagree c).2.2.2.2.2.2)
    · exact (val_main_v19_eq _ _ _ _ _ ).trans (congr (congr (congr (congr (congrArg (val_main_v19 (F := Ideal)) (hagree c).2.1) (hagree c).2.2.2.1) (hagree c).2.2.2.2.1) (hagree c).2.2.2.2.2.1) (hagree c).2.2.2.2.2.2)
    · exact (val_main_v25_eq _ _ _ _ _ ).trans (congr (congr (congr (congr (congrArg (val_main_v25 (F := Ideal)) (hagree c).2.2.1) (hagree c).2.2.2.1) (hagree c).2.2.2.2.1) (hagree c).2.2.2.2.2.1) (hagree c).2.2.2.2.2.2)

end Cert.AdamQkv
-- ==== Proof.AdamOut.lean ====
module

public import proofs.«01_k».proof.Defs
public import proofs.«01_k».proof.Proof.Gen.Kernel14.Frame
public import proofs.«01_k».proof.Proof.Gen.Kernel14Ideal.Frame
public import proofs.«01_k».proof.Proof.Gen.Reference14Ideal.Run
public import proofs.«01_k».proof.Proof.Gen.Reference14Ideal.Read
public import Idealize.ShloMosaic.Lib.Claim
public import Idealize.ShloMosaic.Lib.Pointwise
public import Idealize.ShloMosaic.Lib.Pipeline.ValueKit
public import Idealize.ShloMosaic.Lib.Pipeline.ReadBack

/-! # The optimiser on a device's share of the attention's output weights

A grid point belongs to one layer.  It adds the device's own part of that layer's gradient and the seven
parts that came from the other devices, and steps the layer's rows of the weights by AdamW.
-/

@[expose] public section
set_option maxRecDepth 16384
noncomputable section
open Idealize.ShloMosaic Idealize.ShloMosaic.TcCoe Idealize.SL.Sem

namespace Cert.AdamOut

/-- The table of device numbers is zero, so every window stays inside its array: at the machine's values. -/
theorem ok_bits (m : (ℓ : Loc Cert.Kernel14.nD Cert.Kernel14.τ Cert.Kernel14.sig) → Buf (Elt Bits) ℓ) : Cert.Kernel14.Gen.Ok m :=
  of_decide_eq_true (by sl_kernel_rfl)

open Cert.Kernel14Ideal Cert.Kernel14Ideal.Gen Cert.Reference14Ideal.Read

variable (m : (ℓ : Loc nD τ sig) → Buf (Elt Ideal) ℓ)

/-- The same at the ideal values. -/
theorem ok : Ok m := of_decide_eq_true (by sl_kernel_rfl)

/-- The weights and the two moments the kernel was given. -/
abbrev weights (c : Dev nD) := m ((c : Thread nD τ).loc main_arg0)
abbrev mean (c : Dev nD) := m ((c : Thread nD τ).loc main_arg1)
abbrev square (c : Dev nD) := m ((c : Thread nD τ).loc main_arg2)
/-- Each layer's gradient parts: those that came from the other devices, and the device's own. -/
abbrev land0 (c : Dev nD) := m ((c : Thread nD τ).loc main_arg3)
abbrev land1 (c : Dev nD) := m ((c : Thread nD τ).loc main_arg4)
abbrev own0 (c : Dev nD) := m ((c : Thread nD τ).loc main_arg5)
abbrev own1 (c : Dev nD) := m ((c : Thread nD τ).loc main_arg6)

/-- What the reference computes from them: the summed gradient, the update, and the two new moments. -/
abbrev wantGrad (c : Dev nD) := val_main_v14 (F := Ideal) (land0 m c) (land1 m c) (own0 m c) (own1 m c)
abbrev wantDelta (c : Dev nD) := val_main_v38 (F := Ideal) (weights m c) (mean m c) (square m c) (land0 m c) (land1 m c) (own0 m c) (own1 m c)
abbrev wantMean (c : Dev nD) := val_main_v19 (F := Ideal) (mean m c) (land0 m c) (land1 m c) (own0 m c) (own1 m c)
abbrev wantSquare (c : Dev nD) := val_main_v25 (F := Ideal) (square m c) (land0 m c) (land1 m c) (own0 m c) (own1 m c)

/-! ## Where the windows stand -/

/-- Two ways to name a block at the grid points of a kind agree when they agree by computation. -/
theorem of_all {a : Nat} (p : Fin a → Bool) (f g : Fin a → Fin 3 → ℕ) (h : decide (∀ t, p t = true → f t = g t) = true) (t : Fin a)
    (ht : p t = true) : f t = g t := of_decide_eq_true h t ht

/-- The weights' window, and so the moments' and the outputs', stands at the point's layer and rows. -/
theorem index0 (t : Fin grid0.N) : ((cfgM m (ok m)).win 0).index t = (![t.val / 1, t.val % 1, 0] : Fin 3 → ℕ) :=
  of_all (fun _ => true) (fun t => ((cfgM m (ok m)).win 0).index t) (fun t => ![t.val / 1, t.val % 1, 0]) (by sl_kernel_rfl) t rfl
theorem index1 (t : Fin grid0.N) : ((cfgM m (ok m)).win 1).index t = (![t.val / 1, t.val % 1, 0] : Fin 3 → ℕ) := index0 m t
theorem index2 (t : Fin grid0.N) : ((cfgM m (ok m)).win 2).index t = (![t.val / 1, t.val % 1, 0] : Fin 3 → ℕ) := index0 m t
theorem index7 (t : Fin grid0.N) : (pcfg0.win (adm m (ok m)) 7).index t = (![t.val / 1, t.val % 1, 0] : Fin 3 → ℕ) := index0 m t
theorem index8 (t : Fin grid0.N) : (pcfg0.win (adm m (ok m)) 8).index t = (![t.val / 1, t.val % 1, 0] : Fin 3 → ℕ) := index0 m t
theorem index9 (t : Fin grid0.N) : (pcfg0.win (adm m (ok m)) 9).index t = (![t.val / 1, t.val % 1, 0] : Fin 3 → ℕ) := index0 m t
theorem index10 (t : Fin grid0.N) : (pcfg0.win (adm m (ok m)) 10).index t = (![t.val / 1, t.val % 1, 0] : Fin 3 → ℕ) := index0 m t

/-- A layer's parts are read at the point's rows. -/
theorem index3 (t : Fin grid0.N) (ht : t.val / 1 = 0) : ((cfgM m (ok m)).win 3).index t = (![0, t.val % 1, 0] : Fin 3 → ℕ) :=
  of_all (fun t => decide (t.val / 1 = 0)) (fun t => ((cfgM m (ok m)).win 3).index t) (fun t => ![0, t.val % 1, 0]) (by sl_kernel_rfl) t (decide_eq_true ht)
theorem index5 (t : Fin grid0.N) (ht : t.val / 1 = 0) : ((cfgM m (ok m)).win 5).index t = (![0, t.val % 1, 0] : Fin 3 → ℕ) :=
  of_all (fun t => decide (t.val / 1 = 0)) (fun t => ((cfgM m (ok m)).win 5).index t) (fun t => ![0, t.val % 1, 0]) (by sl_kernel_rfl) t (decide_eq_true ht)
theorem index4 (t : Fin grid0.N) (ht : t.val / 1 = 1) : ((cfgM m (ok m)).win 4).index t = (![0, t.val % 1, 0] : Fin 3 → ℕ) :=
  of_all (fun t => decide (t.val / 1 = 1)) (fun t => ((cfgM m (ok m)).win 4).index t) (fun t => ![0, t.val % 1, 0]) (by sl_kernel_rfl) t (decide_eq_true ht)
theorem index6 (t : Fin grid0.N) (ht : t.val / 1 = 1) : ((cfgM m (ok m)).win 6).index t = (![0, t.val % 1, 0] : Fin 3 → ℕ) :=
  of_all (fun t => decide (t.val / 1 = 1)) (fun t => ((cfgM m (ok m)).win 6).index t) (fun t => ![0, t.val % 1, 0]) (by sl_kernel_rfl) t (decide_eq_true ht)

/-- The layer of a grid point is one of the layers. -/
theorem layer (t : Fin grid0.N) : t.val / 1 = 0 ∨ t.val / 1 = 1 := by
  have h : t.val < 2 := t.isLt
  omega

/-- The entry of the whole arrays that an entry of the point's block is. -/
def place (t : Fin grid0.N) (y : S1x128x1024.Idx) : S2x128x1024.Idx :=
  ix3 ⟨t.val / 1, by have h : t.val < 2 := t.isLt; omega⟩ ⟨t.val % 1 * 128 + (y 1).val, by have h : (y 1).val < 128 := (y 1).isLt; omega⟩ (y 2)

theorem weights_at (c : Dev nD) (t : Fin grid0.N) (y : S1x128x1024.Idx) : iblk m (ok m) c 0 t y = weights m c (place t y) := by
  unfold place
  blk_point [iblk, V, index0 m t]
theorem mean_at (c : Dev nD) (t : Fin grid0.N) (y : S1x128x1024.Idx) : iblk m (ok m) c 1 t y = mean m c (place t y) := by
  unfold place
  blk_point [iblk, V, index1 m t]
theorem square_at (c : Dev nD) (t : Fin grid0.N) (y : S1x128x1024.Idx) : iblk m (ok m) c 2 t y = square m c (place t y) := by
  unfold place
  blk_point [iblk, V, index2 m t]
theorem emb7 (t : Fin grid0.N) (y : S1x128x1024.Idx) :
    ((spec0 7).arr.view.slice ((pcfg0.win (adm m (ok m)) 7).rect t)).emb y = place t y := by
  unfold place
  blk_point [index7 m t]
theorem emb8 (t : Fin grid0.N) (y : S1x128x1024.Idx) :
    ((spec0 8).arr.view.slice ((pcfg0.win (adm m (ok m)) 8).rect t)).emb y = place t y := by
  unfold place
  blk_point [index8 m t]
theorem emb9 (t : Fin grid0.N) (y : S1x128x1024.Idx) :
    ((spec0 9).arr.view.slice ((pcfg0.win (adm m (ok m)) 9).rect t)).emb y = place t y := by
  unfold place
  blk_point [index9 m t]
theorem emb10 (t : Fin grid0.N) (y : S1x128x1024.Idx) :
    ((spec0 10).arr.view.slice ((pcfg0.win (adm m (ok m)) 10).rect t)).emb y = place t y := by
  unfold place
  blk_point [index10 m t]

/-! ## The summed gradient -/

/-- The eight parts of a block added one after another. -/
def summed (o : Vec Ideal S1x128x1024 .bf16) (l : Vec Ideal S7x128x1024 .bf16) : Vec Ideal S128x1024 .f32 :=
  k0_pay5 o
    (View.ld l (Rect.unit ![0, 0, 0] ![1, 128, 1024] inb_S7x128x1024_S1x128x1024_0_0_0))
    (View.ld l (Rect.unit ![1, 0, 0] ![1, 128, 1024] inb_S7x128x1024_S1x128x1024_1_0_0))
    (View.ld l (Rect.unit ![2, 0, 0] ![1, 128, 1024] inb_S7x128x1024_S1x128x1024_2_0_0))
    (View.ld l (Rect.unit ![3, 0, 0] ![1, 128, 1024] inb_S7x128x1024_S1x128x1024_3_0_0))
    (View.ld l (Rect.unit ![4, 0, 0] ![1, 128, 1024] inb_S7x128x1024_S1x128x1024_4_0_0))
    (View.ld l (Rect.unit ![5, 0, 0] ![1, 128, 1024] inb_S7x128x1024_S1x128x1024_5_0_0))
    (View.ld l (Rect.unit ![6, 0, 0] ![1, 128, 1024] inb_S7x128x1024_S1x128x1024_6_0_0))

theorem summed_at (o : Vec Ideal S1x128x1024 .bf16) (l : Vec Ideal S7x128x1024 .bf16) (y : S128x1024.Idx) :
    summed o l y = o (ix3 0 (y 0) (y 1)) + ∑ p : Fin 7, l (ix3 p (y 0) (y 1)) := by
  unfold summed
  pointwise [k0_pay5]
  simp only [Fin.sum_univ_seven, add_assoc]

/-- The reference's sum of one layer's parts. -/
theorem want_at (l : Vec Ideal Cert.Reference14Ideal.S7x128x1024 .bf16) (o : Vec Ideal Cert.Reference14Ideal.S8x128x1024 .bf16) (q : Cert.Reference14Ideal.S128x1024.Idx) :
    val_main_v5 (F := Ideal) l o q = (o (ix3 0 (q 0) (q 1)) + ∑ p : Fin 7, l (ix3 p (q 0) (q 1)) : EReal) := by
  pointwise [val_main_v5, val_main_v4, val_main_v3, val_main_v2, val_main_v1, val_main_v0, val_main_cst]

/-- The stacked sums, at layer 0. -/
theorem stack0 (c : Dev nD) (z : S2x128x1024.Idx) (hz : (z 0).val = 0) :
    wantGrad m c z = val_main_v5 (F := Ideal) (land0 m c) (own0 m c) (ix2 (z 1) (z 2)) := by
  unfold wantGrad
  pointwise [val_main_v14, val_main_v12, val_main_v13]
  (repeat' split) <;> first | (exfalso; omega) | rfl

/-- The kernel's sum of layer 0's parts at one entry of a block is the reference's. -/
theorem grad0 (c : Dev nD) (t : Fin grid0.N) (ht : t.val / 1 = 0) (y : S1x128x1024.Idx) :
    summed (iblk m (ok m) c 5 t) (iblk m (ok m) c 3 t) (ix2 (y 1) (y 2)) = wantGrad m c (place t y) := by
  refine (summed_at _ _ _).trans (Eq.trans ?_ ((stack0 m c _ ht).trans (want_at _ _ _)).symm)
  refine congrArg₂ (fun a b : EReal => a + b) ?_ (Finset.sum_congr rfl fun p _ => ?_)
  · unfold place
    blk_point [iblk, V, index5 m t ht]
  · unfold place
    blk_point [iblk, V, index3 m t ht]

/-- The stacked sums, at layer 1. -/
theorem stack1 (c : Dev nD) (z : S2x128x1024.Idx) (hz : (z 0).val = 1) :
    wantGrad m c z = val_main_v5 (F := Ideal) (land1 m c) (own1 m c) (ix2 (z 1) (z 2)) := by
  unfold wantGrad
  pointwise [val_main_v14, val_main_v12, val_main_v13]
  (repeat' split) <;> first | (exfalso; omega) | rfl

/-- The kernel's sum of layer 1's parts at one entry of a block is the reference's. -/
theorem grad1 (c : Dev nD) (t : Fin grid0.N) (ht : t.val / 1 = 1) (y : S1x128x1024.Idx) :
    summed (iblk m (ok m) c 6 t) (iblk m (ok m) c 4 t) (ix2 (y 1) (y 2)) = wantGrad m c (place t y) := by
  refine (summed_at _ _ _).trans (Eq.trans ?_ ((stack1 m c _ ht).trans (want_at _ _ _)).symm)
  refine congrArg₂ (fun a b : EReal => a + b) ?_ (Finset.sum_congr rfl fun p _ => ?_)
  · unfold place
    blk_point [iblk, V, index6 m t ht]
  · unfold place
    blk_point [iblk, V, index4 m t ht]

/-! ## AdamW at one entry of a block, from the summed gradient -/

section entry
variable (c : Dev nD) (g : FVec Ideal S128x1024 .f32) (w x s : Vec Ideal S1x128x1024 .f32) (y : S1x128x1024.Idx) (z : S2x128x1024.Idx)

theorem grad_point (hg : g (ix2 (y 1) (y 2)) = wantGrad m c z) : k0_pay9 g y = wantGrad m c z := by
  unfold wantGrad at hg ⊢
  generalize val_main_v14 (F := Ideal) (land0 m c) (land1 m c) (own0 m c) (own1 m c) = total at hg ⊢
  pointwise [k0_pay9]
  exact hg

theorem mean_point (hx : x y = mean m c z) (hg : g (ix2 (y 1) (y 2)) = wantGrad m c z) :
    k0_pay1 (k0_pay7 g x) y = wantMean m c z := by
  unfold wantMean
  unfold k0_pay1 k0_pay7 val_main_v19 val_main_v18 val_main_v17 val_main_v16 val_main_v15 val_main_cst_1 val_main_cst_2
  unfold wantGrad at hg
  generalize val_main_v14 (F := Ideal) (land0 m c) (land1 m c) (own0 m c) (own1 m c) = total at hg ⊢
  pointwise
  rw [hg, hx]

theorem square_point (hs : s y = square m c z) (hg : g (ix2 (y 1) (y 2)) = wantGrad m c z) :
    k0_pay2 (k0_pay8 g s) y = wantSquare m c z := by
  unfold wantSquare
  unfold k0_pay2 k0_pay8 val_main_v25 val_main_v24 val_main_v23 val_main_v22 val_main_v21 val_main_v20 val_main_cst_3 val_main_cst_4
  unfold wantGrad at hg
  generalize val_main_v14 (F := Ideal) (land0 m c) (land1 m c) (own0 m c) (own1 m c) = total at hg ⊢
  pointwise
  rw [hg, hs]

theorem delta_point (hw : w y = weights m c z) (hx : x y = mean m c z) (hs : s y = square m c z)
    (hg : g (ix2 (y 1) (y 2)) = wantGrad m c z) : k0_pay10 g (k0_pay6 w) x s y = wantDelta m c z := by
  have hm := mean_point m c g x y z hx hg
  have hv := square_point m c g s y z hs hg
  unfold wantDelta
  unfold k0_pay10 k0_pay6 val_main_v38 val_main_v37 val_main_v36 val_main_v35 val_main_v34 val_main_v33 val_main_v32 val_main_v31 val_main_v30 val_main_v29 val_main_v28 val_main_v27 val_main_v26 val_main_cst_5 val_main_cst_6 val_main_cst_7 val_main_cst_8 val_main_cst_9
  unfold wantMean k0_pay1 at hm
  unfold wantSquare k0_pay2 at hv
  generalize val_main_v19 (F := Ideal) (mean m c) (land0 m c) (land1 m c) (own0 m c) (own1 m c) = mean' at hm ⊢
  generalize k0_pay7 (F := Ideal) g x = meanBlock at hm ⊢
  generalize val_main_v25 (F := Ideal) (square m c) (land0 m c) (land1 m c) (own0 m c) (own1 m c) = square' at hv ⊢
  generalize k0_pay8 (F := Ideal) g s = squareBlock at hv ⊢
  pointwise at hm hv
  pointwise
  rw [hm, hv, hw]

end entry

/-! ## The whole results -/

/-- The kernel's whole summed gradient is the reference's. -/
theorem finalGrad (c : Dev nD) : (dats m (ok m) 0 c).arrAt 7 (cfgM m (ok m)).N = wantGrad m c := by
  refine (dats m (ok m) 0 c).arrAt_eq_of_covers 7 _ (of_decide_eq_true (by sl_kernel_rfl)) fun t _ y => ?_
  blk_simp
  rw [after0_7]
  refine Eq.trans ?_ (congrArg (wantGrad m c) (emb7 m t y).symm)
  rcases layer t with ht | ht
  · rw [outsAt0_A m (ok m) c t (by omega) (by omega)]
    dsimp only
    frame_out
    refine (congrFun (congrArg k0_pay9 (congrArg₂ summed ((hs0_5 m (ok m) t).read_unread _) ((hs0_3 m (ok m) t).read_unread _))) y).trans ?_
    exact grad_point m c _ y _ (grad0 m c t ht y)
  · rw [outsAt0_B m (ok m) c t (by omega) (by omega)]
    dsimp only
    frame_out
    refine (congrFun (congrArg k0_pay15 (congrArg₂ summed ((hs0_6 m (ok m) t).read_unread _) ((hs0_4 m (ok m) t).read_unread _))) y).trans ?_
    exact grad_point m c _ y _ (grad1 m c t ht y)

/-- The kernel's whole update is the reference's. -/
theorem finalDelta (c : Dev nD) : (dats m (ok m) 0 c).arrAt 8 (cfgM m (ok m)).N = wantDelta m c := by
  refine (dats m (ok m) 0 c).arrAt_eq_of_covers 8 _ (of_decide_eq_true (by sl_kernel_rfl)) fun t _ y => ?_
  blk_simp
  rw [after0_8]
  refine Eq.trans ?_ (congrArg (wantDelta m c) (emb8 m t y).symm)
  rcases layer t with ht | ht
  · rw [outsAt0_A m (ok m) c t (by omega) (by omega)]
    dsimp only
    frame_out
    refine (congrFun (congr (congr (congrArg₂ k0_pay10 (congrArg₂ summed ((hs0_5 m (ok m) t).read_unread _) ((hs0_3 m (ok m) t).read_unread _)) (congrArg k0_pay6 ((hs0_0 m (ok m) t).read_unread _))) ((hs0_1 m (ok m) t).read_unread _)) ((hs0_2 m (ok m) t).read_unread _)) y).trans ?_
    exact delta_point m c _ _ _ _ y _ (weights_at m c t y) (mean_at m c t y) (square_at m c t y) (grad0 m c t ht y)
  · rw [outsAt0_B m (ok m) c t (by omega) (by omega)]
    dsimp only
    frame_out
    refine (congrFun (congr (congr (congrArg₂ k0_pay16 (congrArg₂ summed ((hs0_6 m (ok m) t).read_unread _) ((hs0_4 m (ok m) t).read_unread _)) (congrArg k0_pay12 ((hs0_0 m (ok m) t).read_unread _))) ((hs0_1 m (ok m) t).read_unread _)) ((hs0_2 m (ok m) t).read_unread _)) y).trans ?_
    exact delta_point m c _ _ _ _ y _ (weights_at m c t y) (mean_at m c t y) (square_at m c t y) (grad1 m c t ht y)

/-- The kernel's whole new first moment is the reference's. -/
theorem finalMean (c : Dev nD) : (dats m (ok m) 0 c).arrAt 9 (cfgM m (ok m)).N = wantMean m c := by
  refine (dats m (ok m) 0 c).arrAt_eq_of_covers 9 _ (of_decide_eq_true (by sl_kernel_rfl)) fun t _ y => ?_
  blk_simp
  rw [after0_9]
  refine Eq.trans ?_ (congrArg (wantMean m c) (emb9 m t y).symm)
  rcases layer t with ht | ht
  · rw [outsAt0_A m (ok m) c t (by omega) (by omega)]
    dsimp only
    frame_out
    refine (congrFun (congrArg k0_pay1 (congrArg₂ k0_pay7 (congrArg₂ summed ((hs0_5 m (ok m) t).read_unread _) ((hs0_3 m (ok m) t).read_unread _)) ((hs0_1 m (ok m) t).read_unread _))) y).trans ?_
    exact mean_point m c _ _ y _ (mean_at m c t y) (grad0 m c t ht y)
  · rw [outsAt0_B m (ok m) c t (by omega) (by omega)]
    dsimp only
    frame_out
    refine (congrFun (congrArg k0_pay3 (congrArg₂ k0_pay13 (congrArg₂ summed ((hs0_6 m (ok m) t).read_unread _) ((hs0_4 m (ok m) t).read_unread _)) ((hs0_1 m (ok m) t).read_unread _))) y).trans ?_
    exact mean_point m c _ _ y _ (mean_at m c t y) (grad1 m c t ht y)

/-- The kernel's whole new second moment is the reference's. -/
theorem finalSquare (c : Dev nD) : (dats m (ok m) 0 c).arrAt 10 (cfgM m (ok m)).N = wantSquare m c := by
  refine (dats m (ok m) 0 c).arrAt_eq_of_covers 10 _ (of_decide_eq_true (by sl_kernel_rfl)) fun t _ y => ?_
  blk_simp
  rw [after0_10]
  refine Eq.trans ?_ (congrArg (wantSquare m c) (emb10 m t y).symm)
  rcases layer t with ht | ht
  · rw [outsAt0_A m (ok m) c t (by omega) (by omega)]
    dsimp only
    frame_out
    refine (congrFun (congrArg k0_pay2 (congrArg₂ k0_pay8 (congrArg₂ summed ((hs0_5 m (ok m) t).read_unread _) ((hs0_3 m (ok m) t).read_unread _)) ((hs0_2 m (ok m) t).read_unread _))) y).trans ?_
    exact square_point m c _ _ y _ (square_at m c t y) (grad0 m c t ht y)
  · rw [outsAt0_B m (ok m) c t (by omega) (by omega)]
    dsimp only
    frame_out
    refine (congrFun (congrArg k0_pay4 (congrArg₂ k0_pay14 (congrArg₂ summed ((hs0_6 m (ok m) t).read_unread _) ((hs0_4 m (ok m) t).read_unread _)) ((hs0_2 m (ok m) t).read_unread _))) y).trans ?_
    exact square_point m c _ _ y _ (square_at m c t y) (grad1 m c t ht y)

/-- The reference runs, and leaves its arguments as they were. -/
theorem reference_quiet : Cert.quiescent_Reference14Ideal := fun m g _ =>
  (θ_run (Cert.Reference14Ideal.defs (F := Ideal)) _ _).mono
    (fun r h => ⟨fun c => (h c).2.2.2.2, sem_eq_zero_of_no_sems (by decide) r.2⟩)
    (Cert.Reference14Ideal.Value.run (F := Ideal) m g)

/-- The claim: from memories that agree on the arguments, both run and end with equal results. -/
theorem equal : Cert.algebraic_Kernel14Ideal_Reference14Ideal := by
  intro m g m' g' _ hagree
  refine ⟨fun c => wantGrad m c, fun c => wantDelta m c, fun c => wantMean m c, fun c => wantSquare m c, ?_, ?_⟩
  · exact (θ_run (Cert.Kernel14Ideal.defs (F := Ideal)) _ _).mono
      (fun r h c => ⟨((h.1 c).1 7).trans (finalGrad m c), ((h.1 c).1 8).trans (finalDelta m c),
        ((h.1 c).1 9).trans (finalMean m c), ((h.1 c).1 10).trans (finalSquare m c), h.2 c⟩)
      (θ_run_and (run_main (F := Ideal) m g (ok m)) (unchanged (F := Ideal) m g (ok m)))
  · refine (θ_run (Cert.Reference14Ideal.defs (F := Ideal)) _ _).mono
      (fun r h c => ⟨(h c).1.trans ?_, (h c).2.1.trans ?_, (h c).2.2.1.trans ?_, (h c).2.2.2.1.trans ?_,
        (h c).2.2.2.2⟩) (Cert.Reference14Ideal.Value.run (F := Ideal) m' g')
    · exact (val_main_v14_eq _ _ _ _ ).trans (congr (congr (congr (congrArg (val_main_v14 (F := Ideal)) (hagree c).2.2.2.1) (hagree c).2.2.2.2.1) (hagree c).2.2.2.2.2.1) (hagree c).2.2.2.2.2.2)
    · exact (val_main_v38_eq _ _ _ _ _ _ _ ).trans (congr (congr (congr (congr (congr (congr (congrArg (val_main_v38 (F := Ideal)) (hagree c).1) (hagree c).2.1) (hagree c).2.2.1) (hagree c).2.2.2.1) (hagree c).2.2.2.2.1) (hagree c).2.2.2.2.2.1) (hagree c).2.2.2.2.2.2)
    · exact (val_main_v19_eq _ _ _ _ _ ).trans (congr (congr (congr (congr (congrArg (val_main_v19 (F := Ideal)) (hagree c).2.1) (hagree c).2.2.2.1) (hagree c).2.2.2.2.1) (hagree c).2.2.2.2.2.1) (hagree c).2.2.2.2.2.2)
    · exact (val_main_v25_eq _ _ _ _ _ ).trans (congr (congr (congr (congr (congrArg (val_main_v25 (F := Ideal)) (hagree c).2.2.1) (hagree c).2.2.2.1) (hagree c).2.2.2.2.1) (hagree c).2.2.2.2.2.1) (hagree c).2.2.2.2.2.2)

end Cert.AdamOut
-- ==== Proof.AdamIn.lean ====
module

public import proofs.«01_k».proof.Defs
public import proofs.«01_k».proof.Proof.Gen.Kernel15.Frame
public import proofs.«01_k».proof.Proof.Gen.Kernel15Ideal.Frame
public import proofs.«01_k».proof.Proof.Gen.Reference15Ideal.Run
public import proofs.«01_k».proof.Proof.Gen.Reference15Ideal.Read
public import Idealize.ShloMosaic.Lib.Claim
public import Idealize.ShloMosaic.Lib.Pointwise
public import Idealize.ShloMosaic.Lib.Pipeline.ValueKit
public import Idealize.ShloMosaic.Lib.Pipeline.ReadBack

/-! # The optimiser on a device's share of the gated layers' input weights and the state-space gate's

A grid point belongs to one layer.  It adds the device's own part of that layer's gradient and the seven
parts that came from the other devices, and steps the layer's rows of the weights by AdamW.
-/

@[expose] public section
set_option maxRecDepth 16384
noncomputable section
open Idealize.ShloMosaic Idealize.ShloMosaic.TcCoe Idealize.SL.Sem

namespace Cert.AdamIn

/-- The table of device numbers is zero, so every window stays inside its array: at the machine's values. -/
theorem ok_bits (m : (ℓ : Loc Cert.Kernel15.nD Cert.Kernel15.τ Cert.Kernel15.sig) → Buf (Elt Bits) ℓ) : Cert.Kernel15.Gen.Ok m :=
  of_decide_eq_true (by sl_kernel_rfl)

open Cert.Kernel15Ideal Cert.Kernel15Ideal.Gen Cert.Reference15Ideal.Read

variable (m : (ℓ : Loc nD τ sig) → Buf (Elt Ideal) ℓ)

/-- The same at the ideal values. -/
theorem ok : Ok m := of_decide_eq_true (by sl_kernel_rfl)

/-- The weights and the two moments the kernel was given. -/
abbrev weights (c : Dev nD) := m ((c : Thread nD τ).loc main_arg0)
abbrev mean (c : Dev nD) := m ((c : Thread nD τ).loc main_arg1)
abbrev square (c : Dev nD) := m ((c : Thread nD τ).loc main_arg2)
/-- Each layer's gradient parts: those that came from the other devices, and the device's own. -/
abbrev land0 (c : Dev nD) := m ((c : Thread nD τ).loc main_arg3)
abbrev own0 (c : Dev nD) := m ((c : Thread nD τ).loc main_arg4)

/-- What the reference computes from them: the summed gradient, the update, and the two new moments. -/
abbrev wantGrad (c : Dev nD) := val_main_v6 (F := Ideal) (land0 m c) (own0 m c)
abbrev wantDelta (c : Dev nD) := val_main_v30 (F := Ideal) (weights m c) (mean m c) (square m c) (land0 m c) (own0 m c)
abbrev wantMean (c : Dev nD) := val_main_v11 (F := Ideal) (mean m c) (land0 m c) (own0 m c)
abbrev wantSquare (c : Dev nD) := val_main_v17 (F := Ideal) (square m c) (land0 m c) (own0 m c)

/-! ## Where the windows stand -/

/-- Two ways to name a block at the grid points of a kind agree when they agree by computation. -/
theorem of_all {a : Nat} (p : Fin a → Bool) (f g : Fin a → Fin 3 → ℕ) (h : decide (∀ t, p t = true → f t = g t) = true) (t : Fin a)
    (ht : p t = true) : f t = g t := of_decide_eq_true h t ht

/-- The weights' window, and so the moments' and the outputs', stands at the point's layer and rows. -/
theorem index0 (t : Fin grid0.N) : ((cfgM m (ok m)).win 0).index t = (![t.val / 4, t.val % 4, 0] : Fin 3 → ℕ) :=
  of_all (fun _ => true) (fun t => ((cfgM m (ok m)).win 0).index t) (fun t => ![t.val / 4, t.val % 4, 0]) (by sl_kernel_rfl) t rfl
theorem index1 (t : Fin grid0.N) : ((cfgM m (ok m)).win 1).index t = (![t.val / 4, t.val % 4, 0] : Fin 3 → ℕ) := index0 m t
theorem index2 (t : Fin grid0.N) : ((cfgM m (ok m)).win 2).index t = (![t.val / 4, t.val % 4, 0] : Fin 3 → ℕ) := index0 m t
theorem index5 (t : Fin grid0.N) : (pcfg0.win (adm m (ok m)) 5).index t = (![t.val / 4, t.val % 4, 0] : Fin 3 → ℕ) := index0 m t
theorem index6 (t : Fin grid0.N) : (pcfg0.win (adm m (ok m)) 6).index t = (![t.val / 4, t.val % 4, 0] : Fin 3 → ℕ) := index0 m t
theorem index7 (t : Fin grid0.N) : (pcfg0.win (adm m (ok m)) 7).index t = (![t.val / 4, t.val % 4, 0] : Fin 3 → ℕ) := index0 m t
theorem index8 (t : Fin grid0.N) : (pcfg0.win (adm m (ok m)) 8).index t = (![t.val / 4, t.val % 4, 0] : Fin 3 → ℕ) := index0 m t

/-- A layer's parts are read at the point's rows. -/
theorem index3 (t : Fin grid0.N) (ht : t.val / 4 = 0) : ((cfgM m (ok m)).win 3).index t = (![0, t.val % 4, 0] : Fin 3 → ℕ) :=
  of_all (fun t => decide (t.val / 4 = 0)) (fun t => ((cfgM m (ok m)).win 3).index t) (fun t => ![0, t.val % 4, 0]) (by sl_kernel_rfl) t (decide_eq_true ht)
theorem index4 (t : Fin grid0.N) (ht : t.val / 4 = 0) : ((cfgM m (ok m)).win 4).index t = (![0, t.val % 4, 0] : Fin 3 → ℕ) :=
  of_all (fun t => decide (t.val / 4 = 0)) (fun t => ((cfgM m (ok m)).win 4).index t) (fun t => ![0, t.val % 4, 0]) (by sl_kernel_rfl) t (decide_eq_true ht)

/-- The layer of a grid point is one of the layers. -/
theorem layer (t : Fin grid0.N) : t.val / 4 = 0 := by
  have h : t.val < 4 := t.isLt
  omega

/-- The entry of the whole arrays that an entry of the point's block is. -/
def place (t : Fin grid0.N) (y : S1x256x256.Idx) : S1x1024x256.Idx :=
  ix3 ⟨t.val / 4, by have h : t.val < 4 := t.isLt; omega⟩ ⟨t.val % 4 * 256 + (y 1).val, by have h : (y 1).val < 256 := (y 1).isLt; omega⟩ (y 2)

theorem weights_at (c : Dev nD) (t : Fin grid0.N) (y : S1x256x256.Idx) : iblk m (ok m) c 0 t y = weights m c (place t y) := by
  unfold place
  blk_point [iblk, V, index0 m t]
theorem mean_at (c : Dev nD) (t : Fin grid0.N) (y : S1x256x256.Idx) : iblk m (ok m) c 1 t y = mean m c (place t y) := by
  unfold place
  blk_point [iblk, V, index1 m t]
theorem square_at (c : Dev nD) (t : Fin grid0.N) (y : S1x256x256.Idx) : iblk m (ok m) c 2 t y = square m c (place t y) := by
  unfold place
  blk_point [iblk, V, index2 m t]
theorem emb5 (t : Fin grid0.N) (y : S1x256x256.Idx) :
    ((spec0 5).arr.view.slice ((pcfg0.win (adm m (ok m)) 5).rect t)).emb y = place t y := by
  unfold place
  blk_point [index5 m t]
theorem emb6 (t : Fin grid0.N) (y : S1x256x256.Idx) :
    ((spec0 6).arr.view.slice ((pcfg0.win (adm m (ok m)) 6).rect t)).emb y = place t y := by
  unfold place
  blk_point [index6 m t]
theorem emb7 (t : Fin grid0.N) (y : S1x256x256.Idx) :
    ((spec0 7).arr.view.slice ((pcfg0.win (adm m (ok m)) 7).rect t)).emb y = place t y := by
  unfold place
  blk_point [index7 m t]
theorem emb8 (t : Fin grid0.N) (y : S1x256x256.Idx) :
    ((spec0 8).arr.view.slice ((pcfg0.win (adm m (ok m)) 8).rect t)).emb y = place t y := by
  unfold place
  blk_point [index8 m t]

/-! ## The summed gradient -/

/-- The eight parts of a block added one after another. -/
def summed (o : Vec Ideal S1x256x256 .bf16) (l : Vec Ideal S7x256x256 .bf16) : Vec Ideal S256x256 .f32 :=
  k0_pay3 o
    (View.ld l (Rect.unit ![0, 0, 0] ![1, 256, 256] inb_S7x256x256_S1x256x256_0_0_0))
    (View.ld l (Rect.unit ![1, 0, 0] ![1, 256, 256] inb_S7x256x256_S1x256x256_1_0_0))
    (View.ld l (Rect.unit ![2, 0, 0] ![1, 256, 256] inb_S7x256x256_S1x256x256_2_0_0))
    (View.ld l (Rect.unit ![3, 0, 0] ![1, 256, 256] inb_S7x256x256_S1x256x256_3_0_0))
    (View.ld l (Rect.unit ![4, 0, 0] ![1, 256, 256] inb_S7x256x256_S1x256x256_4_0_0))
    (View.ld l (Rect.unit ![5, 0, 0] ![1, 256, 256] inb_S7x256x256_S1x256x256_5_0_0))
    (View.ld l (Rect.unit ![6, 0, 0] ![1, 256, 256] inb_S7x256x256_S1x256x256_6_0_0))

theorem summed_at (o : Vec Ideal S1x256x256 .bf16) (l : Vec Ideal S7x256x256 .bf16) (y : S256x256.Idx) :
    summed o l y = o (ix3 0 (y 0) (y 1)) + ∑ p : Fin 7, l (ix3 p (y 0) (y 1)) := by
  unfold summed
  pointwise [k0_pay3]
  simp only [Fin.sum_univ_seven, add_assoc]

/-- The reference's sum of one layer's parts. -/
theorem want_at (l : Vec Ideal Cert.Reference15Ideal.S7x1024x256 .bf16) (o : Vec Ideal Cert.Reference15Ideal.S8x1024x256 .bf16) (q : Cert.Reference15Ideal.S1024x256.Idx) :
    val_main_v5 (F := Ideal) l o q = (o (ix3 0 (q 0) (q 1)) + ∑ p : Fin 7, l (ix3 p (q 0) (q 1)) : EReal) := by
  pointwise [val_main_v5, val_main_v4, val_main_v3, val_main_v2, val_main_v1, val_main_v0, val_main_cst]

/-- The stacked sums, at layer 0. -/
theorem stack0 (c : Dev nD) (z : S1x1024x256.Idx) (hz : (z 0).val = 0) :
    wantGrad m c z = val_main_v5 (F := Ideal) (land0 m c) (own0 m c) (ix2 (z 1) (z 2)) := by
  unfold wantGrad
  pointwise [val_main_v6]

/-- The kernel's sum of layer 0's parts at one entry of a block is the reference's. -/
theorem grad0 (c : Dev nD) (t : Fin grid0.N) (ht : t.val / 4 = 0) (y : S1x256x256.Idx) :
    summed (iblk m (ok m) c 4 t) (iblk m (ok m) c 3 t) (ix2 (y 1) (y 2)) = wantGrad m c (place t y) := by
  refine (summed_at _ _ _).trans (Eq.trans ?_ ((stack0 m c _ ht).trans (want_at _ _ _)).symm)
  refine congrArg₂ (fun a b : EReal => a + b) ?_ (Finset.sum_congr rfl fun p _ => ?_)
  · unfold place
    blk_point [iblk, V, index4 m t ht]
  · unfold place
    blk_point [iblk, V, index3 m t ht]

/-! ## AdamW at one entry of a block, from the summed gradient -/

section entry
variable (c : Dev nD) (g : FVec Ideal S256x256 .f32) (w x s : Vec Ideal S1x256x256 .f32) (y : S1x256x256.Idx) (z : S1x1024x256.Idx)

theorem grad_point (hg : g (ix2 (y 1) (y 2)) = wantGrad m c z) : k0_pay7 g y = wantGrad m c z := by
  unfold wantGrad at hg ⊢
  generalize val_main_v6 (F := Ideal) (land0 m c) (own0 m c) = total at hg ⊢
  pointwise [k0_pay7]
  exact hg

theorem mean_point (hx : x y = mean m c z) (hg : g (ix2 (y 1) (y 2)) = wantGrad m c z) :
    k0_pay1 (k0_pay5 g x) y = wantMean m c z := by
  unfold wantMean
  unfold k0_pay1 k0_pay5 val_main_v11 val_main_v10 val_main_v9 val_main_v8 val_main_v7 val_main_cst_0 val_main_cst_1
  unfold wantGrad at hg
  generalize val_main_v6 (F := Ideal) (land0 m c) (own0 m c) = total at hg ⊢
  pointwise
  rw [hg, hx]

theorem square_point (hs : s y = square m c z) (hg : g (ix2 (y 1) (y 2)) = wantGrad m c z) :
    k0_pay2 (k0_pay6 g s) y = wantSquare m c z := by
  unfold wantSquare
  unfold k0_pay2 k0_pay6 val_main_v17 val_main_v16 val_main_v15 val_main_v14 val_main_v13 val_main_v12 val_main_cst_2 val_main_cst_3
  unfold wantGrad at hg
  generalize val_main_v6 (F := Ideal) (land0 m c) (own0 m c) = total at hg ⊢
  pointwise
  rw [hg, hs]

theorem delta_point (hw : w y = weights m c z) (hx : x y = mean m c z) (hs : s y = square m c z)
    (hg : g (ix2 (y 1) (y 2)) = wantGrad m c z) : k0_pay8 g (k0_pay4 w) x s y = wantDelta m c z := by
  have hm := mean_point m c g x y z hx hg
  have hv := square_point m c g s y z hs hg
  unfold wantDelta
  unfold k0_pay8 k0_pay4 val_main_v30 val_main_v29 val_main_v28 val_main_v27 val_main_v26 val_main_v25 val_main_v24 val_main_v23 val_main_v22 val_main_v21 val_main_v20 val_main_v19 val_main_v18 val_main_cst_4 val_main_cst_5 val_main_cst_6 val_main_cst_7 val_main_cst_8
  unfold wantMean k0_pay1 at hm
  unfold wantSquare k0_pay2 at hv
  generalize val_main_v11 (F := Ideal) (mean m c) (land0 m c) (own0 m c) = mean' at hm ⊢
  generalize k0_pay5 (F := Ideal) g x = meanBlock at hm ⊢
  generalize val_main_v17 (F := Ideal) (square m c) (land0 m c) (own0 m c) = square' at hv ⊢
  generalize k0_pay6 (F := Ideal) g s = squareBlock at hv ⊢
  pointwise at hm hv
  pointwise
  rw [hm, hv, hw]

end entry

/-! ## The whole results -/

/-- The kernel's whole summed gradient is the reference's. -/
theorem finalGrad (c : Dev nD) : (dats m (ok m) 0 c).arrAt 5 (cfgM m (ok m)).N = wantGrad m c := by
  refine (dats m (ok m) 0 c).arrAt_eq_of_covers 5 _ (of_decide_eq_true (by sl_kernel_rfl)) fun t _ y => ?_
  blk_simp
  rw [after0_5]
  refine Eq.trans ?_ (congrArg (wantGrad m c) (emb5 m t y).symm)
  have ht := layer t
  unfold outsAt0
  dsimp only
  frame_out
  refine (congrFun (congrArg k0_pay7 (congrArg₂ summed ((hs0_4 m (ok m) t).read_unread _) ((hs0_3 m (ok m) t).read_unread _))) y).trans ?_
  exact grad_point m c _ y _ (grad0 m c t ht y)

/-- The kernel's whole update is the reference's. -/
theorem finalDelta (c : Dev nD) : (dats m (ok m) 0 c).arrAt 6 (cfgM m (ok m)).N = wantDelta m c := by
  refine (dats m (ok m) 0 c).arrAt_eq_of_covers 6 _ (of_decide_eq_true (by sl_kernel_rfl)) fun t _ y => ?_
  blk_simp
  rw [after0_6]
  refine Eq.trans ?_ (congrArg (wantDelta m c) (emb6 m t y).symm)
  have ht := layer t
  unfold outsAt0
  dsimp only
  frame_out
  refine (congrFun (congr (congr (congrArg₂ k0_pay8 (congrArg₂ summed ((hs0_4 m (ok m) t).read_unread _) ((hs0_3 m (ok m) t).read_unread _)) (congrArg k0_pay4 ((hs0_0 m (ok m) t).read_unread _))) ((hs0_1 m (ok m) t).read_unread _)) ((hs0_2 m (ok m) t).read_unread _)) y).trans ?_
  exact delta_point m c _ _ _ _ y _ (weights_at m c t y) (mean_at m c t y) (square_at m c t y) (grad0 m c t ht y)

/-- The kernel's whole new first moment is the reference's. -/
theorem finalMean (c : Dev nD) : (dats m (ok m) 0 c).arrAt 7 (cfgM m (ok m)).N = wantMean m c := by
  refine (dats m (ok m) 0 c).arrAt_eq_of_covers 7 _ (of_decide_eq_true (by sl_kernel_rfl)) fun t _ y => ?_
  blk_simp
  rw [after0_7]
  refine Eq.trans ?_ (congrArg (wantMean m c) (emb7 m t y).symm)
  have ht := layer t
  unfold outsAt0
  dsimp only
  frame_out
  refine (congrFun (congrArg k0_pay1 (congrArg₂ k0_pay5 (congrArg₂ summed ((hs0_4 m (ok m) t).read_unread _) ((hs0_3 m (ok m) t).read_unread _)) ((hs0_1 m (ok m) t).read_unread _))) y).trans ?_
  exact mean_point m c _ _ y _ (mean_at m c t y) (grad0 m c t ht y)

/-- The kernel's whole new second moment is the reference's. -/
theorem finalSquare (c : Dev nD) : (dats m (ok m) 0 c).arrAt 8 (cfgM m (ok m)).N = wantSquare m c := by
  refine (dats m (ok m) 0 c).arrAt_eq_of_covers 8 _ (of_decide_eq_true (by sl_kernel_rfl)) fun t _ y => ?_
  blk_simp
  rw [after0_8]
  refine Eq.trans ?_ (congrArg (wantSquare m c) (emb8 m t y).symm)
  have ht := layer t
  unfold outsAt0
  dsimp only
  frame_out
  refine (congrFun (congrArg k0_pay2 (congrArg₂ k0_pay6 (congrArg₂ summed ((hs0_4 m (ok m) t).read_unread _) ((hs0_3 m (ok m) t).read_unread _)) ((hs0_2 m (ok m) t).read_unread _))) y).trans ?_
  exact square_point m c _ _ y _ (square_at m c t y) (grad0 m c t ht y)

/-- The reference runs, and leaves its arguments as they were. -/
theorem reference_quiet : Cert.quiescent_Reference15Ideal := fun m g _ =>
  (θ_run (Cert.Reference15Ideal.defs (F := Ideal)) _ _).mono
    (fun r h => ⟨fun c => (h c).2.2.2.2, sem_eq_zero_of_no_sems (by decide) r.2⟩)
    (Cert.Reference15Ideal.Value.run (F := Ideal) m g)

/-- The claim: from memories that agree on the arguments, both run and end with equal results. -/
theorem equal : Cert.algebraic_Kernel15Ideal_Reference15Ideal := by
  intro m g m' g' _ hagree
  refine ⟨fun c => wantGrad m c, fun c => wantDelta m c, fun c => wantMean m c, fun c => wantSquare m c, ?_, ?_⟩
  · exact (θ_run (Cert.Kernel15Ideal.defs (F := Ideal)) _ _).mono
      (fun r h c => ⟨((h.1 c).1 5).trans (finalGrad m c), ((h.1 c).1 6).trans (finalDelta m c),
        ((h.1 c).1 7).trans (finalMean m c), ((h.1 c).1 8).trans (finalSquare m c), h.2 c⟩)
      (θ_run_and (run_main (F := Ideal) m g (ok m)) (unchanged (F := Ideal) m g (ok m)))
  · refine (θ_run (Cert.Reference15Ideal.defs (F := Ideal)) _ _).mono
      (fun r h c => ⟨(h c).1.trans ?_, (h c).2.1.trans ?_, (h c).2.2.1.trans ?_, (h c).2.2.2.1.trans ?_,
        (h c).2.2.2.2⟩) (Cert.Reference15Ideal.Value.run (F := Ideal) m' g')
    · exact (val_main_v6_eq _ _ ).trans (congr (congrArg (val_main_v6 (F := Ideal)) (hagree c).2.2.2.1) (hagree c).2.2.2.2)
    · exact (val_main_v30_eq _ _ _ _ _ ).trans (congr (congr (congr (congr (congrArg (val_main_v30 (F := Ideal)) (hagree c).1) (hagree c).2.1) (hagree c).2.2.1) (hagree c).2.2.2.1) (hagree c).2.2.2.2)
    · exact (val_main_v11_eq _ _ _ ).trans (congr (congr (congrArg (val_main_v11 (F := Ideal)) (hagree c).2.1) (hagree c).2.2.2.1) (hagree c).2.2.2.2)
    · exact (val_main_v17_eq _ _ _ ).trans (congr (congr (congrArg (val_main_v17 (F := Ideal)) (hagree c).2.2.1) (hagree c).2.2.2.1) (hagree c).2.2.2.2)

end Cert.AdamIn
-- ==== Proof.AdamGateOut.lean ====
module

public import proofs.«01_k».proof.Defs
public import proofs.«01_k».proof.Proof.Gen.Kernel16.Frame
public import proofs.«01_k».proof.Proof.Gen.Kernel16Ideal.Frame
public import proofs.«01_k».proof.Proof.Gen.Reference16Ideal.Run
public import proofs.«01_k».proof.Proof.Gen.Reference16Ideal.Read
public import Idealize.ShloMosaic.Lib.Claim
public import Idealize.ShloMosaic.Lib.Pointwise
public import Idealize.ShloMosaic.Lib.Pipeline.ValueKit
public import Idealize.ShloMosaic.Lib.Pipeline.ReadBack

/-! # The optimiser on a device's share of the gated layers' output weights and the state-space input's

A grid point belongs to one layer.  It adds the device's own part of that layer's gradient and the seven
parts that came from the other devices, and steps the layer's rows of the weights by AdamW.
-/

@[expose] public section
set_option maxRecDepth 16384
noncomputable section
open Idealize.ShloMosaic Idealize.ShloMosaic.TcCoe Idealize.SL.Sem

namespace Cert.AdamGateOut

/-- The table of device numbers is zero, so every window stays inside its array: at the machine's values. -/
theorem ok_bits (m : (ℓ : Loc Cert.Kernel16.nD Cert.Kernel16.τ Cert.Kernel16.sig) → Buf (Elt Bits) ℓ) : Cert.Kernel16.Gen.Ok m :=
  of_decide_eq_true (by sl_kernel_rfl)

open Cert.Kernel16Ideal Cert.Kernel16Ideal.Gen Cert.Reference16Ideal.Read

variable (m : (ℓ : Loc nD τ sig) → Buf (Elt Ideal) ℓ)

/-- The same at the ideal values. -/
theorem ok : Ok m := of_decide_eq_true (by sl_kernel_rfl)

/-- The weights and the two moments the kernel was given. -/
abbrev weights (c : Dev nD) := m ((c : Thread nD τ).loc main_arg0)
abbrev mean (c : Dev nD) := m ((c : Thread nD τ).loc main_arg1)
abbrev square (c : Dev nD) := m ((c : Thread nD τ).loc main_arg2)
/-- Each layer's gradient parts: those that came from the other devices, and the device's own. -/
abbrev land0 (c : Dev nD) := m ((c : Thread nD τ).loc main_arg3)
abbrev own0 (c : Dev nD) := m ((c : Thread nD τ).loc main_arg4)

/-- What the reference computes from them: the summed gradient, the update, and the two new moments. -/
abbrev wantGrad (c : Dev nD) := val_main_v6 (F := Ideal) (land0 m c) (own0 m c)
abbrev wantDelta (c : Dev nD) := val_main_v30 (F := Ideal) (weights m c) (mean m c) (square m c) (land0 m c) (own0 m c)
abbrev wantMean (c : Dev nD) := val_main_v11 (F := Ideal) (mean m c) (land0 m c) (own0 m c)
abbrev wantSquare (c : Dev nD) := val_main_v17 (F := Ideal) (square m c) (land0 m c) (own0 m c)

/-! ## Where the windows stand -/

/-- Two ways to name a block at the grid points of a kind agree when they agree by computation. -/
theorem of_all {a : Nat} (p : Fin a → Bool) (f g : Fin a → Fin 3 → ℕ) (h : decide (∀ t, p t = true → f t = g t) = true) (t : Fin a)
    (ht : p t = true) : f t = g t := of_decide_eq_true h t ht

/-- The weights' window, and so the moments' and the outputs', stands at the point's layer and rows. -/
theorem index0 (t : Fin grid0.N) : ((cfgM m (ok m)).win 0).index t = (![t.val / 1, t.val % 1, 0] : Fin 3 → ℕ) :=
  of_all (fun _ => true) (fun t => ((cfgM m (ok m)).win 0).index t) (fun t => ![t.val / 1, t.val % 1, 0]) (by sl_kernel_rfl) t rfl
theorem index1 (t : Fin grid0.N) : ((cfgM m (ok m)).win 1).index t = (![t.val / 1, t.val % 1, 0] : Fin 3 → ℕ) := index0 m t
theorem index2 (t : Fin grid0.N) : ((cfgM m (ok m)).win 2).index t = (![t.val / 1, t.val % 1, 0] : Fin 3 → ℕ) := index0 m t
theorem index5 (t : Fin grid0.N) : (pcfg0.win (adm m (ok m)) 5).index t = (![t.val / 1, t.val % 1, 0] : Fin 3 → ℕ) := index0 m t
theorem index6 (t : Fin grid0.N) : (pcfg0.win (adm m (ok m)) 6).index t = (![t.val / 1, t.val % 1, 0] : Fin 3 → ℕ) := index0 m t
theorem index7 (t : Fin grid0.N) : (pcfg0.win (adm m (ok m)) 7).index t = (![t.val / 1, t.val % 1, 0] : Fin 3 → ℕ) := index0 m t
theorem index8 (t : Fin grid0.N) : (pcfg0.win (adm m (ok m)) 8).index t = (![t.val / 1, t.val % 1, 0] : Fin 3 → ℕ) := index0 m t

/-- A layer's parts are read at the point's rows. -/
theorem index3 (t : Fin grid0.N) (ht : t.val / 1 = 0) : ((cfgM m (ok m)).win 3).index t = (![0, t.val % 1, 0] : Fin 3 → ℕ) :=
  of_all (fun t => decide (t.val / 1 = 0)) (fun t => ((cfgM m (ok m)).win 3).index t) (fun t => ![0, t.val % 1, 0]) (by sl_kernel_rfl) t (decide_eq_true ht)
theorem index4 (t : Fin grid0.N) (ht : t.val / 1 = 0) : ((cfgM m (ok m)).win 4).index t = (![0, t.val % 1, 0] : Fin 3 → ℕ) :=
  of_all (fun t => decide (t.val / 1 = 0)) (fun t => ((cfgM m (ok m)).win 4).index t) (fun t => ![0, t.val % 1, 0]) (by sl_kernel_rfl) t (decide_eq_true ht)

/-- The layer of a grid point is one of the layers. -/
theorem layer (t : Fin grid0.N) : t.val / 1 = 0 := by
  have h : t.val < 1 := t.isLt
  omega

/-- The entry of the whole arrays that an entry of the point's block is. -/
def place (t : Fin grid0.N) (y : S1x128x1024.Idx) : S1x128x1024.Idx :=
  ix3 ⟨t.val / 1, by have h : t.val < 1 := t.isLt; omega⟩ ⟨t.val % 1 * 128 + (y 1).val, by have h : (y 1).val < 128 := (y 1).isLt; omega⟩ (y 2)

theorem weights_at (c : Dev nD) (t : Fin grid0.N) (y : S1x128x1024.Idx) : iblk m (ok m) c 0 t y = weights m c (place t y) := by
  unfold place
  blk_point [iblk, V, index0 m t]
theorem mean_at (c : Dev nD) (t : Fin grid0.N) (y : S1x128x1024.Idx) : iblk m (ok m) c 1 t y = mean m c (place t y) := by
  unfold place
  blk_point [iblk, V, index1 m t]
theorem square_at (c : Dev nD) (t : Fin grid0.N) (y : S1x128x1024.Idx) : iblk m (ok m) c 2 t y = square m c (place t y) := by
  unfold place
  blk_point [iblk, V, index2 m t]
theorem emb5 (t : Fin grid0.N) (y : S1x128x1024.Idx) :
    ((spec0 5).arr.view.slice ((pcfg0.win (adm m (ok m)) 5).rect t)).emb y = place t y := by
  unfold place
  blk_point [index5 m t]
theorem emb6 (t : Fin grid0.N) (y : S1x128x1024.Idx) :
    ((spec0 6).arr.view.slice ((pcfg0.win (adm m (ok m)) 6).rect t)).emb y = place t y := by
  unfold place
  blk_point [index6 m t]
theorem emb7 (t : Fin grid0.N) (y : S1x128x1024.Idx) :
    ((spec0 7).arr.view.slice ((pcfg0.win (adm m (ok m)) 7).rect t)).emb y = place t y := by
  unfold place
  blk_point [index7 m t]
theorem emb8 (t : Fin grid0.N) (y : S1x128x1024.Idx) :
    ((spec0 8).arr.view.slice ((pcfg0.win (adm m (ok m)) 8).rect t)).emb y = place t y := by
  unfold place
  blk_point [index8 m t]

/-! ## The summed gradient -/

/-- The eight parts of a block added one after another. -/
def summed (o : Vec Ideal S1x128x1024 .bf16) (l : Vec Ideal S7x128x1024 .bf16) : Vec Ideal S128x1024 .f32 :=
  k0_pay3 o
    (View.ld l (Rect.unit ![0, 0, 0] ![1, 128, 1024] inb_S7x128x1024_S1x128x1024_0_0_0))
    (View.ld l (Rect.unit ![1, 0, 0] ![1, 128, 1024] inb_S7x128x1024_S1x128x1024_1_0_0))
    (View.ld l (Rect.unit ![2, 0, 0] ![1, 128, 1024] inb_S7x128x1024_S1x128x1024_2_0_0))
    (View.ld l (Rect.unit ![3, 0, 0] ![1, 128, 1024] inb_S7x128x1024_S1x128x1024_3_0_0))
    (View.ld l (Rect.unit ![4, 0, 0] ![1, 128, 1024] inb_S7x128x1024_S1x128x1024_4_0_0))
    (View.ld l (Rect.unit ![5, 0, 0] ![1, 128, 1024] inb_S7x128x1024_S1x128x1024_5_0_0))
    (View.ld l (Rect.unit ![6, 0, 0] ![1, 128, 1024] inb_S7x128x1024_S1x128x1024_6_0_0))

theorem summed_at (o : Vec Ideal S1x128x1024 .bf16) (l : Vec Ideal S7x128x1024 .bf16) (y : S128x1024.Idx) :
    summed o l y = o (ix3 0 (y 0) (y 1)) + ∑ p : Fin 7, l (ix3 p (y 0) (y 1)) := by
  unfold summed
  pointwise [k0_pay3]
  simp only [Fin.sum_univ_seven, add_assoc]

/-- The reference's sum of one layer's parts. -/
theorem want_at (l : Vec Ideal Cert.Reference16Ideal.S7x128x1024 .bf16) (o : Vec Ideal Cert.Reference16Ideal.S8x128x1024 .bf16) (q : Cert.Reference16Ideal.S128x1024.Idx) :
    val_main_v5 (F := Ideal) l o q = (o (ix3 0 (q 0) (q 1)) + ∑ p : Fin 7, l (ix3 p (q 0) (q 1)) : EReal) := by
  pointwise [val_main_v5, val_main_v4, val_main_v3, val_main_v2, val_main_v1, val_main_v0, val_main_cst]

/-- The stacked sums, at layer 0. -/
theorem stack0 (c : Dev nD) (z : S1x128x1024.Idx) (hz : (z 0).val = 0) :
    wantGrad m c z = val_main_v5 (F := Ideal) (land0 m c) (own0 m c) (ix2 (z 1) (z 2)) := by
  unfold wantGrad
  pointwise [val_main_v6]

/-- The kernel's sum of layer 0's parts at one entry of a block is the reference's. -/
theorem grad0 (c : Dev nD) (t : Fin grid0.N) (ht : t.val / 1 = 0) (y : S1x128x1024.Idx) :
    summed (iblk m (ok m) c 4 t) (iblk m (ok m) c 3 t) (ix2 (y 1) (y 2)) = wantGrad m c (place t y) := by
  refine (summed_at _ _ _).trans (Eq.trans ?_ ((stack0 m c _ ht).trans (want_at _ _ _)).symm)
  refine congrArg₂ (fun a b : EReal => a + b) ?_ (Finset.sum_congr rfl fun p _ => ?_)
  · unfold place
    blk_point [iblk, V, index4 m t ht]
  · unfold place
    blk_point [iblk, V, index3 m t ht]

/-! ## AdamW at one entry of a block, from the summed gradient -/

section entry
variable (c : Dev nD) (g : FVec Ideal S128x1024 .f32) (w x s : Vec Ideal S1x128x1024 .f32) (y : S1x128x1024.Idx) (z : S1x128x1024.Idx)

theorem grad_point (hg : g (ix2 (y 1) (y 2)) = wantGrad m c z) : k0_pay7 g y = wantGrad m c z := by
  unfold wantGrad at hg ⊢
  generalize val_main_v6 (F := Ideal) (land0 m c) (own0 m c) = total at hg ⊢
  pointwise [k0_pay7]
  exact hg

theorem mean_point (hx : x y = mean m c z) (hg : g (ix2 (y 1) (y 2)) = wantGrad m c z) :
    k0_pay1 (k0_pay5 g x) y = wantMean m c z := by
  unfold wantMean
  unfold k0_pay1 k0_pay5 val_main_v11 val_main_v10 val_main_v9 val_main_v8 val_main_v7 val_main_cst_0 val_main_cst_1
  unfold wantGrad at hg
  generalize val_main_v6 (F := Ideal) (land0 m c) (own0 m c) = total at hg ⊢
  pointwise
  rw [hg, hx]

theorem square_point (hs : s y = square m c z) (hg : g (ix2 (y 1) (y 2)) = wantGrad m c z) :
    k0_pay2 (k0_pay6 g s) y = wantSquare m c z := by
  unfold wantSquare
  unfold k0_pay2 k0_pay6 val_main_v17 val_main_v16 val_main_v15 val_main_v14 val_main_v13 val_main_v12 val_main_cst_2 val_main_cst_3
  unfold wantGrad at hg
  generalize val_main_v6 (F := Ideal) (land0 m c) (own0 m c) = total at hg ⊢
  pointwise
  rw [hg, hs]

theorem delta_point (hw : w y = weights m c z) (hx : x y = mean m c z) (hs : s y = square m c z)
    (hg : g (ix2 (y 1) (y 2)) = wantGrad m c z) : k0_pay8 g (k0_pay4 w) x s y = wantDelta m c z := by
  have hm := mean_point m c g x y z hx hg
  have hv := square_point m c g s y z hs hg
  unfold wantDelta
  unfold k0_pay8 k0_pay4 val_main_v30 val_main_v29 val_main_v28 val_main_v27 val_main_v26 val_main_v25 val_main_v24 val_main_v23 val_main_v22 val_main_v21 val_main_v20 val_main_v19 val_main_v18 val_main_cst_4 val_main_cst_5 val_main_cst_6 val_main_cst_7 val_main_cst_8
  unfold wantMean k0_pay1 at hm
  unfold wantSquare k0_pay2 at hv
  generalize val_main_v11 (F := Ideal) (mean m c) (land0 m c) (own0 m c) = mean' at hm ⊢
  generalize k0_pay5 (F := Ideal) g x = meanBlock at hm ⊢
  generalize val_main_v17 (F := Ideal) (square m c) (land0 m c) (own0 m c) = square' at hv ⊢
  generalize k0_pay6 (F := Ideal) g s = squareBlock at hv ⊢
  pointwise at hm hv
  pointwise
  rw [hm, hv, hw]

end entry

/-! ## The whole results -/

/-- The kernel's whole summed gradient is the reference's. -/
theorem finalGrad (c : Dev nD) : (dats m (ok m) 0 c).arrAt 5 (cfgM m (ok m)).N = wantGrad m c := by
  refine (dats m (ok m) 0 c).arrAt_eq_of_covers 5 _ (of_decide_eq_true (by sl_kernel_rfl)) fun t _ y => ?_
  blk_simp
  rw [after0_5]
  refine Eq.trans ?_ (congrArg (wantGrad m c) (emb5 m t y).symm)
  have ht := layer t
  unfold outsAt0
  dsimp only
  frame_out
  refine (congrFun (congrArg k0_pay7 (congrArg₂ summed ((hs0_4 m (ok m) t).read_unread _) ((hs0_3 m (ok m) t).read_unread _))) y).trans ?_
  exact grad_point m c _ y _ (grad0 m c t ht y)

/-- The kernel's whole update is the reference's. -/
theorem finalDelta (c : Dev nD) : (dats m (ok m) 0 c).arrAt 6 (cfgM m (ok m)).N = wantDelta m c := by
  refine (dats m (ok m) 0 c).arrAt_eq_of_covers 6 _ (of_decide_eq_true (by sl_kernel_rfl)) fun t _ y => ?_
  blk_simp
  rw [after0_6]
  refine Eq.trans ?_ (congrArg (wantDelta m c) (emb6 m t y).symm)
  have ht := layer t
  unfold outsAt0
  dsimp only
  frame_out
  refine (congrFun (congr (congr (congrArg₂ k0_pay8 (congrArg₂ summed ((hs0_4 m (ok m) t).read_unread _) ((hs0_3 m (ok m) t).read_unread _)) (congrArg k0_pay4 ((hs0_0 m (ok m) t).read_unread _))) ((hs0_1 m (ok m) t).read_unread _)) ((hs0_2 m (ok m) t).read_unread _)) y).trans ?_
  exact delta_point m c _ _ _ _ y _ (weights_at m c t y) (mean_at m c t y) (square_at m c t y) (grad0 m c t ht y)

/-- The kernel's whole new first moment is the reference's. -/
theorem finalMean (c : Dev nD) : (dats m (ok m) 0 c).arrAt 7 (cfgM m (ok m)).N = wantMean m c := by
  refine (dats m (ok m) 0 c).arrAt_eq_of_covers 7 _ (of_decide_eq_true (by sl_kernel_rfl)) fun t _ y => ?_
  blk_simp
  rw [after0_7]
  refine Eq.trans ?_ (congrArg (wantMean m c) (emb7 m t y).symm)
  have ht := layer t
  unfold outsAt0
  dsimp only
  frame_out
  refine (congrFun (congrArg k0_pay1 (congrArg₂ k0_pay5 (congrArg₂ summed ((hs0_4 m (ok m) t).read_unread _) ((hs0_3 m (ok m) t).read_unread _)) ((hs0_1 m (ok m) t).read_unread _))) y).trans ?_
  exact mean_point m c _ _ y _ (mean_at m c t y) (grad0 m c t ht y)

/-- The kernel's whole new second moment is the reference's. -/
theorem finalSquare (c : Dev nD) : (dats m (ok m) 0 c).arrAt 8 (cfgM m (ok m)).N = wantSquare m c := by
  refine (dats m (ok m) 0 c).arrAt_eq_of_covers 8 _ (of_decide_eq_true (by sl_kernel_rfl)) fun t _ y => ?_
  blk_simp
  rw [after0_8]
  refine Eq.trans ?_ (congrArg (wantSquare m c) (emb8 m t y).symm)
  have ht := layer t
  unfold outsAt0
  dsimp only
  frame_out
  refine (congrFun (congrArg k0_pay2 (congrArg₂ k0_pay6 (congrArg₂ summed ((hs0_4 m (ok m) t).read_unread _) ((hs0_3 m (ok m) t).read_unread _)) ((hs0_2 m (ok m) t).read_unread _))) y).trans ?_
  exact square_point m c _ _ y _ (square_at m c t y) (grad0 m c t ht y)

/-- The reference runs, and leaves its arguments as they were. -/
theorem reference_quiet : Cert.quiescent_Reference16Ideal := fun m g _ =>
  (θ_run (Cert.Reference16Ideal.defs (F := Ideal)) _ _).mono
    (fun r h => ⟨fun c => (h c).2.2.2.2, sem_eq_zero_of_no_sems (by decide) r.2⟩)
    (Cert.Reference16Ideal.Value.run (F := Ideal) m g)

/-- The claim: from memories that agree on the arguments, both run and end with equal results. -/
theorem equal : Cert.algebraic_Kernel16Ideal_Reference16Ideal := by
  intro m g m' g' _ hagree
  refine ⟨fun c => wantGrad m c, fun c => wantDelta m c, fun c => wantMean m c, fun c => wantSquare m c, ?_, ?_⟩
  · exact (θ_run (Cert.Kernel16Ideal.defs (F := Ideal)) _ _).mono
      (fun r h c => ⟨((h.1 c).1 5).trans (finalGrad m c), ((h.1 c).1 6).trans (finalDelta m c),
        ((h.1 c).1 7).trans (finalMean m c), ((h.1 c).1 8).trans (finalSquare m c), h.2 c⟩)
      (θ_run_and (run_main (F := Ideal) m g (ok m)) (unchanged (F := Ideal) m g (ok m)))
  · refine (θ_run (Cert.Reference16Ideal.defs (F := Ideal)) _ _).mono
      (fun r h c => ⟨(h c).1.trans ?_, (h c).2.1.trans ?_, (h c).2.2.1.trans ?_, (h c).2.2.2.1.trans ?_,
        (h c).2.2.2.2⟩) (Cert.Reference16Ideal.Value.run (F := Ideal) m' g')
    · exact (val_main_v6_eq _ _ ).trans (congr (congrArg (val_main_v6 (F := Ideal)) (hagree c).2.2.2.1) (hagree c).2.2.2.2)
    · exact (val_main_v30_eq _ _ _ _ _ ).trans (congr (congr (congr (congr (congrArg (val_main_v30 (F := Ideal)) (hagree c).1) (hagree c).2.1) (hagree c).2.2.1) (hagree c).2.2.2.1) (hagree c).2.2.2.2)
    · exact (val_main_v11_eq _ _ _ ).trans (congr (congr (congrArg (val_main_v11 (F := Ideal)) (hagree c).2.1) (hagree c).2.2.2.1) (hagree c).2.2.2.2)
    · exact (val_main_v17_eq _ _ _ ).trans (congr (congr (congrArg (val_main_v17 (F := Ideal)) (hagree c).2.2.1) (hagree c).2.2.2.1) (hagree c).2.2.2.2)

end Cert.AdamGateOut
-- ==== Proof.AdamShard.lean ====
module

public import proofs.«01_k».proof.Defs
public import proofs.«01_k».proof.Proof.Gen.Kernel19Ideal.Value
public import proofs.«01_k».proof.Proof.Gen.Reference19Ideal.Run
public import proofs.«01_k».proof.Proof.Gen.Reference19Ideal.Read
public import Idealize.ShloMosaic.Lib.Claim
public import Idealize.ShloMosaic.Lib.Pointwise
public import Idealize.ShloMosaic.Lib.Pipeline.ValueKit

/-! # The optimiser on a device's share of the small weights

One grid point adds the eight devices' gradients and steps the packed weights by AdamW.
-/

@[expose] public section
set_option maxRecDepth 16384
noncomputable section
open Idealize.ShloMosaic Idealize.ShloMosaic.TcCoe Idealize.SL.Sem

namespace Cert.AdamShard

open Cert.Kernel19Ideal Cert.Kernel19Ideal.Gen Cert.Reference19Ideal.Read

variable (m : (ℓ : Loc nD τ sig) → Buf (Elt Ideal) ℓ)

/-- The weights, the two moments and the devices' gradients the kernel was given. -/
abbrev weights (c : Dev nD) := m ((c : Thread nD τ).loc main_arg0)
abbrev mean (c : Dev nD) := m ((c : Thread nD τ).loc main_arg1)
abbrev square (c : Dev nD) := m ((c : Thread nD τ).loc main_arg2)
abbrev parts (c : Dev nD) := m ((c : Thread nD τ).loc main_arg3)

/-- What the reference computes from them: the summed gradient, the update, and the two new moments. -/
abbrev wantGrad (c : Dev nD) := val_main_v0 (F := Ideal) (parts m c)
abbrev wantDelta (c : Dev nD) := val_main_v24 (F := Ideal) (weights m c) (mean m c) (square m c) (parts m c)
abbrev wantMean (c : Dev nD) := val_main_v5 (F := Ideal) (mean m c) (parts m c)
abbrev wantSquare (c : Dev nD) := val_main_v11 (F := Ideal) (square m c) (parts m c)

/-- The block every window stands at, at each grid point. -/
theorem index_all : ∀ t : Fin cfg0.N, win0_0.index t = ![t.val, 0] ∧ win0_1.index t = ![t.val, 0]
    ∧ win0_2.index t = ![t.val, 0] ∧ win0_3.index t = ![0, t.val, 0] ∧ win0_4.index t = ![t.val, 0]
    ∧ win0_5.index t = ![t.val, 0] ∧ win0_6.index t = ![t.val, 0] ∧ win0_7.index t = ![t.val, 0] :=
  (by decide +kernel : ∀ t : Fin grid0.N, _)

/-- The eight parts added one after another are the reference's sum over the devices. -/
theorem grad_point (c : Dev nD) (t : Fin cfg0.N) (y) : k0_pay2 (iblk m c 3 t) y
    = wantGrad m c (((cfg0.win 4).blk t).view.emb y) := by
  unfold wantGrad parts
  pointwise [k0_pay2, val_main_v0, val_main_cst]
  simp only [Fin.sum_univ_eight]
  blk_point [iblk, V, index_all t]

/-- The new first moment, one entry at a time. -/
theorem mean_point (c : Dev nD) (t : Fin cfg0.N) (y) : k0_pay3 (iblk m c 1 t) (iblk m c 3 t) y
    = wantMean m c (((cfg0.win 6).blk t).view.emb y) := by
  have hg := grad_point m c t y
  unfold wantMean
  unfold k0_pay3 val_main_v5 val_main_v4 val_main_v3 val_main_v2 val_main_v1 val_main_cst_0 val_main_cst_1
  unfold wantGrad at hg
  generalize val_main_v0 (F := Ideal) (parts m c) = total at hg ⊢
  generalize k0_pay2 (F := Ideal) (iblk m c 3 t) = block at hg ⊢
  pointwise
  rw [hg]
  blk_point [iblk, V, index_all t]

/-- The new second moment, one entry at a time. -/
theorem square_point (c : Dev nD) (t : Fin cfg0.N) (y) : k0_pay4 (iblk m c 2 t) (iblk m c 3 t) y
    = wantSquare m c (((cfg0.win 7).blk t).view.emb y) := by
  have hg := grad_point m c t y
  unfold wantSquare
  unfold k0_pay4 val_main_v11 val_main_v10 val_main_v9 val_main_v8 val_main_v7 val_main_v6 val_main_cst_2 val_main_cst_3
  unfold wantGrad at hg
  generalize val_main_v0 (F := Ideal) (parts m c) = total at hg ⊢
  generalize k0_pay2 (F := Ideal) (iblk m c 3 t) = block at hg ⊢
  pointwise
  rw [hg]
  blk_point [iblk, V, index_all t]

/-- The update, from the two new moments and the weights, one entry at a time. -/
theorem delta_point (c : Dev nD) (t : Fin cfg0.N) (y) :
    k0_pay1 (iblk m c 0 t) (k0_pay5 (iblk m c 1 t) (iblk m c 3 t)) (k0_pay6 (iblk m c 2 t) (iblk m c 3 t)) (Scalar.ofBits .f32 0x322BCC77#32) y
    = wantDelta m c (((cfg0.win 5).blk t).view.emb y) := by
  have hm := mean_point m c t y
  have hv := square_point m c t y
  unfold wantDelta
  unfold k0_pay1 k0_pay5 k0_pay6 val_main_v24 val_main_v23 val_main_v22 val_main_v21 val_main_v20 val_main_v19 val_main_v18 val_main_v17 val_main_v16 val_main_v15 val_main_v14 val_main_v13 val_main_v12 val_main_cst_4 val_main_cst_5 val_main_cst_6 val_main_cst_7 val_main_cst_8
  unfold wantMean at hm
  unfold wantSquare at hv
  generalize val_main_v5 (F := Ideal) (mean m c) (parts m c) = mean' at hm ⊢
  generalize k0_pay3 (F := Ideal) (iblk m c 1 t) (iblk m c 3 t) = meanBlock at hm ⊢
  generalize val_main_v11 (F := Ideal) (square m c) (parts m c) = square' at hv ⊢
  generalize k0_pay4 (F := Ideal) (iblk m c 2 t) (iblk m c 3 t) = squareBlock at hv ⊢
  pointwise
  rw [hm, hv]
  blk_point [iblk, V, index_all t]

/-- The kernel's whole summed gradient is the reference's. -/
theorem finalGrad (c : Dev nD) : (dats m 0 c).arrAt 4 cfg0.N = wantGrad m c := by
  refine (dats m 0 c).arrAt_eq_of_covers 4 _ (by decide +kernel) fun t _ y => ?_
  blk_simp
  rw [after0_4]; frame_out
  exact grad_point m c t y

/-- The kernel's whole update is the reference's. -/
theorem finalDelta (c : Dev nD) : (dats m 0 c).arrAt 5 cfg0.N = wantDelta m c := by
  refine (dats m 0 c).arrAt_eq_of_covers 5 _ (by decide +kernel) fun t _ y => ?_
  blk_simp
  rw [after0_5]; frame_out
  exact delta_point m c t y

/-- The kernel's whole new first moment is the reference's. -/
theorem finalMean (c : Dev nD) : (dats m 0 c).arrAt 6 cfg0.N = wantMean m c := by
  refine (dats m 0 c).arrAt_eq_of_covers 6 _ (by decide +kernel) fun t _ y => ?_
  blk_simp
  rw [after0_6]; frame_out
  exact mean_point m c t y

/-- The kernel's whole new second moment is the reference's. -/
theorem finalSquare (c : Dev nD) : (dats m 0 c).arrAt 7 cfg0.N = wantSquare m c := by
  refine (dats m 0 c).arrAt_eq_of_covers 7 _ (by decide +kernel) fun t _ y => ?_
  blk_simp
  rw [after0_7]; frame_out
  exact square_point m c t y

/-- The reference runs, and leaves its arguments as they were. -/
theorem reference_quiet : Cert.quiescent_Reference19Ideal := fun m g _ =>
  (θ_run (Cert.Reference19Ideal.defs (F := Ideal)) _ _).mono
    (fun r h => ⟨fun c => (h c).2.2.2.2, sem_eq_zero_of_no_sems (by decide) r.2⟩)
    (Cert.Reference19Ideal.Value.run (F := Ideal) m g)

/-- The claim: from memories that agree on the arguments, both run and end with equal results. -/
theorem equal : Cert.algebraic_Kernel19Ideal_Reference19Ideal := by
  intro m g m' g' _ hagree
  refine ⟨fun c => wantGrad m c, fun c => wantDelta m c, fun c => wantMean m c, fun c => wantSquare m c, ?_, ?_⟩
  · exact (θ_run (Cert.Kernel19Ideal.defs (F := Ideal)) _ _).mono
      (fun r h c => ⟨(h c).1.trans (finalGrad m c), (h c).2.1.trans (finalDelta m c),
        (h c).2.2.1.trans (finalMean m c), (h c).2.2.2.1.trans (finalSquare m c), (h c).2.2.2.2⟩)
      (Cert.Kernel19Ideal.Value.run_blocks (F := Ideal) m g)
  · refine (θ_run (Cert.Reference19Ideal.defs (F := Ideal)) _ _).mono
      (fun r h c => ⟨(h c).1.trans ?_, (h c).2.1.trans ?_, (h c).2.2.1.trans ?_, (h c).2.2.2.1.trans ?_,
        (h c).2.2.2.2⟩) (Cert.Reference19Ideal.Value.run (F := Ideal) m' g')
    · exact (val_main_v0_eq _).trans (congrArg (val_main_v0 (F := Ideal)) (hagree c).2.2.2)
    · exact (val_main_v24_eq _ _ _ _).trans (congr (congr (congrArg₂ (val_main_v24 (F := Ideal)) (hagree c).1 (hagree c).2.1)
        (hagree c).2.2.1) (hagree c).2.2.2)
    · exact (val_main_v5_eq _ _).trans (congrArg₂ (val_main_v5 (F := Ideal)) (hagree c).2.1 (hagree c).2.2.2)
    · exact (val_main_v11_eq _ _).trans (congrArg₂ (val_main_v11 (F := Ideal)) (hagree c).2.2.1 (hagree c).2.2.2)

end Cert.AdamShard
-- ==== Proof.AdamWhole.lean ====
module

public import proofs.«01_k».proof.Defs
public import proofs.«01_k».proof.Proof.Gen.Kernel20Ideal.Value
public import proofs.«01_k».proof.Proof.Gen.Reference20Ideal.Run
public import proofs.«01_k».proof.Proof.Gen.Reference20Ideal.Read
public import Idealize.ShloMosaic.Lib.Claim
public import Idealize.ShloMosaic.Lib.Pointwise
public import Idealize.ShloMosaic.Lib.Pipeline.ValueKit

/-! # The optimiser on the small weights every device keeps whole

Grid point `t` adds the eight devices' gradients of one strip of the packed weights and steps it by AdamW.
-/

@[expose] public section
set_option maxRecDepth 16384
noncomputable section
open Idealize.ShloMosaic Idealize.ShloMosaic.TcCoe Idealize.SL.Sem

namespace Cert.AdamWhole

open Cert.Kernel20Ideal Cert.Kernel20Ideal.Gen Cert.Reference20Ideal.Read

variable (m : (ℓ : Loc nD τ sig) → Buf (Elt Ideal) ℓ)

/-- The weights, the two moments and the devices' gradients the kernel was given. -/
abbrev weights (c : Dev nD) := m ((c : Thread nD τ).loc main_arg0)
abbrev mean (c : Dev nD) := m ((c : Thread nD τ).loc main_arg1)
abbrev square (c : Dev nD) := m ((c : Thread nD τ).loc main_arg2)
abbrev parts (c : Dev nD) := m ((c : Thread nD τ).loc main_arg3)

/-- What the reference computes from them: the summed gradient, the update, and the two new moments. -/
abbrev wantGrad (c : Dev nD) := val_main_v1 (F := Ideal) (parts m c)
abbrev wantDelta (c : Dev nD) := val_main_v25 (F := Ideal) (weights m c) (mean m c) (square m c) (parts m c)
abbrev wantMean (c : Dev nD) := val_main_v6 (F := Ideal) (mean m c) (parts m c)
abbrev wantSquare (c : Dev nD) := val_main_v12 (F := Ideal) (square m c) (parts m c)

/-- The block every window stands at, at each grid point. -/
theorem index_all : ∀ t : Fin cfg0.N, win0_0.index t = ![t.val, 0] ∧ win0_1.index t = ![t.val, 0]
    ∧ win0_2.index t = ![t.val, 0] ∧ win0_3.index t = ![0, t.val, 0] ∧ win0_4.index t = ![t.val, 0]
    ∧ win0_5.index t = ![t.val, 0] ∧ win0_6.index t = ![t.val, 0] ∧ win0_7.index t = ![t.val, 0] :=
  (by decide +kernel : ∀ t : Fin grid0.N, _)

/-- The eight parts added one after another are the reference's sum over the devices. -/
theorem grad_point (c : Dev nD) (t : Fin cfg0.N) (y) : k0_pay2 (iblk m c 3 t) y
    = wantGrad m c (((cfg0.win 4).blk t).view.emb y) := by
  unfold wantGrad parts
  pointwise [k0_pay2, val_main_v1, val_main_v0, val_main_cst]
  simp only [Fin.sum_univ_eight]
  blk_point [iblk, V, index_all t]

/-- The new first moment, one entry at a time. -/
theorem mean_point (c : Dev nD) (t : Fin cfg0.N) (y) : k0_pay3 (iblk m c 1 t) (iblk m c 3 t) y
    = wantMean m c (((cfg0.win 6).blk t).view.emb y) := by
  have hg := grad_point m c t y
  unfold wantMean
  unfold k0_pay3 val_main_v6 val_main_v5 val_main_v4 val_main_v3 val_main_v2 val_main_cst_0 val_main_cst_1
  unfold wantGrad at hg
  generalize val_main_v1 (F := Ideal) (parts m c) = total at hg ⊢
  generalize k0_pay2 (F := Ideal) (iblk m c 3 t) = block at hg ⊢
  pointwise
  rw [hg]
  blk_point [iblk, V, index_all t]

/-- The new second moment, one entry at a time. -/
theorem square_point (c : Dev nD) (t : Fin cfg0.N) (y) : k0_pay4 (iblk m c 2 t) (iblk m c 3 t) y
    = wantSquare m c (((cfg0.win 7).blk t).view.emb y) := by
  have hg := grad_point m c t y
  unfold wantSquare
  unfold k0_pay4 val_main_v12 val_main_v11 val_main_v10 val_main_v9 val_main_v8 val_main_v7 val_main_cst_2 val_main_cst_3
  unfold wantGrad at hg
  generalize val_main_v1 (F := Ideal) (parts m c) = total at hg ⊢
  generalize k0_pay2 (F := Ideal) (iblk m c 3 t) = block at hg ⊢
  pointwise
  rw [hg]
  blk_point [iblk, V, index_all t]

/-- The update, from the two new moments and the weights, one entry at a time. -/
theorem delta_point (c : Dev nD) (t : Fin cfg0.N) (y) :
    k0_pay1 (iblk m c 0 t) (k0_pay3 (iblk m c 1 t) (iblk m c 3 t)) (k0_pay4 (iblk m c 2 t) (iblk m c 3 t)) y
    = wantDelta m c (((cfg0.win 5).blk t).view.emb y) := by
  have hm := mean_point m c t y
  have hv := square_point m c t y
  unfold wantDelta
  unfold k0_pay1 val_main_v25 val_main_v24 val_main_v23 val_main_v22 val_main_v21 val_main_v20 val_main_v19 val_main_v18 val_main_v17 val_main_v16 val_main_v15 val_main_v14 val_main_v13 val_main_cst_4 val_main_cst_5 val_main_cst_6 val_main_cst_7 val_main_cst_8
  unfold wantMean at hm
  unfold wantSquare at hv
  generalize val_main_v6 (F := Ideal) (mean m c) (parts m c) = mean' at hm ⊢
  generalize k0_pay3 (F := Ideal) (iblk m c 1 t) (iblk m c 3 t) = meanBlock at hm ⊢
  generalize val_main_v12 (F := Ideal) (square m c) (parts m c) = square' at hv ⊢
  generalize k0_pay4 (F := Ideal) (iblk m c 2 t) (iblk m c 3 t) = squareBlock at hv ⊢
  pointwise
  rw [hm, hv]
  blk_point [iblk, V, index_all t]

/-- The kernel's whole summed gradient is the reference's. -/
theorem finalGrad (c : Dev nD) : (dats m 0 c).arrAt 4 cfg0.N = wantGrad m c := by
  refine (dats m 0 c).arrAt_eq_of_covers 4 _ (by decide +kernel) fun t _ y => ?_
  blk_simp
  rw [after0_4]; unfold_out out0_4; frame_out
  exact grad_point m c t y

/-- The kernel's whole update is the reference's. -/
theorem finalDelta (c : Dev nD) : (dats m 0 c).arrAt 5 cfg0.N = wantDelta m c := by
  refine (dats m 0 c).arrAt_eq_of_covers 5 _ (by decide +kernel) fun t _ y => ?_
  blk_simp
  rw [after0_5]; unfold_out out0_5; frame_out
  exact delta_point m c t y

/-- The kernel's whole new first moment is the reference's. -/
theorem finalMean (c : Dev nD) : (dats m 0 c).arrAt 6 cfg0.N = wantMean m c := by
  refine (dats m 0 c).arrAt_eq_of_covers 6 _ (by decide +kernel) fun t _ y => ?_
  blk_simp
  rw [after0_6]; unfold_out out0_6; frame_out
  exact mean_point m c t y

/-- The kernel's whole new second moment is the reference's. -/
theorem finalSquare (c : Dev nD) : (dats m 0 c).arrAt 7 cfg0.N = wantSquare m c := by
  refine (dats m 0 c).arrAt_eq_of_covers 7 _ (by decide +kernel) fun t _ y => ?_
  blk_simp
  rw [after0_7]; unfold_out out0_7; frame_out
  exact square_point m c t y

/-- The reference runs, and leaves its arguments as they were. -/
theorem reference_quiet : Cert.quiescent_Reference20Ideal := fun m g _ =>
  (θ_run (Cert.Reference20Ideal.defs (F := Ideal)) _ _).mono
    (fun r h => ⟨fun c => (h c).2.2.2.2, sem_eq_zero_of_no_sems (by decide) r.2⟩)
    (Cert.Reference20Ideal.Value.run (F := Ideal) m g)

/-- The claim: from memories that agree on the arguments, both run and end with equal results. -/
theorem equal : Cert.algebraic_Kernel20Ideal_Reference20Ideal := by
  intro m g m' g' _ hagree
  refine ⟨fun c => wantGrad m c, fun c => wantDelta m c, fun c => wantMean m c, fun c => wantSquare m c, ?_, ?_⟩
  · exact (θ_run (Cert.Kernel20Ideal.defs (F := Ideal)) _ _).mono
      (fun r h c => ⟨(h c).1.trans (finalGrad m c), (h c).2.1.trans (finalDelta m c),
        (h c).2.2.1.trans (finalMean m c), (h c).2.2.2.1.trans (finalSquare m c), (h c).2.2.2.2⟩)
      (Cert.Kernel20Ideal.Value.run_blocks (F := Ideal) m g)
  · refine (θ_run (Cert.Reference20Ideal.defs (F := Ideal)) _ _).mono
      (fun r h c => ⟨(h c).1.trans ?_, (h c).2.1.trans ?_, (h c).2.2.1.trans ?_, (h c).2.2.2.1.trans ?_,
        (h c).2.2.2.2⟩) (Cert.Reference20Ideal.Value.run (F := Ideal) m' g')
    · exact (val_main_v1_eq _).trans (congrArg (val_main_v1 (F := Ideal)) (hagree c).2.2.2)
    · exact (val_main_v25_eq _ _ _ _).trans (congr (congr (congrArg₂ (val_main_v25 (F := Ideal)) (hagree c).1 (hagree c).2.1)
        (hagree c).2.2.1) (hagree c).2.2.2)
    · exact (val_main_v6_eq _ _).trans (congrArg₂ (val_main_v6 (F := Ideal)) (hagree c).2.1 (hagree c).2.2.2)
    · exact (val_main_v12_eq _ _).trans (congrArg₂ (val_main_v12 (F := Ideal)) (hagree c).2.2.1 (hagree c).2.2.2)

end Cert.AdamWhole
-- ==== Proof.NormBwd.lean ====
module

public import proofs.«01_k».proof.Defs
public import proofs.«01_k».proof.Proof.Gen.Kernel21Ideal.Value
public import proofs.«01_k».proof.Proof.Gen.Reference21Ideal.Run
public import proofs.«01_k».proof.Proof.Gen.Reference21Ideal.Read
public import Idealize.ShloMosaic.Lib.Claim
public import Idealize.ShloMosaic.Lib.Pointwise
public import Idealize.ShloMosaic.Lib.Pipeline.ValueKit
public import Idealize.ShloMosaic.Lib.Pipeline.ReadBack

/-! # The norm's backward call

Four grid points take 512 rows each. Every point writes its rows' gradient by the input, added to the residual's. The
gradient by the scale is one row, the sum over all rows, which the points add to in turn. The reference differentiates
the norm of all rows at once.
-/

@[expose] public section
set_option maxRecDepth 16384
noncomputable section
open Idealize.ShloMosaic Idealize.ShloMosaic.TcCoe Idealize.SL.Sem

namespace Cert.NormBwd

open Cert.Kernel21Ideal Cert.Kernel21Ideal.Gen Cert.Reference21Ideal.Read

variable (m : (ℓ : Loc nD τ sig) → Buf (Elt Ideal) ℓ)

/-- What the reference computes as its first result from the arguments the kernel was given. -/
abbrev want (c : Dev nD) :=
  val_main_v34 (F := Ideal) (m ((c : Thread nD τ).loc main_arg0)) (m ((c : Thread nD τ).loc main_arg1))
    (m ((c : Thread nD τ).loc main_arg2)) (m ((c : Thread nD τ).loc main_arg3))

/-- What the reference computes as its second result. -/
abbrev wantScale (c : Dev nD) :=
  val_main_v17 (F := Ideal) (m ((c : Thread nD τ).loc main_arg0)) (m ((c : Thread nD τ).loc main_arg2))

/-- The block every window stands at, at each grid point. -/
theorem index_all : ∀ t : Fin cfg0.N, win0_0.index t = ![t.val, 0] ∧ win0_1.index t = ![0, 0]
    ∧ win0_2.index t = ![t.val, 0] ∧ win0_3.index t = ![t.val, 0] ∧ win0_4.index t = ![t.val, 0]
    ∧ win0_5.index t = ![0, 0] :=
  (by decide +kernel : ∀ t : Fin grid0.N, _)

/-- One row of the first result, when the rows it is computed from are the reference's. -/
theorem row (x d r : Vec Ideal S512x1024 .f32) (g g' : Vec Ideal S1x1024 .f32) (X D R : Vec Ideal S2048x1024 .f32)
    (y : S512x1024.Idx) (z : S2048x1024.Idx) (hx : ∀ k : Fin 1024, x (ix2 (y 0) k) = X (ix2 (z 0) k))
    (hd : ∀ k : Fin 1024, d (ix2 (y 0) k) = D (ix2 (z 0) k)) (hr : r y = R z) (hg : g = g')
    (h1 : (z 1 : ℕ) = y 1) : k0_pay5 x g d r y = val_main_v34 X g' D R z := by
  subst hg
  have hz : y 1 = z 1 := Fin.ext h1.symm
  have hxy : x y = X z := (congrArg x (by blk_ext)).trans ((hx (y 1)).trans (congrArg X (by blk_ext)))
  have hdy : d y = D z := (congrArg d (by blk_ext)).trans ((hd (y 1)).trans (congrArg D (by blk_ext)))
  pointwise [k0_pay5, k0_pay3, k0_pay2, val_main_v34, val_main_v33, val_main_v32, val_main_v31, val_main_v30,
    val_main_v29, val_main_v28, val_main_v27, val_main_v26, val_main_v25, val_main_v24, val_main_v23, val_main_v22,
    val_main_v21, val_main_v20, val_main_v19, val_main_v18, val_main_v10, val_main_v9, val_main_v8, val_main_v7,
    val_main_v6, val_main_v5, val_main_v4, val_main_v3, val_main_v2, val_main_v1, val_main_v0, val_main_cst,
    val_main_cst_0, val_main_cst_1, val_main_cst_2, val_main_cst_4, val_main_cst_5, val_main_cst_6]
  simp only [hx, hd]
  rw [hxy, hdy, hr, hz]

/-- One entry of the normed rows, without the scale, times the incoming gradient. -/
abbrev term (X D : Vec Ideal S2048x1024 .f32) (l : Fin 2048) (i : Fin 1024) : EReal :=
  val_main_v15 X D (ix2 l i)

/-- The sum over 512 rows. -/
theorem rows (x d : Vec Ideal S512x1024 .f32) (X D : Vec Ideal S2048x1024 .f32) (a : Fin 4)
    (y z : S1x1024.Idx) (h1 : (z 1 : ℕ) = y 1)
    (hx : ∀ (k : Fin 512) (i : Fin 1024), x (ix2 k i) = X (ix2 ⟨a.val * 512 + k.val, by omega⟩ i))
    (hd : ∀ (k : Fin 512) (i : Fin 1024), d (ix2 k i) = D (ix2 ⟨a.val * 512 + k.val, by omega⟩ i)) :
    k0_pay4 x d y = ∑ k : Fin 512, term X D ⟨a.val * 512 + k.val, by omega⟩ (z 1) := by
  have hz : y 1 = z 1 := Fin.ext h1.symm
  unfold term
  pointwise [k0_pay4, k0_pay3, k0_pay2, val_main_v15, val_main_v12, val_main_v11, val_main_v7,
    val_main_v6, val_main_v5, val_main_v4, val_main_v3, val_main_v2, val_main_v1, val_main_v0, val_main_cst,
    val_main_cst_0, val_main_cst_1]
  simp only [hx, hz]
  refine Finset.sum_congr rfl fun k _ => ?_
  rw [show x (ix2 k (z 1)) = _ from hx k (z 1), show d (ix2 k (z 1)) = _ from hd k (z 1)]

/-- The reference's second result at one index, 512 rows at a time. -/
theorem scale_at (X D : Vec Ideal S2048x1024 .f32) (z : S1x1024.Idx) :
    val_main_v17 X D z = ∑ a : Fin 4, ∑ k : Fin 512, term X D ⟨a.val * 512 + k.val, by omega⟩ (z 1) := by
  unfold term
  pointwise [val_main_v17, val_main_v16, val_main_cst_3]
  refine (Fin.sum_mul_add_congr fun a k hl => congrArg (val_main_v15 X D) ?_).symm
  blk_ext

/-- A later point adds its rows' sum. -/
theorem next (s : FVec Ideal S1x1024 .f32) (acc : Vec Ideal S1x1024 .f32) (j : S1x1024.Idx) :
    k0_pay1 s acc j = acc j + s j := by
  pointwise [k0_pay1]

/-- What point `t` adds to the sum. -/
abbrev part (c : Dev nD) (t : Fin cfg0.N) (j : S1x1024.Idx) : EReal :=
  k0_pay4 (F := Ideal) (iblk m c 0 t) (iblk m c 2 t) j

/-- The first point stores its part. -/
theorem step_first (c : Dev nD) (t : Fin cfg0.N) (h : t.val % 4 = 0) (j : S1x1024.Idx) :
    (outsAt0 m c t.val t.isLt).2 j = 0 + part m c t j := by
  rw [outsAt0_A m c t h (by have : t.val < 4 := t.isLt; omega), zero_add]; frame_out

/-- Every later point adds its part to what the point before it left. -/
theorem step_next (c : Dev nD) (t : Fin cfg0.N) (h : ¬t.val % 4 = 0) (j : S1x1024.Idx) :
    (outsAt0 m c t.val t.isLt).2 j
      = (outsAt0 m c (t.val - 1) (Nat.lt_of_le_of_lt (Nat.sub_le _ _) t.isLt)).2 j + part m c t j := by
  rw [outsAt0_B m c t h (by omega)]; frame_out
  rw [next]

/-- Every point writes its rows' gradient. -/
theorem written (c : Dev nD) (t : Fin cfg0.N) :
    (outsAt0 m c t.val t.isLt).1 = k0_pay5 (iblk m c 0 t) (iblk m c 1 t) (iblk m c 2 t) (iblk m c 3 t) := by
  have h4 : t.val < 4 := t.isLt
  by_cases h : t.val % 4 = 0
  · rw [outsAt0_A m c t h (by omega)]; frame_out
  · rw [outsAt0_B m c t h (by omega)]; frame_out

/-- The kernel's first result is the reference's. -/
theorem final (c : Dev nD) : (dats m 0 c).arrAt 4 cfg0.N = want m c := by
  refine (dats m 0 c).arrAt_eq_of_covers 4 _ (by decide +kernel) fun t hf y => ?_
  blk_simp
  rw [after0_4, written m c t]
  refine row _ _ _ _ _ _ _ _ _ _ (fun k => ?_) (fun k => ?_) ?_ ?_ ?_
  · blk_ext [iblk, V, index_all t]
  · blk_ext [iblk, V, index_all t]
  · blk_ext [iblk, V, index_all t]
  · funext i
    blk_ext [iblk, V, index_all t]
  · blk_simp [index_all t]

/-- The kernel's second result is the reference's. -/
theorem finalScale (c : Dev nD) : (dats m 0 c).arrAt 5 cfg0.N = wantScale m c := by
  refine (dats m 0 c).arrAt_eq_of_covers 5 _ (by decide +kernel) fun t hf y => ?_
  blk_simp
  have h3 := (flush0_5 t).mp hf
  rw [after0_5, Pipeline.eq_sum_fin_of_reset_step_apply_of_flush (fun n h => (outsAt0 m c n h).2) 4
    (fun _ => (0 : EReal)) (part m c) (step_first m c) (step_next m c) t h3, zero_add]
  unfold wantScale
  rw [scale_at]
  refine Fin.sum_fin_congr fun s => ?_
  unfold part
  refine rows _ _ _ _ s _ _ ?_ (fun k i => ?_) (fun k i => ?_)
  · blk_simp [index_all t]
  · blk_ext [iblk, V, index_all ⟨_, Pipeline.run_point_lt_of_flush t h3 s⟩]
  · blk_ext [iblk, V, index_all ⟨_, Pipeline.run_point_lt_of_flush t h3 s⟩]

/-- The reference runs, and leaves its arguments as they were. -/
theorem reference_quiet : Cert.quiescent_Reference21Ideal := fun m g _ =>
  (θ_run (Cert.Reference21Ideal.defs (F := Ideal)) _ _).mono
    (fun r h => ⟨fun c => (h c).2.2, sem_eq_zero_of_no_sems (by decide) r.2⟩)
    (Cert.Reference21Ideal.Value.run (F := Ideal) m g)

/-- The claim: from memories that agree on the arguments, both run and end with equal results. -/
theorem equal : Cert.algebraic_Kernel21Ideal_Reference21Ideal := by
  intro m g m' g' _ hagree
  refine ⟨fun c => want m c, fun c => wantScale m c, ?_, ?_⟩
  · exact (θ_run (Cert.Kernel21Ideal.defs (F := Ideal)) _ _).mono
      (fun r h c => ⟨(h c).1.trans (final m c), (h c).2.1.trans (finalScale m c), (h c).2.2⟩)
      (Cert.Kernel21Ideal.Value.run_blocks (F := Ideal) m g)
  · refine (θ_run (Cert.Reference21Ideal.defs (F := Ideal)) _ _).mono
      (fun r h c => ⟨(h c).1.trans ?_, (h c).2.1.trans ?_, (h c).2.2⟩) (Cert.Reference21Ideal.Value.run (F := Ideal) m' g')
    · refine (val_main_v34_eq _ _ _ _).trans ?_
      exact congr (congr (congrArg₂ (val_main_v34 (F := Ideal)) (hagree c).1 (hagree c).2.1) (hagree c).2.2.1)
        (hagree c).2.2.2
    · refine (val_main_v17_eq _ _).trans ?_
      exact congrArg₂ (val_main_v17 (F := Ideal)) (hagree c).1 (hagree c).2.2.1

end Cert.NormBwd
-- ==== Proof.Loss.lean ====
module

public import proofs.«01_k».proof.Defs
public import proofs.«01_k».proof.Proof.Gen.Kernel22Ideal.Value
public import proofs.«01_k».proof.Proof.Gen.Reference22Ideal.Run
public import proofs.«01_k».proof.Proof.Gen.Reference22Ideal.Read
public import Idealize.ShloMosaic.Lib.Claim
public import Idealize.ShloMosaic.Lib.Pointwise
public import Idealize.ShloMosaic.Lib.Pipeline.ValueKit
public import Idealize.ShloMosaic.Lib.Pipeline.ReadBack

/-! # The loss

Four grid points take 512 rows each. Every point writes its rows' gradient by the input of the last norm. The loss, in
each of 128 lanes, and the gradient by the norm's scale are sums over all rows, which the points add to in turn. The
reference takes the loss of all rows at once and differentiates it.
-/

@[expose] public section
set_option maxRecDepth 16384
noncomputable section
open Idealize.ShloMosaic Idealize.ShloMosaic.TcCoe Idealize.SL.Sem

namespace Cert.Loss

open Cert.Kernel22Ideal Cert.Kernel22Ideal.Gen Cert.Reference22Ideal.Read

variable (m : (ℓ : Loc nD τ sig) → Buf (Elt Ideal) ℓ)

/-- What the reference computes as its first result from the arguments the kernel was given. -/
abbrev want (c : Dev nD) :=
  val_main_v48 (F := Ideal) (m ((c : Thread nD τ).loc main_arg0)) (m ((c : Thread nD τ).loc main_arg1))
    (m ((c : Thread nD τ).loc main_arg2))

/-- What the reference computes as its second result. -/
abbrev wantLoss (c : Dev nD) :=
  val_main_v49 (F := Ideal) (m ((c : Thread nD τ).loc main_arg0)) (m ((c : Thread nD τ).loc main_arg1))
    (m ((c : Thread nD τ).loc main_arg2))

/-- What the reference computes as its third result. -/
abbrev wantScale (c : Dev nD) :=
  val_main_v32 (F := Ideal) (m ((c : Thread nD τ).loc main_arg0)) (m ((c : Thread nD τ).loc main_arg1))
    (m ((c : Thread nD τ).loc main_arg2))

/-- The block every window stands at, at each grid point. -/
theorem index_all : ∀ t : Fin cfg0.N, win0_0.index t = ![t.val, 0] ∧ win0_1.index t = ![0, 0]
    ∧ win0_2.index t = ![t.val, 0] ∧ win0_3.index t = ![t.val, 0] ∧ win0_4.index t = ![0, 0]
    ∧ win0_5.index t = ![0, 0] :=
  (by decide +kernel : ∀ t : Fin grid0.N, _)

/-- One row of the first result, when the rows it is computed from are the reference's. -/
theorem row (x r : Vec Ideal S512x1024 .f32) (g g' : Vec Ideal S1x1024 .f32) (X R : Vec Ideal S2048x1024 .f32)
    (y : S512x1024.Idx) (z : S2048x1024.Idx) (hx : ∀ k : Fin 1024, x (ix2 (y 0) k) = X (ix2 (z 0) k))
    (hr : ∀ k : Fin 1024, r (ix2 (y 0) k) = R (ix2 (z 0) k)) (hg : g = g')
    (h1 : (z 1 : ℕ) = y 1) :
    k0_pay1 x g (k0_pay6 x) (k0_pay7 x) (k0_pay11 x g r) y = val_main_v48 X g' R z := by
  subst hg
  have hz : y 1 = z 1 := Fin.ext h1.symm
  have hxy : x y = X z := (congrArg x (by blk_ext)).trans ((hx (y 1)).trans (congrArg X (by blk_ext)))
  have hry : r y = R z := (congrArg r (by blk_ext)).trans ((hr (y 1)).trans (congrArg R (by blk_ext)))
  pointwise [k0_pay1, k0_pay11, k0_pay9, k0_pay8, k0_pay7, k0_pay6, k0_pay5, val_main_v48, val_main_v47, val_main_v46,
    val_main_v45, val_main_v44, val_main_v43, val_main_v42, val_main_v41, val_main_v40, val_main_v39, val_main_v38,
    val_main_v37, val_main_v36, val_main_v35, val_main_v34, val_main_v33, val_main_v29, val_main_v28, val_main_v27,
    val_main_v26, val_main_v25, val_main_v24, val_main_v18, val_main_v17, val_main_v15, val_main_v14, val_main_v13,
    val_main_v12, val_main_v11, val_main_v10, val_main_v9, val_main_v8, val_main_v7, val_main_v6, val_main_v5,
    val_main_v4, val_main_v3, val_main_v2, val_main_v1, val_main_v0, val_main_cst, val_main_cst_0, val_main_cst_1,
    val_main_cst_2, val_main_cst_3, val_main_cst_8, val_main_cst_9, val_main_cst_10, val_main_cst_12, val_main_cst_13,
    val_main_cst_14]
  simp only [hx, hr]
  rw [hxy, hry, hz]

/-- One entry of the normed rows, without the scale, times the loss's gradient by the normed rows. -/
abbrev term (X : Vec Ideal S2048x1024 .f32) (g : Vec Ideal S1x1024 .f32) (R : Vec Ideal S2048x1024 .f32) (l : Fin 2048)
    (i : Fin 1024) : EReal :=
  val_main_v30 X g R (ix2 l i)

/-- The sum of these over 512 rows. -/
theorem rows (x r : Vec Ideal S512x1024 .f32) (g g' : Vec Ideal S1x1024 .f32) (X R : Vec Ideal S2048x1024 .f32) (a : Fin 4)
    (y z : S1x1024.Idx) (h1 : (z 1 : ℕ) = y 1)
    (hx : ∀ (k : Fin 512) (i : Fin 1024), x (ix2 k i) = X (ix2 ⟨a.val * 512 + k.val, by omega⟩ i))
    (hr : ∀ (k : Fin 512) (i : Fin 1024), r (ix2 k i) = R (ix2 ⟨a.val * 512 + k.val, by omega⟩ i)) (hg : g = g') :
    k0_pay12 x g r y = ∑ k : Fin 512, term X g' R ⟨a.val * 512 + k.val, by omega⟩ (z 1) := by
  subst hg
  have hz : y 1 = z 1 := Fin.ext h1.symm
  unfold term
  pointwise [k0_pay12, k0_pay11, k0_pay9, k0_pay8, k0_pay6, k0_pay5, val_main_v30, val_main_v29, val_main_v28,
    val_main_v27, val_main_v26, val_main_v25, val_main_v24, val_main_v18, val_main_v17, val_main_v15, val_main_v14,
    val_main_v13, val_main_v12, val_main_v11, val_main_v7, val_main_v6, val_main_v5, val_main_v4, val_main_v3,
    val_main_v2, val_main_v1, val_main_v0, val_main_cst, val_main_cst_0, val_main_cst_1, val_main_cst_3,
    val_main_cst_8, val_main_cst_9, val_main_cst_10]
  simp only [hx, hz]
  refine Finset.sum_congr rfl fun k _ => ?_
  rw [show x (ix2 k (z 1)) = _ from hx k (z 1), show r (ix2 k (z 1)) = _ from hr k (z 1)]

/-- The reference's third result at one index, 512 rows at a time. -/
theorem scale_at (X : Vec Ideal S2048x1024 .f32) (g : Vec Ideal S1x1024 .f32) (R : Vec Ideal S2048x1024 .f32)
    (z : S1x1024.Idx) :
    val_main_v32 X g R z = ∑ a : Fin 4, ∑ k : Fin 512, term X g R ⟨a.val * 512 + k.val, by omega⟩ (z 1) := by
  unfold term
  pointwise [val_main_v32, val_main_v31, val_main_cst_11]
  refine (Fin.sum_mul_add_congr fun a k hl => congrArg (val_main_v30 X g R) ?_).symm
  blk_ext

/-- Half. -/
abbrev half : EReal := Ideal.ofBits .f32 0x3F000000#32

/-- Half of a sum is the sum of the halves, infinite terms or not. -/
theorem half_sum {n : ℕ} (f : Fin n → EReal) : half * ∑ a, f a = ∑ a, half * f a := by
  have hv : half = ((1 / 2 : ℝ) : EReal) := by
    unfold half; simp [Ideal.ofBits, Ideal.ieee, ← EReal.coe_mul]; norm_num
  have h0 : (0 : EReal) ≤ half := by rw [hv]; exact EReal.coe_nonneg.mpr (by norm_num)
  have h1 : half ≠ ⊤ := by rw [hv]; exact EReal.coe_ne_top _
  exact map_sum (M := EReal) (N := EReal) (⟨⟨fun v => half * v, mul_zero _⟩,
    fun v w => EReal.left_distrib_of_nonneg_of_ne_top h0 h1 v w⟩ : EReal →+ EReal) f Finset.univ

/-- The mean square of row `l` of the difference. -/
abbrev square (X : Vec Ideal S2048x1024 .f32) (g : Vec Ideal S1x1024 .f32) (R : Vec Ideal S2048x1024 .f32) (l : Fin 2048) :
    EReal :=
  val_main_v21 X g R (ix1 l)

/-- The loss of 512 rows. -/
theorem loss_rows (x r : Vec Ideal S512x1024 .f32) (g g' : Vec Ideal S1x1024 .f32) (X R : Vec Ideal S2048x1024 .f32)
    (a : Fin 4) (y : S1x128.Idx)
    (hx : ∀ (k : Fin 512) (i : Fin 1024), x (ix2 k i) = X (ix2 ⟨a.val * 512 + k.val, by omega⟩ i))
    (hr : ∀ (k : Fin 512) (i : Fin 1024), r (ix2 k i) = R (ix2 ⟨a.val * 512 + k.val, by omega⟩ i)) (hg : g = g') :
    k0_pay2 (k0_pay10 x g r) y = half * ∑ k : Fin 512, square X g' R ⟨a.val * 512 + k.val, by omega⟩ := by
  subst hg
  unfold square half
  pointwise [k0_pay2, k0_pay10, k0_pay9, k0_pay8, k0_pay6, k0_pay5, val_main_v21, val_main_v20, val_main_v19,
    val_main_v16, val_main_v15, val_main_v14, val_main_v13, val_main_v12, val_main_v11, val_main_v7, val_main_v6,
    val_main_v5, val_main_v4, val_main_v3, val_main_v2, val_main_v1, val_main_v0, val_main_cst, val_main_cst_0,
    val_main_cst_1, val_main_cst_4, val_main_cst_5]
  simp only [hx, hr]

/-- The reference's second result at one index, 512 rows at a time. -/
theorem loss_at (X : Vec Ideal S2048x1024 .f32) (g : Vec Ideal S1x1024 .f32) (R : Vec Ideal S2048x1024 .f32)
    (z : S1x128.Idx) :
    val_main_v49 X g R z = ∑ a : Fin 4, half * ∑ k : Fin 512, square X g R ⟨a.val * 512 + k.val, by omega⟩ := by
  rw [← half_sum]
  unfold square half
  pointwise [val_main_v49, val_main_v23, val_main_v22, val_main_cst_6, val_main_cst_7]
  congr 1
  refine (Fin.sum_mul_add_congr fun a k hl => congrArg (val_main_v21 X g R) ?_).symm
  blk_ext

/-- A later point adds its rows' loss. -/
theorem next_loss (s : Ideal .f32) (acc : Vec Ideal S1x128 .f32) (j : S1x128.Idx) :
    k0_pay3 s acc j = acc j + k0_pay2 s j := by
  pointwise [k0_pay3]

/-- A later point adds its rows' sum. -/
theorem next (s : FVec Ideal S1x1024 .f32) (acc : Vec Ideal S1x1024 .f32) (j : S1x1024.Idx) :
    k0_pay4 s acc j = acc j + s j := by
  pointwise [k0_pay4]

/-- What point `t` adds to the loss. -/
abbrev lossPart (c : Dev nD) (t : Fin cfg0.N) (j : S1x128.Idx) : EReal :=
  k0_pay2 (F := Ideal) (k0_pay10 (F := Ideal) (iblk m c 0 t) (iblk m c 1 t) (iblk m c 2 t)) j

/-- What point `t` adds to the gradient by the scale. -/
abbrev part (c : Dev nD) (t : Fin cfg0.N) (j : S1x1024.Idx) : EReal :=
  k0_pay12 (F := Ideal) (iblk m c 0 t) (iblk m c 1 t) (iblk m c 2 t) j

/-- The first point stores its loss. -/
theorem loss_first (c : Dev nD) (t : Fin cfg0.N) (h : t.val % 4 = 0) (j : S1x128.Idx) :
    (outsAt0 m c t.val t.isLt).2.1 j = 0 + lossPart m c t j := by
  have h4 : t.val < 4 := t.isLt
  rw [outsAt0_A m c t h (by omega) h (by omega), zero_add]; frame_out

/-- Every later point adds its loss to what the point before it left. -/
theorem loss_next (c : Dev nD) (t : Fin cfg0.N) (h : ¬t.val % 4 = 0) (j : S1x128.Idx) :
    (outsAt0 m c t.val t.isLt).2.1 j
      = (outsAt0 m c (t.val - 1) (Nat.lt_of_le_of_lt (Nat.sub_le _ _) t.isLt)).2.1 j + lossPart m c t j := by
  rw [outsAt0_B m c t h (by omega) h (by omega)]; frame_out
  rw [next_loss]

/-- The first point stores its part. -/
theorem step_first (c : Dev nD) (t : Fin cfg0.N) (h : t.val % 4 = 0) (j : S1x1024.Idx) :
    (outsAt0 m c t.val t.isLt).2.2 j = 0 + part m c t j := by
  have h4 : t.val < 4 := t.isLt
  rw [outsAt0_A m c t h (by omega) h (by omega), zero_add]; frame_out

/-- Every later point adds its part to what the point before it left. -/
theorem step_next (c : Dev nD) (t : Fin cfg0.N) (h : ¬t.val % 4 = 0) (j : S1x1024.Idx) :
    (outsAt0 m c t.val t.isLt).2.2 j
      = (outsAt0 m c (t.val - 1) (Nat.lt_of_le_of_lt (Nat.sub_le _ _) t.isLt)).2.2 j + part m c t j := by
  rw [outsAt0_B m c t h (by omega) h (by omega)]; frame_out
  rw [next]

/-- Every point writes its rows' gradient. -/
theorem written (c : Dev nD) (t : Fin cfg0.N) :
    (outsAt0 m c t.val t.isLt).1 = k0_pay1 (F := Ideal) (iblk m c 0 t) (iblk m c 1 t) (k0_pay6 (F := Ideal) (iblk m c 0 t))
      (k0_pay7 (F := Ideal) (iblk m c 0 t)) (k0_pay11 (F := Ideal) (iblk m c 0 t) (iblk m c 1 t) (iblk m c 2 t)) := by
  have h4 : t.val < 4 := t.isLt
  by_cases h : t.val % 4 = 0
  · rw [outsAt0_A m c t h (by omega) h (by omega)]; frame_out
  · rw [outsAt0_B m c t h (by omega) h (by omega)]; frame_out

/-- The kernel's first result is the reference's. -/
theorem final (c : Dev nD) : (dats m 0 c).arrAt 3 cfg0.N = want m c := by
  refine (dats m 0 c).arrAt_eq_of_covers 3 _ (by decide +kernel) fun t hf y => ?_
  blk_simp
  rw [after0_3, written m c t]
  refine row _ _ _ _ _ _ _ _ (fun k => ?_) (fun k => ?_) ?_ ?_
  · blk_ext [iblk, V, index_all t]
  · blk_ext [iblk, V, index_all t]
  · funext i
    blk_ext [iblk, V, index_all t]
  · blk_simp [index_all t]

/-- The kernel's second result is the reference's. -/
theorem finalLoss (c : Dev nD) : (dats m 0 c).arrAt 4 cfg0.N = wantLoss m c := by
  refine (dats m 0 c).arrAt_eq_of_covers 4 _ (by decide +kernel) fun t hf y => ?_
  blk_simp
  have h3 := (flush0_4 t).mp hf
  rw [after0_4, Pipeline.eq_sum_fin_of_reset_step_apply_of_flush (fun n h => (outsAt0 m c n h).2.1) 4
    (fun _ => (0 : EReal)) (lossPart m c) (loss_first m c) (loss_next m c) t h3, zero_add]
  unfold wantLoss
  rw [loss_at]
  refine Fin.sum_fin_congr fun s => ?_
  unfold lossPart
  refine loss_rows _ _ _ _ _ _ s _ (fun k i => ?_) (fun k i => ?_) ?_
  · blk_ext [iblk, V, index_all ⟨_, Pipeline.run_point_lt_of_flush t h3 s⟩]
  · blk_ext [iblk, V, index_all ⟨_, Pipeline.run_point_lt_of_flush t h3 s⟩]
  · funext i
    blk_ext [iblk, V, index_all ⟨_, Pipeline.run_point_lt_of_flush t h3 s⟩]

/-- The kernel's third result is the reference's. -/
theorem finalScale (c : Dev nD) : (dats m 0 c).arrAt 5 cfg0.N = wantScale m c := by
  refine (dats m 0 c).arrAt_eq_of_covers 5 _ (by decide +kernel) fun t hf y => ?_
  blk_simp
  have h3 := (flush0_5 t).mp hf
  rw [after0_5, Pipeline.eq_sum_fin_of_reset_step_apply_of_flush (fun n h => (outsAt0 m c n h).2.2) 4
    (fun _ => (0 : EReal)) (part m c) (step_first m c) (step_next m c) t h3, zero_add]
  unfold wantScale
  rw [scale_at]
  refine Fin.sum_fin_congr fun s => ?_
  unfold part
  refine rows _ _ _ _ _ _ s _ _ ?_ (fun k i => ?_) (fun k i => ?_) ?_
  · blk_simp [index_all t]
  · blk_ext [iblk, V, index_all ⟨_, Pipeline.run_point_lt_of_flush t h3 s⟩]
  · blk_ext [iblk, V, index_all ⟨_, Pipeline.run_point_lt_of_flush t h3 s⟩]
  · funext i
    blk_ext [iblk, V, index_all ⟨_, Pipeline.run_point_lt_of_flush t h3 s⟩]

/-- The reference runs, and leaves its arguments as they were. -/
theorem reference_quiet : Cert.quiescent_Reference22Ideal := fun m g _ =>
  (θ_run (Cert.Reference22Ideal.defs (F := Ideal)) _ _).mono
    (fun r h => ⟨fun c => (h c).2.2.2, sem_eq_zero_of_no_sems (by decide) r.2⟩)
    (Cert.Reference22Ideal.Value.run (F := Ideal) m g)

/-- The claim: from memories that agree on the arguments, both run and end with equal results. -/
theorem equal : Cert.algebraic_Kernel22Ideal_Reference22Ideal := by
  intro m g m' g' _ hagree
  refine ⟨fun c => want m c, fun c => wantLoss m c, fun c => wantScale m c, ?_, ?_⟩
  · exact (θ_run (Cert.Kernel22Ideal.defs (F := Ideal)) _ _).mono
      (fun r h c => ⟨(h c).1.trans (final m c), (h c).2.1.trans (finalLoss m c), (h c).2.2.1.trans (finalScale m c),
        (h c).2.2.2⟩)
      (Cert.Kernel22Ideal.Value.run_blocks (F := Ideal) m g)
  · refine (θ_run (Cert.Reference22Ideal.defs (F := Ideal)) _ _).mono
      (fun r h c => ⟨(h c).1.trans ?_, (h c).2.1.trans ?_, (h c).2.2.1.trans ?_, (h c).2.2.2⟩)
      (Cert.Reference22Ideal.Value.run (F := Ideal) m' g')
    · refine (val_main_v48_eq m' c).trans ?_
      exact congr (congrArg₂ (val_main_v48 (F := Ideal)) (hagree c).1 (hagree c).2.1) (hagree c).2.2
    · refine (val_main_v49_eq _ _ _).trans ?_
      exact congr (congrArg₂ (val_main_v49 (F := Ideal)) (hagree c).1 (hagree c).2.1) (hagree c).2.2
    · refine (val_main_v32_eq _ _ _).trans ?_
      exact congr (congrArg₂ (val_main_v32 (F := Ideal)) (hagree c).1 (hagree c).2.1) (hagree c).2.2

end Cert.Loss
-- ==== Proof.GluBwd.lean ====
module

public import proofs.«01_k».proof.Defs
public import proofs.«01_k».proof.Proof.Gen.Kernel24Ideal.Value
public import proofs.«01_k».proof.Proof.Gen.Reference24Ideal.Run
public import proofs.«01_k».proof.Proof.Gen.Reference24Ideal.Read
public import Idealize.ShloMosaic.Lib.Claim
public import Idealize.ShloMosaic.Lib.Pointwise
public import Idealize.ShloMosaic.Lib.Pipeline.ValueKit
public import Idealize.ShloMosaic.Lib.Pipeline.ReadBack

/-! # The gated linear unit, backward

Four grid points take 512 rows each. The gradients by the two halves of the input stand side by side. The kernel adds
two rows that are zero in one half each, and the reference puts the halves together.
-/

@[expose] public section
set_option maxRecDepth 16384
noncomputable section
open Idealize.ShloMosaic Idealize.ShloMosaic.TcCoe Idealize.SL.Sem

namespace Cert.GluBwd

open Cert.Kernel24Ideal Cert.Kernel24Ideal.Gen Cert.Reference24Ideal.Read

variable (m : (ℓ : Loc nD τ sig) → Buf (Elt Ideal) ℓ)

/-- What the reference computes from the arguments the kernel was given. -/
abbrev want (c : Dev nD) :=
  val_main_v17 (F := Ideal) (m ((c : Thread nD τ).loc main_arg0)) (m ((c : Thread nD τ).loc main_arg1))

/-- The block every window stands at, at each grid point. -/
theorem index_all : ∀ t : Fin cfg0.N, win0_0.index t = ![t.val, 0] ∧ win0_1.index t = ![t.val, 0]
    ∧ win0_2.index t = ![t.val, 0] :=
  (by decide +kernel : ∀ t : Fin grid0.N, _)

/-- One entry, when the rows it is computed from are the reference's. -/
theorem point (h : Vec Ideal S512x2048 .bf16) (d : Vec Ideal S512x1024 .f32) (H : Vec Ideal S2048x2048 .bf16)
    (D : Vec Ideal S2048x1024 .f32) (y : S512x2048.Idx) (z : S2048x2048.Idx)
    (hh : ∀ k : Fin 2048, h (ix2 (y 0) k) = H (ix2 (z 0) k)) (hd : ∀ k : Fin 1024, d (ix2 (y 0) k) = D (ix2 (z 0) k))
    (h1 : (z 1 : ℕ) = y 1) : k0_pay1 h d y = val_main_v17 H D z := by
  have hz : y 1 = z 1 := Fin.ext h1.symm
  pointwise [k0_pay1, val_main_v17, val_main_v16, val_main_v15, val_main_v14, val_main_v13, val_main_v11, val_main_v10, val_main_v9, val_main_v8, val_main_v7,
    val_main_v6, val_main_v5, val_main_v4, val_main_v3, val_main_v2, val_main_v1, val_main_v0, val_main_cst,
    val_main_cst_0, val_main_cst_1]
  by_cases c : (y 1 : ℕ) < 1024
  · have c' : (z 1 : ℕ) < 1024 := by omega
    rw [dif_pos c, dif_pos c, dif_pos c', zero_add]
    refine congrArg₂ (fun a b : EReal => a * b) ((hd ⟨y 1, c⟩).trans (congrArg D ?_))
      (congrArg Ideal.logistic ((hh ⟨1024 + y 1, by omega⟩).trans (congrArg H ?_)))
    · blk_ext
    · blk_ext
  · have c' : ¬(z 1 : ℕ) < 1024 := by omega
    have hy : (y 1 : ℕ) < 2048 := (y 1).isLt
    rw [dif_neg c, dif_neg c, dif_neg c', add_zero]
    have hl : h (ix2 (y 0) ⟨1024 + ((y 1 : ℕ) - 1024), by omega⟩) = H (ix2 (z 0) ⟨1024 + ((z 1 : ℕ) - 1024), by omega⟩) :=
      (hh ⟨1024 + ((y 1 : ℕ) - 1024), by omega⟩).trans (congrArg H (by blk_ext))
    refine congrArg₂ (fun a b : EReal => a * b)
      (congrArg₂ (fun a b : EReal => a * b) ((hh ⟨(y 1 : ℕ) - 1024, by omega⟩).trans (congrArg H ?_))
        ((hd ⟨(y 1 : ℕ) - 1024, by omega⟩).trans (congrArg D ?_)))
      (congrArg (fun v : EReal => Ideal.logistic v * (1 - Ideal.logistic v)) hl)
    · blk_ext
    · blk_ext

/-- What a grid point writes. -/
theorem written (c : Dev nD) (t : Fin cfg0.N) : outsAt0 m c t = k0_pay1 (iblk m c 0 t) (iblk m c 1 t) := by
  unfold outsAt0
  frame_out

/-- What a grid point writes, against the reference. -/
theorem block (c : Dev nD) (t : Fin cfg0.N) (y : S512x2048.Idx) (z : S2048x2048.Idx)
    (h0 : (z 0 : ℕ) = t.val * 512 + y 0) (h1 : (z 1 : ℕ) = y 1) :
    k0_pay1 (F := Ideal) (iblk m c 0 t) (iblk m c 1 t) y = want m c z := by
  refine point _ _ _ _ _ _ (fun k => ?_) (fun k => ?_) h1
  · blk_ext [iblk, V, index_all t]
  · blk_ext [iblk, V, index_all t]

/-- The kernel's whole result is the reference's. -/
theorem final (c : Dev nD) : (dats m 0 c).arrAt 2 cfg0.N = want m c := by
  refine (dats m 0 c).arrAt_eq_of_covers 2 _ (by decide +kernel) fun t hf y => ?_
  blk_simp
  rw [after0_2, written]
  refine block m c t _ _ ?_ ?_ <;> blk_simp [index_all t]

/-- The reference runs, and leaves its arguments as they were. -/
theorem reference_quiet : Cert.quiescent_Reference24Ideal := fun m g _ =>
  (θ_run (Cert.Reference24Ideal.defs (F := Ideal)) _ _).mono
    (fun r h => ⟨fun c => (h c).2, sem_eq_zero_of_no_sems (by decide) r.2⟩)
    (Cert.Reference24Ideal.Value.run (F := Ideal) m g)

/-- The claim: from memories that agree on the arguments, both run and end with equal results. -/
theorem equal : Cert.algebraic_Kernel24Ideal_Reference24Ideal := by
  intro m g m' g' _ hagree
  refine ⟨fun c => want m c, ?_, ?_⟩
  · exact (θ_run (Cert.Kernel24Ideal.defs (F := Ideal)) _ _).mono
      (fun r h c => ⟨(h c).1.trans (final m c), (h c).2⟩) (Cert.Kernel24Ideal.Value.run_blocks (F := Ideal) m g)
  · refine (θ_run (Cert.Reference24Ideal.defs (F := Ideal)) _ _).mono
      (fun r h c => ⟨(h c).1.trans ?_, (h c).2⟩) (Cert.Reference24Ideal.Value.run (F := Ideal) m' g')
    refine (val_main_v17_eq _ _).trans ?_
    exact congrArg₂ (val_main_v17 (F := Ideal)) (hagree c).1 (hagree c).2.1

end Cert.GluBwd
-- ==== Proof.S5Post.lean ====
module

public import proofs.«01_k».proof.Defs
public import proofs.«01_k».proof.Proof.Gen.Kernel25Ideal.Value
public import proofs.«01_k».proof.Proof.Gen.Reference25Ideal.Run
public import proofs.«01_k».proof.Proof.Gen.Reference25Ideal.Read
public import Idealize.ShloMosaic.Lib.Claim
public import Idealize.ShloMosaic.Lib.Pointwise
public import Idealize.ShloMosaic.Lib.Pipeline.ValueKit
public import Idealize.ShloMosaic.Lib.Pipeline.ReadBack

/-! # The activation after the S5 layer, backward

Four grid points take 512 rows each. Every point writes its rows' gradients by the layer's output and by its input. The
gradient by the skip weights is one row, the sum over all rows, which the points add to in turn. The reference
differentiates the activation of all rows at once.
-/

@[expose] public section
set_option maxRecDepth 16384
noncomputable section
open Idealize.ShloMosaic Idealize.ShloMosaic.TcCoe Idealize.SL.Sem

namespace Cert.S5Post

open Cert.Kernel25Ideal Cert.Kernel25Ideal.Gen Cert.Reference25Ideal.Read

variable (m : (ℓ : Loc nD τ sig) → Buf (Elt Ideal) ℓ)

/-- What the reference computes as its first result from the arguments the kernel was given. -/
abbrev want (c : Dev nD) :=
  val_main_v35 (F := Ideal) (m ((c : Thread nD τ).loc main_arg0)) (m ((c : Thread nD τ).loc main_arg1))
    (m ((c : Thread nD τ).loc main_arg2)) (m ((c : Thread nD τ).loc main_arg3))

/-- What the reference computes as its second result. -/
abbrev wantInput (c : Dev nD) :=
  val_main_v37 (F := Ideal) (m ((c : Thread nD τ).loc main_arg0)) (m ((c : Thread nD τ).loc main_arg1))
    (m ((c : Thread nD τ).loc main_arg2)) (m ((c : Thread nD τ).loc main_arg3))

/-- What the reference computes as its third result. -/
abbrev wantSkip (c : Dev nD) :=
  val_main_v40 (F := Ideal) (m ((c : Thread nD τ).loc main_arg0)) (m ((c : Thread nD τ).loc main_arg1))
    (m ((c : Thread nD τ).loc main_arg2)) (m ((c : Thread nD τ).loc main_arg3))

/-- The block every window stands at, at each grid point. -/
theorem index_all : ∀ t : Fin cfg0.N, win0_0.index t = ![t.val, 0] ∧ win0_1.index t = ![t.val, 0]
    ∧ win0_2.index t = ![0, 0] ∧ win0_3.index t = ![t.val, 0] ∧ win0_4.index t = ![t.val, 0]
    ∧ win0_5.index t = ![t.val, 0] ∧ win0_6.index t = ![0, 0] :=
  (by decide +kernel : ∀ t : Fin grid0.N, _)

/-- One entry of the first result, when the entries it is computed from are the reference's. -/
theorem point (x u d : Vec Ideal S512x1024 .f32) (g g' : Vec Ideal S1x1024 .f32) (X U D : Vec Ideal S2048x1024 .f32)
    (y : S512x1024.Idx) (z : S2048x1024.Idx) (hx : x y = X z) (hu : u y = U z) (hd : d y = D z) (hg : g = g')
    (h1 : (z 1 : ℕ) = y 1) : k0_pay3 x u g d y = val_main_v35 X U g' D z := by
  subst hg
  have hz : y 1 = z 1 := Fin.ext h1.symm
  pointwise [k0_pay3, val_main_v35, val_main_v34, val_main_v33, val_main_v32, val_main_v31, val_main_v30, val_main_v29,
    val_main_v28, val_main_v27, val_main_v26, val_main_v25, val_main_v24, val_main_v22, val_main_v21,
    val_main_v20, val_main_v19, val_main_v18, val_main_v17, val_main_v16, val_main_v15, val_main_v14,
    val_main_v13, val_main_v12, val_main_v11, val_main_v10, val_main_v9, val_main_v8, val_main_v7, val_main_v6,
    val_main_v5, val_main_v4, val_main_v3, val_main_v2, val_main_v1, val_main_v0, val_main_cst, val_main_cst_0,
    val_main_cst_1, val_main_cst_2, val_main_cst_3, val_main_cst_4, val_main_cst_5, val_main_cst_6,
    val_main_cst_7, val_main_cst_8]
  rw [hx, hu, hd, hz]
  generalize X z + _ = q
  rw [mul_comm (q * q) q]

/-- One entry of the second result. -/
theorem point_input (x u d : Vec Ideal S512x1024 .f32) (g g' : Vec Ideal S1x1024 .f32) (X U D : Vec Ideal S2048x1024 .f32)
    (y : S512x1024.Idx) (z : S2048x1024.Idx) (hx : x y = X z) (hu : u y = U z) (hd : d y = D z) (hg : g = g')
    (h1 : (z 1 : ℕ) = y 1) : k0_pay4 x u g d y = val_main_v37 X U g' D z := by
  have hp := point x u d g g' X U D y z hx hu hd hg h1
  subst hg
  have hz : y 1 = z 1 := Fin.ext h1.symm
  unfold k0_pay4 val_main_v37 val_main_v36
  generalize k0_pay3 x u g d = p at hp ⊢
  generalize val_main_v35 X U g D = q at hp ⊢
  pointwise
  rw [hp, hz]

/-- One entry of the gradient by the activation's input, times the layer's input. -/
abbrev term (X U : Vec Ideal S2048x1024 .f32) (g : Vec Ideal S1x1024 .f32) (D : Vec Ideal S2048x1024 .f32) (l : Fin 2048)
    (i : Fin 1024) : EReal :=
  val_main_v38 X U g D (ix2 l i)

/-- The sum over 512 rows. -/
theorem rows (x u d : Vec Ideal S512x1024 .f32) (g g' : Vec Ideal S1x1024 .f32) (X U D : Vec Ideal S2048x1024 .f32)
    (a : Fin 4) (y z : S1x1024.Idx) (h1 : (z 1 : ℕ) = y 1)
    (hx : ∀ (k : Fin 512) (i : Fin 1024), x (ix2 k i) = X (ix2 ⟨a.val * 512 + k.val, by omega⟩ i))
    (hu : ∀ (k : Fin 512) (i : Fin 1024), u (ix2 k i) = U (ix2 ⟨a.val * 512 + k.val, by omega⟩ i))
    (hd : ∀ (k : Fin 512) (i : Fin 1024), d (ix2 k i) = D (ix2 ⟨a.val * 512 + k.val, by omega⟩ i)) (hg : g = g') :
    k0_pay1 u (k0_pay3 x u g d) y = ∑ k : Fin 512, term X U g' D ⟨a.val * 512 + k.val, by omega⟩ (z 1) := by
  have hp : ∀ (k : Fin 512) (i : Fin 1024), k0_pay3 x u g d (ix2 k i)
      = val_main_v35 X U g' D (ix2 ⟨a.val * 512 + k.val, by omega⟩ i) := fun k i =>
    point x u d g g' X U D _ _ (hx k i) (hu k i) (hd k i) hg rfl
  have hz : y 1 = z 1 := Fin.ext h1.symm
  unfold term k0_pay1 val_main_v38
  generalize k0_pay3 x u g d = p at hp ⊢
  generalize val_main_v35 X U g' D = q at hp ⊢
  pointwise
  simp only [hz]
  refine Finset.sum_congr rfl fun k _ => ?_
  rw [show p (ix2 k (z 1)) = _ from hp k (z 1), show u (ix2 k (z 1)) = _ from hu k (z 1)]

/-- The reference's third result at one index, 512 rows at a time. -/
theorem skip_at (X U : Vec Ideal S2048x1024 .f32) (g : Vec Ideal S1x1024 .f32) (D : Vec Ideal S2048x1024 .f32)
    (z : S1x1024.Idx) :
    val_main_v40 X U g D z = ∑ a : Fin 4, ∑ k : Fin 512, term X U g D ⟨a.val * 512 + k.val, by omega⟩ (z 1) := by
  unfold term
  pointwise [val_main_v40, val_main_v39, val_main_cst_9]
  refine (Fin.sum_mul_add_congr fun a k hl => congrArg (val_main_v38 X U g D) ?_).symm
  blk_ext

/-- A later point adds its rows' sum. -/
theorem next (u s : Vec Ideal S512x1024 .f32) (acc : Vec Ideal S1x1024 .f32) (j : S1x1024.Idx) :
    k0_pay2 u s acc j = acc j + k0_pay1 u s j := by
  pointwise [k0_pay2]

/-- What point `t` adds to the sum. -/
abbrev part (c : Dev nD) (t : Fin cfg0.N) (j : S1x1024.Idx) : EReal :=
  k0_pay1 (F := Ideal) (iblk m c 1 t) (k0_pay3 (F := Ideal) (iblk m c 0 t) (iblk m c 1 t) (iblk m c 2 t) (iblk m c 3 t)) j

/-- The first point stores its part. -/
theorem step_first (c : Dev nD) (t : Fin cfg0.N) (h : t.val % 4 = 0) (j : S1x1024.Idx) :
    (outsAt0 m c t.val t.isLt).2.2 j = 0 + part m c t j := by
  rw [outsAt0_A m c t h (by have : t.val < 4 := t.isLt; omega), zero_add]; frame_out

/-- Every later point adds its part to what the point before it left. -/
theorem step_next (c : Dev nD) (t : Fin cfg0.N) (h : ¬t.val % 4 = 0) (j : S1x1024.Idx) :
    (outsAt0 m c t.val t.isLt).2.2 j
      = (outsAt0 m c (t.val - 1) (Nat.lt_of_le_of_lt (Nat.sub_le _ _) t.isLt)).2.2 j + part m c t j := by
  rw [outsAt0_B m c t h (by omega)]; frame_out
  rw [next]

/-- Every point writes its rows' gradients. -/
theorem written (c : Dev nD) (t : Fin cfg0.N) :
    (outsAt0 m c t.val t.isLt).1 = k0_pay3 (iblk m c 0 t) (iblk m c 1 t) (iblk m c 2 t) (iblk m c 3 t)
      ∧ (outsAt0 m c t.val t.isLt).2.1 = k0_pay4 (iblk m c 0 t) (iblk m c 1 t) (iblk m c 2 t) (iblk m c 3 t) := by
  have h4 : t.val < 4 := t.isLt
  by_cases h : t.val % 4 = 0
  · constructor <;> (rw [outsAt0_A m c t h (by omega)]; frame_out)
  · constructor <;> (rw [outsAt0_B m c t h (by omega)]; frame_out)

/-- The kernel's first result is the reference's. -/
theorem final (c : Dev nD) : (dats m 0 c).arrAt 4 cfg0.N = want m c := by
  refine (dats m 0 c).arrAt_eq_of_covers 4 _ (by decide +kernel) fun t hf y => ?_
  blk_simp
  rw [after0_4, (written m c t).1]
  refine point _ _ _ _ _ _ _ _ _ _ ?_ ?_ ?_ ?_ ?_
  · blk_ext [iblk, V, index_all t]
  · blk_ext [iblk, V, index_all t]
  · blk_ext [iblk, V, index_all t]
  · funext i
    blk_ext [iblk, V, index_all t]
  · blk_simp [index_all t]

/-- The kernel's second result is the reference's. -/
theorem finalInput (c : Dev nD) : (dats m 0 c).arrAt 5 cfg0.N = wantInput m c := by
  refine (dats m 0 c).arrAt_eq_of_covers 5 _ (by decide +kernel) fun t hf y => ?_
  blk_simp
  rw [after0_5, (written m c t).2]
  refine point_input _ _ _ _ _ _ _ _ _ _ ?_ ?_ ?_ ?_ ?_
  · blk_ext [iblk, V, index_all t]
  · blk_ext [iblk, V, index_all t]
  · blk_ext [iblk, V, index_all t]
  · funext i
    blk_ext [iblk, V, index_all t]
  · blk_simp [index_all t]

/-- The kernel's third result is the reference's. -/
theorem finalSkip (c : Dev nD) : (dats m 0 c).arrAt 6 cfg0.N = wantSkip m c := by
  refine (dats m 0 c).arrAt_eq_of_covers 6 _ (by decide +kernel) fun t hf y => ?_
  blk_simp
  have h3 := (flush0_6 t).mp hf
  rw [after0_6, Pipeline.eq_sum_fin_of_reset_step_apply_of_flush (fun n h => (outsAt0 m c n h).2.2) 4
    (fun _ => (0 : EReal)) (part m c) (step_first m c) (step_next m c) t h3, zero_add]
  unfold wantSkip
  rw [skip_at]
  refine Fin.sum_fin_congr fun s => ?_
  unfold part
  refine rows _ _ _ _ _ _ _ _ s _ _ ?_ (fun k i => ?_) (fun k i => ?_) (fun k i => ?_) ?_
  · blk_simp [index_all t]
  · blk_ext [iblk, V, index_all ⟨_, Pipeline.run_point_lt_of_flush t h3 s⟩]
  · blk_ext [iblk, V, index_all ⟨_, Pipeline.run_point_lt_of_flush t h3 s⟩]
  · blk_ext [iblk, V, index_all ⟨_, Pipeline.run_point_lt_of_flush t h3 s⟩]
  · funext i
    blk_ext [iblk, V, index_all ⟨_, Pipeline.run_point_lt_of_flush t h3 s⟩]

/-- The reference runs, and leaves its arguments as they were. -/
theorem reference_quiet : Cert.quiescent_Reference25Ideal := fun m g _ =>
  (θ_run (Cert.Reference25Ideal.defs (F := Ideal)) _ _).mono
    (fun r h => ⟨fun c => (h c).2.2.2, sem_eq_zero_of_no_sems (by decide) r.2⟩)
    (Cert.Reference25Ideal.Value.run (F := Ideal) m g)

/-- The claim: from memories that agree on the arguments, both run and end with equal results. -/
theorem equal : Cert.algebraic_Kernel25Ideal_Reference25Ideal := by
  intro m g m' g' _ hagree
  refine ⟨fun c => want m c, fun c => wantInput m c, fun c => wantSkip m c, ?_, ?_⟩
  · exact (θ_run (Cert.Kernel25Ideal.defs (F := Ideal)) _ _).mono
      (fun r h c => ⟨(h c).1.trans (final m c), (h c).2.1.trans (finalInput m c), (h c).2.2.1.trans (finalSkip m c),
        (h c).2.2.2⟩)
      (Cert.Kernel25Ideal.Value.run_blocks (F := Ideal) m g)
  · refine (θ_run (Cert.Reference25Ideal.defs (F := Ideal)) _ _).mono
      (fun r h c => ⟨(h c).1.trans ?_, (h c).2.1.trans ?_, (h c).2.2.1.trans ?_, (h c).2.2.2⟩)
      (Cert.Reference25Ideal.Value.run (F := Ideal) m' g')
    · refine (val_main_v35_eq m' c).trans ?_
      exact congr (congr (congrArg₂ (val_main_v35 (F := Ideal)) (hagree c).1 (hagree c).2.1) (hagree c).2.2.1)
        (hagree c).2.2.2
    · refine (val_main_v37_eq m' c).trans ?_
      exact congr (congr (congrArg₂ (val_main_v37 (F := Ideal)) (hagree c).1 (hagree c).2.1) (hagree c).2.2.1)
        (hagree c).2.2.2
    · refine (val_main_v40_eq m' c).trans ?_
      exact congr (congr (congrArg₂ (val_main_v40 (F := Ideal)) (hagree c).1 (hagree c).2.1) (hagree c).2.2.1)
        (hagree c).2.2.2

end Cert.S5Post
-- ==== Proof.OutFwd.lean ====
module

public import proofs.«01_k».proof.Defs
public import proofs.«01_k».proof.Proof.Gen.Kernel29Ideal.Value
public import proofs.«01_k».proof.Proof.Gen.Reference29Ideal.Run
public import proofs.«01_k».proof.Proof.Gen.Reference29Ideal.Read
public import Idealize.ShloMosaic.Lib.Claim
public import Idealize.ShloMosaic.Lib.Pointwise
public import Idealize.ShloMosaic.Lib.Pipeline.ValueKit

/-! # The attention's out product, residual and norm

Grid point `t` multiplies 1024 rows of the activations by the whole out weights, adds the residual's rows, and norms
them.
-/

@[expose] public section
set_option maxRecDepth 16384
noncomputable section
open Idealize.ShloMosaic Idealize.ShloMosaic.TcCoe Idealize.SL.Sem

namespace Cert.OutFwd

open Cert.Kernel29Ideal Cert.Kernel29Ideal.Gen Cert.Reference29Ideal.Read

variable (m : (ℓ : Loc nD τ sig) → Buf (Elt Ideal) ℓ)

/-- What the reference computes from the arguments the kernel was given. -/
abbrev want (c : Dev nD) :=
  val_main_v3 (F := Ideal) (m ((c : Thread nD τ).loc main_arg0)) (m ((c : Thread nD τ).loc main_arg1))
    (m ((c : Thread nD τ).loc main_arg2))

/-- What the reference computes as its second result. -/
abbrev wantNormed (c : Dev nD) :=
  val_main_v16 (F := Ideal) (m ((c : Thread nD τ).loc main_arg0)) (m ((c : Thread nD τ).loc main_arg1))
    (m ((c : Thread nD τ).loc main_arg2)) (m ((c : Thread nD τ).loc main_arg3))

/-- The block every window stands at, at each grid point. -/
theorem index_all : ∀ t : Fin cfg0.N, win0_0.index t = ![t.val, 0] ∧ win0_1.index t = ![0, 0, 0, 0]
    ∧ win0_2.index t = ![t.val, 0] ∧ win0_3.index t = ![0, 0] ∧ win0_4.index t = ![t.val, 0]
    ∧ win0_5.index t = ![t.val, 0] :=
  (by decide +kernel : ∀ t : Fin grid0.N, _)

/-- The first result: entry `y` of the block against entry `z` of the array. -/
theorem point (c : Dev nD) (t : Fin cfg0.N) (y : S1024x1024.Idx) (z : S2048x1024.Idx)
    (h0 : (z 0 : ℕ) = t.val * 1024 + y 0) (h1 : (z 1 : ℕ) = y 1) :
    k0_pay1 (F := Ideal) (iblk m c 0 t) (iblk m c 1 t) (iblk m c 2 t) y = want m c z := by
  unfold want
  pointwise [k0_pay1, val_main_v3, val_main_v2, val_main_v1, val_main_v0]
  refine (add_comm (G := EReal) _ _).trans ?_
  congr 1
  · blk_ext [iblk, V, index_all t]
  · blk_point [iblk, V, index_all t]

/-- The kernel's first result is the reference's. -/
theorem final (c : Dev nD) : (dats m 0 c).arrAt 4 cfg0.N = want m c := by
  refine (dats m 0 c).arrAt_eq_of_covers 4 _ (by decide +kernel) fun t _ y => ?_
  blk_simp
  rw [after0_4]; frame_out
  refine point m c t _ _ ?_ ?_ <;> blk_simp [index_all t]

/-- The norm of one row, when the row the kernel norms is the reference's. -/
theorem normed (a : Vec Ideal S1024x1024 .f32) (w : Vec Ideal S8x1x128x1024 .bf16) (b : Vec Ideal S1024x1024 .f32)
    (g g' : Vec Ideal S1x1024 .f32) (x0 : Vec Ideal S2048x1024 .f32) (x1 : Vec Ideal S8x1x128x1024 .bf16)
    (x2 : Vec Ideal S2048x1024 .f32) (y : S1024x1024.Idx) (z : S2048x1024.Idx)
    (hrow : ∀ k : Fin 1024, k0_pay1 a w b (ix2 (y 0) k) = val_main_v3 x0 x1 x2 (ix2 (z 0) k)) (hg : g = g')
    (h1 : (z 1 : ℕ) = y 1) : k0_pay2 a w b g y = val_main_v16 x0 x1 x2 g' z := by
  subst hg
  unfold k0_pay2 val_main_v16 val_main_v15 val_main_v14 val_main_v13 val_main_v12 val_main_v11 val_main_v10 val_main_v9
    val_main_v8 val_main_v7 val_main_v6 val_main_v5 val_main_v4 val_main_cst val_main_cst_0 val_main_cst_1
  generalize k0_pay1 a w b = p at hrow ⊢
  generalize val_main_v3 x0 x1 x2 = q at hrow ⊢
  have hy : p y = q z := (congrArg p (by blk_ext)).trans ((hrow (y 1)).trans (congrArg q (by blk_ext)))
  pointwise
  simp only [hrow]
  rw [hy, show y 1 = z 1 from Fin.ext h1.symm]

/-- The kernel's second result is the reference's. -/
theorem finalNormed (c : Dev nD) : (dats m 0 c).arrAt 5 cfg0.N = wantNormed m c := by
  refine (dats m 0 c).arrAt_eq_of_covers 5 _ (by decide +kernel) fun t _ y => ?_
  blk_simp
  rw [after0_5]; frame_out
  refine normed _ _ _ _ _ _ _ _ _ _ (fun k => point m c t _ _ ?_ ?_) ?_ ?_
  · blk_simp [index_all t]
  · blk_simp
  · funext i
    blk_ext [iblk, V, index_all t]
  · blk_simp [index_all t]

/-- The reference runs, and leaves its arguments as they were. -/
theorem reference_quiet : Cert.quiescent_Reference29Ideal := fun m g _ =>
  (θ_run (Cert.Reference29Ideal.defs (F := Ideal)) _ _).mono
    (fun r h => ⟨fun c => (h c).2.2, sem_eq_zero_of_no_sems (by decide) r.2⟩)
    (Cert.Reference29Ideal.Value.run (F := Ideal) m g)

/-- The claim: from memories that agree on the arguments, both run and end with equal results. -/
theorem equal : Cert.algebraic_Kernel29Ideal_Reference29Ideal := by
  intro m g m' g' _ hagree
  refine ⟨fun c => want m c, fun c => wantNormed m c, ?_, ?_⟩
  · exact (θ_run (Cert.Kernel29Ideal.defs (F := Ideal)) _ _).mono
      (fun r h c => ⟨(h c).1.trans (final m c), (h c).2.1.trans (finalNormed m c), (h c).2.2⟩)
      (Cert.Kernel29Ideal.Value.run_blocks (F := Ideal) m g)
  · refine (θ_run (Cert.Reference29Ideal.defs (F := Ideal)) _ _).mono
      (fun r h c => ⟨(h c).1.trans ?_, (h c).2.1.trans ?_, (h c).2.2⟩)
      (Cert.Reference29Ideal.Value.run (F := Ideal) m' g')
    · refine (val_main_v3_eq _ _ _).trans ?_
      exact (congr (congrArg₂ (val_main_v3 (F := Ideal)) (hagree c).1 (hagree c).2.1) (hagree c).2.2.1)
    · refine (val_main_v16_eq _ _ _ _).trans ?_
      exact congr (congr (congrArg₂ (val_main_v16 (F := Ideal)) (hagree c).1 (hagree c).2.1) (hagree c).2.2.1)
        (hagree c).2.2.2

end Cert.OutFwd
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Attention
public import proofs.«01_k».proof.Proof.Gen.Kernel2.Frame
public import proofs.«01_k».proof.Proof.DownDa
public import proofs.«01_k».proof.Proof.Gen.Kernel3.Frame
public import proofs.«01_k».proof.Proof.DownDw
public import proofs.«01_k».proof.Proof.Gen.Kernel4.Frame
public import proofs.«01_k».proof.Proof.UpDa
public import proofs.«01_k».proof.Proof.Gen.Kernel5.Frame
public import proofs.«01_k».proof.Proof.UpDw
public import proofs.«01_k».proof.Proof.Gen.Kernel6.Frame
public import proofs.«01_k».proof.Proof.UpFwd
public import proofs.«01_k».proof.Proof.Gen.Kernel7.Frame
public import proofs.«01_k».proof.Proof.DownFwd
public import proofs.«01_k».proof.Proof.Gen.Kernel8.Frame
public import proofs.«01_k».proof.Proof.QkvDa
public import proofs.«01_k».proof.Proof.Gen.Kernel9.Frame
public import proofs.«01_k».proof.Proof.QkvDw
public import proofs.«01_k».proof.Proof.Gen.Kernel10.Frame
public import proofs.«01_k».proof.Proof.QkvFwd
public import proofs.«01_k».proof.Proof.Gen.Kernel11.Frame
public import proofs.«01_k».proof.Proof.OutDa
public import proofs.«01_k».proof.Proof.Gen.Kernel12.Frame
public import proofs.«01_k».proof.Proof.OutDw
public import proofs.«01_k».proof.Proof.Gen.Kernel13.Frame
public import proofs.«01_k».proof.Proof.AdamQkv
public import proofs.«01_k».proof.Proof.Gen.Kernel14.Frame
public import proofs.«01_k».proof.Proof.AdamOut
public import proofs.«01_k».proof.Proof.Gen.Kernel15.Frame
public import proofs.«01_k».proof.Proof.AdamIn
public import proofs.«01_k».proof.Proof.Gen.Kernel16.Frame
public import proofs.«01_k».proof.Proof.AdamGateOut
public import proofs.«01_k».proof.Proof.Gen.Kernel19.Frame
public import proofs.«01_k».proof.Proof.AdamShard
public import proofs.«01_k».proof.Proof.Gen.Kernel20.Frame
public import proofs.«01_k».proof.Proof.AdamWhole
public import proofs.«01_k».proof.Proof.Gen.Kernel21.Frame
public import proofs.«01_k».proof.Proof.NormBwd
public import proofs.«01_k».proof.Proof.Gen.Kernel22.Frame
public import proofs.«01_k».proof.Proof.Loss
public import proofs.«01_k».proof.Proof.Gen.Kernel24.Frame
public import proofs.«01_k».proof.Proof.GluBwd
public import proofs.«01_k».proof.Proof.Gen.Kernel25.Frame
public import proofs.«01_k».proof.Proof.S5Post
public import proofs.«01_k».proof.Proof.Gen.Kernel29.Frame
public import proofs.«01_k».proof.Proof.OutFwd
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel29.Gen.facts, Cert.Kernel29Ideal.Gen.facts, Cert.Reference29Ideal.Gen.facts,
  Cert.Ref.finiteShapes,
  fun m ρ _ => Cert.Kernel.Gen.frame m ρ, fun m ρ _ => Cert.KernelIdeal.Gen.frame m ρ, fun m ρ _ => Cert.KernelIdeal.Gen.frame m ρ,
  fun m ρ _ => Cert.Attention.reference_quiet m ρ, fun m ρ _ => Cert.Attention.reference_quiet m ρ,
  fun m ρ _ => Cert.Kernel2.Gen.frame m ρ, fun m ρ _ => Cert.Kernel2Ideal.Gen.frame m ρ, Cert.DownDa.reference_quiet,
  fun m ρ _ => Cert.Kernel3.Gen.frame m ρ, fun m ρ _ => Cert.Kernel3Ideal.Gen.frame m ρ, Cert.DownDw.reference_quiet,
  fun m ρ _ => Cert.Kernel4.Gen.frame m ρ, fun m ρ _ => Cert.Kernel4Ideal.Gen.frame m ρ, Cert.UpDa.reference_quiet,
  fun m ρ _ => Cert.Kernel5.Gen.frame m ρ, fun m ρ _ => Cert.Kernel5Ideal.Gen.frame m ρ, Cert.UpDw.reference_quiet,
  fun m ρ _ => Cert.Kernel6.Gen.frame m ρ, fun m ρ _ => Cert.Kernel6Ideal.Gen.frame m ρ, Cert.UpFwd.reference_quiet,
  fun m ρ _ => Cert.Kernel7.Gen.frame m ρ, fun m ρ _ => Cert.Kernel7Ideal.Gen.frame m ρ, Cert.DownFwd.reference_quiet,
  fun m ρ _ => Cert.Kernel8.Gen.frame m ρ, fun m ρ _ => Cert.Kernel8Ideal.Gen.frame m ρ, Cert.QkvDa.reference_quiet,
  fun m ρ _ => Cert.Kernel9.Gen.frame m ρ, fun m ρ _ => Cert.Kernel9Ideal.Gen.frame m ρ, Cert.QkvDw.reference_quiet,
  fun m ρ _ => Cert.Kernel10.Gen.frame m ρ, fun m ρ _ => Cert.Kernel10Ideal.Gen.frame m ρ, Cert.QkvFwd.reference_quiet,
  fun m ρ _ => Cert.Kernel11.Gen.frame m ρ, fun m ρ _ => Cert.Kernel11Ideal.Gen.frame m ρ, Cert.OutDa.reference_quiet,
  fun m ρ _ => Cert.Kernel12.Gen.frame m ρ, fun m ρ _ => Cert.Kernel12Ideal.Gen.frame m ρ, Cert.OutDw.reference_quiet,
  fun m ρ _ => Cert.Kernel13.Gen.frame m ρ (Cert.AdamQkv.ok_bits m), fun m ρ _ => Cert.Kernel13Ideal.Gen.frame m ρ (Cert.AdamQkv.ok m), Cert.AdamQkv.reference_quiet,
  fun m ρ _ => Cert.Kernel14.Gen.frame m ρ (Cert.AdamOut.ok_bits m), fun m ρ _ => Cert.Kernel14Ideal.Gen.frame m ρ (Cert.AdamOut.ok m), Cert.AdamOut.reference_quiet,
  fun m ρ _ => Cert.Kernel15.Gen.frame m ρ (Cert.AdamIn.ok_bits m), fun m ρ _ => Cert.Kernel15Ideal.Gen.frame m ρ (Cert.AdamIn.ok m), Cert.AdamIn.reference_quiet,
  fun m ρ _ => Cert.Kernel16.Gen.frame m ρ (Cert.AdamGateOut.ok_bits m), fun m ρ _ => Cert.Kernel16Ideal.Gen.frame m ρ (Cert.AdamGateOut.ok m), Cert.AdamGateOut.reference_quiet,
  fun m ρ _ => Cert.Kernel19.Gen.frame m ρ, fun m ρ _ => Cert.Kernel19Ideal.Gen.frame m ρ, Cert.AdamShard.reference_quiet,
  fun m ρ _ => Cert.Kernel20.Gen.frame m ρ, fun m ρ _ => Cert.Kernel20Ideal.Gen.frame m ρ, Cert.AdamWhole.reference_quiet,
  fun m ρ _ => Cert.Kernel21.Gen.frame m ρ, fun m ρ _ => Cert.Kernel21Ideal.Gen.frame m ρ, Cert.NormBwd.reference_quiet,
  fun m ρ _ => Cert.Kernel22.Gen.frame m ρ, fun m ρ _ => Cert.Kernel22Ideal.Gen.frame m ρ, Cert.Loss.reference_quiet,
  fun m ρ _ => Cert.Kernel24.Gen.frame m ρ, fun m ρ _ => Cert.Kernel24Ideal.Gen.frame m ρ, Cert.GluBwd.reference_quiet,
  fun m ρ _ => Cert.Kernel25.Gen.frame m ρ, fun m ρ _ => Cert.Kernel25Ideal.Gen.frame m ρ, Cert.S5Post.reference_quiet,
  fun m ρ _ => Cert.Kernel29.Gen.frame m ρ, fun m ρ _ => Cert.Kernel29Ideal.Gen.frame m ρ, Cert.OutFwd.reference_quiet,
  trivial, Cert.Attention.equal,
  trivial, Cert.DownDa.equal,
  trivial, Cert.DownDw.equal,
  trivial, Cert.UpDa.equal,
  trivial, Cert.UpDw.equal,
  trivial, Cert.UpFwd.equal,
  trivial, Cert.DownFwd.equal,
  trivial, Cert.QkvDa.equal,
  trivial, Cert.QkvDw.equal,
  trivial, Cert.QkvFwd.equal,
  trivial, Cert.OutDa.equal,
  trivial, Cert.OutDw.equal,
  trivial, Cert.AdamQkv.equal,
  trivial, Cert.AdamOut.equal,
  trivial, Cert.AdamIn.equal,
  trivial, Cert.AdamGateOut.equal,
  trivial, Cert.AdamShard.equal,
  trivial, Cert.AdamWhole.equal,
  trivial, Cert.NormBwd.equal,
  trivial, Cert.Loss.equal,
  trivial, Cert.GluBwd.equal,
  trivial, Cert.S5Post.equal,
  trivial, Cert.OutFwd.equal⟩

end Cert.Proof

end
